-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite [hPre_finite : Cert.Pre_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.1 = (fun _ => 1#1)
    ∧ (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite [hPre_finite : Cert.Pre_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite [hKernel8Ideal : Cert.Kernel8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite [hReference8Ideal : Cert.Reference8Ideal.Facts] [hPre_finite : Cert.Pre_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v107) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.bf16_pair.BufferStatement Cert.Kernel8Ideal.S16384x16x2x128 Cert.Kernel8Ideal.S16384x16x1x128
  ∧ IdealRules.bf16_pair.BufferStatement Cert.Kernel8Ideal.S256x16x2x128 Cert.Kernel8Ideal.S256x16x1x128
  ∧ IdealRules.bf16_pair.PackStatement Cert.Kernel8Ideal.S256x2048
  ∧ IdealRules.bf16_pair.Statement Cert.Kernel8Ideal.S256x16x2x128 Cert.Kernel8Ideal.S256x16x1x128

def algebraic_Kernel8Ideal_Reference8Ideal_pre_finite [hKernel8Ideal : Cert.Kernel8Ideal.Facts] [hReference8Ideal : Cert.Reference8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v11_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v11_2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v63) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite (hKernel8Ideal := hKernel8Ideal) (hPre_finite := hPre_finite)
    ∧ quiescent_Reference8Ideal (hReference8Ideal := hReference8Ideal)
    ∧ quiescent_Reference8Ideal_pre_finite (hReference8Ideal := hReference8Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite (hKernel8Ideal := hKernel8Ideal) (hReference8Ideal := hReference8Ideal) (hPre_finite := hPre_finite)
-- ==== Pre_finite.lean ====
abbrev S16384x4096 : Shape := ⟨2, ![16384, 4096]⟩
abbrev S1x4096 : Shape := ⟨2, ![1, 4096]⟩
abbrev S1x4096x8 : Shape := ⟨3, ![1, 4096, 8]⟩
abbrev S1x8 : Shape := ⟨2, ![1, 8]⟩
abbrev S1x4096x64 : Shape := ⟨3, ![1, 4096, 64]⟩
abbrev S1x64 : Shape := ⟨2, ![1, 64]⟩
abbrev S_ : Shape := ⟨0, ![]⟩

class Facts : Prop where
  bcast_S_S16384x4096 : S_.BroadcastsInDim S16384x4096 (![] : Fin 0 → Fin S16384x4096.rank)
  bcast_S_S1x4096 : S_.BroadcastsInDim S1x4096 (![] : Fin 0 → Fin S1x4096.rank)
  bcast_S_S1x4096x8 : S_.BroadcastsInDim S1x4096x8 (![] : Fin 0 → Fin S1x4096x8.rank)
  bcast_S_S1x4096x64 : S_.BroadcastsInDim S1x4096x64 (![] : Fin 0 → Fin S1x4096x64.rank)
  bcast_S_S1x64 : S_.BroadcastsInDim S1x64 (![] : Fin 0 → Fin S1x64.rank)

variable [Facts]

def fn {F : FTy → Type} [FloatOps F] (main_arg0 : FVec F S16384x4096 .f32) (main_arg1 : FVec F S1x4096 .f32) (main_arg2 : FVec F S1x4096x8 .f32) (main_arg3 : FVec F S1x8 .f32) (main_arg4 : FVec F S1x4096x64 .f32) (main_arg5 : FVec F S1x64 .f32) : IVec S16384x4096 1 × IVec S1x4096 1 × IVec S1x4096x8 1 × IVec S1x4096x64 1 × IVec S1x64 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_v3 : FVec F S1x4096 .f32 := Host.absf main_arg1
  let main_cst_0 : FVec F S_ .f32 := constant S_ .f32 0x7F800000#32
  let main_v4 : FVec F S1x4096 .f32 := broadcastInDim S1x4096 ![] bcast_S_S1x4096 main_cst_0
  let main_v5 : IVec S1x4096 1 := cmpf .olt main_v3 main_v4
  let main_v6 : FVec F S1x4096x8 .f32 := Host.absf main_arg2
  let main_cst_1 : FVec F S_ .f32 := constant S_ .f32 0x7F800000#32
  let main_v7 : FVec F S1x4096x8 .f32 := broadcastInDim S1x4096x8 ![] bcast_S_S1x4096x8 main_cst_1
  let main_v8 : IVec S1x4096x8 1 := cmpf .olt main_v6 main_v7
  let main_v9 : FVec F S1x4096x64 .f32 := Host.absf main_arg4
  let main_cst_2 : FVec F S_ .f32 := constant S_ .f32 0x7F800000#32
  let main_v10 : FVec F S1x4096x64 .f32 := broadcastInDim S1x4096x64 ![] bcast_S_S1x4096x64 main_cst_2
  let main_v11 : IVec S1x4096x64 1 := cmpf .olt main_v9 main_v10
  let main_v12 : FVec F S1x64 .f32 := Host.absf main_arg5
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  (main_v2, main_v5, main_v8, main_v11, main_v14)
-- ==== Kernel.lean ====
abbrev S2x8192x4096 : Shape := ⟨3, ![2, 8192, 4096]⟩
abbrev S1x4096x18432 : Shape := ⟨3, ![1, 4096, 18432]⟩
abbrev S1x4x4096 : Shape := ⟨3, ![1, 4, 4096]⟩
abbrev S1x4096 : Shape := ⟨2, ![1, 4096]⟩
abbrev S1x16x256x256 : Shape := ⟨4, ![1, 16, 256, 256]⟩
abbrev S16384x4096 : Shape := ⟨2, ![16384, 4096]⟩
abbrev S4096x18432 : Shape := ⟨2, ![4096, 18432]⟩
abbrev S4x4096 : Shape := ⟨2, ![4, 4096]⟩
abbrev S4096 : Shape := ⟨1, ![4096]⟩
abbrev S16x256x256 : Shape := ⟨3, ![16, 256, 256]⟩
abbrev S1024x4096 : Shape := ⟨2, ![1024, 4096]⟩
abbrev S4096x256 : Shape := ⟨2, ![4096, 256]⟩
abbrev S4x256 : Shape := ⟨2, ![4, 256]⟩
abbrev S1x256 : Shape := ⟨2, ![1, 256]⟩
abbrev S1x256x256 : Shape := ⟨3, ![1, 256, 256]⟩
abbrev S1024x256 : Shape := ⟨2, ![1024, 256]⟩
abbrev S4096x512 : Shape := ⟨2, ![4096, 512]⟩
abbrev S8x256 : Shape := ⟨2, ![8, 256]⟩
abbrev S2x256x128 : Shape := ⟨3, ![2, 256, 128]⟩
abbrev S256x256 : Shape := ⟨2, ![256, 256]⟩
abbrev S256x4096 : Shape := ⟨2, ![256, 4096]⟩
abbrev S256x512 : Shape := ⟨2, ![256, 512]⟩
abbrev S32x128 : Shape := ⟨2, ![32, 128]⟩
abbrev S4x8x128 : Shape := ⟨3, ![4, 8, 128]⟩
abbrev S8x128 : Shape := ⟨2, ![8, 128]⟩
abbrev S256x128 : Shape := ⟨2, ![256, 128]⟩
abbrev S1x256x128 : Shape := ⟨3, ![1, 256, 128]⟩
abbrev S1x32x128 : Shape := ⟨3, ![1, 32, 128]⟩
abbrev S1x128 : Shape := ⟨2, ![1, 128]⟩
abbrev S1x8x128 : Shape := ⟨3, ![1, 8, 128]⟩

abbrev nBuf : Space → Nat
  | .hbm => 23
  | .vmem => 28
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x18432, .f32⟩
  | .hbm, ⟨2, _⟩ => ⟨S1x4x4096, .f32⟩
  | .hbm, ⟨3, _⟩ => ⟨S1x4096, .f32⟩
  | .hbm, ⟨4, _⟩ => ⟨S1x16x256x256, .f32⟩
  | .hbm, ⟨5, _⟩ => ⟨S1x4096, .f32⟩
  | .hbm, ⟨6, _⟩ => ⟨S1x16x256x256, .f32⟩
  | .hbm, ⟨7, _⟩ => ⟨S1x4096, .f32⟩
  | .hbm, ⟨8, _⟩ => ⟨S1x4096, .f32⟩
  | .hbm, ⟨9, _⟩ => ⟨S16384x4096, .bf16⟩
  | .hbm, ⟨10, _⟩ => ⟨S4096x18432, .f32⟩
  | .hbm, ⟨11, _⟩ => ⟨S4x4096, .f32⟩
  | .hbm, ⟨12, _⟩ => ⟨S4096, .f32⟩
  | .hbm, ⟨13, _⟩ => ⟨S16x256x256, .f32⟩
  | .hbm, ⟨14, _⟩ => ⟨S4096, .f32⟩
  | .hbm, ⟨15, _⟩ => ⟨S16x256x256, .f32⟩
  | .hbm, ⟨16, _⟩ => ⟨S4096, .f32⟩
  | .hbm, ⟨17, _⟩ => ⟨S4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4x256, .f32⟩
  | .local _ .vmem, ⟨7, _⟩ => ⟨S4x256, .f32⟩
  | .local _ .vmem, ⟨8, _⟩ => ⟨S1x256, .f32⟩
  | .local _ .vmem, ⟨9, _⟩ => ⟨S1x256, .f32⟩
  | .local _ .vmem, ⟨10, _⟩ => ⟨S1x256x256, .f32⟩
  | .local _ .vmem, ⟨11, _⟩ => ⟨S1x256x256, .f32⟩
  | .local _ .vmem, ⟨12, _⟩ => ⟨S1x256, .f32⟩
  | .local _ .vmem, ⟨13, _⟩ => ⟨S1x256, .f32⟩
  | .local _ .vmem, ⟨14, _⟩ => ⟨S1x256x256, .f32⟩
  | .local _ .vmem, ⟨15, _⟩ => ⟨S1x256x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1024x256, .bf16⟩
  | .local _ .vmem, ⟨21, _⟩ => ⟨S1024x256, .bf16⟩
  | .local _ .vmem, ⟨22, _⟩ => ⟨S4096x512, .bf16⟩
  | .local _ .vmem, ⟨23, _⟩ => ⟨S8x256, .f32⟩
  | .local _ .vmem, ⟨24, _⟩ => ⟨S1x256, .f32⟩
  | .local _ .vmem, ⟨25, _⟩ => ⟨S2x256x128, .f32⟩
  | .local _ .vmem, ⟨26, _⟩ => ⟨S2x256x128, .f32⟩
  | .local _ .vmem, ⟨27, _⟩ => ⟨S2x256x128, .f32⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S2x8192x4096 : Shape := ⟨3, ![2, 8192, 4096]⟩
abbrev S1x4096x18432 : Shape := ⟨3, ![1, 4096, 18432]⟩
abbrev S1x4x4096 : Shape := ⟨3, ![1, 4, 4096]⟩
abbrev S1x4096 : Shape := ⟨2, ![1, 4096]⟩
abbrev S1x16x256x256 : Shape := ⟨4, ![1, 16, 256, 256]⟩
abbrev S4096x18432 : Shape := ⟨2, ![4096, 18432]⟩
abbrev S2x8192x18432 : Shape := ⟨3, ![2, 8192, 18432]⟩
abbrev S_ : Shape := ⟨0, ![]⟩
abbrev S2x8195x4096 : Shape := ⟨3, ![2, 8195, 4096]⟩
abbrev S1x1x4096 : Shape := ⟨3, ![1, 1, 4096]⟩
abbrev S4096 : Shape := ⟨1, ![4096]⟩
abbrev S2x8192x16x256 : Shape := ⟨4, ![2, 8192, 16, 256]⟩
abbrev S16x256x256 : Shape := ⟨3, ![16, 256, 256]⟩
abbrev S16x256x2x8192 : Shape := ⟨4, ![16, 256, 2, 8192]⟩
abbrev S8192x2x4096 : Shape := ⟨3, ![8192, 2, 4096]⟩
abbrev S2x4096 : Shape := ⟨2, ![2, 4096]⟩
abbrev S1x2x4096 : Shape := ⟨3, ![1, 2, 4096]⟩
abbrev S16384x4096 : Shape := ⟨2, ![16384, 4096]⟩

abbrev nBuf : Space → Nat
  | .hbm => 172
  | .vmem => 0
  | .smem => 0
  | _ => 0

abbrev hbmTy0_0 (i : Nat) : BufTy := match i % 128 with
  | 0 => ⟨S2x8192x4096, .bf16⟩
  | 1 => ⟨S1x4096x18432, .f32⟩
  | 2 => ⟨S1x4x4096, .f32⟩
  | 3 => ⟨S1x4096, .f32⟩
  | 4 => ⟨S1x16x256x256, .f32⟩
  | 5 => ⟨S1x4096, .f32⟩
  | 6 => ⟨S1x16x256x256, .f32⟩
  | 7 => ⟨S1x4096, .f32⟩
  | 8 => ⟨S1x4096, .f32⟩
  | 9 => ⟨S2x8192x4096, .f32⟩
  | 10 => ⟨S4096x18432, .f32⟩
  | 11 => ⟨S2x8192x18432, .f32⟩
  | 12 => ⟨S2x8192x4096, .f32⟩
  | 13 => ⟨S2x8192x4096, .f32⟩
  | 14 => ⟨S_, .i32⟩
  | 15 => ⟨S_, .f32⟩
  | 16 => ⟨S2x8195x4096, .f32⟩
  | 17 => ⟨S2x8192x4096, .f32⟩
  | 18 => ⟨S1x1x4096, .f32⟩
  | 19 => ⟨S4096, .f32⟩
  | 20 => ⟨S1x1x4096, .f32⟩
  | 21 => ⟨S2x8192x4096, .f32⟩
  | 22 => ⟨S2x8192x4096, .f32⟩
  | 23 => ⟨S_, .f32⟩
  | 24 => ⟨S2x8192x4096, .f32⟩
  | 25 => ⟨S2x8192x4096, .f32⟩
  | 26 => ⟨S2x8192x4096, .f32⟩
  | 27 => ⟨S1x1x4096, .f32⟩
  | 28 => ⟨S4096, .f32⟩
  | 29 => ⟨S1x1x4096, .f32⟩
  | 30 => ⟨S2x8192x4096, .f32⟩
  | 31 => ⟨S2x8192x4096, .f32⟩
  | 32 => ⟨S2x8192x4096, .f32⟩
  | 33 => ⟨S2x8192x4096, .f32⟩
  | 34 => ⟨S1x1x4096, .f32⟩
  | 35 => ⟨S4096, .f32⟩
  | 36 => ⟨S1x1x4096, .f32⟩
  | 37 => ⟨S2x8192x4096, .f32⟩
  | 38 => ⟨S2x8192x4096, .f32⟩
  | 39 => ⟨S2x8192x4096, .f32⟩
  | 40 => ⟨S2x8192x4096, .f32⟩
  | 41 => ⟨S1x1x4096, .f32⟩
  | 42 => ⟨S4096, .f32⟩
  | 43 => ⟨S1x1x4096, .f32⟩
  | 44 => ⟨S2x8192x4096, .f32⟩
  | 45 => ⟨S2x8192x4096, .f32⟩
  | 46 => ⟨S2x8192x4096, .f32⟩
  | 47 => ⟨S4096, .f32⟩
  | 48 => ⟨S1x1x4096, .f32⟩
  | 49 => ⟨S2x8192x4096, .f32⟩
  | 50 => ⟨S2x8192x4096, .f32⟩
  | 51 => ⟨S2x8192x16x256, .f32⟩
  | 52 => ⟨S16x256x256, .f32⟩
  | 53 => ⟨S16x256x2x8192, .f32⟩
  | 54 => ⟨S2x8192x16x256, .f32⟩
  | 55 => ⟨S2x8192x4096, .f32⟩
  | 56 => ⟨S4096, .f32⟩
  | 57 => ⟨S1x1x4096, .f32⟩
  | 58 => ⟨S2x8192x4096, .f32⟩
  | 59 => ⟨S2x8192x4096, .f32⟩
  | 60 => ⟨S2x8192x4096, .f32⟩
  | 61 => ⟨S2x8192x4096, .f32⟩
  | 62 => ⟨S_, .f32⟩
  | 63 => ⟨S2x8192x4096, .f32⟩
  | 64 => ⟨S2x8192x4096, .f32⟩
  | 65 => ⟨S_, .f32⟩
  | 66 => ⟨S2x8192x4096, .f32⟩
  | 67 => ⟨S2x8192x4096, .f32⟩
  | 68 => ⟨S16x256x256, .f32⟩
  | 69 => ⟨S16x256x2x8192, .f32⟩
  | 70 => ⟨S2x8192x16x256, .f32⟩
  | 71 => ⟨S2x8192x4096, .f32⟩
  | 72 => ⟨S4096, .f32⟩
  | 73 => ⟨S1x1x4096, .f32⟩
  | 74 => ⟨S2x8192x4096, .f32⟩
  | 75 => ⟨S2x8192x4096, .f32⟩
  | 76 => ⟨S2x8192x4096, .f32⟩
  | 77 => ⟨S2x8192x4096, .f32⟩
  | 78 => ⟨S_, .f32⟩
  | 79 => ⟨S2x8192x4096, .f32⟩
  | 80 => ⟨S2x8192x4096, .f32⟩
  | 81 => ⟨S_, .f32⟩
  | 82 => ⟨S2x8192x4096, .f32⟩
  | 83 => ⟨S2x8192x4096, .f32⟩
  | 84 => ⟨S_, .f32⟩
  | 85 => ⟨S2x8192x4096, .f32⟩
  | 86 => ⟨S2x8192x4096, .f32⟩
  | 87 => ⟨S4096, .f32⟩
  | 88 => ⟨S4096, .f32⟩
  | 89 => ⟨S_, .f32⟩
  | 90 => ⟨S4096, .f32⟩
  | 91 => ⟨S4096, .f32⟩
  | 92 => ⟨S4096, .f32⟩
  | 93 => ⟨S4096, .f32⟩
  | 94 => ⟨S4096, .i1⟩
  | 95 => ⟨S4096, .f32⟩
  | 96 => ⟨S4096, .f32⟩
  | 97 => ⟨S4096, .f32⟩
  | 98 => ⟨S4096, .f32⟩
  | 99 => ⟨S4096, .f32⟩
  | 100 => ⟨S4096, .f32⟩
  | 101 => ⟨S4096, .f32⟩
  | 102 => ⟨S4096, .f32⟩
  | 103 => ⟨S1x1x4096, .f32⟩
  | 104 => ⟨S2x8192x4096, .f32⟩
  | 105 => ⟨S2x8192x4096, .f32⟩
  | 106 => ⟨S2x8192x4096, .f32⟩
  | 107 => ⟨S_, .f32⟩
  | 108 => ⟨S2x8192x4096, .f32⟩
  | 109 => ⟨S2x8192x4096, .f32⟩
  | 110 => ⟨S2x8192x4096, .f32⟩
  | 111 => ⟨S2x8192x4096, .f32⟩
  | 112 => ⟨S2x8192x4096, .f32⟩
  | 113 => ⟨S2x8192x4096, .f32⟩
  | 114 => ⟨S2x8192x4096, .f32⟩
  | 115 => ⟨S2x8192x4096, .f32⟩
  | 116 => ⟨S2x8192x4096, .f32⟩
  | 117 => ⟨S_, .f32⟩
  | 118 => ⟨S2x8192x4096, .f32⟩
  | 119 => ⟨S2x8192x4096, .f32⟩
  | 120 => ⟨S2x8192x4096, .f32⟩
  | 121 => ⟨S_, .f32⟩
  | 122 => ⟨S2x8192x4096, .f32⟩
  | 123 => ⟨S2x8192x4096, .f32⟩
  | 124 => ⟨S2x8192x4096, .f32⟩
  | 125 => ⟨S_, .f32⟩
  | 126 => ⟨S2x8192x4096, .f32⟩
  | 127 => ⟨S2x8192x4096, .f32⟩
  | _ => ⟨S2x8192x4096, .bf16⟩

abbrev hbmTy0_1 (i : Nat) : BufTy := match i % 128 with
  | 0 => ⟨S_, .f32⟩
  | 1 => ⟨S2x8192x4096, .f32⟩
  | 2 => ⟨S2x8192x4096, .f32⟩
  | 3 => ⟨S2x8192x4096, .f32⟩
  | 4 => ⟨S8192x2x4096, .f32⟩
  | 5 => ⟨S8192x2x4096, .f32⟩
  | 6 => ⟨S8192x2x4096, .f32⟩
  | 7 => ⟨S_, .f32⟩
  | 8 => ⟨S2x4096, .f32⟩
  | 9 => ⟨S_, .f32⟩
  | 10 => ⟨S8192x2x4096, .f32⟩
  | 11 => ⟨S_, .i32⟩
  | 12 => ⟨S8192x2x4096, .f32⟩
  | 13 => ⟨S8192x2x4096, .f32⟩
  | 14 => ⟨S8192x2x4096, .f32⟩
  | 15 => ⟨S_, .i32⟩
  | 16 => ⟨S2x4096, .f32⟩
  | 17 => ⟨S8192x2x4096, .f32⟩
  | 18 => ⟨S_, .i32⟩
  | 19 => ⟨S_, .i1⟩
  | 20 => ⟨S_, .i32⟩
  | 21 => ⟨S_, .i32⟩
  | 22 => ⟨S1x2x4096, .f32⟩
  | 23 => ⟨S2x4096, .f32⟩
  | 24 => ⟨S_, .i32⟩
  | 25 => ⟨S_, .i32⟩
  | 26 => ⟨S1x2x4096, .f32⟩
  | 27 => ⟨S2x4096, .f32⟩
  | 28 => ⟨S_, .i32⟩
  | 29 => ⟨S_, .i32⟩
  | 30 => ⟨S1x2x4096, .f32⟩
  | 31 => ⟨S2x4096, .f32⟩
  | 32 => ⟨S2x4096, .f32⟩
  | 33 => ⟨S2x4096, .f32⟩
  | 34 => ⟨S2x4096, .f32⟩
  | 35 => ⟨S1x2x4096, .f32⟩
  | 36 => ⟨S_, .i32⟩
  | 37 => ⟨S_, .i32⟩
  | 38 => ⟨S8192x2x4096, .f32⟩
  | 39 => ⟨S_, .i32⟩
  | 40 => ⟨S_, .i32⟩
  | 41 => ⟨S2x8192x4096, .f32⟩
  | 42 => ⟨S16384x4096, .f32⟩
  | 43 => ⟨S16384x4096, .bf16⟩
  | _ => ⟨S2x8192x4096, .bf16⟩

abbrev hbmTy (i : Nat) : BufTy := match i / 128 with
  | 0 => hbmTy0_0 i
  | 1 => hbmTy0_1 i
  | _ => ⟨S2x8192x4096, .bf16⟩

abbrev bufTy : (tb : Table) → Fin (tcTables nBuf tb) → BufTy
  | .hbm, ⟨i, _⟩ => hbmTy i
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_0 : Ref sig .tc := ⟨.hbm, 62, rfl⟩
abbrev main_v50 : Ref sig .tc := ⟨.hbm, 63, rfl⟩
abbrev main_v51 : Ref sig .tc := ⟨.hbm, 64, rfl⟩
abbrev main_cst_1 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_2 : Ref sig .tc := ⟨.hbm, 78, rfl⟩
abbrev main_v64 : Ref sig .tc := ⟨.hbm, 79, rfl⟩
abbrev main_v65 : Ref sig .tc := ⟨.hbm, 80, rfl⟩
abbrev main_cst_3 : Ref sig .tc := ⟨.hbm, 81, rfl⟩
abbrev main_v66 : Ref sig .tc := ⟨.hbm, 82, rfl⟩
abbrev main_v67 : Ref sig .tc := ⟨.hbm, 83, rfl⟩
abbrev main_cst_4 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_5 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_6 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_7 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_8 : Ref sig .tc := ⟨.hbm, 125, rfl⟩
abbrev main_v92 : Ref sig .tc := ⟨.hbm, 126, rfl⟩
abbrev main_v93 : Ref sig .tc := ⟨.hbm, 127, rfl⟩
abbrev main_cst_9 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_10 : Ref sig .tc := ⟨.hbm, 135, rfl⟩
abbrev main_v100 : Ref sig .tc := ⟨.hbm, 136, rfl⟩
abbrev main_cst_11 : Ref sig .tc := ⟨.hbm, 137, rfl⟩
abbrev main_v101 : Ref sig .tc := ⟨.hbm, 138, rfl⟩
abbrev main_c_12 : Ref sig .tc := ⟨.hbm, 139, rfl⟩
abbrev main_v102_0 : Ref sig .tc := ⟨.hbm, 140, rfl⟩
abbrev main_v102_1 : Ref sig .tc := ⟨.hbm, 141, rfl⟩
abbrev main_v102_2 : Ref sig .tc := ⟨.hbm, 142, rfl⟩
abbrev main_v102_3 : Ref sig .tc := ⟨.hbm, 143, rfl⟩
abbrev main_v102_4 : Ref sig .tc := ⟨.hbm, 144, rfl⟩
abbrev main_v102_5 : Ref sig .tc := ⟨.hbm, 145, rfl⟩
abbrev main_while0c_c_18 : Ref sig .tc := ⟨.hbm, 146, rfl⟩
abbrev main_while0c_v106 : Ref sig .tc := ⟨.hbm, 147, rfl⟩
abbrev main_while0b_call2_c : Ref sig .tc := ⟨.hbm, 148, rfl⟩
abbrev main_while0b_call2_c_0 : Ref sig .tc := ⟨.hbm, 149, rfl⟩
abbrev main_while0b_call2_v0 : Ref sig .tc := ⟨.hbm, 150, rfl⟩
abbrev main_while0b_v106 : Ref sig .tc := ⟨.hbm, 151, rfl⟩
abbrev main_while0b_call3_c : Ref sig .tc := ⟨.hbm, 152, rfl⟩
abbrev main_while0b_call3_c_0 : Ref sig .tc := ⟨.hbm, 153, rfl⟩
abbrev main_while0b_call3_v0 : Ref sig .tc := ⟨.hbm, 154, rfl⟩
abbrev main_while0b_v107 : Ref sig .tc := ⟨.hbm, 155, rfl⟩
abbrev main_while0b_call4_c : Ref sig .tc := ⟨.hbm, 156, rfl⟩
abbrev main_while0b_call4_c_0 : Ref sig .tc := ⟨.hbm, 157, rfl⟩
abbrev main_while0b_call4_v0 : Ref sig .tc := ⟨.hbm, 158, rfl⟩
abbrev main_while0b_v108 : Ref sig .tc := ⟨.hbm, 159, rfl⟩
abbrev main_while0b_v109 : Ref sig .tc := ⟨.hbm, 160, rfl⟩
abbrev main_while0b_v110 : Ref sig .tc := ⟨.hbm, 161, rfl⟩
abbrev main_while0b_v111 : Ref sig .tc := ⟨.hbm, 162, rfl⟩
abbrev main_while0b_call5_v0 : Ref sig .tc := ⟨.hbm, 163, rfl⟩
abbrev main_while0b_call5_c : Ref sig .tc := ⟨.hbm, 164, rfl⟩
abbrev main_while0b_call5_c_0 : Ref sig .tc := ⟨.hbm, 165, rfl⟩
abbrev main_while0b_v112 : Ref sig .tc := ⟨.hbm, 166, rfl⟩
abbrev main_while0b_c_18 : Ref sig .tc := ⟨.hbm, 167, rfl⟩
abbrev main_while0b_v113 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S2x8192x4096 : Shape := ⟨3, ![2, 8192, 4096]⟩
abbrev S1x4096x18432 : Shape := ⟨3, ![1, 4096, 18432]⟩
abbrev S1x8192 : Shape := ⟨2, ![1, 8192]⟩
abbrev S16384x4096 : Shape := ⟨2, ![16384, 4096]⟩
abbrev S4096x18432 : Shape := ⟨2, ![4096, 18432]⟩
abbrev S8192 : Shape := ⟨1, ![8192]⟩
abbrev S16384x8192 : Shape := ⟨2, ![16384, 8192]⟩
abbrev S512x4096 : Shape := ⟨2, ![512, 4096]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x18432, .f32⟩
  | .hbm, ⟨2, _⟩ => ⟨S1x8192, .f32⟩
  | .hbm, ⟨3, _⟩ => ⟨S16384x4096, .bf16⟩
  | .hbm, ⟨4, _⟩ => ⟨S4096x18432, .f32⟩
  | .hbm, ⟨5, _⟩ => ⟨S8192, .f32⟩
  | .hbm, ⟨6, _⟩ => ⟨S1x8192, .f32⟩
  | .hbm, ⟨7, _⟩ => ⟨S16384x8192, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S4096x1024, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg0 c10_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2x8192x4096 : Shape := ⟨3, ![2, 8192, 4096]⟩
abbrev S1x4096x18432 : Shape := ⟨3, ![1, 4096, 18432]⟩
abbrev S1x8192 : Shape := ⟨2, ![1, 8192]⟩
abbrev S4096x18432 : Shape := ⟨2, ![4096, 18432]⟩
abbrev S2x8192x18432 : Shape := ⟨3, ![2, 8192, 18432]⟩
abbrev S2x8192x8192 : Shape := ⟨3, ![2, 8192, 8192]⟩
abbrev S8192 : Shape := ⟨1, ![8192]⟩
abbrev S1x1x8192 : Shape := ⟨3, ![1, 1, 8192]⟩
abbrev S_ : Shape := ⟨0, ![]⟩
abbrev S16384x8192 : Shape := ⟨2, ![16384, 8192]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x18432, .f32⟩
  | .hbm, ⟨2, _⟩ => ⟨S1x8192, .f32⟩
  | .hbm, ⟨3, _⟩ => ⟨S2x8192x4096, .f32⟩
  | .hbm, ⟨4, _⟩ => ⟨S4096x18432, .f32⟩
  | .hbm, ⟨5, _⟩ => ⟨S2x8192x18432, .f32⟩
  | .hbm, ⟨6, _⟩ => ⟨S2x8192x8192, .f32⟩
  | .hbm, ⟨7, _⟩ => ⟨S8192, .f32⟩
  | .hbm, ⟨8, _⟩ => ⟨S1x1x8192, .f32⟩
  | .hbm, ⟨9, _⟩ => ⟨S2x8192x8192, .f32⟩
  | .hbm, ⟨10, _⟩ => ⟨S2x8192x8192, .f32⟩
  | .hbm, ⟨11, _⟩ => ⟨S2x8192x8192, .f32⟩
  | .hbm, ⟨12, _⟩ => ⟨S2x8192x8192, .f32⟩
  | .hbm, ⟨13, _⟩ => ⟨S_, .f32⟩
  | .hbm, ⟨14, _⟩ => ⟨S2x8192x8192, .f32⟩
  | .hbm, ⟨15, _⟩ => ⟨S2x8192x8192, .f32⟩
  | .hbm, ⟨16, _⟩ => ⟨S_, .f32⟩
  | .hbm, ⟨17, _⟩ => ⟨S2x8192x8192, .f32⟩
  | .hbm, ⟨18, _⟩ => ⟨S2x8192x8192, .f32⟩
  | .hbm, ⟨19, _⟩ => ⟨S16384x8192, .f32⟩
  | .hbm, ⟨20, _⟩ => ⟨S16384x8192, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel3.lean ====
abbrev S16384x4096 : Shape := ⟨2, ![16384, 4096]⟩
abbrev S1x4096x4096 : Shape := ⟨3, ![1, 4096, 4096]⟩
abbrev S16384x2048 : Shape := ⟨2, ![16384, 2048]⟩
abbrev S1x4x512x1024 : Shape := ⟨4, ![1, 4, 512, 1024]⟩
abbrev S1x4096 : Shape := ⟨2, ![1, 4096]⟩
abbrev S16384x8192 : Shape := ⟨2, ![16384, 8192]⟩
abbrev S4096x4096 : Shape := ⟨2, ![4096, 4096]⟩
abbrev S4x512x1024 : Shape := ⟨3, ![4, 512, 1024]⟩
abbrev S4096 : Shape := ⟨1, ![4096]⟩
abbrev S512x4096 : Shape := ⟨2, ![512, 4096]⟩
abbrev S4096x1024 : Shape := ⟨2, ![4096, 1024]⟩
abbrev S512x512 : Shape := ⟨2, ![512, 512]⟩
abbrev S1x512x1024 : Shape := ⟨3, ![1, 512, 1024]⟩
abbrev S1x1024 : Shape := ⟨2, ![1, 1024]⟩
abbrev S512x1024 : Shape := ⟨2, ![512, 1024]⟩

abbrev nBuf : Space → Nat
  | .hbm => 11
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x2048, .bf16⟩
  | .hbm, ⟨3, _⟩ => ⟨S1x4x512x1024, .f32⟩
  | .hbm, ⟨4, _⟩ => ⟨S1x4096, .f32⟩
  | .hbm, ⟨5, _⟩ => ⟨S16384x8192, .bf16⟩
  | .hbm, ⟨6, _⟩ => ⟨S4096x4096, .f32⟩
  | .hbm, ⟨7, _⟩ => ⟨S4x512x1024, .f32⟩
  | .hbm, ⟨8, _⟩ => ⟨S4096, .f32⟩
  | .hbm, ⟨9, _⟩ => ⟨S1x4096, .f32⟩
  | .hbm, ⟨10, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .f32⟩
  | .local _ .vmem, ⟨3, _⟩ => ⟨S512x512, .bf16⟩
  | .local _ .vmem, ⟨4, _⟩ => ⟨S512x512, .bf16⟩
  | .local _ .vmem, ⟨5, _⟩ => ⟨S1x512x1024, .f32⟩
  | .local _ .vmem, ⟨6, _⟩ => ⟨S1x512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S4096x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg1.toNat, v16.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S16384x4096 : Shape := ⟨2, ![16384, 4096]⟩
abbrev S1x4096x4096 : Shape := ⟨3, ![1, 4096, 4096]⟩
abbrev S16384x2048 : Shape := ⟨2, ![16384, 2048]⟩
abbrev S1x4x512x1024 : Shape := ⟨4, ![1, 4, 512, 1024]⟩
abbrev S1x4096 : Shape := ⟨2, ![1, 4096]⟩
abbrev S16384x8192 : Shape := ⟨2, ![16384, 8192]⟩
abbrev S4096x4096 : Shape := ⟨2, ![4096, 4096]⟩
abbrev S2x8192x4x512 : Shape := ⟨4, ![2, 8192, 4, 512]⟩
abbrev S4x512x1024 : Shape := ⟨3, ![4, 512, 1024]⟩
abbrev S4x1024x2x8192 : Shape := ⟨4, ![4, 1024, 2, 8192]⟩
abbrev S2x8192x4x1024 : Shape := ⟨4, ![2, 8192, 4, 1024]⟩
abbrev S4096 : Shape := ⟨1, ![4096]⟩

abbrev nBuf : Space → Nat
  | .hbm => 26
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x2048, .bf16⟩
  | .hbm, ⟨3, _⟩ => ⟨S1x4x512x1024, .f32⟩
  | .hbm, ⟨4, _⟩ => ⟨S1x4096, .f32⟩
  | .hbm, ⟨5, _⟩ => ⟨S16384x8192, .bf16⟩
  | .hbm, ⟨6, _⟩ => ⟨S16384x4096, .f32⟩
  | .hbm, ⟨7, _⟩ => ⟨S4096x4096, .f32⟩
  | .hbm, ⟨8, _⟩ => ⟨S16384x4096, .f32⟩
  | .hbm, ⟨9, _⟩ => ⟨S16384x2048, .f32⟩
  | .hbm, ⟨10, _⟩ => ⟨S2x8192x4x512, .f32⟩
  | .hbm, ⟨11, _⟩ => ⟨S4x512x1024, .f32⟩
  | .hbm, ⟨12, _⟩ => ⟨S4x1024x2x8192, .f32⟩
  | .hbm, ⟨13, _⟩ => ⟨S2x8192x4x1024, .f32⟩
  | .hbm, ⟨14, _⟩ => ⟨S16384x4096, .f32⟩
  | .hbm, ⟨15, _⟩ => ⟨S4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x8192, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel4.lean ====
abbrev S2x8192x4096 : Shape := ⟨3, ![2, 8192, 4096]⟩
abbrev S16384x4096 : Shape := ⟨2, ![16384, 4096]⟩
abbrev S1x4096x4096 : Shape := ⟨3, ![1, 4096, 4096]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S16384x4096, .bf16⟩
  | .hbm, ⟨2, _⟩ => ⟨S1x4096x4096, .f32⟩
  | .hbm, ⟨3, _⟩ => ⟨S4096x4096, .f32⟩
  | .hbm, ⟨4, _⟩ => ⟨S16384x4096, .f32⟩
  | .hbm, ⟨5, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S4096x1024, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x8192x4096 : Shape := ⟨3, ![2, 8192, 4096]⟩
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S16384x4096, .bf16⟩
  | .hbm, ⟨2, _⟩ => ⟨S1x4096x4096, .f32⟩
  | .hbm, ⟨3, _⟩ => ⟨S16384x4096, .f32⟩
  | .hbm, ⟨4, _⟩ => ⟨S16384x4096, .f32⟩
  | .hbm, ⟨5, _⟩ => ⟨S4096x4096, .f32⟩
  | .hbm, ⟨6, _⟩ => ⟨S16384x4096, .f32⟩
  | .hbm, ⟨7, _⟩ => ⟨S16384x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S2x8192x4096 : Shape := ⟨3, ![2, 8192, 4096]⟩
abbrev S1x4096x18432 : Shape := ⟨3, ![1, 4096, 18432]⟩
abbrev S16384x4096 : Shape := ⟨2, ![16384, 4096]⟩
abbrev S4096x18432 : Shape := ⟨2, ![4096, 18432]⟩
abbrev S16384x2048 : Shape := ⟨2, ![16384, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x18432, .f32⟩
  | .hbm, ⟨2, _⟩ => ⟨S16384x4096, .bf16⟩
  | .hbm, ⟨3, _⟩ => ⟨S4096x18432, .f32⟩
  | .hbm, ⟨4, _⟩ => ⟨S16384x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .f32⟩
  | .local _ .vmem, ⟨3, _⟩ => ⟨S512x1024, .f32⟩
  | .local _ .vmem, ⟨4, _⟩ => ⟨S512x1024, .f32⟩
  | .local _ .vmem, ⟨5, _⟩ => ⟨S4096x1024, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2x8192x4096 : Shape := ⟨3, ![2, 8192, 4096]⟩
abbrev S1x4096x18432 : Shape := ⟨3, ![1, 4096, 18432]⟩
abbrev S4096x18432 : Shape := ⟨2, ![4096, 18432]⟩
abbrev S2x8192x18432 : Shape := ⟨3, ![2, 8192, 18432]⟩
abbrev S2x8192x2048 : Shape := ⟨3, ![2, 8192, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S1x4096x18432, .f32⟩
  | .hbm, ⟨2, _⟩ => ⟨S2x8192x4096, .f32⟩
  | .hbm, ⟨3, _⟩ => ⟨S4096x18432, .f32⟩
  | .hbm, ⟨4, _⟩ => ⟨S2x8192x18432, .f32⟩
  | .hbm, ⟨5, _⟩ => ⟨S2x8192x2048, .f32⟩
  | .hbm, ⟨6, _⟩ => ⟨S16384x2048, .f32⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S16384x2048 : Shape := ⟨2, ![16384, 2048]⟩
abbrev S512x2048 : Shape := ⟨2, ![512, 2048]⟩
abbrev S16x2048 : Shape := ⟨2, ![16, 2048]⟩
abbrev S528x2048 : Shape := ⟨2, ![528, 2048]⟩
abbrev S512x1 : Shape := ⟨2, ![512, 1]⟩
abbrev S528x512 : Shape := ⟨2, ![528, 512]⟩
abbrev S512x512 : Shape := ⟨2, ![512, 512]⟩

abbrev nBuf : Space → Nat
  | .hbm => 2
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S16x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference6Ideal.lean ====
abbrev S16384x2048 : Shape := ⟨2, ![16384, 2048]⟩
abbrev S2x8192x2048 : Shape := ⟨3, ![2, 8192, 2048]⟩
abbrev S_ : Shape := ⟨0, ![]⟩
abbrev S2x8207x2048 : Shape := ⟨3, ![2, 8207, 2048]⟩
abbrev S8192 : Shape := ⟨1, ![8192]⟩
abbrev S2x8192x512 : Shape := ⟨3, ![2, 8192, 512]⟩
abbrev S1x8192x1 : Shape := ⟨3, ![1, 8192, 1]⟩
abbrev S2x8192x1x512 : Shape := ⟨4, ![2, 8192, 1, 512]⟩
abbrev S2x8192x4x512 : Shape := ⟨4, ![2, 8192, 4, 512]⟩

abbrev nBuf : Space → Nat
  | .hbm => 120
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x8192x2048, .f32⟩
  | .hbm, ⟨2, _⟩ => ⟨S_, .i32⟩
  | .hbm, ⟨3, _⟩ => ⟨S_, .f32⟩
  | .hbm, ⟨4, _⟩ => ⟨S2x8207x2048, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S2x8192x512, .f32⟩
  | .hbm, ⟨10, _⟩ => ⟨S_, .f32⟩
  | .hbm, ⟨11, _⟩ => ⟨S2x8192x512, .f32⟩
  | .hbm, ⟨12, _⟩ => ⟨S2x8192x512, .f32⟩
  | .hbm, ⟨13, _⟩ => ⟨S2x8192x512, .f32⟩
  | .hbm, ⟨14, _⟩ => ⟨S2x8192x512, .f32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .f32⟩
  | .hbm, ⟨19, _⟩ => ⟨S1x8192x1, .f32⟩
  | .hbm, ⟨20, _⟩ => ⟨S2x8192x512, .f32⟩
  | .hbm, ⟨21, _⟩ => ⟨S2x8192x512, .f32⟩
  | .hbm, ⟨22, _⟩ => ⟨S2x8192x512, .f32⟩
  | .hbm, ⟨23, _⟩ => ⟨S2x8192x512, .f32⟩
  | .hbm, ⟨24, _⟩ => ⟨S2x8192x512, .f32⟩
  | .hbm, ⟨25, _⟩ => ⟨S_, .f32⟩
  | .hbm, ⟨26, _⟩ => ⟨S2x8192x512, .f32⟩
  | .hbm, ⟨27, _⟩ => ⟨S2x8192x512, .f32⟩
  | .hbm, ⟨28, _⟩ => ⟨S2x8192x512, .f32⟩
  | .hbm, ⟨29, _⟩ => ⟨S2x8192x512, .f32⟩
  | .hbm, ⟨30, _⟩ => ⟨S2x8192x512, .f32⟩
  | .hbm, ⟨31, _⟩ => ⟨S2x8192x512, .f32⟩
  | .hbm, ⟨32, _⟩ => ⟨S2x8192x512, .f32⟩
  | .hbm, ⟨33, _⟩ => ⟨S2x8192x512, .f32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .f32⟩
  | .hbm, ⟨38, _⟩ => ⟨S1x8192x1, .f32⟩
  | .hbm, ⟨39, _⟩ => ⟨S2x8192x512, .f32⟩
  | .hbm, ⟨40, _⟩ => ⟨S2x8192x512, .f32⟩
  | .hbm, ⟨41, _⟩ => ⟨S2x8192x512, .f32⟩
  | .hbm, ⟨42, _⟩ => ⟨S2x8192x512, .f32⟩
  | .hbm, ⟨43, _⟩ => ⟨S2x8192x512, .f32⟩
  | .hbm, ⟨44, _⟩ => ⟨S_, .f32⟩
  | .hbm, ⟨45, _⟩ => ⟨S2x8192x512, .f32⟩
  | .hbm, ⟨46, _⟩ => ⟨S2x8192x512, .f32⟩
  | .hbm, ⟨47, _⟩ => ⟨S2x8192x512, .f32⟩
  | .hbm, ⟨48, _⟩ => ⟨S2x8192x512, .f32⟩
  | .hbm, ⟨49, _⟩ => ⟨S2x8192x512, .f32⟩
  | .hbm, ⟨50, _⟩ => ⟨S2x8192x512, .f32⟩
  | .hbm, ⟨51, _⟩ => ⟨S2x8192x512, .f32⟩
  | .hbm, ⟨52, _⟩ => ⟨S2x8192x512, .f32⟩
  | .hbm, ⟨53, _⟩ => ⟨S2x8192x512, .f32⟩
  | .hbm, ⟨54, _⟩ => ⟨S2x8192x512, .f32⟩
  | .hbm, ⟨55, _⟩ => ⟨S2x8192x512, .f32⟩
  | .hbm, ⟨56, _⟩ => ⟨S2x8192x512, .f32⟩
  | .hbm, ⟨57, _⟩ => ⟨S2x8192x512, .f32⟩
  | .hbm, ⟨58, _⟩ => ⟨S2x8192x512, .f32⟩
  | .hbm, ⟨59, _⟩ => ⟨S2x8192x512, .f32⟩
  | .hbm, ⟨60, _⟩ => ⟨S2x8192x512, .f32⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .f32⟩
  | .hbm, ⟨65, _⟩ => ⟨S1x8192x1, .f32⟩
  | .hbm, ⟨66, _⟩ => ⟨S2x8192x512, .f32⟩
  | .hbm, ⟨67, _⟩ => ⟨S2x8192x512, .f32⟩
  | .hbm, ⟨68, _⟩ => ⟨S2x8192x512, .f32⟩
  | .hbm, ⟨69, _⟩ => ⟨S2x8192x512, .f32⟩
  | .hbm, ⟨70, _⟩ => ⟨S2x8192x512, .f32⟩
  | .hbm, ⟨71, _⟩ => ⟨S_, .f32⟩
  | .hbm, ⟨72, _⟩ => ⟨S2x8192x512, .f32⟩
  | .hbm, ⟨73, _⟩ => ⟨S2x8192x512, .f32⟩
  | .hbm, ⟨74, _⟩ => ⟨S2x8192x512, .f32⟩
  | .hbm, ⟨75, _⟩ => ⟨S2x8192x512, .f32⟩
  | .hbm, ⟨76, _⟩ => ⟨S2x8192x512, .f32⟩
  | .hbm, ⟨77, _⟩ => ⟨S2x8192x512, .f32⟩
  | .hbm, ⟨78, _⟩ => ⟨S2x8192x512, .f32⟩
  | .hbm, ⟨79, _⟩ => ⟨S2x8192x512, .f32⟩
  | .hbm, ⟨80, _⟩ => ⟨S2x8192x512, .f32⟩
  | .hbm, ⟨81, _⟩ => ⟨S2x8192x512, .f32⟩
  | .hbm, ⟨82, _⟩ => ⟨S2x8192x512, .f32⟩
  | .hbm, ⟨83, _⟩ => ⟨S2x8192x512, .f32⟩
  | .hbm, ⟨84, _⟩ => ⟨S2x8192x512, .f32⟩
  | .hbm, ⟨85, _⟩ => ⟨S2x8192x512, .f32⟩
  | .hbm, ⟨86, _⟩ => ⟨S2x8192x512, .f32⟩
  | .hbm, ⟨87, _⟩ => ⟨S2x8192x512, .f32⟩
  | .hbm, ⟨88, _⟩ => ⟨S2x8192x512, .f32⟩
  | .hbm, ⟨89, _⟩ => ⟨S2x8192x512, .f32⟩
  | .hbm, ⟨90, _⟩ => ⟨S2x8192x512, .f32⟩
  | .hbm, ⟨91, _⟩ => ⟨S2x8192x512, .f32⟩
  | .hbm, ⟨92, _⟩ => ⟨S2x8192x512, .f32⟩
  | .hbm, ⟨93, _⟩ => ⟨S2x8192x512, .f32⟩
  | .hbm, ⟨94, _⟩ => ⟨S2x8192x512, .f32⟩
  | .hbm, ⟨95, _⟩ => ⟨S2x8192x512, .f32⟩
  | .hbm, ⟨96, _⟩ => ⟨S2x8192x512, .f32⟩
  | .hbm, ⟨97, _⟩ => ⟨S2x8192x512, .f32⟩
  | .hbm, ⟨98, _⟩ => ⟨S2x8192x512, .f32⟩
  | .hbm, ⟨99, _⟩ => ⟨S2x8192x512, .f32⟩
  | .hbm, ⟨100, _⟩ => ⟨S2x8192x512, .f32⟩
  | .hbm, ⟨101, _⟩ => ⟨S2x8192x512, .f32⟩
  | .hbm, ⟨102, _⟩ => ⟨S2x8192x512, .f32⟩
  | .hbm, ⟨103, _⟩ => ⟨S2x8192x512, .f32⟩
  | .hbm, ⟨104, _⟩ => ⟨S_, .i32⟩
  | .hbm, ⟨105, _⟩ => ⟨S8192, .i32⟩
  | .hbm, ⟨106, _⟩ => ⟨S8192, .i32⟩
  | .hbm, ⟨107, _⟩ => ⟨S8192, .f32⟩
  | .hbm, ⟨108, _⟩ => ⟨S1x8192x1, .f32⟩
  | .hbm, ⟨109, _⟩ => ⟨S2x8192x512, .f32⟩
  | .hbm, ⟨110, _⟩ => ⟨S2x8192x512, .f32⟩
  | .hbm, ⟨111, _⟩ => ⟨S2x8192x512, .f32⟩
  | .hbm, ⟨112, _⟩ => ⟨S2x8192x512, .f32⟩
  | .hbm, ⟨113, _⟩ => ⟨S2x8192x1x512, .f32⟩
  | .hbm, ⟨114, _⟩ => ⟨S2x8192x1x512, .f32⟩
  | .hbm, ⟨115, _⟩ => ⟨S2x8192x1x512, .f32⟩
  | .hbm, ⟨116, _⟩ => ⟨S2x8192x1x512, .f32⟩
  | .hbm, ⟨117, _⟩ => ⟨S2x8192x4x512, .f32⟩
  | .hbm, ⟨118, _⟩ => ⟨S16384x2048, .f32⟩
  | .hbm, ⟨119, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_c_5 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_6 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_c_7 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩

abbrev nD : Nat := 1
abbrev τ : Topo := Topo.v7x

variable {F : FTy → Type} [FloatOps F]
-- ==== Kernel7.lean ====
abbrev S2x8192x4096 : Shape := ⟨3, ![2, 8192, 4096]⟩
abbrev S1x4096 : Shape := ⟨2, ![1, 4096]⟩
abbrev S16384x4096 : Shape := ⟨2, ![16384, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S16384x4096, .f32⟩
  | .hbm, ⟨3, _⟩ => ⟨S4096, .f32⟩
  | .hbm, ⟨4, _⟩ => ⟨S1x4096, .f32⟩
  | .hbm, ⟨5, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S2x8192x4096 : Shape := ⟨3, ![2, 8192, 4096]⟩
abbrev S1x4096 : Shape := ⟨2, ![1, 4096]⟩
abbrev S_ : Shape := ⟨0, ![]⟩
abbrev S2x8192 : Shape := ⟨2, ![2, 8192]⟩
abbrev S2x8192x1 : Shape := ⟨3, ![2, 8192, 1]⟩
abbrev S4096 : Shape := ⟨1, ![4096]⟩
abbrev S1x1x4096 : Shape := ⟨3, ![1, 1, 4096]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S2x8192x4096, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x4096, .f32⟩
  | .hbm, ⟨14, _⟩ => ⟨S2x8192x4096, .f32⟩
  | .hbm, ⟨15, _⟩ => ⟨S4096, .f32⟩
  | .hbm, ⟨16, _⟩ => ⟨S1x1x4096, .f32⟩
  | .hbm, ⟨17, _⟩ => ⟨S2x8192x4096, .f32⟩
  | .hbm, ⟨18, _⟩ => ⟨S2x8192x4096, .f32⟩
  | .hbm, ⟨19, _⟩ => ⟨S16384x4096, .f32⟩
  | .hbm, ⟨20, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel8.lean ====
abbrev S16384x4096 : Shape := ⟨2, ![16384, 4096]⟩
abbrev S1x4096 : Shape := ⟨2, ![1, 4096]⟩
abbrev S1x4096x8 : Shape := ⟨3, ![1, 4096, 8]⟩
abbrev S1x8 : Shape := ⟨2, ![1, 8]⟩
abbrev S1x4096x64 : Shape := ⟨3, ![1, 4096, 64]⟩
abbrev S1x64 : Shape := ⟨2, ![1, 64]⟩
abbrev S4096 : Shape := ⟨1, ![4096]⟩
abbrev S4096x8 : Shape := ⟨2, ![4096, 8]⟩
abbrev S8 : Shape := ⟨1, ![8]⟩
abbrev S4096x64 : Shape := ⟨2, ![4096, 64]⟩
abbrev S64 : Shape := ⟨1, ![64]⟩
abbrev S4096x72 : Shape := ⟨2, ![4096, 72]⟩
abbrev S_ : Shape := ⟨0, ![]⟩
abbrev S4096x128 : Shape := ⟨2, ![4096, 128]⟩
abbrev S72 : Shape := ⟨1, ![72]⟩
abbrev S128 : Shape := ⟨1, ![128]⟩
abbrev S128x1 : Shape := ⟨2, ![128, 1]⟩
abbrev S16384x16x128 : Shape := ⟨3, ![16384, 16, 128]⟩
abbrev S8x16384 : Shape := ⟨2, ![8, 16384]⟩
abbrev S16384x128 : Shape := ⟨2, ![16384, 128]⟩
abbrev S64x256 : Shape := ⟨2, ![64, 256]⟩
abbrev S256x4096 : Shape := ⟨2, ![256, 4096]⟩
abbrev S256x16x128 : Shape := ⟨3, ![256, 16, 128]⟩
abbrev S8x256 : Shape := ⟨2, ![8, 256]⟩
abbrev S256x128 : Shape := ⟨2, ![256, 128]⟩
abbrev S4096x256 : Shape := ⟨2, ![4096, 256]⟩
abbrev S256 : Shape := ⟨1, ![256]⟩
abbrev S256x1 : Shape := ⟨2, ![256, 1]⟩
abbrev S256x2048 : Shape := ⟨2, ![256, 2048]⟩
abbrev S256x256 : Shape := ⟨2, ![256, 256]⟩
abbrev S128x256 : Shape := ⟨2, ![128, 256]⟩
abbrev S1x256 : Shape := ⟨2, ![1, 256]⟩
abbrev S256x512 : Shape := ⟨2, ![256, 512]⟩
abbrev S128x512 : Shape := ⟨2, ![128, 512]⟩

abbrev nBuf : Space → Nat
  | .hbm => 25
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096x8, .f32⟩
  | .hbm, ⟨3, _⟩ => ⟨S1x8, .f32⟩
  | .hbm, ⟨4, _⟩ => ⟨S1x4096x64, .f32⟩
  | .hbm, ⟨5, _⟩ => ⟨S1x64, .f32⟩
  | .hbm, ⟨6, _⟩ => ⟨S4096, .f32⟩
  | .hbm, ⟨7, _⟩ => ⟨S4096x8, .f32⟩
  | .hbm, ⟨8, _⟩ => ⟨S8, .f32⟩
  | .hbm, ⟨9, _⟩ => ⟨S4096x64, .f32⟩
  | .hbm, ⟨10, _⟩ => ⟨S64, .f32⟩
  | .hbm, ⟨11, _⟩ => ⟨S4096x72, .f32⟩
  | .hbm, ⟨12, _⟩ => ⟨S_, .i32⟩
  | .hbm, ⟨13, _⟩ => ⟨S_, .f32⟩
  | .hbm, ⟨14, _⟩ => ⟨S4096x128, .f32⟩
  | .hbm, ⟨15, _⟩ => ⟨S72, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S128x1, .f32⟩
  | .hbm, ⟨20, _⟩ => ⟨S1x4096, .f32⟩
  | .hbm, ⟨21, _⟩ => ⟨S16384x16x128, .i32⟩
  | .hbm, ⟨22, _⟩ => ⟨S8x16384, .i32⟩
  | .hbm, ⟨23, _⟩ => ⟨S16384x128, .f32⟩
  | .hbm, ⟨24, _⟩ => ⟨S64x256, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x128, .f32⟩
  | .local _ .vmem, ⟨4, _⟩ => ⟨S128x1, .f32⟩
  | .local _ .vmem, ⟨5, _⟩ => ⟨S256x16x128, .i32⟩
  | .local _ .vmem, ⟨6, _⟩ => ⟨S256x16x128, .i32⟩
  | .local _ .vmem, ⟨7, _⟩ => ⟨S8x256, .i32⟩
  | .local _ .vmem, ⟨8, _⟩ => ⟨S8x256, .i32⟩
  | .local _ .vmem, ⟨9, _⟩ => ⟨S256x128, .f32⟩
  | .local _ .vmem, ⟨10, _⟩ => ⟨S256x128, .f32⟩
  | .local _ .vmem, ⟨11, _⟩ => ⟨S64x256, .f32⟩
  | .local _ .vmem, ⟨12, _⟩ => ⟨S64x256, .f32⟩
  | .local _ .vmem, ⟨13, _⟩ => ⟨S4096x256, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x16x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel8Ideal.lean ====
abbrev S16384x4096 : Shape := ⟨2, ![16384, 4096]⟩
abbrev S1x4096 : Shape := ⟨2, ![1, 4096]⟩
abbrev S1x4096x8 : Shape := ⟨3, ![1, 4096, 8]⟩
abbrev S1x8 : Shape := ⟨2, ![1, 8]⟩
abbrev S1x4096x64 : Shape := ⟨3, ![1, 4096, 64]⟩
abbrev S1x64 : Shape := ⟨2, ![1, 64]⟩
abbrev S4096 : Shape := ⟨1, ![4096]⟩
abbrev S4096x8 : Shape := ⟨2, ![4096, 8]⟩
abbrev S8 : Shape := ⟨1, ![8]⟩
abbrev S4096x64 : Shape := ⟨2, ![4096, 64]⟩
abbrev S64 : Shape := ⟨1, ![64]⟩
abbrev S4096x72 : Shape := ⟨2, ![4096, 72]⟩
abbrev S_ : Shape := ⟨0, ![]⟩
abbrev S4096x128 : Shape := ⟨2, ![4096, 128]⟩
abbrev S72 : Shape := ⟨1, ![72]⟩
abbrev S128 : Shape := ⟨1, ![128]⟩
abbrev S128x1 : Shape := ⟨2, ![128, 1]⟩
abbrev S16384x16x2x128 : Shape := ⟨4, ![16384, 16, 2, 128]⟩
abbrev S8x16384 : Shape := ⟨2, ![8, 16384]⟩
abbrev S16384x128 : Shape := ⟨2, ![16384, 128]⟩
abbrev S64x256 : Shape := ⟨2, ![64, 256]⟩
abbrev S16384x16x1x128 : Shape := ⟨4, ![16384, 16, 1, 128]⟩
abbrev S16384x16x128 : Shape := ⟨3, ![16384, 16, 128]⟩
abbrev S256x4096 : Shape := ⟨2, ![256, 4096]⟩
abbrev S256x16x128 : Shape := ⟨3, ![256, 16, 128]⟩
abbrev S256x16x2x128 : Shape := ⟨4, ![256, 16, 2, 128]⟩
abbrev S256x16x1x128 : Shape := ⟨4, ![256, 16, 1, 128]⟩
abbrev S8x256 : Shape := ⟨2, ![8, 256]⟩
abbrev S256x128 : Shape := ⟨2, ![256, 128]⟩
abbrev S4096x256 : Shape := ⟨2, ![4096, 256]⟩
abbrev S256 : Shape := ⟨1, ![256]⟩
abbrev S256x1 : Shape := ⟨2, ![256, 1]⟩
abbrev S256x2048 : Shape := ⟨2, ![256, 2048]⟩
abbrev S256x256 : Shape := ⟨2, ![256, 256]⟩
abbrev S128x256 : Shape := ⟨2, ![128, 256]⟩
abbrev S1x256 : Shape := ⟨2, ![1, 256]⟩
abbrev S256x512 : Shape := ⟨2, ![256, 512]⟩
abbrev S128x512 : Shape := ⟨2, ![128, 512]⟩

abbrev nBuf : Space → Nat
  | .hbm => 25
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096x8, .f32⟩
  | .hbm, ⟨3, _⟩ => ⟨S1x8, .f32⟩
  | .hbm, ⟨4, _⟩ => ⟨S1x4096x64, .f32⟩
  | .hbm, ⟨5, _⟩ => ⟨S1x64, .f32⟩
  | .hbm, ⟨6, _⟩ => ⟨S4096, .f32⟩
  | .hbm, ⟨7, _⟩ => ⟨S4096x8, .f32⟩
  | .hbm, ⟨8, _⟩ => ⟨S8, .f32⟩
  | .hbm, ⟨9, _⟩ => ⟨S4096x64, .f32⟩
  | .hbm, ⟨10, _⟩ => ⟨S64, .f32⟩
  | .hbm, ⟨11, _⟩ => ⟨S4096x72, .f32⟩
  | .hbm, ⟨12, _⟩ => ⟨S_, .i32⟩
  | .hbm, ⟨13, _⟩ => ⟨S_, .f32⟩
  | .hbm, ⟨14, _⟩ => ⟨S4096x128, .f32⟩
  | .hbm, ⟨15, _⟩ => ⟨S72, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S128x1, .f32⟩
  | .hbm, ⟨20, _⟩ => ⟨S1x4096, .f32⟩
  | .hbm, ⟨21, _⟩ => ⟨S16384x16x2x128, .bf16⟩
  | .hbm, ⟨22, _⟩ => ⟨S8x16384, .i32⟩
  | .hbm, ⟨23, _⟩ => ⟨S16384x128, .f32⟩
  | .hbm, ⟨24, _⟩ => ⟨S64x256, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x128, .f32⟩
  | .local _ .vmem, ⟨4, _⟩ => ⟨S128x1, .f32⟩
  | .local _ .vmem, ⟨5, _⟩ => ⟨S256x16x2x128, .bf16⟩
  | .local _ .vmem, ⟨6, _⟩ => ⟨S256x16x2x128, .bf16⟩
  | .local _ .vmem, ⟨7, _⟩ => ⟨S8x256, .i32⟩
  | .local _ .vmem, ⟨8, _⟩ => ⟨S8x256, .i32⟩
  | .local _ .vmem, ⟨9, _⟩ => ⟨S256x128, .f32⟩
  | .local _ .vmem, ⟨10, _⟩ => ⟨S256x128, .f32⟩
  | .local _ .vmem, ⟨11, _⟩ => ⟨S64x256, .f32⟩
  | .local _ .vmem, ⟨12, _⟩ => ⟨S64x256, .f32⟩
  | .local _ .vmem, ⟨13, _⟩ => ⟨S4096x256, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, 0, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x16x2x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S16384x4096 : Shape := ⟨2, ![16384, 4096]⟩
abbrev S1x4096 : Shape := ⟨2, ![1, 4096]⟩
abbrev S1x4096x8 : Shape := ⟨3, ![1, 4096, 8]⟩
abbrev S1x8 : Shape := ⟨2, ![1, 8]⟩
abbrev S1x4096x64 : Shape := ⟨3, ![1, 4096, 64]⟩
abbrev S1x64 : Shape := ⟨2, ![1, 64]⟩
abbrev S_ : Shape := ⟨0, ![]⟩
abbrev S16384 : Shape := ⟨1, ![16384]⟩
abbrev S16384x1 : Shape := ⟨2, ![16384, 1]⟩
abbrev S4096 : Shape := ⟨1, ![4096]⟩
abbrev S4096x8 : Shape := ⟨2, ![4096, 8]⟩
abbrev S16384x8 : Shape := ⟨2, ![16384, 8]⟩
abbrev S8 : Shape := ⟨1, ![8]⟩
abbrev S4096x64 : Shape := ⟨2, ![4096, 64]⟩
abbrev S16384x64 : Shape := ⟨2, ![16384, 64]⟩
abbrev S64 : Shape := ⟨1, ![64]⟩
abbrev S16384x8x8 : Shape := ⟨3, ![16384, 8, 8]⟩
abbrev S1x8x1 : Shape := ⟨3, ![1, 8, 1]⟩
abbrev S16384x1x1 : Shape := ⟨3, ![16384, 1, 1]⟩
abbrev S16384x8x1 : Shape := ⟨3, ![16384, 8, 1]⟩
abbrev S16384x2 : Shape := ⟨2, ![16384, 2]⟩
abbrev S16384x128 : Shape := ⟨2, ![16384, 128]⟩

abbrev nBuf : Space → Nat
  | .hbm => 91
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096x8, .f32⟩
  | .hbm, ⟨3, _⟩ => ⟨S1x8, .f32⟩
  | .hbm, ⟨4, _⟩ => ⟨S1x4096x64, .f32⟩
  | .hbm, ⟨5, _⟩ => ⟨S1x64, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S4096, .f32⟩
  | .hbm, ⟨20, _⟩ => ⟨S1x4096, .f32⟩
  | .hbm, ⟨21, _⟩ => ⟨S16384x4096, .f32⟩
  | .hbm, ⟨22, _⟩ => ⟨S16384x4096, .f32⟩
  | .hbm, ⟨23, _⟩ => ⟨S4096x8, .f32⟩
  | .hbm, ⟨24, _⟩ => ⟨S16384x8, .f32⟩
  | .hbm, ⟨25, _⟩ => ⟨S8, .f32⟩
  | .hbm, ⟨26, _⟩ => ⟨S1x8, .f32⟩
  | .hbm, ⟨27, _⟩ => ⟨S16384x8, .f32⟩
  | .hbm, ⟨28, _⟩ => ⟨S16384x8, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384x1, .f32⟩
  | .hbm, ⟨35, _⟩ => ⟨S16384x8, .f32⟩
  | .hbm, ⟨36, _⟩ => ⟨S16384x8, .f32⟩
  | .hbm, ⟨37, _⟩ => ⟨S16384x8, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x8, .f32⟩
  | .hbm, ⟨42, _⟩ => ⟨S16384x8, .f32⟩
  | .hbm, ⟨43, _⟩ => ⟨S16384x1, .f32⟩
  | .hbm, ⟨44, _⟩ => ⟨S16384x1, .i32⟩
  | .hbm, ⟨45, _⟩ => ⟨S4096x64, .f32⟩
  | .hbm, ⟨46, _⟩ => ⟨S16384x64, .f32⟩
  | .hbm, ⟨47, _⟩ => ⟨S64, .f32⟩
  | .hbm, ⟨48, _⟩ => ⟨S1x64, .f32⟩
  | .hbm, ⟨49, _⟩ => ⟨S16384x64, .f32⟩
  | .hbm, ⟨50, _⟩ => ⟨S16384x64, .f32⟩
  | .hbm, ⟨51, _⟩ => ⟨S16384x8x8, .f32⟩
  | .hbm, ⟨52, _⟩ => ⟨S8, .i32⟩
  | .hbm, ⟨53, _⟩ => ⟨S1x8x1, .i32⟩
  | .hbm, ⟨54, _⟩ => ⟨S16384x1x1, .i32⟩
  | .hbm, ⟨55, _⟩ => ⟨S16384x8x1, .i32⟩
  | .hbm, ⟨56, _⟩ => ⟨S16384x8x1, .i32⟩
  | .hbm, ⟨57, _⟩ => ⟨S16384x8x1, .i1⟩
  | .hbm, ⟨58, _⟩ => ⟨S_, .f32⟩
  | .hbm, ⟨59, _⟩ => ⟨S_, .f32⟩
  | .hbm, ⟨60, _⟩ => ⟨S16384x8x8, .i1⟩
  | .hbm, ⟨61, _⟩ => ⟨S16384x8x8, .f32⟩
  | .hbm, ⟨62, _⟩ => ⟨S16384x8x8, .f32⟩
  | .hbm, ⟨63, _⟩ => ⟨S_, .f32⟩
  | .hbm, ⟨64, _⟩ => ⟨S16384x8, .f32⟩
  | .hbm, ⟨65, _⟩ => ⟨S_, .f32⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S16384x1, .f32⟩
  | .hbm, ⟨71, _⟩ => ⟨S16384x8, .f32⟩
  | .hbm, ⟨72, _⟩ => ⟨S16384x8, .f32⟩
  | .hbm, ⟨73, _⟩ => ⟨S16384x8, .f32⟩
  | .hbm, ⟨74, _⟩ => ⟨S_, .f32⟩
  | .hbm, ⟨75, _⟩ => ⟨S16384, .f32⟩
  | .hbm, ⟨76, _⟩ => ⟨S16384x1, .f32⟩
  | .hbm, ⟨77, _⟩ => ⟨S16384x8, .f32⟩
  | .hbm, ⟨78, _⟩ => ⟨S16384x8, .f32⟩
  | .hbm, ⟨79, _⟩ => ⟨S16384x2, .f32⟩
  | .hbm, ⟨80, _⟩ => ⟨S16384x2, .i32⟩
  | .hbm, ⟨81, _⟩ => ⟨S16384x2, .f32⟩
  | .hbm, ⟨82, _⟩ => ⟨S16384x2, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S16384x2, .f32⟩
  | .hbm, ⟨87, _⟩ => ⟨S16384x2, .f32⟩
  | .hbm, ⟨88, _⟩ => ⟨S_, .i32⟩
  | .hbm, ⟨89, _⟩ => ⟨S_, .f32⟩
  | .hbm, ⟨90, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_values : Ref sig .tc := ⟨.hbm, 43, rfl⟩
abbrev main_indices : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_values_10 : Ref sig .tc := ⟨.hbm, 79, rfl⟩
abbrev main_indices_11 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c : Ref sig .tc := ⟨.hbm, 88, rfl⟩
abbrev main_call1_v0 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== Proof.Part.lean ====
/- The vocabulary of one part of the kernel's body: what 256 rows of a row tile go through, as operations on vectors. -/
module

public import proofs.«01_k».proof.Proof.Gen.KernelIdeal.Value

@[expose] public section

noncomputable section

namespace Cert.Part

open Idealize.ShloMosaic Idealize.ShloMosaic.TcCoe Idealize.SL.Sem
open Cert.KernelIdeal Cert.KernelIdeal.Gen

variable {F : FTy → Type} [FloatOps F]

/-- A head's weights as the body reads them: the convolution's taps and bias, the gates' matrices and biases, and the
    scale of the decay. -/
structure Weights (F : FTy → Type) [FloatOps F] where
  cw : FVec F S4x256 .f32
  cb : FVec F S1x256 .f32
  wr : FVec F S256x256 .bf16
  wi : FVec F S256x256 .bf16
  br : FVec F S1x256 .f32
  bi : FVec F S1x256 .f32
  csp : FVec F S1x256 .f32

/-- What one part hands the next: the last three projected rows and the recurrence's state. -/
structure Carry (F : FTy → Type) [FloatOps F] where
  t5 : FVec F S1x256 .f32
  t6 : FVec F S1x256 .f32
  t7 : FVec F S1x256 .f32
  h : FVec F S1x256 .f32

/-- A slab of 128 lanes: its number `s` and its first lane `o`, with the facts that its slices and boxes lie inside. -/
structure Slab where
  s : ℕ
  o : ℕ
  hrow : S1x256.Slices ![0, o] S1x128
  htap : ∀ k, k < 4 → S4x256.Slices ![k, o] S1x128
  hu : S256x512.Slices ![0, o] S256x128
  hg : S256x512.Slices ![0, 256 + o] S256x128
  hcol : ∀ j, j < 8 → S256x256.Slices ![32 * j, o] S32x128
  hbox : ∀ j, j < 8 → ∀ a, S1x32x128.size a = 0 ∨
    (![s, j, 0] : Fin 3 → Nat) a + (![1, 8, 1] : Fin 3 → Nat) a * (S1x32x128.size a - 1) < S2x256x128.size a
  hslab : ∀ a, (![s, 0, 0] : Fin 3 → Nat) a + S1x256x128.size a ≤ S2x256x128.size a

/-- The first 128 lanes of a head. -/
def slab0 : Slab := ⟨0, 0, by decide, by decide, by decide, by decide, by decide, by decide, by decide⟩
/-- The last 128 lanes of a head. -/
def slab1 : Slab := ⟨1, 128, by decide, by decide, by decide, by decide, by decide, by decide, by decide⟩

/-- The `j`-th of the eight interleaved row groups of a slab. -/
def box (sl : Slab) (j : Fin 8) : LoadRect S2x256x128 :=
  { off := ![sl.s, j.1, 0], size := S1x32x128.size, stride := ![1, 8, 1], inb := sl.hbox j.1 j.2 }

/-- The same box with its stride's sign, as a store names it. -/
def sbox (sl : Slab) (j : Fin 8) : Rect S2x256x128 :=
  { off := ![sl.s, j.1, 0], size := S1x32x128.size, stride := ![1, 8, 1], inb := sl.hbox j.1 j.2,
    stride_pos := spos_1_8_1 }

/-- A whole slab. -/
def whole (sl : Slab) : Rect S2x256x128 := Rect.unit ![sl.s, 0, 0] S1x256x128.size sl.hslab

abbrev Stores (F : FTy → Type) := List (View.Piece (Elt F) S2x256x128 .f32)
abbrev Scratch := Memref sig .tc .vmem S2x256x128 .f32

/-- The projected rows of a slab, as stored. -/
def uStore (sl : Slab) (acc : FVec F S256x512 .f32) : FVec F S1x256x128 .f32 :=
  shapeCast S1x256x128 (extractStridedSlice S256x128 ![0, sl.o] acc sl.hu) shapeCasts_S256x128_S1x256x128
/-- The gate's rows of a slab, as stored. -/
def gStore (sl : Slab) (acc : FVec F S256x512 .f32) : FVec F S1x256x128 .f32 :=
  shapeCast S1x256x128 (extractStridedSlice S256x128 ![0, 256 + sl.o] acc sl.hg) shapeCasts_S256x128_S1x256x128

/-- Row group `j` of a slab, loaded after the stores `L`. -/
def rows (M : Scratch) (L : Stores F) (sl : Slab) (j : Fin 8) : FVec F S32x128 .f32 :=
  shapeCast S32x128 (M.view.readCov L (box sl j)) shapeCasts_S1x32x128_S32x128

/-- A slab's lanes of a row. -/
def lanes (sl : Slab) (v : FVec F S1x256 .f32) : FVec F S1x128 .f32 :=
  extractStridedSlice S1x128 ![0, sl.o] v sl.hrow
/-- A row repeated over 32 rows. -/
def spread (v : FVec F S1x128 .f32) : FVec F S32x128 .f32 := broadcastTo S32x128 v broadcasts_S1x128_S32x128
/-- A tap of the convolution over 32 rows. -/
def tap (sl : Slab) (cw : FVec F S4x256 .f32) (k : Fin 4) : FVec F S32x128 .f32 :=
  spread (extractStridedSlice S1x128 ![k.1, sl.o] cw (sl.htap k.1 k.2))

/-- Row group 0's row before: the group `u` moved down by one, with `row` in front. -/
def before (row : FVec F S1x128 .f32) (u : FVec F S32x128 .f32) : FVec F S32x128 .f32 :=
  select (cmpi .eq (iota .tc S32x128 32 [0] iota_S32x128_d0_w32) (broadcast S32x128 0#32))
    (broadcastTo S32x128 (shapeCast S1x128 row shapeCasts_S1x128_S1x128) broadcasts_S1x128_S32x128)
    (dynamicRotate 0 1#32 none u rotates_S32x128_d0)

/-- The convolution of 32 rows with the rows one, two and three before them. -/
def conv (sl : Slab) (W : Weights F) (x0 x1 x2 x3 : FVec F S32x128 .f32) : FVec F S32x128 .f32 :=
  addf (addf (addf (addf (mulf x0 (tap sl W.cw 3)) (spread (lanes sl W.cb))) (mulf x1 (tap sl W.cw 2)))
    (mulf x2 (tap sl W.cw 1))) (mulf x3 (tap sl W.cw 0))

/-- The convolution of a slab's 256 rows, row group after row group. -/
def convSlab (sl : Slab) (W : Weights F) (S : Carry F) (p : Fin 8 → FVec F S32x128 .f32) : FVec F S256x128 .f32 :=
  concatenate S256x128 0
    [⟨S32x128, conv sl W (p 0) (before (lanes sl S.t7) (p 7)) (before (lanes sl S.t6) (p 6)) (before (lanes sl S.t5) (p 5))⟩,
     ⟨S32x128, conv sl W (p 1) (p 0) (before (lanes sl S.t7) (p 7)) (before (lanes sl S.t6) (p 6))⟩,
     ⟨S32x128, conv sl W (p 2) (p 1) (p 0) (before (lanes sl S.t7) (p 7))⟩,
     ⟨S32x128, conv sl W (p 3) (p 2) (p 1) (p 0)⟩,
     ⟨S32x128, conv sl W (p 4) (p 3) (p 2) (p 1)⟩,
     ⟨S32x128, conv sl W (p 5) (p 4) (p 3) (p 2)⟩,
     ⟨S32x128, conv sl W (p 6) (p 5) (p 4) (p 3)⟩,
     ⟨S32x128, conv sl W (p 7) (p 6) (p 5) (p 4)⟩]
    concatenates_S32x128_S32x128_S32x128_S32x128_S32x128_S32x128_S32x128_S32x128_S256x128_d0

/-- Two slabs side by side. -/
def beside (x y : FVec F S256x128 .f32) : FVec F S256x256 .f32 :=
  concatenate S256x256 1 [⟨S256x128, x⟩, ⟨S256x128, y⟩] concatenates_S256x128_S256x128_S256x256_d1
/-- Two slabs of a row side by side. -/
def beside1 (x y : FVec F S1x128 .f32) : FVec F S1x256 .f32 :=
  concatenate S1x256 1 [⟨S1x128, x⟩, ⟨S1x128, y⟩] concatenates_S1x128_S1x128_S1x256_d1

/-- A gate's argument: the convolution times the gate's matrix plus its bias. -/
def logit (uc : FVec F S256x256 .f32) (w : FVec F S256x256 .bf16) (b : FVec F S1x256 .f32) : FVec F S256x256 .f32 :=
  addf (matmul dot_S256x256_S256x256_S256x256_1_0_0_1_n_n none (truncf .bf16 uc bitsLt_bf16_f32) w
    (constant S256x256 .f32 0x00000000#32)) (broadcastTo S256x256 b broadcasts_S1x256_S256x256)
/-- The decay's exponent, negated. -/
def nla (W : Weights F) (uc : FVec F S256x256 .f32) : FVec F S256x256 .f32 :=
  mulf (logistic (logit uc W.wr W.br)) (broadcastTo S256x256 W.csp broadcasts_S1x256_S256x256)
/-- The decay. -/
def decay (W : Weights F) (uc : FVec F S256x256 .f32) : FVec F S256x256 .f32 :=
  exp (subf (broadcast S256x256 (Scalar.ofBits .f32 0x00000000#32)) (nla W uc))
/-- The square of the input's scale. -/
def scale2 (W : Weights F) (uc : FVec F S256x256 .f32) : FVec F S256x256 .f32 :=
  mulf (tanh (nla W uc)) (addf (broadcast S256x256 (Scalar.ofBits .f32 0x3F800000#32)) (mulf (decay W uc) (decay W uc)))
/-- The recurrence's input. -/
def input (W : Weights F) (uc : FVec F S256x256 .f32) : FVec F S256x256 .f32 :=
  mulf (select (cmpf .ogt (scale2 W uc) (broadcast S256x256 (Scalar.ofBits .f32 0x00000000#32)))
      (mulf (scale2 W uc) (rsqrt (scale2 W uc))) (broadcast S256x256 (Scalar.ofBits .f32 0x00000000#32)))
    (mulf (logistic (logit uc W.wi W.bi)) uc)

/-- Row group `j` of a slab of a 256 by 256 vector. -/
def group (sl : Slab) (v : FVec F S256x256 .f32) (j : ℕ) (h : j < 8) : FVec F S32x128 .f32 :=
  extractStridedSlice S32x128 ![32 * j, sl.o] v (sl.hcol j h)

/-- The recurrence inside runs of eight rows, from zero. -/
def hs (sl : Slab) (a b : FVec F S256x256 .f32) : (j : ℕ) → j < 8 → FVec F S32x128 .f32
  | 0, h => group sl b 0 h
  | j + 1, h => addf (mulf (group sl a (j + 1) h) (hs sl a b j (Nat.lt_of_succ_lt h))) (group sl b (j + 1) h)
/-- The product of decays inside runs of eight rows. -/
def ps (sl : Slab) (a : FVec F S256x256 .f32) : (j : ℕ) → j < 8 → FVec F S32x128 .f32
  | 0, h => group sl a 0 h
  | j + 1, h => mulf (group sl a (j + 1) h) (ps sl a j (Nat.lt_of_succ_lt h))

/-- Which runs have a run `d` before them in their block of eight. -/
def keep (d : BitVec 32) : IVec S4x8x128 1 :=
  cmpi .sge (iota .tc S4x8x128 32 [1] iota_S4x8x128_d1_w32) (broadcast S4x8x128 d)
/-- One doubling of the scan over eight runs: the states. -/
def hdbl (d : BitVec 32) (p h : FVec F S4x8x128 .f32) : FVec F S4x8x128 .f32 :=
  select (keep d) (addf (mulf p (dynamicRotate 1 d none h rotates_S4x8x128_d1)) h) h
/-- One doubling of the scan over eight runs: the products. -/
def pdbl (d : BitVec 32) (p : FVec F S4x8x128 .f32) : FVec F S4x8x128 .f32 :=
  select (keep d) (mulf p (dynamicRotate 1 d none p rotates_S4x8x128_d1)) p
/-- The products over all runs up to a run, in blocks of eight runs. -/
def pscan (p : FVec F S32x128 .f32) : FVec F S4x8x128 .f32 :=
  pdbl 4#32 (pdbl 2#32 (pdbl 1#32 (shapeCast S4x8x128 p shapeCasts_S32x128_S4x8x128)))
/-- The states over all runs up to a run, in blocks of eight runs. -/
def hscan (h p : FVec F S32x128 .f32) : FVec F S4x8x128 .f32 :=
  hdbl 4#32 (pdbl 2#32 (pdbl 1#32 (shapeCast S4x8x128 p shapeCasts_S32x128_S4x8x128)))
    (hdbl 2#32 (pdbl 1#32 (shapeCast S4x8x128 p shapeCasts_S32x128_S4x8x128))
      (hdbl 1#32 (shapeCast S4x8x128 p shapeCasts_S32x128_S4x8x128) (shapeCast S4x8x128 h shapeCasts_S32x128_S4x8x128)))

/-- Block `q` of eight runs. -/
def block (v : FVec F S4x8x128 .f32) (q : ℕ) (h : S4x8x128.Slices ![q, 0, 0] S1x8x128) : FVec F S8x128 .f32 :=
  shapeCast S8x128 (extractStridedSlice S1x8x128 ![q, 0, 0] v h) shapeCasts_S1x8x128_S8x128
/-- The states after each run of a block that starts in state `st`. -/
def after (ht pt : FVec F S4x8x128 .f32) (q : ℕ) (h : S4x8x128.Slices ![q, 0, 0] S1x8x128) (st : FVec F S1x128 .f32) :
    FVec F S8x128 .f32 :=
  addf (block ht q h) (mulf (block pt q h) (broadcastTo S8x128 st broadcasts_S1x128_S8x128))
/-- The state after a block. -/
def last (v : FVec F S8x128 .f32) : FVec F S1x128 .f32 := extractStridedSlice S1x128 ![7, 0] v slices_S8x128_o7_0_S1x128
/-- The states each run of a block starts in. -/
def starts (st : FVec F S1x128 .f32) (v : FVec F S8x128 .f32) : FVec F S8x128 .f32 :=
  select (cmpi .eq (iota .tc S8x128 32 [0] iota_S8x128_d0_w32) (broadcast S8x128 0#32))
    (broadcastTo S8x128 (shapeCast S1x128 st shapeCasts_S1x128_S1x128) broadcasts_S1x128_S8x128)
    (dynamicRotate 0 1#32 none v rotates_S8x128_d0)

/-- The states after the four blocks. -/
def after0 (ht pt : FVec F S4x8x128 .f32) (st : FVec F S1x128 .f32) := after ht pt 0 slices_S4x8x128_o0_0_0_S1x8x128 st
def after1 (ht pt : FVec F S4x8x128 .f32) (st : FVec F S1x128 .f32) :=
  after ht pt 1 slices_S4x8x128_o1_0_0_S1x8x128 (last (after0 ht pt st))
def after2 (ht pt : FVec F S4x8x128 .f32) (st : FVec F S1x128 .f32) :=
  after ht pt 2 slices_S4x8x128_o2_0_0_S1x8x128 (last (after1 ht pt st))
def after3 (ht pt : FVec F S4x8x128 .f32) (st : FVec F S1x128 .f32) :=
  after ht pt 3 slices_S4x8x128_o3_0_0_S1x8x128 (last (after2 ht pt st))

/-- The states the 32 runs start in. -/
def incoming (ht pt : FVec F S4x8x128 .f32) (st : FVec F S1x128 .f32) : FVec F S32x128 .f32 :=
  concatenate S32x128 0
    [⟨S8x128, starts st (after0 ht pt st)⟩, ⟨S8x128, starts (last (after0 ht pt st)) (after1 ht pt st)⟩,
     ⟨S8x128, starts (last (after1 ht pt st)) (after2 ht pt st)⟩, ⟨S8x128, starts (last (after2 ht pt st)) (after3 ht pt st)⟩]
    concatenates_S8x128_S8x128_S8x128_S8x128_S32x128_d0

/-- The gate's activation. -/
def gelu (g : FVec F S32x128 .f32) : FVec F S32x128 .f32 :=
  mulf g (mulf (broadcast S32x128 (Scalar.ofBits .f32 0x3F000000#32))
    (addf (broadcast S32x128 (Scalar.ofBits .f32 0x3F800000#32))
      (tanh (mulf (broadcast S32x128 (Scalar.ofBits .f32 0x3F4C422A#32))
        (addf g (mulf (broadcast S32x128 (Scalar.ofBits .f32 0x3D372713#32)) (mulf g (mulf g g))))))))

/-- What is stored for row group `j` of a slab. -/
def outRows (sl : Slab) (a b : FVec F S256x256 .f32) (inc : FVec F S32x128 .f32) (g : Fin 8 → FVec F S32x128 .f32)
    (j : Fin 8) : FVec F S1x32x128 .f32 :=
  shapeCast S1x32x128 (mulf (addf (hs sl a b j.1 j.2) (mulf (ps sl a j.1 j.2) inc)) (gelu (g j)))
    shapeCasts_S32x128_S1x32x128

/-- The eight stores of a slab's results, last first, after the stores `L`. -/
def outStores (sl : Slab) (x : Fin 8 → FVec F S1x32x128 .f32) (L : Stores F) : Stores F :=
  ⟨sbox sl 7, x 7⟩ :: ⟨sbox sl 6, x 6⟩ :: ⟨sbox sl 5, x 5⟩ :: ⟨sbox sl 4, x 4⟩ :: ⟨sbox sl 3, x 3⟩ :: ⟨sbox sl 2, x 2⟩
    :: ⟨sbox sl 1, x 1⟩ :: ⟨sbox sl 0, x 0⟩ :: L

/-- The three scratch arrays of a body. -/
structure Mems where
  M16 : Scratch
  M17 : Scratch
  M18 : Scratch

/-- The stores into the three scratch arrays before a part. -/
structure Lists (F : FTy → Type) where
  L3 : Stores F
  L4 : Stores F
  L5 : Stores F

section
variable (M : Mems) (W : Weights F) (acc : FVec F S256x512 .f32) (S : Carry F) (L : Lists F)

/-- The stores of the projected rows: of the first slab, and of both. -/
def U0 : Stores F := ⟨whole slab0, uStore slab0 acc⟩ :: L.L3
def U1 : Stores F := ⟨whole slab1, uStore slab1 acc⟩ :: U0 acc L
/-- The stores of the gate's rows of both slabs. -/
def G1 : Stores F := ⟨whole slab1, gStore slab1 acc⟩ :: ⟨whole slab0, gStore slab0 acc⟩ :: L.L4

/-- The convolution of the part's 256 rows. -/
def uc : FVec F S256x256 .f32 :=
  beside (convSlab slab0 W S (rows M.M16 (U0 acc L) slab0)) (convSlab slab1 W S (rows M.M16 (U1 acc L) slab1))

/-- The states the runs of a slab start in, with the scanned pair it comes from. -/
def ht (sl : Slab) (uc : FVec F S256x256 .f32) : FVec F S4x8x128 .f32 :=
  hscan (hs sl (decay W uc) (input W uc) 7 (by decide)) (ps sl (decay W uc) 7 (by decide))
def pt (sl : Slab) (uc : FVec F S256x256 .f32) : FVec F S4x8x128 .f32 := pscan (ps sl (decay W uc) 7 (by decide))
/-- What is stored for a slab. -/
def slabOut (sl : Slab) (uc : FVec F S256x256 .f32) : Fin 8 → FVec F S1x32x128 .f32 :=
  outRows sl (decay W uc) (input W uc) (incoming (ht W sl uc) (pt W sl uc) (lanes sl S.h)) (rows M.M17 (G1 acc L) sl)

/-- What the part hands the next. -/
def next : Carry F where
  t5 := beside1 (extractStridedSlice S1x128 ![31, 0] (rows M.M16 (U0 acc L) slab0 5) slices_S32x128_o31_0_S1x128)
    (extractStridedSlice S1x128 ![31, 0] (rows M.M16 (U1 acc L) slab1 5) slices_S32x128_o31_0_S1x128)
  t6 := beside1 (extractStridedSlice S1x128 ![31, 0] (rows M.M16 (U0 acc L) slab0 6) slices_S32x128_o31_0_S1x128)
    (extractStridedSlice S1x128 ![31, 0] (rows M.M16 (U1 acc L) slab1 6) slices_S32x128_o31_0_S1x128)
  t7 := beside1 (extractStridedSlice S1x128 ![31, 0] (rows M.M16 (U0 acc L) slab0 7) slices_S32x128_o31_0_S1x128)
    (extractStridedSlice S1x128 ![31, 0] (rows M.M16 (U1 acc L) slab1 7) slices_S32x128_o31_0_S1x128)
  h := beside1
    (last (after3 (ht W slab0 (uc M W acc S L)) (pt W slab0 (uc M W acc S L)) (lanes slab0 S.h)))
    (last (after3 (ht W slab1 (uc M W acc S L)) (pt W slab1 (uc M W acc S L)) (lanes slab1 S.h)))

/-- The stores of the part's results. -/
def O1 : Stores F :=
  outStores slab1 (slabOut M W acc S L slab1 (uc M W acc S L))
    (outStores slab0 (slabOut M W acc S L slab0 (uc M W acc S L)) L.L5)

/-- The stores into the scratch arrays after the part. -/
def lists : Lists F := ⟨U1 acc L, G1 acc L, O1 M W acc S L⟩

/-- The part's 256 rows of the result. -/
def out : FVec F S256x256 .bf16 :=
  truncf .bf16 (beside
    (shapeCast S256x128 (M.M18.view.readCov (O1 M W acc S L) (whole slab0).toLoadRect) shapeCasts_S1x256x128_S256x128)
    (shapeCast S256x128 (M.M18.view.readCov (O1 M W acc S L) (whole slab1).toLoadRect) shapeCasts_S1x256x128_S256x128))
    bitsLt_bf16_f32
end

section
variable (M : Mems) (W : Weights F) (acc : ℕ → FVec F S256x512 .f32) (S : Carry F)

/-- What a tile's part number `p` is handed, and the stores before it. -/
def upTo : ℕ → Carry F × Lists F
  | 0 => (S, ⟨[], [], []⟩)
  | p + 1 => (next M W (acc p) (upTo p).1 (upTo p).2, lists M W (acc p) (upTo p).1 (upTo p).2)

/-- Part `p`'s rows of the tile. -/
def outAt (p : ℕ) : FVec F S256x256 .bf16 := out M W (acc p) (upTo M W acc S p).1 (upTo M W acc S p).2

/-- The stores of the tile's 1024 rows, last first. -/
def tile : List (View.Piece (Elt F) S1024x256 .bf16) :=
  [⟨Rect.unit ![768, 0] S256x256.size inb_S1024x256_S256x256_768_0, outAt M W acc S 3⟩,
   ⟨Rect.unit ![512, 0] S256x256.size inb_S1024x256_S256x256_512_0, outAt M W acc S 2⟩,
   ⟨Rect.unit ![256, 0] S256x256.size inb_S1024x256_S256x256_256_0, outAt M W acc S 1⟩,
   ⟨Rect.unit ![0, 0] S256x256.size inb_S1024x256_S256x256_0_0, outAt M W acc S 0⟩]

/-- The stores of the last three rows after a tile. -/
def tailStores : List (View.Piece (Elt F) S8x256 .f32) :=
  [⟨Rect.unit ![7, 0] S1x256.size inb_S8x256_S1x256_7_0, shapeCast S1x256 (upTo M W acc S 4).1.t7 shapeCasts_S1x256_S1x256⟩,
   ⟨Rect.unit ![6, 0] S1x256.size inb_S8x256_S1x256_6_0, shapeCast S1x256 (upTo M W acc S 4).1.t6 shapeCasts_S1x256_S1x256⟩,
   ⟨Rect.unit ![5, 0] S1x256.size inb_S8x256_S1x256_5_0, shapeCast S1x256 (upTo M W acc S 4).1.t5 shapeCasts_S1x256_S1x256⟩]

/-- The store of the state after a tile. -/
def carryStores : List (View.Piece (Elt F) S1x256 .f32) :=
  [⟨Rect.unit ![0, 0] S1x256.size inb_S1x256_S1x256_0_0, shapeCast S1x256 (upTo M W acc S 4).1.h shapeCasts_S1x256_S1x256⟩]
end

end Cert.Part

end
-- ==== Proof.Point.lean ====
/- One grid point of the kernel, case by case, in the parts' vocabulary. -/
module

public import proofs.«01_k».proof.Proof.Part

@[expose] public section

noncomputable section

namespace Cert.Point

open Idealize.ShloMosaic Idealize.ShloMosaic.TcCoe Idealize.SL.Sem
open Cert.KernelIdeal Cert.KernelIdeal.Gen Cert.Part

variable {F : FTy → Type} [FloatOps F]
variable (m : (ℓ : Loc nD τ sig) → Buf (Elt F) ℓ) (c : Dev nD) (t : Fin cfg0.N)

/-- The scratch arrays the parts work in. -/
def mems : Mems := ⟨scM0_3, scM0_4, scM0_5⟩

/-- The head's weights as point `t` loads them. -/
def weights : Weights F where
  cw := k0_pay7 (View.readAt (Elt F) (ms0_3 t).view (Rect.unit (s := S4x256) ![0, 0] S4x256.size inb_S4x256_S4x256_0_0).toLoadRect ((hs0_3 t).unread (iblk m c 3 t)))
  cb := k0_pay8 (View.readAt (Elt F) (ms0_4 t).view (Rect.unit (s := S1x256) ![0, 0] S1x256.size inb_S1x256_S1x256_0_0).toLoadRect ((hs0_4 t).unread (iblk m c 4 t)))
  wr := k0_pay9 (View.readAt (Elt F) (ms0_5 t).view (Rect.unit (s := S1x256x256) ![0, 0, 0] S1x256x256.size inb_S1x256x256_S1x256x256_0_0_0).toLoadRect ((hs0_5 t).unread (iblk m c 5 t)))
  wi := k0_pay10 (View.readAt (Elt F) (ms0_7 t).view (Rect.unit (s := S1x256x256) ![0, 0, 0] S1x256x256.size inb_S1x256x256_S1x256x256_0_0_0).toLoadRect ((hs0_7 t).unread (iblk m c 7 t)))
  br := k0_pay11 (View.readAt (Elt F) (ms0_6 t).view (Rect.unit (s := S1x256) ![0, 0] S1x256.size inb_S1x256_S1x256_0_0).toLoadRect ((hs0_6 t).unread (iblk m c 6 t)))
  bi := k0_pay12 (View.readAt (Elt F) (ms0_8 t).view (Rect.unit (s := S1x256) ![0, 0] S1x256.size inb_S1x256_S1x256_0_0).toLoadRect ((hs0_8 t).unread (iblk m c 8 t)))
  csp := k0_pay13 (View.readAt (Elt F) (ms0_9 t).view (Rect.unit (s := S1x256) ![0, 0] S1x256.size inb_S1x256_S1x256_0_0).toLoadRect ((hs0_9 t).unread (iblk m c 9 t)))

/-- The projection of part `p`'s rows by the stacked matrix `w`. -/
def proj (w : Vec F S4096x512 .bf16) : ℕ → FVec F S256x512 .f32
  | 0 => k0_pay14 (View.readAt (Elt F) (ms0_0 t).view (Rect.unit (s := S1024x4096) ![0, 0] S256x4096.size inb_S1024x4096_S256x4096_0_0).toLoadRect ((hs0_0 t).unread (iblk m c 0 t))) w
  | 1 => k0_pay14 (View.readAt (Elt F) (ms0_0 t).view (Rect.unit (s := S1024x4096) ![256, 0] S256x4096.size inb_S1024x4096_S256x4096_256_0).toLoadRect ((hs0_0 t).unread (iblk m c 0 t))) w
  | 2 => k0_pay14 (View.readAt (Elt F) (ms0_0 t).view (Rect.unit (s := S1024x4096) ![512, 0] S256x4096.size inb_S1024x4096_S256x4096_512_0).toLoadRect ((hs0_0 t).unread (iblk m c 0 t))) w
  | _ => k0_pay14 (View.readAt (Elt F) (ms0_0 t).view (Rect.unit (s := S1024x4096) ![768, 0] S256x4096.size inb_S1024x4096_S256x4096_768_0).toLoadRect ((hs0_0 t).unread (iblk m c 0 t))) w

/-- A load of the whole stacked matrix. -/
def wLoad (f : (scM0_0).view.ty.Contents (Elt F)) : Vec F S4096x512 .bf16 :=
  View.readAt (Elt F) (scM0_0).view (Rect.unit (s := S4096x512) ![0, 0] S4096x512.size inb_S4096x512_S4096x512_0_0).toLoadRect f

/-- What a tile starts from, of the contents of the tail scratch and of the state's scratch. -/
def carryLoad (f : (scM0_1).view.ty.Contents (Elt F)) (g : (scM0_2).view.ty.Contents (Elt F)) : Carry F where
  t5 := View.readAt (Elt F) (scM0_1).view (Rect.unit (s := S8x256) ![5, 0] S1x256.size inb_S8x256_S1x256_5_0).toLoadRect f
  t6 := View.readAt (Elt F) (scM0_1).view (Rect.unit (s := S8x256) ![6, 0] S1x256.size inb_S8x256_S1x256_6_0).toLoadRect f
  t7 := View.readAt (Elt F) (scM0_1).view (Rect.unit (s := S8x256) ![7, 0] S1x256.size inb_S8x256_S1x256_7_0).toLoadRect f
  h := View.readAt (Elt F) (scM0_2).view (Rect.unit (s := S1x256) ![0, 0] S1x256.size inb_S1x256_S1x256_0_0).toLoadRect g

/-- The stores that stack the head's two projection matrices. -/
def wStores : List (View.Piece (Elt F) S4096x512 .bf16) :=
  [⟨Rect.unit (s := S4096x512) ![0, 256] S4096x256.size inb_S4096x512_S4096x256_0_256,
     k0_pay4 (View.readAt (Elt F) (ms0_2 t).view (Rect.unit (s := S4096x256) ![0, 0] S4096x256.size inb_S4096x256_S4096x256_0_0).toLoadRect ((hs0_2 t).unread (iblk m c 2 t)))⟩,
   ⟨Rect.unit (s := S4096x512) ![0, 0] S4096x256.size inb_S4096x512_S4096x256_0_0,
     k0_pay3 (View.readAt (Elt F) (ms0_1 t).view (Rect.unit (s := S4096x256) ![0, 0] S4096x256.size inb_S4096x256_S4096x256_0_0).toLoadRect ((hs0_1 t).unread (iblk m c 1 t)))⟩]

/-- The stores that empty the tail. -/
def noTail : List (View.Piece (Elt F) S8x256 .f32) :=
  [⟨Rect.unit (s := S8x256) ![0, 0] S8x256.size inb_S8x256_S8x256_0_0, k0_pay5⟩]
/-- The store that empties the state. -/
def noState : List (View.Piece (Elt F) S1x256 .f32) :=
  [⟨Rect.unit (s := S1x256) ![0, 0] S1x256.size inb_S1x256_S1x256_0_0, k0_pay6⟩]

/-! At a first point of a head. -/
theorem out_A (h0 : t.val % 16 = 0) :
    (outsAt0 m c t.val t.isLt).1 = VO0_10.read (Elt F) (VO0_10.writes (Elt F) VO0_10.junk
      (tile mems (weights m c t) (proj m c t (wLoad (scM0_0.view.writes (Elt F) scM0_0.view.junk (wStores m c t)))) (carryLoad (scM0_1.view.writes (Elt F) scM0_1.view.junk noTail) (scM0_2.view.writes (Elt F) scM0_2.view.junk noState)))) := by
  refine (congrArg (fun x => x.1) (outsAt0_A m c t h0 (by omega))).trans ?_
  sl_kernel_rfl
theorem stacked_A (h0 : t.val % 16 = 0) :
    (outsAt0 m c t.val t.isLt).2.1 = VS0_0.read (Elt F) (VS0_0.writes (Elt F) VS0_0.junk (wStores m c t)) := by
  refine (congrArg (fun x => x.2.1) (outsAt0_A m c t h0 (by omega))).trans ?_
  sl_kernel_rfl
theorem tail_A (h0 : t.val % 16 = 0) :
    (outsAt0 m c t.val t.isLt).2.2.1 = VS0_1.read (Elt F) (VS0_1.writes (Elt F) VS0_1.junk
      (tailStores mems (weights m c t) (proj m c t (wLoad (scM0_0.view.writes (Elt F) scM0_0.view.junk (wStores m c t)))) (carryLoad (scM0_1.view.writes (Elt F) scM0_1.view.junk noTail) (scM0_2.view.writes (Elt F) scM0_2.view.junk noState)) ++ noTail)) := by
  refine (congrArg (fun x => x.2.2.1) (outsAt0_A m c t h0 (by omega))).trans ?_
  sl_kernel_rfl
theorem state_A (h0 : t.val % 16 = 0) :
    (outsAt0 m c t.val t.isLt).2.2.2 = VS0_2.read (Elt F) (VS0_2.writes (Elt F) VS0_2.junk
      (carryStores mems (weights m c t) (proj m c t (wLoad (scM0_0.view.writes (Elt F) scM0_0.view.junk (wStores m c t)))) (carryLoad (scM0_1.view.writes (Elt F) scM0_1.view.junk noTail) (scM0_2.view.writes (Elt F) scM0_2.view.junk noState)) ++ noState)) := by
  refine (congrArg (fun x => x.2.2.2) (outsAt0_A m c t h0 (by omega))).trans ?_
  sl_kernel_rfl

/-! Inside a sequence. -/
theorem out_B (h0 : ¬t.val % 16 = 0) (h1 : ¬t.val % 8 = 0) :
    (outsAt0 m c t.val t.isLt).1 = VO0_10.read (Elt F) (VO0_10.writes (Elt F) VO0_10.junk
      (tile mems (weights m c t) (proj m c t (wLoad ((Memref.isWhole_whole _).unread (outsAt0 m c (t.val - 1) (by omega)).2.1))) (carryLoad ((Memref.isWhole_whole _).unread (outsAt0 m c (t.val - 1) (by omega)).2.2.1)
        ((Memref.isWhole_whole _).unread (outsAt0 m c (t.val - 1) (by omega)).2.2.2)))) := by
  refine (congrArg (fun x => x.1) (outsAt0_B m c t h0 h1)).trans ?_
  sl_kernel_rfl
theorem stacked_B (h0 : ¬t.val % 16 = 0) (h1 : ¬t.val % 8 = 0) :
    (outsAt0 m c t.val t.isLt).2.1 = (outsAt0 m c (t.val - 1) (by omega)).2.1 := by
  refine (congrArg (fun x => x.2.1) (outsAt0_B m c t h0 h1)).trans ?_
  sl_kernel_rfl
theorem tail_B (h0 : ¬t.val % 16 = 0) (h1 : ¬t.val % 8 = 0) :
    (outsAt0 m c t.val t.isLt).2.2.1 = scM0_1.view.read (Elt F) (scM0_1.view.writes (Elt F) ((Memref.isWhole_whole _).unread (outsAt0 m c (t.val - 1) (by omega)).2.2.1)
      (tailStores mems (weights m c t) (proj m c t (wLoad ((Memref.isWhole_whole _).unread (outsAt0 m c (t.val - 1) (by omega)).2.1))) (carryLoad ((Memref.isWhole_whole _).unread (outsAt0 m c (t.val - 1) (by omega)).2.2.1)
        ((Memref.isWhole_whole _).unread (outsAt0 m c (t.val - 1) (by omega)).2.2.2)))) := by
  refine (congrArg (fun x => x.2.2.1) (outsAt0_B m c t h0 h1)).trans ?_
  sl_kernel_rfl
theorem state_B (h0 : ¬t.val % 16 = 0) (h1 : ¬t.val % 8 = 0) :
    (outsAt0 m c t.val t.isLt).2.2.2 = VS0_2.read (Elt F) (VS0_2.writes (Elt F) VS0_2.junk
      (carryStores mems (weights m c t) (proj m c t (wLoad ((Memref.isWhole_whole _).unread (outsAt0 m c (t.val - 1) (by omega)).2.1))) (carryLoad ((Memref.isWhole_whole _).unread (outsAt0 m c (t.val - 1) (by omega)).2.2.1)
        ((Memref.isWhole_whole _).unread (outsAt0 m c (t.val - 1) (by omega)).2.2.2)))) := by
  refine (congrArg (fun x => x.2.2.2) (outsAt0_B m c t h0 h1)).trans ?_
  sl_kernel_rfl

/-! At the second sequence of a head. -/
theorem out_C (h0 : ¬t.val % 16 = 0) (h1 : t.val % 8 = 0) :
    (outsAt0 m c t.val t.isLt).1 = VO0_10.read (Elt F) (VO0_10.writes (Elt F) VO0_10.junk
      (tile mems (weights m c t) (proj m c t (wLoad ((Memref.isWhole_whole _).unread (outsAt0 m c (t.val - 1) (by omega)).2.1))) (carryLoad (scM0_1.view.writes (Elt F) scM0_1.view.junk noTail) (scM0_2.view.writes (Elt F) scM0_2.view.junk noState)))) := by
  refine (congrArg (fun x => x.1) (outsAt0_C m c t h0 h1)).trans ?_
  sl_kernel_rfl
theorem stacked_C (h0 : ¬t.val % 16 = 0) (h1 : t.val % 8 = 0) :
    (outsAt0 m c t.val t.isLt).2.1 = (outsAt0 m c (t.val - 1) (by omega)).2.1 := by
  refine (congrArg (fun x => x.2.1) (outsAt0_C m c t h0 h1)).trans ?_
  sl_kernel_rfl
theorem tail_C (h0 : ¬t.val % 16 = 0) (h1 : t.val % 8 = 0) :
    (outsAt0 m c t.val t.isLt).2.2.1 = VS0_1.read (Elt F) (VS0_1.writes (Elt F) VS0_1.junk
      (tailStores mems (weights m c t) (proj m c t (wLoad ((Memref.isWhole_whole _).unread (outsAt0 m c (t.val - 1) (by omega)).2.1))) (carryLoad (scM0_1.view.writes (Elt F) scM0_1.view.junk noTail) (scM0_2.view.writes (Elt F) scM0_2.view.junk noState)) ++ noTail)) := by
  refine (congrArg (fun x => x.2.2.1) (outsAt0_C m c t h0 h1)).trans ?_
  sl_kernel_rfl
theorem state_C (h0 : ¬t.val % 16 = 0) (h1 : t.val % 8 = 0) :
    (outsAt0 m c t.val t.isLt).2.2.2 = VS0_2.read (Elt F) (VS0_2.writes (Elt F) VS0_2.junk
      (carryStores mems (weights m c t) (proj m c t (wLoad ((Memref.isWhole_whole _).unread (outsAt0 m c (t.val - 1) (by omega)).2.1))) (carryLoad (scM0_1.view.writes (Elt F) scM0_1.view.junk noTail) (scM0_2.view.writes (Elt F) scM0_2.view.junk noState)) ++ noState)) := by
  refine (congrArg (fun x => x.2.2.2) (outsAt0_C m c t h0 h1)).trans ?_
  sl_kernel_rfl

end Cert.Point

end
-- ==== Proof.Reads.lean ====
/- What a part loads of its scratch arrays: the rows of a stored slab, eight apart, and a slab of the results stored eight
   apart. -/
module

public import proofs.«01_k».proof.Proof.Part
public import Idealize.ShloMosaic.Lib.Pointwise

@[expose] public section

noncomputable section

namespace Cert.Reads

open Idealize.ShloMosaic Idealize.ShloMosaic.TcCoe Idealize.SL.Sem
open Cert.KernelIdeal Cert.KernelIdeal.Gen Cert.Part

variable {F : FTy → Type} [FloatOps F]

theorem lane_lt (sl : Slab) (l : Fin 128) : sl.o + l.1 < 256 := by
  have h := sl.hrow.2 (1 : Fin 2)
  have h' : sl.o + 128 ≤ 256 := h
  omega

theorem slab_lt (sl : Slab) : sl.s < 2 := by
  have h := sl.hslab (0 : Fin 3)
  have h' : sl.s + 1 ≤ 2 := h
  omega

/-- Lane `l` of a slab, as a lane of the head. -/
def lane (sl : Slab) (l : Fin 128) : Fin 256 := ⟨sl.o + l.1, lane_lt sl l⟩
/-- Row `j` of the `g`-th run of eight rows. -/
def row (g : Fin 32) (j : Fin 8) : Fin 256 := ⟨8 * g.1 + j.1, by omega⟩

/-- A slab that was stored last, read at row group `j`. -/
theorem rows_whole (M : Scratch) (L : Stores F) (sl : Slab) (x : FVec F S1x256x128 .f32) (j : Fin 8) (g : Fin 32) (l : Fin 128) :
    rows M (⟨whole sl, x⟩ :: L) sl j (ix2 g l) = x (ix3 (0 : Fin 1) (row g j) l) := by
  unfold rows
  rw [View.readCov_eq_canon']
  refine (shapeCast_apply _ _ _ (ix3 (0 : Fin 1) g l) (by
    rw [Shape.rowMajor_val_three, Shape.rowMajor_val_two]
    show (0 * 32 + g.1) * 128 + l.1 = g.1 * 128 + l.1; omega)).trans ?_
  have h : (box sl j).idx (ix3 (0 : Fin 1) g l) = (whole sl).emb (ix3 (0 : Fin 1) (row g j) l) := by
    funext a; apply Fin.ext
    match a with
    | ⟨0, _⟩ => show sl.s + 1 * 0 = sl.s + 1 * 0; rfl
    | ⟨1, _⟩ => show j.1 + 8 * g.1 = 0 + 1 * (8 * g.1 + j.1); omega
    | ⟨2, _⟩ => show 0 + 1 * l.1 = 0 + 1 * l.1; rfl
  show View.canon _ ((box sl j).idx (ix3 (0 : Fin 1) g l)) = _
  rw [h]
  exact View.canon_cons_emb (Val := Elt F) (whole sl) x L (ix3 (0 : Fin 1) (row g j) l)

/-- A slab read under a later store of another slab. -/
theorem rows_skip (M : Scratch) (L : Stores F) (sl sl' : Slab) (hs : sl.s ≠ sl'.s) (x : FVec F S1x256x128 .f32) (j : Fin 8) :
    rows M (⟨whole sl', x⟩ :: L) sl j = rows M L sl j := by
  unfold rows
  rw [View.readCov_eq_canon', View.readCov_eq_canon']
  congr 1
  funext y
  refine View.canon_cons_of_not_mem _ _ fun hm => ?_
  obtain ⟨z, hz, he⟩ := (whole sl').toLoadRect.mem_set.mp hm (0 : Fin 3)
  have hz' : z < 1 := hz
  have hy : (y (0 : Fin 3)).1 < 1 := (y (0 : Fin 3)).2
  have he' : sl.s + 1 * (y (0 : Fin 3)).1 = sl'.s + 1 * z := he
  omega

/-- One strided store, read at row `r` of slab `s`. -/
theorem canon_sbox (L : Stores F) (sl : Slab) (j : Fin 8) (w : FVec F S1x32x128 .f32) (s : Fin 2) (r : Fin 256) (l : Fin 128) :
    View.canon (Val := Elt F) (⟨sbox sl j, w⟩ :: L) (ix3 s r l)
      = if s.1 = sl.s ∧ r.1 % 8 = j.1 then w (ix3 (0 : Fin 1) (⟨r.1 / 8, by omega⟩ : Fin 32) l) else View.canon L (ix3 s r l) := by
  by_cases h : s.1 = sl.s ∧ r.1 % 8 = j.1
  · rw [if_pos h]
    have he : (ix3 s r l : S2x256x128.Idx) = (sbox sl j).emb (ix3 (0 : Fin 1) (⟨r.1 / 8, by omega⟩ : Fin 32) l) := by
      funext a; apply Fin.ext
      match a with
      | ⟨0, _⟩ => show s.1 = sl.s + 1 * 0; omega
      | ⟨1, _⟩ => show r.1 = j.1 + 8 * (r.1 / 8); omega
      | ⟨2, _⟩ => show l.1 = 0 + 1 * l.1; omega
    rw [he]
    exact View.canon_cons_emb (Val := Elt F) (sbox sl j) w L (ix3 (0 : Fin 1) (⟨r.1 / 8, by omega⟩ : Fin 32) l)
  · rw [if_neg h]
    refine View.canon_cons_of_not_mem _ _ fun hm => h ?_
    obtain ⟨z, hz, he⟩ := (sbox sl j).toLoadRect.mem_set.mp hm (0 : Fin 3)
    obtain ⟨z', hz', he'⟩ := (sbox sl j).toLoadRect.mem_set.mp hm (1 : Fin 3)
    have hz1 : z < 1 := hz
    have e : s.1 = sl.s + 1 * z := he
    have e' : r.1 = j.1 + 8 * z' := he'
    exact ⟨by omega, by omega⟩

/-- The eight strided stores of a slab, read at row `r` of slab `s`. -/
theorem canon_outStores (L : Stores F) (sl : Slab) (x : Fin 8 → FVec F S1x32x128 .f32) (s : Fin 2) (r : Fin 256) (l : Fin 128) :
    View.canon (Val := Elt F) (outStores sl x L) (ix3 s r l)
      = if s.1 = sl.s then x ⟨r.1 % 8, by omega⟩ (ix3 (0 : Fin 1) (⟨r.1 / 8, by omega⟩ : Fin 32) l) else View.canon L (ix3 s r l) := by
  unfold outStores
  simp only [canon_sbox]
  by_cases hs : s.1 = sl.s
  · have hx : ∀ j : Fin 8, r.1 % 8 = j.1 → x ⟨r.1 % 8, by omega⟩ = x j := fun j h => congrArg x (Fin.ext h)
    simp only [hs, true_and, if_true]
    have hr : r.1 % 8 < 8 := Nat.mod_lt _ (by decide)
    split_ifs with h7 h6 h5 h4 h3 h2 h1 h0
    · rw [hx 7 h7]
    · rw [hx 6 h6]
    · rw [hx 5 h5]
    · rw [hx 4 h4]
    · rw [hx 3 h3]
    · rw [hx 2 h2]
    · rw [hx 1 h1]
    · rw [hx 0 h0]
    · exfalso
      change ¬ r.1 % 8 = 7 at h7; change ¬ r.1 % 8 = 6 at h6; change ¬ r.1 % 8 = 5 at h5; change ¬ r.1 % 8 = 4 at h4
      change ¬ r.1 % 8 = 3 at h3; change ¬ r.1 % 8 = 2 at h2; change ¬ r.1 % 8 = 1 at h1; change ¬ r.1 % 8 = 0 at h0
      omega
  · simp only [hs, false_and, if_false]

/-- A slab of the results, read whole. -/
theorem readCov_outStores (M : Scratch) (L : Stores F) (x0 x1 : Fin 8 → FVec F S1x32x128 .f32) (sl : Slab) (r : Fin 256) (l : Fin 128) :
    shapeCast S256x128 (M.view.readCov (outStores slab1 x1 (outStores slab0 x0 L)) (whole sl).toLoadRect)
        shapeCasts_S1x256x128_S256x128 (ix2 r l)
      = (if sl.s = 1 then x1 else x0) ⟨r.1 % 8, by omega⟩ (ix3 (0 : Fin 1) (⟨r.1 / 8, by omega⟩ : Fin 32) l) := by
  rw [View.readCov_eq_canon']
  refine (shapeCast_apply _ _ _ (ix3 (0 : Fin 1) r l) (by
    rw [Shape.rowMajor_val_three, Shape.rowMajor_val_two]
    show (0 * 256 + r.1) * 128 + l.1 = r.1 * 128 + l.1; omega)).trans ?_
  have h : (whole sl).toLoadRect.idx (ix3 (0 : Fin 1) r l) = (ix3 (⟨sl.s, slab_lt sl⟩ : Fin 2) r l : S2x256x128.Idx) := by
    funext a; apply Fin.ext
    match a with
    | ⟨0, _⟩ => show sl.s + 1 * 0 = sl.s; rfl
    | ⟨1, _⟩ => show 0 + 1 * r.1 = r.1; omega
    | ⟨2, _⟩ => show 0 + 1 * l.1 = l.1; omega
  show View.canon _ ((whole sl).toLoadRect.idx (ix3 (0 : Fin 1) r l)) = _
  rw [h, canon_outStores, canon_outStores]
  by_cases hs : sl.s = 1
  · rw [if_pos (show (⟨sl.s, slab_lt sl⟩ : Fin 2).1 = slab1.s from hs), if_pos hs]
  · have h0 : sl.s = 0 := by have := slab_lt sl; omega
    rw [if_neg (show ¬ (⟨sl.s, slab_lt sl⟩ : Fin 2).1 = slab1.s from hs), if_neg hs,
      if_pos (show (⟨sl.s, slab_lt sl⟩ : Fin 2).1 = slab0.s from h0)]

end Cert.Reads

end
-- ==== Proof.Scan.lean ====
/- A linear recurrence over the extended reals, run in pieces. -/
module

public import Idealize.ShloMosaic.PureOps.Ideal

@[expose] public section

noncomputable section

namespace Cert.Scan

/-- `n` steps of `x ↦ A x + B` from step `s` on. -/
def run (A B : ℕ → EReal) (s : ℕ) : ℕ → EReal → EReal
  | 0, x => x
  | n + 1, x => A (s + n) * run A B s n x + B (s + n)

theorem run_add (A B : ℕ → EReal) (s m n : ℕ) (x : EReal) : run A B s (m + n) x = run A B (s + m) n (run A B s m x) := by
  induction n with
  | zero => rfl
  | succ n ih =>
    show A (s + (m + n)) * run A B s (m + n) x + B (s + (m + n)) = _
    rw [ih, Nat.add_assoc s m n |>.symm]; rfl

/-- Runs of sequences that agree from `s` on agree. -/
theorem run_congr {A B A' B' : ℕ → EReal} {s s' : ℕ} (n : ℕ) (x : EReal)
    (hA : ∀ i, i < n → A (s + i) = A' (s' + i)) (hB : ∀ i, i < n → B (s + i) = B' (s' + i)) :
    run A B s n x = run A' B' s' n x := by
  induction n with
  | zero => rfl
  | succ n ih =>
    show A (s + n) * run A B s n x + B (s + n) = A' (s' + n) * run A' B' s' n x + B' (s' + n)
    rw [ih (fun i h => hA i (by omega)) (fun i h => hB i (by omega)), hA n (by omega), hB n (by omega)]

/-- `p` and `h` represent `n` steps from step `s` on: the steps take `x` to `h + p x`. -/
structure Rep (A B : ℕ → EReal) (p h : EReal) (s n : ℕ) : Prop where
  nonneg : 0 ≤ p
  ne_top : p ≠ ⊤
  eq : ∀ x, h + p * x = run A B s n x

variable {A B : ℕ → EReal}

theorem mul_ne_top' {x y : EReal} (hx : 0 ≤ x) (hx' : x ≠ ⊤) (hy : 0 ≤ y) (hy' : y ≠ ⊤) : x * y ≠ ⊤ := by
  lift x to ℝ using ⟨hx', fun h => by rw [h] at hx; exact absurd hx (by decide)⟩
  lift y to ℝ using ⟨hy', fun h => by rw [h] at hy; exact absurd hy (by decide)⟩
  rw [← EReal.coe_mul]; exact EReal.coe_ne_top _

/-- One step. -/
theorem Rep.one {s : ℕ} (h0 : 0 ≤ A s) (h1 : A s ≠ ⊤) : Rep A B (A s) (B s) s 1 :=
  ⟨h0, h1, fun x => add_comm _ _⟩

/-- Steps after steps. -/
theorem Rep.comp {p₁ h₁ p₂ h₂ : EReal} {s m n : ℕ} (r₁ : Rep A B p₁ h₁ s m) (r₂ : Rep A B p₂ h₂ (s + m) n) :
    Rep A B (p₂ * p₁) (p₂ * h₁ + h₂) s (m + n) :=
  ⟨EReal.mul_nonneg r₂.nonneg r₁.nonneg, mul_ne_top' r₂.nonneg r₂.ne_top r₁.nonneg r₁.ne_top, fun x => by
    rw [run_add, ← r₂.eq, ← r₁.eq, EReal.left_distrib_of_nonneg_of_ne_top r₂.nonneg r₂.ne_top, mul_assoc,
      add_comm (p₂ * h₁) h₂, add_assoc]⟩

end Cert.Scan

end
-- ==== Proof.Conv.lean ====
/- The convolution and the gates of one part, over the extended reals. -/
module

public import proofs.«01_k».proof.Proof.Reads
public import proofs.«01_k».proof.Proof.Scan

@[expose] public section

noncomputable section

namespace Cert.Conv

open Idealize.ShloMosaic Idealize.ShloMosaic.TcCoe Idealize.SL.Sem
open Cert.KernelIdeal Cert.KernelIdeal.Gen Cert.Part Cert.Reads

/-- The two slabs. -/
def IsSlab (sl : Slab) : Prop := sl = slab0 ∨ sl = slab1

/-- Every lane lies in one of the two slabs. -/
theorem exists_lane (x : Fin 256) : ∃ sl l, IsSlab sl ∧ x = lane sl l := by
  by_cases h : x.1 < 128
  · exact ⟨slab0, ⟨x.1, h⟩, Or.inl rfl, Fin.ext (show x.1 = 0 + x.1 by omega)⟩
  · exact ⟨slab1, ⟨x.1 - 128, by omega⟩, Or.inr rfl, Fin.ext (show x.1 = 128 + (x.1 - 128) by omega)⟩

section
variable {α : Type}

/-- Two slabs side by side, read in a slab. -/
theorem beside_lane (f : Slab → FVec Ideal S256x128 .f32) (p : Fin 256) (sl : Slab) (hsl : IsSlab sl) (l : Fin 128) :
    beside (f slab0) (f slab1) (ix2 p (lane sl l)) = f sl (ix2 p l) := by
  unfold beside
  rcases hsl with rfl | rfl
  · refine concatenate_apply_piece (t := S256x256) 1 [⟨S256x128, f slab0⟩, ⟨S256x128, f slab1⟩] _ (ix2 p (lane slab0 l)) 0 (by show 0 < 2; decide)
      S256x128 (f slab0) rfl rfl 0 rfl (ix2 p l) (fun b hb => ?_) ?_
    · match b with
      | ⟨0, _⟩ => rfl
      | ⟨1, _⟩ => exact absurd rfl hb
    · show 0 + l.1 = 0 + l.1; rfl
  · refine concatenate_apply_piece (t := S256x256) 1 [⟨S256x128, f slab0⟩, ⟨S256x128, f slab1⟩] _ (ix2 p (lane slab1 l)) 1 (by show 1 < 2; decide)
      S256x128 (f slab1) rfl rfl 128 rfl (ix2 p l) (fun b hb => ?_) ?_
    · match b with
      | ⟨0, _⟩ => rfl
      | ⟨1, _⟩ => exact absurd rfl hb
    · show 128 + l.1 = 128 + l.1; rfl

theorem beside1_lane (f : Slab → FVec Ideal S1x128 .f32) (p : Fin 1) (sl : Slab) (hsl : IsSlab sl) (l : Fin 128) :
    beside1 (f slab0) (f slab1) (ix2 p (lane sl l)) = f sl (ix2 p l) := by
  unfold beside1
  rcases hsl with rfl | rfl
  · refine concatenate_apply_piece (t := S1x256) 1 [⟨S1x128, f slab0⟩, ⟨S1x128, f slab1⟩] _ (ix2 p (lane slab0 l)) 0 (by show 0 < 2; decide)
      S1x128 (f slab0) rfl rfl 0 rfl (ix2 p l) (fun b hb => ?_) ?_
    · match b with
      | ⟨0, _⟩ => rfl
      | ⟨1, _⟩ => exact absurd rfl hb
    · show 0 + l.1 = 0 + l.1; rfl
  · refine concatenate_apply_piece (t := S1x256) 1 [⟨S1x128, f slab0⟩, ⟨S1x128, f slab1⟩] _ (ix2 p (lane slab1 l)) 1 (by show 1 < 2; decide)
      S1x128 (f slab1) rfl rfl 128 rfl (ix2 p l) (fun b hb => ?_) ?_
    · match b with
      | ⟨0, _⟩ => rfl
      | ⟨1, _⟩ => exact absurd rfl hb
    · show 128 + l.1 = 128 + l.1; rfl

/-- The permuted place of row `8 g + j`. -/
def place (g : Fin 32) (j : Fin 8) : Fin 256 := ⟨32 * j.1 + g.1, by omega⟩

/-- Eight groups of 32 rows, one after the other. -/
theorem cat8 (x : Fin 8 → FVec Ideal S32x128 .f32) (g : Fin 32) (j : Fin 8) (l : Fin 128) :
    concatenate S256x128 0
      [⟨S32x128, x 0⟩, ⟨S32x128, x 1⟩, ⟨S32x128, x 2⟩, ⟨S32x128, x 3⟩, ⟨S32x128, x 4⟩, ⟨S32x128, x 5⟩, ⟨S32x128, x 6⟩, ⟨S32x128, x 7⟩]
      concatenates_S32x128_S32x128_S32x128_S32x128_S32x128_S32x128_S32x128_S32x128_S256x128_d0 (ix2 (place g j) l)
      = x j (ix2 g l) := by
  refine concatenate_apply_piece (t := S256x128) 0
    [⟨S32x128, x 0⟩, ⟨S32x128, x 1⟩, ⟨S32x128, x 2⟩, ⟨S32x128, x 3⟩, ⟨S32x128, x 4⟩, ⟨S32x128, x 5⟩, ⟨S32x128, x 6⟩, ⟨S32x128, x 7⟩]
    _ (ix2 (place g j) l) j.1 j.2 S32x128 (x j) ?_ rfl (32 * j.1) ?_ (ix2 g l) (fun b hb => ?_) ?_
  · fin_cases j <;> rfl
  · fin_cases j <;> rfl
  · match b with
    | ⟨0, _⟩ => exact absurd rfl hb
    | ⟨1, _⟩ => rfl
  · show 32 * j.1 + g.1 = 32 * j.1 + g.1; rfl

/-- Four groups of eight rows, one after the other. -/
theorem cat4 (x : Fin 4 → FVec Ideal S8x128 .f32) (q : Fin 4) (i : Fin 8) (l : Fin 128) :
    concatenate S32x128 0 [⟨S8x128, x 0⟩, ⟨S8x128, x 1⟩, ⟨S8x128, x 2⟩, ⟨S8x128, x 3⟩]
      concatenates_S8x128_S8x128_S8x128_S8x128_S32x128_d0 (ix2 (⟨8 * q.1 + i.1, by omega⟩ : Fin 32) l) = x q (ix2 i l) := by
  refine concatenate_apply_piece (t := S32x128) 0 [⟨S8x128, x 0⟩, ⟨S8x128, x 1⟩, ⟨S8x128, x 2⟩, ⟨S8x128, x 3⟩]
    _ (ix2 (⟨8 * q.1 + i.1, by omega⟩ : Fin 32) l) q.1 q.2 S8x128 (x q) ?_ rfl (8 * q.1) ?_ (ix2 i l) (fun b hb => ?_) ?_
  · fin_cases q <;> rfl
  · fin_cases q <;> rfl
  · match b with
    | ⟨0, _⟩ => exact absurd rfl hb
    | ⟨1, _⟩ => rfl
  · show 8 * q.1 + i.1 = 8 * q.1 + i.1; rfl
end

/-- A row's slab, read at a lane. -/
theorem lanes_apply (sl : Slab) (v : FVec Ideal S1x256 .f32) (l : Fin 128) :
    lanes sl v (ix2 (0 : Fin 1) l) = v (ix2 (0 : Fin 1) (lane sl l)) :=
  extractStridedSlice_apply _ _ _ _ _ fun a => by
    match a with
    | ⟨0, _⟩ => rfl
    | ⟨1, _⟩ => rfl

theorem spread_apply (v : FVec Ideal S1x128 .f32) (g : Fin 32) (l : Fin 128) : spread v (ix2 g l) = v (ix2 (0 : Fin 1) l) :=
  broadcastTo_apply _ _ _ _ fun a => by
    match a with
    | ⟨0, _⟩ => rfl
    | ⟨1, _⟩ => rfl

theorem tap_apply (sl : Slab) (cw : FVec Ideal S4x256 .f32) (k : Fin 4) (g : Fin 32) (l : Fin 128) :
    tap sl cw k (ix2 g l) = cw (ix2 k (lane sl l)) :=
  (spread_apply _ g l).trans (extractStridedSlice_apply _ _ _ _ _ fun a => by
    match a with
    | ⟨0, _⟩ => rfl
    | ⟨1, _⟩ => rfl)

/-- A choice made by a row number being zero. -/
theorem select_zero {a b : EReal} (n : ℕ) (hn : n < 2 ^ 32) :
    Scalar.select (IntOp.cmpi .eq (BitVec.ofNat 32 n) 0#32) a b = if n = 0 then a else b := by
  by_cases h : n = 0
  · subst h; rw [if_pos rfl]; rfl
  · have hne : (BitVec.ofNat 32 n == 0#32) = false := by
      rw [beq_eq_false_iff_ne]
      intro he
      have h2 : n % 2 ^ 32 = 0 := congrArg BitVec.toNat he
      rw [Nat.mod_eq_of_lt hn] at h2
      exact h h2
    rw [if_neg h]
    simp [Scalar.select, IntOp.cmpi, hne]

/-- The row before each of 32 rows. -/
theorem before_apply (v : FVec Ideal S1x128 .f32) (u : FVec Ideal S32x128 .f32) (g : Fin 32) (l : Fin 128) :
    before v u (ix2 g l) = if g.1 = 0 then v (ix2 (0 : Fin 1) l) else u (ix2 (⟨g.1 - 1, by omega⟩ : Fin 32) l) := by
  unfold before
  pointwise
  refine (select_zero g.1 (by omega)).trans ?_
  by_cases h : g.1 = 0
  · rw [if_pos h, if_pos h]
  · rw [if_neg h, if_neg h]
    exact congrArg (fun k => u (ix2 k l)) (Fin.ext (show (g.1 + 32 - 1) % 32 = g.1 - 1 by omega))

section
variable (M : Mems) (W : Weights Ideal) (acc : FVec Ideal S256x512 .f32) (S : Carry Ideal) (L : Lists Ideal)

/-- The projected rows of a lane, the three rows before the part in front. -/
def seq (x : Fin 256) (n : ℕ) : EReal :=
  if n = 0 then S.t5 (ix2 (0 : Fin 1) x) else if n = 1 then S.t6 (ix2 (0 : Fin 1) x) else if n = 2 then S.t7 (ix2 (0 : Fin 1) x)
  else if h : n - 3 < 256 then acc (ix2 (⟨n - 3, h⟩ : Fin 256) (⟨x.1, by omega⟩ : Fin 512)) else 0

/-- The convolution of a lane at row `r` of the part. -/
def cv (x : Fin 256) (r : ℕ) : EReal :=
  seq acc S x (r + 3) * W.cw (ix2 (3 : Fin 4) x) + W.cb (ix2 (0 : Fin 1) x) + seq acc S x (r + 2) * W.cw (ix2 (2 : Fin 4) x)
    + seq acc S x (r + 1) * W.cw (ix2 (1 : Fin 4) x) + seq acc S x r * W.cw (ix2 (0 : Fin 4) x)

theorem seq_row (x : Fin 256) (r : Fin 256) :
    seq acc S x (r.1 + 3) = acc (ix2 r (⟨x.1, by omega⟩ : Fin 512)) := by
  unfold seq
  rw [if_neg (by omega), if_neg (by omega), if_neg (by omega), dif_pos (by omega)]
  rfl

/-- The projected rows of both slabs, read back. -/
theorem rows_U1 (sl : Slab) (hsl : IsSlab sl) (j : Fin 8) (g : Fin 32) (l : Fin 128) :
    rows M.M16 (U1 acc L) sl j (ix2 g l) = acc (ix2 (row g j) (⟨(lane sl l).1, by omega⟩ : Fin 512)) := by
  have hx : uStore sl acc (ix3 (0 : Fin 1) (row g j) l) = acc (ix2 (row g j) (⟨(lane sl l).1, by omega⟩ : Fin 512)) := by
    unfold uStore
    refine (shapeCast_apply _ _ _ (ix2 (row g j) l) (by
      rw [Shape.rowMajor_val_three, Shape.rowMajor_val_two]
      show (row g j).1 * 128 + l.1 = (0 * 256 + (row g j).1) * 128 + l.1; omega)).trans ?_
    exact extractStridedSlice_apply _ _ _ _ _ fun a => by
      match a with
      | ⟨0, _⟩ => show (row g j).1 = 0 + (row g j).1; omega
      | ⟨1, _⟩ => rfl
  rw [← hx]
  rcases hsl with rfl | rfl
  · unfold U1 U0
    rw [rows_skip _ _ _ _ (by decide), rows_whole]
  · unfold U1
    rw [rows_whole]

theorem rows_U0 (j : Fin 8) : rows M.M16 (U0 acc L) slab0 j = rows M.M16 (U1 acc L) slab0 j := by
  unfold U1
  rw [rows_skip _ _ _ _ (by decide)]

/-- The gate's rows of both slabs, read back. -/
theorem rows_G1 (sl : Slab) (hsl : IsSlab sl) (j : Fin 8) (g : Fin 32) (l : Fin 128) :
    rows M.M17 (G1 acc L) sl j (ix2 g l) = acc (ix2 (row g j) (⟨256 + (lane sl l).1, by omega⟩ : Fin 512)) := by
  have hx : gStore sl acc (ix3 (0 : Fin 1) (row g j) l) = acc (ix2 (row g j) (⟨256 + (lane sl l).1, by omega⟩ : Fin 512)) := by
    unfold gStore
    refine (shapeCast_apply _ _ _ (ix2 (row g j) l) (by
      rw [Shape.rowMajor_val_three, Shape.rowMajor_val_two]
      show (row g j).1 * 128 + l.1 = (0 * 256 + (row g j).1) * 128 + l.1; omega)).trans ?_
    exact extractStridedSlice_apply _ _ _ _ _ fun a => by
      match a with
      | ⟨0, _⟩ => show (row g j).1 = 0 + (row g j).1; omega
      | ⟨1, _⟩ => show 256 + (sl.o + l.1) = 256 + sl.o + l.1; omega
  rw [← hx]
  rcases hsl with rfl | rfl
  · unfold G1
    rw [rows_skip _ _ _ _ (by decide), rows_whole]
  · unfold G1
    rw [rows_whole]

/-- A loaded row group is a stretch of the sequence. -/
theorem rows_seq (sl : Slab) (hsl : IsSlab sl) (j : Fin 8) (g : Fin 32) (l : Fin 128) :
    rows M.M16 (U1 acc L) sl j (ix2 g l) = seq acc S (lane sl l) (8 * g.1 + j.1 + 3) := by
  rw [rows_U1 M acc L sl hsl, ← seq_row acc S]
  rfl

theorem conv_apply (sl : Slab) (x0 x1 x2 x3 : FVec Ideal S32x128 .f32) (g : Fin 32) (l : Fin 128) :
    conv sl W x0 x1 x2 x3 (ix2 g l) =
      x0 (ix2 g l) * W.cw (ix2 (3 : Fin 4) (lane sl l)) + W.cb (ix2 (0 : Fin 1) (lane sl l))
        + x1 (ix2 g l) * W.cw (ix2 (2 : Fin 4) (lane sl l)) + x2 (ix2 g l) * W.cw (ix2 (1 : Fin 4) (lane sl l))
        + x3 (ix2 g l) * W.cw (ix2 (0 : Fin 4) (lane sl l)) := by
  show x0 (ix2 g l) * tap sl W.cw 3 (ix2 g l) + spread (lanes sl W.cb) (ix2 g l) + x1 (ix2 g l) * tap sl W.cw 2 (ix2 g l)
        + x2 (ix2 g l) * tap sl W.cw 1 (ix2 g l) + x3 (ix2 g l) * tap sl W.cw 0 (ix2 g l) = _
  rw [tap_apply, tap_apply, tap_apply, tap_apply, spread_apply, lanes_apply]

theorem conv_eq (sl : Slab) (x0 x1 x2 x3 : FVec Ideal S32x128 .f32) (v0 v1 v2 v3 : EReal) (g : Fin 32) (l : Fin 128)
    (h0 : x0 (ix2 g l) = v0) (h1 : x1 (ix2 g l) = v1) (h2 : x2 (ix2 g l) = v2) (h3 : x3 (ix2 g l) = v3) :
    conv sl W x0 x1 x2 x3 (ix2 g l) =
      v0 * W.cw (ix2 (3 : Fin 4) (lane sl l)) + W.cb (ix2 (0 : Fin 1) (lane sl l))
        + v1 * W.cw (ix2 (2 : Fin 4) (lane sl l)) + v2 * W.cw (ix2 (1 : Fin 4) (lane sl l))
        + v3 * W.cw (ix2 (0 : Fin 4) (lane sl l)) := by
  rw [conv_apply, h0, h1, h2, h3]

theorem before_seq (k : ℕ) (hk : k < 3) (v : FVec Ideal S1x256 .f32) (sl : Slab) (hsl : IsSlab sl) (g : Fin 32) (l : Fin 128)
    (hv : v (ix2 (0 : Fin 1) (lane sl l)) = seq acc S (lane sl l) k) :
    before (lanes sl v) (rows M.M16 (U1 acc L) sl ⟨5 + k, by omega⟩) (ix2 g l) = seq acc S (lane sl l) (8 * g.1 + k) := by
  rw [before_apply, lanes_apply, hv, rows_seq M acc S L sl hsl]
  by_cases h : g.1 = 0
  · rw [if_pos h, h, Nat.mul_zero, Nat.zero_add]
  · rw [if_neg h]
    congr 1
    show 8 * (g.1 - 1) + (5 + k) + 3 = 8 * g.1 + k
    omega

/-- The convolution of a slab, row by row. -/
theorem convSlab_apply (sl : Slab) (hsl : IsSlab sl) (g : Fin 32) (j : Fin 8) (l : Fin 128) :
    convSlab sl W S (rows M.M16 (U1 acc L) sl) (ix2 (place g j) l) = cv W acc S (lane sl l) (8 * g.1 + j.1) := by
  have b7 := before_seq M acc S L 2 (by decide) S.t7 sl hsl g l rfl
  have b6 := before_seq M acc S L 1 (by decide) S.t6 sl hsl g l rfl
  have b5 := before_seq M acc S L 0 (by decide) S.t5 sl hsl g l rfl
  have r : ∀ (j : Fin 8) (n : ℕ), n = 8 * g.1 + j.1 + 3 → rows M.M16 (U1 acc L) sl j (ix2 g l) = seq acc S (lane sl l) n :=
    fun j n h => h ▸ rows_seq M acc S L sl hsl j g l
  let p := rows M.M16 (U1 acc L) sl
  let x : Fin 8 → FVec Ideal S32x128 .f32 :=
    ![conv sl W (p 0) (before (lanes sl S.t7) (p 7)) (before (lanes sl S.t6) (p 6)) (before (lanes sl S.t5) (p 5)),
      conv sl W (p 1) (p 0) (before (lanes sl S.t7) (p 7)) (before (lanes sl S.t6) (p 6)),
      conv sl W (p 2) (p 1) (p 0) (before (lanes sl S.t7) (p 7)), conv sl W (p 3) (p 2) (p 1) (p 0),
      conv sl W (p 4) (p 3) (p 2) (p 1), conv sl W (p 5) (p 4) (p 3) (p 2), conv sl W (p 6) (p 5) (p 4) (p 3),
      conv sl W (p 7) (p 6) (p 5) (p 4)]
  refine (cat8 x g j l).trans ?_
  have c := fun x0 x1 x2 x3 v0 v1 v2 v3 => conv_eq W sl x0 x1 x2 x3 v0 v1 v2 v3 g l
  unfold cv
  match j with
  | ⟨0, _⟩ => exact c _ _ _ _ _ _ _ _ (r 0 _ (by show 8 * g.1 + 0 + 3 = 8 * g.1 + 0 + 3; omega)) b7 b6 b5
  | ⟨1, _⟩ => exact c _ _ _ _ _ _ _ _ (r 1 _ (by show 8 * g.1 + 1 + 3 = 8 * g.1 + 1 + 3; omega)) (r 0 _ (by show 8 * g.1 + 1 + 2 = 8 * g.1 + 0 + 3; omega)) b7 b6
  | ⟨2, _⟩ => exact c _ _ _ _ _ _ _ _ (r 2 _ (by show 8 * g.1 + 2 + 3 = 8 * g.1 + 2 + 3; omega)) (r 1 _ (by show 8 * g.1 + 2 + 2 = 8 * g.1 + 1 + 3; omega)) (r 0 _ (by show 8 * g.1 + 2 + 1 = 8 * g.1 + 0 + 3; omega)) b7
  | ⟨3, _⟩ => exact c _ _ _ _ _ _ _ _ (r 3 _ (by show 8 * g.1 + 3 + 3 = 8 * g.1 + 3 + 3; omega)) (r 2 _ (by show 8 * g.1 + 3 + 2 = 8 * g.1 + 2 + 3; omega)) (r 1 _ (by show 8 * g.1 + 3 + 1 = 8 * g.1 + 1 + 3; omega)) (r 0 _ (by show 8 * g.1 + 3 = 8 * g.1 + 0 + 3; omega))
  | ⟨4, _⟩ => exact c _ _ _ _ _ _ _ _ (r 4 _ (by show 8 * g.1 + 4 + 3 = 8 * g.1 + 4 + 3; omega)) (r 3 _ (by show 8 * g.1 + 4 + 2 = 8 * g.1 + 3 + 3; omega)) (r 2 _ (by show 8 * g.1 + 4 + 1 = 8 * g.1 + 2 + 3; omega)) (r 1 _ (by show 8 * g.1 + 4 = 8 * g.1 + 1 + 3; omega))
  | ⟨5, _⟩ => exact c _ _ _ _ _ _ _ _ (r 5 _ (by show 8 * g.1 + 5 + 3 = 8 * g.1 + 5 + 3; omega)) (r 4 _ (by show 8 * g.1 + 5 + 2 = 8 * g.1 + 4 + 3; omega)) (r 3 _ (by show 8 * g.1 + 5 + 1 = 8 * g.1 + 3 + 3; omega)) (r 2 _ (by show 8 * g.1 + 5 = 8 * g.1 + 2 + 3; omega))
  | ⟨6, _⟩ => exact c _ _ _ _ _ _ _ _ (r 6 _ (by show 8 * g.1 + 6 + 3 = 8 * g.1 + 6 + 3; omega)) (r 5 _ (by show 8 * g.1 + 6 + 2 = 8 * g.1 + 5 + 3; omega)) (r 4 _ (by show 8 * g.1 + 6 + 1 = 8 * g.1 + 4 + 3; omega)) (r 3 _ (by show 8 * g.1 + 6 = 8 * g.1 + 3 + 3; omega))
  | ⟨7, _⟩ => exact c _ _ _ _ _ _ _ _ (r 7 _ (by show 8 * g.1 + 7 + 3 = 8 * g.1 + 7 + 3; omega)) (r 6 _ (by show 8 * g.1 + 7 + 2 = 8 * g.1 + 6 + 3; omega)) (r 5 _ (by show 8 * g.1 + 7 + 1 = 8 * g.1 + 5 + 3; omega)) (r 4 _ (by show 8 * g.1 + 7 = 8 * g.1 + 4 + 3; omega))

/-- The convolution of the part's rows. -/
theorem uc_apply (g : Fin 32) (j : Fin 8) (x : Fin 256) :
    uc M W acc S L (ix2 (place g j) x) = cv W acc S x (8 * g.1 + j.1) := by
  obtain ⟨sl, l, hsl, rfl⟩ := exists_lane x
  rw [← convSlab_apply M W acc S L sl hsl g j l]
  refine Eq.trans ?_ (beside_lane (fun sl => convSlab sl W S (rows M.M16 (U1 acc L) sl)) (place g j) sl hsl l)
  have h : rows M.M16 (U0 acc L) slab0 = rows M.M16 (U1 acc L) slab0 := funext fun j => rows_U0 M acc L j
  unfold uc
  rw [h]

end

end Cert.Conv

end
-- ==== Proof.Gates.lean ====
/- The gates of one part and its scan, over the extended reals. -/
module

public import proofs.«01_k».proof.Proof.Conv
public import Idealize.ShloMosaic.Lib.MatmulPlain

@[expose] public section

noncomputable section

namespace Cert.Gates

open Idealize.ShloMosaic Idealize.ShloMosaic.TcCoe Idealize.SL.Sem
open Cert.KernelIdeal Cert.KernelIdeal.Gen Cert.Part Cert.Reads Cert.Conv Cert.Scan

variable (W : Weights Ideal)

/-- A gate's argument at a lane, of the convolved row `u`. -/
def zS (w : FVec Ideal S256x256 .bf16) (b : FVec Ideal S1x256 .f32) (u : Fin 256 → EReal) (x : Fin 256) : EReal :=
  ∑ k : Fin 256, u k * w (ix2 k x) + b (ix2 (0 : Fin 1) x)
/-- The decay's negated exponent, of the gate's argument and the decay's scale. -/
def nlaS (z c : EReal) : EReal := Ideal.logistic z * c
/-- The decay. -/
def aS (z c : EReal) : EReal := Ideal.exp (0 - nlaS z c)
/-- The square of the input's scale. -/
def s2S (z c : EReal) : EReal := Ideal.tanh (nlaS z c) * (1 + aS z c * aS z c)
/-- The input's scale. -/
def rootS (v : EReal) : EReal := if 0 < v then v * Ideal.rsqrt v else 0

/-- The decay of a convolved row at a lane. -/
def aRow (u : Fin 256 → EReal) (x : Fin 256) : EReal := aS (zS W.wr W.br u x) (W.csp (ix2 (0 : Fin 1) x))
/-- The recurrence's input of a convolved row at a lane. -/
def bRow (u : Fin 256 → EReal) (x : Fin 256) : EReal :=
  rootS (s2S (zS W.wr W.br u x) (W.csp (ix2 (0 : Fin 1) x))) * (Ideal.logistic (zS W.wi W.bi u x) * u x)

theorem zero_bits : Ideal.ofBits .f32 0x00000000#32 = 0 := by
  simp [Ideal.ofBits, Ideal.ieee]
theorem one_bits : Ideal.ofBits .f32 0x3F800000#32 = 1 := by
  simp [Ideal.ofBits, Ideal.ieee]
  rw [← EReal.coe_mul]
  norm_num

variable (v : FVec Ideal S256x256 .f32) (p x : Fin 256)

theorem row256_apply (b : FVec Ideal S1x256 .f32) : broadcastTo S256x256 b broadcasts_S1x256_S256x256 (ix2 p x) = b (ix2 (0 : Fin 1) x) :=
  broadcastTo_apply _ _ _ _ fun a => by
    match a with
    | ⟨0, _⟩ => rfl
    | ⟨1, _⟩ => rfl

theorem logit_apply (w : FVec Ideal S256x256 .bf16) (b : FVec Ideal S1x256 .f32) :
    logit v w b (ix2 p x) = zS w b (fun k => v (ix2 p k)) x := by
  have hd : dot_S256x256_S256x256_S256x256_1_0_0_1_n_n = DotDims.plain 256 256 256 := rfl
  show matmul dot_S256x256_S256x256_S256x256_1_0_0_1_n_n none (truncf .bf16 v bitsLt_bf16_f32) w
    (constant S256x256 .f32 0x00000000#32) (ix2 p x) + broadcastTo S256x256 b broadcasts_S1x256_S256x256 (ix2 p x) = _
  rw [row256_apply]
  refine congrArg (· + b (ix2 (0 : Fin 1) x)) ?_
  refine (Ideal.matmul_plain_apply (M := 256) (K := 256) (N := 256) none (truncf .bf16 v bitsLt_bf16_f32) w
    (constant S256x256 .f32 0x00000000#32) p x).trans ?_
  show Ideal.ofBits .f32 0x00000000#32 + _ = _
  rw [zero_bits, zero_add]
  rfl

theorem decay_apply : decay W v (ix2 p x) = aRow W (fun k => v (ix2 p k)) x := by
  show Ideal.exp (Ideal.ofBits .f32 0x00000000#32 - Ideal.logistic (logit v W.wr W.br (ix2 p x))
    * broadcastTo S256x256 W.csp broadcasts_S1x256_S256x256 (ix2 p x)) = _
  rw [zero_bits, logit_apply, row256_apply]
  rfl

theorem scale2_apply : scale2 W v (ix2 p x)
    = s2S (zS W.wr W.br (fun k => v (ix2 p k)) x) (W.csp (ix2 (0 : Fin 1) x)) := by
  show Ideal.tanh (Ideal.logistic (logit v W.wr W.br (ix2 p x)) * broadcastTo S256x256 W.csp broadcasts_S1x256_S256x256 (ix2 p x))
    * (Ideal.ofBits .f32 0x3F800000#32 + decay W v (ix2 p x) * decay W v (ix2 p x)) = _
  rw [one_bits, logit_apply, row256_apply, decay_apply]
  rfl

theorem select_pos (s a b : EReal) : Scalar.select (Ideal.cmp .ogt s 0) a b = if 0 < s then a else b := by
  by_cases h : 0 < s
  · simp [Scalar.select, Ideal.cmp, h]
  · simp [Scalar.select, Ideal.cmp, h]

theorem input_apply : input W v (ix2 p x) = bRow W (fun k => v (ix2 p k)) x := by
  show Scalar.select (Ideal.cmp .ogt (scale2 W v (ix2 p x)) (Ideal.ofBits .f32 0x00000000#32))
      (scale2 W v (ix2 p x) * Ideal.rsqrt (scale2 W v (ix2 p x))) (Ideal.ofBits .f32 0x00000000#32)
    * (Ideal.logistic (logit v W.wi W.bi (ix2 p x)) * v (ix2 p x)) = _
  rw [zero_bits, logit_apply, scale2_apply, select_pos]
  rfl

end Cert.Gates

end
-- ==== Proof.PartScan.lean ====
/- The scan of one part: 32 runs of eight rows, in four blocks of eight runs. -/
module

public import proofs.«01_k».proof.Proof.Gates
public import Idealize.ShloMosaic.Lib.KernelVsHost
public import Idealize.ShloMosaic.Lib.Pointwise

@[expose] public section

noncomputable section

namespace Cert.PartScan

open Idealize.ShloMosaic Idealize.ShloMosaic.TcCoe Idealize.SL.Sem
open Cert.KernelIdeal Cert.KernelIdeal.Gen Cert.Part Cert.Reads Cert.Conv Cert.Scan

variable (A B : ℕ → EReal) (sl : Slab) (l : Fin 128)

/-- A slab's row group, read. -/
theorem group_apply (v : FVec Ideal S256x256 .f32) (j : ℕ) (hj : j < 8) (g : Fin 32) :
    group sl v j hj (ix2 g l) = v (ix2 (place g ⟨j, hj⟩) (lane sl l)) :=
  extractStridedSlice_apply _ _ _ _ _ fun a => by
    match a with
    | ⟨0, _⟩ => rfl
    | ⟨1, _⟩ => rfl

section
variable {A B sl l} {a b : FVec Ideal S256x256 .f32}
  (ha : ∀ g j, a (ix2 (place g j) (lane sl l)) = A (8 * g.1 + j.1))
  (hb : ∀ g j, b (ix2 (place g j) (lane sl l)) = B (8 * g.1 + j.1))
  (h0 : ∀ r, 0 ≤ A r) (h1 : ∀ r, A r ≠ ⊤)
include ha hb h0 h1

/-- Inside a run of eight rows. -/
theorem rep_run (g : Fin 32) : ∀ (j : ℕ) (hj : j < 8),
    Rep A B (ps sl a j hj (ix2 g l)) (hs sl a b j hj (ix2 g l)) (8 * g.1) (j + 1)
  | 0, hj => by
    show Rep A B (group sl a 0 hj (ix2 g l)) (group sl b 0 hj (ix2 g l)) (8 * g.1) 1
    rw [group_apply, group_apply, ha, hb]
    exact Rep.one (h0 _) (h1 _)
  | j + 1, hj => by
    have ih := rep_run g j (Nat.lt_of_succ_lt hj)
    show Rep A B (group sl a (j + 1) hj (ix2 g l) * ps sl a j (Nat.lt_of_succ_lt hj) (ix2 g l))
      (group sl a (j + 1) hj (ix2 g l) * hs sl a b j (Nat.lt_of_succ_lt hj) (ix2 g l) + group sl b (j + 1) hj (ix2 g l))
      (8 * g.1) (j + 1 + 1)
    rw [group_apply, group_apply, ha, hb]
    exact ih.comp (Rep.one (h0 _) (h1 _))
end

/-- Each run's pair covers the last `d` runs of its block, or all there are. -/
def Covers (d : ℕ) (p h : FVec Ideal S4x8x128 .f32) : Prop :=
  ∀ (q : Fin 4) (i : Fin 8), Rep A B (p (ix3 q i l)) (h (ix3 q i l)) (64 * q.1 + 8 * (i.1 + 1 - min (i.1 + 1) d)) (8 * min (i.1 + 1) d)

theorem keep_apply (d : BitVec 32) (hd : d.toNat < 8) (q : Fin 4) (i : Fin 8) {s t : EReal} :
    Scalar.select (keep d (ix3 q i l)) s t = if d.toNat ≤ i.1 then s else t := by
  have e : keep d (ix3 q i l) = IntOp.cmpi .sge (BitVec.ofNat 32 i.1) d := by
    show IntOp.cmpi .sge (iota .tc S4x8x128 32 [1] iota_S4x8x128_d1_w32 (ix3 q i l)) d = _
    rw [iota_single_apply]; rfl
  have hi : (BitVec.ofNat 32 i.1).toInt = i.1 := by
    have := i.2
    rw [BitVec.toInt_eq_toNat_cond, BitVec.toNat_ofNat, Nat.mod_eq_of_lt (by omega), if_pos (by omega)]
  have hd' : d.toInt = d.toNat := by rw [BitVec.toInt_eq_toNat_cond, if_pos (by omega)]
  have hle : BitVec.sle d (BitVec.ofNat 32 i.1) = decide (d.toNat ≤ i.1) := by
    rw [BitVec.sle, hi, hd']; simp
  rw [e]
  show (if BitVec.ofBool (BitVec.sle d (BitVec.ofNat 32 i.1)) = 1#1 then s else t) = _
  rw [hle]
  by_cases h : d.toNat ≤ i.1
  · simp [h]
  · simp [h]

theorem rotate_apply (d : BitVec 32) (hd : d.toNat < 8) (v : FVec Ideal S4x8x128 .f32) (q : Fin 4) (i : Fin 8) (h : d.toNat ≤ i.1) :
    dynamicRotate 1 d none v rotates_S4x8x128_d1 (ix3 q i l) = v (ix3 q (⟨i.1 - d.toNat, by omega⟩ : Fin 8) l) :=
  dynamicRotate_apply _ _ _ _ _ _ fun a => by
    match a with
    | ⟨0, _⟩ => rfl
    | ⟨1, _⟩ =>
      show i.1 - d.toNat = (i.1 + 8 - d.toNat % 8) % 8
      rw [Nat.mod_eq_of_lt hd]; omega
    | ⟨2, _⟩ => rfl

variable {A B l}

/-- One doubling. -/
theorem covers_dbl (d : BitVec 32) (hd : d.toNat < 8) (p h : FVec Ideal S4x8x128 .f32) (hc : Covers A B l d.toNat p h) :
    Covers A B l (2 * d.toNat) (pdbl d p) (hdbl d p h) := fun q i => by
  have e1 : pdbl d p (ix3 q i l) = if d.toNat ≤ i.1 then p (ix3 q i l) * dynamicRotate 1 d none p rotates_S4x8x128_d1 (ix3 q i l)
      else p (ix3 q i l) := keep_apply l d hd q i
  have e2 : hdbl d p h (ix3 q i l) = if d.toNat ≤ i.1 then
      p (ix3 q i l) * dynamicRotate 1 d none h rotates_S4x8x128_d1 (ix3 q i l) + h (ix3 q i l)
      else h (ix3 q i l) := keep_apply l d hd q i
  rw [e1, e2]
  by_cases hi : d.toNat ≤ i.1
  · rw [if_pos hi, if_pos hi, rotate_apply l d hd p q i hi, rotate_apply l d hd h q i hi]
    have r1 := hc q (⟨i.1 - d.toNat, by omega⟩ : Fin 8)
    have r2 := hc q i
    have i2 := i.2
    have m2 : min (i.1 + 1) d.toNat = d.toNat ∨ (d.toNat = i.1 + 1) := by omega
    have s2 : 64 * q.1 + 8 * (i.1 + 1 - min (i.1 + 1) d.toNat)
        = 64 * q.1 + 8 * (i.1 - d.toNat + 1 - min (i.1 - d.toNat + 1) d.toNat) + 8 * min (i.1 - d.toNat + 1) d.toNat := by omega
    rw [s2] at r2
    have r := r1.comp r2
    have e3 : 64 * q.1 + 8 * (i.1 - d.toNat + 1 - min (i.1 - d.toNat + 1) d.toNat)
        = 64 * q.1 + 8 * (i.1 + 1 - min (i.1 + 1) (2 * d.toNat)) := by omega
    have e4 : 8 * min (i.1 - d.toNat + 1) d.toNat + 8 * min (i.1 + 1) d.toNat = 8 * min (i.1 + 1) (2 * d.toNat) := by omega
    rw [← e3, ← e4]
    exact r
  · rw [if_neg hi, if_neg hi]
    have r2 := hc q i
    have e : min (i.1 + 1) (2 * d.toNat) = min (i.1 + 1) d.toNat := by omega
    rw [e]
    exact r2

theorem cast3_apply (v : FVec Ideal S32x128 .f32) (q : Fin 4) (i : Fin 8) :
    shapeCast S4x8x128 v shapeCasts_S32x128_S4x8x128 (ix3 q i l) = v (ix2 (⟨8 * q.1 + i.1, by omega⟩ : Fin 32) l) :=
  shapeCast_apply _ _ _ _ (by
    rw [Shape.rowMajor_val_three, Shape.rowMajor_val_two]
    show (8 * q.1 + i.1) * 128 + l.1 = (q.1 * 8 + i.1) * 128 + l.1; omega)

/-- The whole scan: every run's pair covers its block up to the run. -/
theorem covers_scan (p h : FVec Ideal S32x128 .f32) (hr : ∀ g : Fin 32, Rep A B (p (ix2 g l)) (h (ix2 g l)) (8 * g.1) 8)
    (q : Fin 4) (i : Fin 8) : Rep A B (pscan p (ix3 q i l)) (hscan h p (ix3 q i l)) (64 * q.1) (8 * (i.1 + 1)) := by
  have c1 : Covers A B l (1#32).toNat (shapeCast S4x8x128 p shapeCasts_S32x128_S4x8x128) (shapeCast S4x8x128 h shapeCasts_S32x128_S4x8x128) := by
    intro q i
    rw [cast3_apply, cast3_apply]
    have r := hr (⟨8 * q.1 + i.1, by omega⟩ : Fin 32)
    have e1 : 64 * q.1 + 8 * (i.1 + 1 - min (i.1 + 1) (1#32).toNat) = 8 * (8 * q.1 + i.1) := by
      show 64 * q.1 + 8 * (i.1 + 1 - min (i.1 + 1) 1) = _; omega
    have e2 : 8 * min (i.1 + 1) (1#32).toNat = 8 := by show 8 * min (i.1 + 1) 1 = 8; omega
    rw [e1, e2]
    exact r
  have c2 : Covers A B l (2#32).toNat _ _ := covers_dbl 1#32 (by decide) _ _ c1
  have c4 : Covers A B l (4#32).toNat _ _ := covers_dbl 2#32 (by decide) _ _ c2
  have c8 : Covers A B l 8 _ _ := covers_dbl 4#32 (by decide) _ _ c4
  have r := c8 q i
  have e : min (i.1 + 1) 8 = i.1 + 1 := by omega
  rw [e, Nat.sub_self, Nat.mul_zero, Nat.add_zero] at r
  exact r

/-- Block `q`, read. -/
theorem block_apply (v : FVec Ideal S4x8x128 .f32) (q : Fin 4) (h : S4x8x128.Slices ![q.1, 0, 0] S1x8x128) (i : Fin 8) :
    block v q.1 h (ix2 i l) = v (ix3 q i l) := by
  unfold block
  refine (shapeCast_apply _ _ _ (ix3 (0 : Fin 1) i l) (by
    rw [Shape.rowMajor_val_three, Shape.rowMajor_val_two]
    show (0 * 8 + i.1) * 128 + l.1 = i.1 * 128 + l.1; omega)).trans ?_
  exact extractStridedSlice_apply _ _ _ _ _ fun a => by
    match a with
    | ⟨0, _⟩ => rfl
    | ⟨1, _⟩ => show i.1 = 0 + i.1; omega
    | ⟨2, _⟩ => show l.1 = 0 + l.1; omega

theorem spread8_apply (v : FVec Ideal S1x128 .f32) (i : Fin 8) :
    broadcastTo S8x128 v broadcasts_S1x128_S8x128 (ix2 i l) = v (ix2 (0 : Fin 1) l) :=
  broadcastTo_apply _ _ _ _ fun a => by
    match a with
    | ⟨0, _⟩ => rfl
    | ⟨1, _⟩ => rfl

theorem last_apply (v : FVec Ideal S8x128 .f32) : last v (ix2 (0 : Fin 1) l) = v (ix2 (7 : Fin 8) l) :=
  extractStridedSlice_apply _ _ _ _ _ fun a => by
    match a with
    | ⟨0, _⟩ => rfl
    | ⟨1, _⟩ => show l.1 = 0 + l.1; omega

/-- The states a block's runs start in. -/
theorem starts_apply (st : FVec Ideal S1x128 .f32) (v : FVec Ideal S8x128 .f32) (i : Fin 8) :
    starts st v (ix2 i l) = if i.1 = 0 then st (ix2 (0 : Fin 1) l) else v (ix2 (⟨i.1 - 1, by omega⟩ : Fin 8) l) := by
  unfold starts
  pointwise
  refine (select_zero i.1 (by omega)).trans ?_
  by_cases h : i.1 = 0
  · rw [if_pos h, if_pos h]
  · rw [if_neg h, if_neg h]
    exact congrArg (fun k => v (ix2 k l)) (Fin.ext (show (i.1 + 8 - 1) % 8 = i.1 - 1 by omega))

section
variable {ht pt : FVec Ideal S4x8x128 .f32} {st : FVec Ideal S1x128 .f32} {x : EReal}
  (hr : ∀ (q : Fin 4) (i : Fin 8), Rep A B (pt (ix3 q i l)) (ht (ix3 q i l)) (64 * q.1) (8 * (i.1 + 1)))
include hr

theorem after_apply (q : Fin 4) (h : S4x8x128.Slices ![q.1, 0, 0] S1x8x128) (st : FVec Ideal S1x128 .f32)
    (hst : st (ix2 (0 : Fin 1) l) = run A B 0 (64 * q.1) x) (i : Fin 8) :
    after ht pt q.1 h st (ix2 i l) = run A B 0 (64 * q.1 + 8 * (i.1 + 1)) x := by
  show block ht q.1 h (ix2 i l) + block pt q.1 h (ix2 i l) * broadcastTo S8x128 st broadcasts_S1x128_S8x128 (ix2 i l) = _
  rw [block_apply, block_apply, spread8_apply, (hr q i).eq, hst, run_add, Nat.zero_add]

variable (hst : st (ix2 (0 : Fin 1) l) = x)
include hst

theorem after0_apply (i : Fin 8) : after0 ht pt st (ix2 i l) = run A B 0 (64 * 0 + 8 * (i.1 + 1)) x :=
  after_apply hr 0 _ st hst i
theorem last0_apply : last (after0 ht pt st) (ix2 (0 : Fin 1) l) = run A B 0 (64 * 1) x :=
  last_apply _ |>.trans (after0_apply hr hst 7)
theorem after1_apply (i : Fin 8) : after1 ht pt st (ix2 i l) = run A B 0 (64 * 1 + 8 * (i.1 + 1)) x :=
  after_apply hr 1 _ _ (last0_apply hr hst) i
theorem last1_apply : last (after1 ht pt st) (ix2 (0 : Fin 1) l) = run A B 0 (64 * 2) x :=
  last_apply _ |>.trans (after1_apply hr hst 7)
theorem after2_apply (i : Fin 8) : after2 ht pt st (ix2 i l) = run A B 0 (64 * 2 + 8 * (i.1 + 1)) x :=
  after_apply hr 2 _ _ (last1_apply hr hst) i
theorem last2_apply : last (after2 ht pt st) (ix2 (0 : Fin 1) l) = run A B 0 (64 * 3) x :=
  last_apply _ |>.trans (after2_apply hr hst 7)
theorem after3_apply (i : Fin 8) : after3 ht pt st (ix2 i l) = run A B 0 (64 * 3 + 8 * (i.1 + 1)) x :=
  after_apply hr 3 _ _ (last2_apply hr hst) i
/-- The state after the part. -/
theorem last3_apply : last (after3 ht pt st) (ix2 (0 : Fin 1) l) = run A B 0 256 x :=
  last_apply _ |>.trans (after3_apply hr hst 7)

omit hr hst in
theorem starts_run (q : ℕ) (s : FVec Ideal S1x128 .f32) (v : FVec Ideal S8x128 .f32)
    (hs : s (ix2 (0 : Fin 1) l) = run A B 0 (64 * q) x)
    (hv : ∀ i : Fin 8, v (ix2 i l) = run A B 0 (64 * q + 8 * (i.1 + 1)) x) (i : Fin 8) :
    starts s v (ix2 i l) = run A B 0 (8 * (8 * q + i.1)) x := by
  rw [starts_apply]
  by_cases h : i.1 = 0
  · rw [if_pos h, hs, h]; congr 1; omega
  · rw [if_neg h, hv]; congr 1; show 64 * q + 8 * (i.1 - 1 + 1) = _; omega

/-- The states the 32 runs start in. -/
theorem incoming_apply (g : Fin 32) : incoming ht pt st (ix2 g l) = run A B 0 (8 * g.1) x := by
  let y : Fin 4 → FVec Ideal S8x128 .f32 := ![starts st (after0 ht pt st), starts (last (after0 ht pt st)) (after1 ht pt st),
    starts (last (after1 ht pt st)) (after2 ht pt st), starts (last (after2 ht pt st)) (after3 ht pt st)]
  have hy : ∀ (q : Fin 4) (i : Fin 8), y q (ix2 i l) = run A B 0 (8 * (8 * q.1 + i.1)) x := fun q i => by
    match q with
    | ⟨0, _⟩ => exact starts_run 0 _ _ hst (after0_apply hr hst) i
    | ⟨1, _⟩ => exact starts_run 1 _ _ (last0_apply hr hst) (after1_apply hr hst) i
    | ⟨2, _⟩ => exact starts_run 2 _ _ (last1_apply hr hst) (after2_apply hr hst) i
    | ⟨3, _⟩ => exact starts_run 3 _ _ (last2_apply hr hst) (after3_apply hr hst) i
  have e := (cat4 y (⟨g.1 / 8, by omega⟩ : Fin 4) (⟨g.1 % 8, by omega⟩ : Fin 8) l).trans (hy _ _)
  have hg : (⟨8 * (g.1 / 8) + g.1 % 8, by omega⟩ : Fin 32) = g := Fin.ext (by show 8 * (g.1 / 8) + g.1 % 8 = g.1; omega)
  have hg' : 8 * (g.1 / 8) + g.1 % 8 = g.1 := by omega
  change concatenate S32x128 0 _ _ (ix2 (⟨8 * (g.1 / 8) + g.1 % 8, _⟩ : Fin 32) l) = run A B 0 (8 * (8 * (g.1 / 8) + g.1 % 8)) x at e
  rw [hg, hg'] at e
  exact e
end

end Cert.PartScan

end
-- ==== Proof.PartOut.lean ====
/- What one part computes: its rows of the result and what it hands the next part. -/
module

public import proofs.«01_k».proof.Proof.PartScan

@[expose] public section

noncomputable section

namespace Cert.PartOut

open Idealize.ShloMosaic Idealize.ShloMosaic.TcCoe Idealize.SL.Sem
open Cert.KernelIdeal Cert.KernelIdeal.Gen Cert.Part Cert.Reads Cert.Conv Cert.Scan Cert.Gates Cert.PartScan

/-- The logistic function is nowhere negative. -/
theorem logistic_nonneg (z : EReal) : 0 ≤ Ideal.logistic z := by
  have e : 0 ≤ Ideal.exp (-z) := by
    induction z with
    | bot => show (0 : EReal) ≤ ⊤; exact le_top
    | top => show (0 : EReal) ≤ 0; exact le_rfl
    | coe r => show (0 : EReal) ≤ ((Real.exp (-r) : ℝ) : EReal); exact_mod_cast (Real.exp_pos _).le
  have h1 : (0 : EReal) < 1 + Ideal.exp (-z) := lt_of_lt_of_le zero_lt_one (le_add_of_nonneg_right e)
  unfold Ideal.logistic Ideal.div
  rw [if_neg h1.ne', one_mul]
  exact EReal.inv_nonneg_of_nonneg h1.le

/-- The decay lies in the unit interval. -/
theorem decay_range {z c : EReal} (hc : 0 ≤ c) : 0 ≤ aS z c ∧ aS z c ≠ ⊤ := by
  have h : 0 ≤ nlaS z c := EReal.mul_nonneg (logistic_nonneg z) hc
  unfold aS
  generalize nlaS z c = n at h
  induction n with
  | bot => exact absurd h (by decide)
  | top => exact ⟨le_refl (0 : EReal), EReal.zero_ne_top⟩
  | coe r =>
    have e : Ideal.exp (0 - (r : EReal)) = ((Real.exp (0 - r) : ℝ) : EReal) := rfl
    rw [e]
    exact ⟨by exact_mod_cast (Real.exp_pos _).le, EReal.coe_ne_top _⟩

/-- The gate's activation. -/
def geluS (g : EReal) : EReal :=
  g * (Ideal.ofBits .f32 0x3F000000#32 * (1 + Ideal.tanh (Ideal.ofBits .f32 0x3F4C422A#32
    * (g + Ideal.ofBits .f32 0x3D372713#32 * (g * (g * g))))))

variable (M : Mems) (W : Weights Ideal) (acc : FVec Ideal S256x512 .f32) (S : Carry Ideal) (L : Lists Ideal)

/-- The decay and the input of a lane at the part's row `r`. -/
def pa (x : Fin 256) (r : ℕ) : EReal := aRow W (fun k => cv W acc S k r) x
def pb (x : Fin 256) (r : ℕ) : EReal := bRow W (fun k => cv W acc S k r) x

theorem decay_uc (g : Fin 32) (j : Fin 8) (x : Fin 256) :
    decay W (uc M W acc S L) (ix2 (place g j) x) = pa W acc S x (8 * g.1 + j.1) := by
  rw [decay_apply]
  exact congrArg (fun u => aRow W u x) (funext fun k => uc_apply M W acc S L g j k)
theorem input_uc (g : Fin 32) (j : Fin 8) (x : Fin 256) :
    input W (uc M W acc S L) (ix2 (place g j) x) = pb W acc S x (8 * g.1 + j.1) := by
  rw [input_apply]
  exact congrArg (fun u => bRow W u x) (funext fun k => uc_apply M W acc S L g j k)

variable (hc : ∀ x : Fin 256, 0 ≤ W.csp (ix2 (0 : Fin 1) x))
include hc

theorem rep_part (sl : Slab) (l : Fin 128) (g : Fin 32) (j : ℕ) (hj : j < 8) :
    Rep (pa W acc S (lane sl l)) (pb W acc S (lane sl l)) (ps sl (decay W (uc M W acc S L)) j hj (ix2 g l))
      (hs sl (decay W (uc M W acc S L)) (input W (uc M W acc S L)) j hj (ix2 g l)) (8 * g.1) (j + 1) :=
  rep_run (fun g j => decay_uc M W acc S L g j _) (fun g j => input_uc M W acc S L g j _)
    (fun r => (decay_range (hc _)).1) (fun r => (decay_range (hc _)).2) g j hj

theorem rep_scan (sl : Slab) (l : Fin 128) (q : Fin 4) (i : Fin 8) :
    Rep (pa W acc S (lane sl l)) (pb W acc S (lane sl l)) (pt W sl (uc M W acc S L) (ix3 q i l))
      (ht W sl (uc M W acc S L) (ix3 q i l)) (64 * q.1) (8 * (i.1 + 1)) :=
  covers_scan _ _ (fun g => rep_part M W acc S L hc sl l g 7 (by decide)) q i

/-- The state of a lane before the part's row `n`. -/
def state (W : Weights Ideal) (acc : FVec Ideal S256x512 .f32) (S : Carry Ideal) (x : Fin 256) (n : ℕ) : EReal :=
  run (pa W acc S x) (pb W acc S x) 0 n (S.h (ix2 (0 : Fin 1) x))

/-- What is stored for a slab. -/
theorem slabOut_apply (sl : Slab) (hsl : IsSlab sl) (g : Fin 32) (j : Fin 8) (l : Fin 128) :
    slabOut M W acc S L sl (uc M W acc S L) j (ix3 (0 : Fin 1) g l)
      = state W acc S (lane sl l) (8 * g.1 + j.1 + 1) * geluS (acc (ix2 (row g j) (⟨256 + (lane sl l).1, by omega⟩ : Fin 512))) := by
  unfold slabOut outRows
  refine (shapeCast_apply _ _ _ (ix2 g l) (by
    rw [Shape.rowMajor_val_three, Shape.rowMajor_val_two]
    show g.1 * 128 + l.1 = (0 * 32 + g.1) * 128 + l.1; omega)).trans ?_
  have hi : incoming (ht W sl (uc M W acc S L)) (pt W sl (uc M W acc S L)) (lanes sl S.h) (ix2 g l)
      = state W acc S (lane sl l) (8 * g.1) :=
    incoming_apply (rep_scan M W acc S L hc sl l) (lanes_apply sl S.h l) g
  have hr := (rep_part M W acc S L hc sl l g j.1 j.2).eq (state W acc S (lane sl l) (8 * g.1))
  show (hs sl _ _ j.1 j.2 (ix2 g l) + ps sl _ j.1 j.2 (ix2 g l) * incoming _ _ _ (ix2 g l)) * gelu (rows M.M17 (G1 acc L) sl j) (ix2 g l) = _
  rw [hi, hr]
  have e : run (pa W acc S (lane sl l)) (pb W acc S (lane sl l)) (8 * g.1) (j.1 + 1) (state W acc S (lane sl l) (8 * g.1))
      = state W acc S (lane sl l) (8 * g.1 + j.1 + 1) := by
    unfold state
    rw [Nat.add_assoc]
    exact ((run_add _ _ 0 (8 * g.1) (j.1 + 1) _).trans (by rw [Nat.zero_add])).symm
  rw [e, ← rows_G1 M acc L sl hsl j g l]
  refine congrArg (state W acc S (lane sl l) (8 * g.1 + j.1 + 1) * ·) ?_
  unfold geluS
  rw [← one_bits]
  rfl

/-- The part's rows of the result. -/
theorem out_apply (r x : Fin 256) :
    out M W acc S L (ix2 r x) = state W acc S x (r.1 + 1) * geluS (acc (ix2 r (⟨256 + x.1, by omega⟩ : Fin 512))) := by
  obtain ⟨sl, l, hsl, rfl⟩ := exists_lane x
  refine (beside_lane (fun sl => shapeCast S256x128 (M.M18.view.readCov (O1 M W acc S L) (whole sl).toLoadRect)
    shapeCasts_S1x256x128_S256x128) r sl hsl l).trans ?_
  refine (readCov_outStores M.M18 L.L5 _ _ sl r l).trans ?_
  have hs := slabOut_apply M W acc S L hc sl hsl (⟨r.1 / 8, by omega⟩ : Fin 32) (⟨r.1 % 8, by omega⟩ : Fin 8) l
  have e1 : 8 * (r.1 / 8) + r.1 % 8 + 1 = r.1 + 1 := by omega
  have e2 : row (⟨r.1 / 8, by omega⟩ : Fin 32) (⟨r.1 % 8, by omega⟩ : Fin 8) = r := Fin.ext (by show 8 * (r.1 / 8) + r.1 % 8 = r.1; omega)
  rw [e2] at hs
  rw [← e1]
  refine Eq.trans ?_ hs
  rcases hsl with rfl | rfl
  · rfl
  · rfl

/-- The state handed on. -/
theorem next_h (x : Fin 256) : (next M W acc S L).h (ix2 (0 : Fin 1) x) = state W acc S x 256 := by
  obtain ⟨sl, l, hsl, rfl⟩ := exists_lane x
  refine (beside1_lane (fun sl => last (after3 (ht W sl (uc M W acc S L)) (pt W sl (uc M W acc S L)) (lanes sl S.h))) (0 : Fin 1) sl hsl l).trans ?_
  exact last3_apply (rep_scan M W acc S L hc sl l) (lanes_apply sl S.h l)

omit hc in
theorem lastRow (sl : Slab) (hsl : IsSlab sl) (j : Fin 8) (l : Fin 128) :
    extractStridedSlice S1x128 ![31, 0] (rows M.M16 (U1 acc L) sl j) slices_S32x128_o31_0_S1x128 (ix2 (0 : Fin 1) l)
      = seq acc S (lane sl l) (8 * 31 + j.1 + 3) := by
  refine (extractStridedSlice_apply _ _ _ _ (ix2 (31 : Fin 32) l) fun a => by
    match a with
    | ⟨0, _⟩ => rfl
    | ⟨1, _⟩ => show l.1 = 0 + l.1; omega).trans ?_
  exact rows_seq M acc S L sl hsl j 31 l

omit hc in
/-- The last three projected rows, handed on. -/
theorem next_rows (j : Fin 8) (x : Fin 256) :
    beside1 (extractStridedSlice S1x128 ![31, 0] (rows M.M16 (U0 acc L) slab0 j) slices_S32x128_o31_0_S1x128)
      (extractStridedSlice S1x128 ![31, 0] (rows M.M16 (U1 acc L) slab1 j) slices_S32x128_o31_0_S1x128) (ix2 (0 : Fin 1) x)
      = seq acc S x (8 * 31 + j.1 + 3) := by
  obtain ⟨sl, l, hsl, rfl⟩ := exists_lane x
  have h := rows_U0 M acc L j
  let f : Slab → FVec Ideal S1x128 .f32 := fun sl =>
    extractStridedSlice S1x128 ![31, 0] (rows M.M16 (U1 acc L) sl j) slices_S32x128_o31_0_S1x128
  have e : beside1 (f slab0) (f slab1) (ix2 (0 : Fin 1) (lane sl l)) = f sl (ix2 (0 : Fin 1) l) :=
    beside1_lane f (0 : Fin 1) sl hsl l
  have e2 := lastRow M acc S L sl hsl j l
  rw [h]
  exact e.trans e2

omit hc in
theorem next_t5 (x : Fin 256) : (next M W acc S L).t5 (ix2 (0 : Fin 1) x) = seq acc S x 256 := next_rows M acc S L 5 x
omit hc in
theorem next_t6 (x : Fin 256) : (next M W acc S L).t6 (ix2 (0 : Fin 1) x) = seq acc S x 257 := next_rows M acc S L 6 x
omit hc in
theorem next_t7 (x : Fin 256) : (next M W acc S L).t7 (ix2 (0 : Fin 1) x) = seq acc S x 258 := next_rows M acc S L 7 x

end Cert.PartOut

end
-- ==== Proof.Tile.lean ====
/- What the four parts of a row tile compute, for a head whose projected rows are a given sequence. -/
module

public import proofs.«01_k».proof.Proof.PartOut
public import Idealize.ShloMosaic.Lib.WritesUnit

@[expose] public section

noncomputable section

namespace Cert.Tile

open Idealize.ShloMosaic Idealize.ShloMosaic.TcCoe Idealize.SL.Sem
open Cert.KernelIdeal Cert.KernelIdeal.Gen Cert.Part Cert.Reads Cert.Conv Cert.Scan Cert.Gates Cert.PartOut

-- A head's weights, the sequence of its projected rows per lane, and the parts' memory.
variable (M : Mems) (W : Weights Ideal) (Up : Fin 256 → ℕ → EReal)

theorem lane_lt (x : Fin 256) : x.1 < 512 := by omega
theorem gate_lt (x : Fin 256) : 256 + x.1 < 512 := by omega
theorem row_lt {p : ℕ} (hp : p < 4) (r : Fin 256) : 256 * p + r.1 < 1024 := by omega

/-- The convolution of a lane at row `n`: row `n + 3` of the padded sequence is the row itself. -/
def cU (x : Fin 256) (n : ℕ) : EReal :=
  Up x (n + 3) * W.cw (ix2 (3 : Fin 4) x) + W.cb (ix2 (0 : Fin 1) x) + Up x (n + 2) * W.cw (ix2 (2 : Fin 4) x)
    + Up x (n + 1) * W.cw (ix2 (1 : Fin 4) x) + Up x n * W.cw (ix2 (0 : Fin 4) x)
/-- The decay and the recurrence's input of a lane at row `n`. -/
def aU (x : Fin 256) (n : ℕ) : EReal := aRow W (fun k => cU W Up k n) x
def bU (x : Fin 256) (n : ℕ) : EReal := bRow W (fun k => cU W Up k n) x
/-- The state of a lane before row `n`. -/
def hU (x : Fin 256) (n : ℕ) : EReal := run (aU W Up x) (bU W Up x) 0 n 0

/-- `S` is what the rows before row `T` hand on. -/
structure At (T : ℕ) (S : Carry Ideal) : Prop where
  t5 : ∀ x : Fin 256, S.t5 (ix2 (0 : Fin 1) x) = Up x T
  t6 : ∀ x : Fin 256, S.t6 (ix2 (0 : Fin 1) x) = Up x (T + 1)
  t7 : ∀ x : Fin 256, S.t7 (ix2 (0 : Fin 1) x) = Up x (T + 2)
  h : ∀ x : Fin 256, S.h (ix2 (0 : Fin 1) x) = hU W Up x T

variable {W Up}

section
variable {T : ℕ} {S : Carry Ideal} (hS : At W Up T S) {acc : FVec Ideal S256x512 .f32}
  (hacc : ∀ r x : Fin 256, acc (ix2 r (⟨x.1, lane_lt x⟩ : Fin 512)) = Up x (T + r.1 + 3)) (L : Lists Ideal)
  (hc : ∀ x : Fin 256, 0 ≤ W.csp (ix2 (0 : Fin 1) x))
include hS hacc

theorem seq_at (x : Fin 256) (n : ℕ) (hn : n < 259) : seq acc S x n = Up x (T + n) := by
  unfold seq
  by_cases h0 : n = 0
  · rw [if_pos h0, hS.t5, h0]; rfl
  rw [if_neg h0]
  by_cases h1 : n = 1
  · rw [if_pos h1, hS.t6, h1]
  rw [if_neg h1]
  by_cases h2 : n = 2
  · rw [if_pos h2, hS.t7, h2]
  rw [if_neg h2, dif_pos (by omega), hacc (⟨n - 3, by omega⟩ : Fin 256) x]
  congr 1
  show T + (n - 3) + 3 = T + n
  omega

theorem cv_at (x : Fin 256) (r : ℕ) (hr : r < 256) : cv W acc S x r = cU W Up x (T + r) := by
  unfold cv cU
  rw [seq_at hS hacc x _ (by omega), seq_at hS hacc x _ (by omega), seq_at hS hacc x _ (by omega), seq_at hS hacc x _ (by omega)]
  rfl

theorem state_at (x : Fin 256) (n : ℕ) (hn : n ≤ 256) : state W acc S x n = hU W Up x (T + n) := by
  unfold state hU
  rw [hS.h x, run_add]
  refine run_congr n _ (fun i hi => ?_) (fun i hi => ?_)
  · show aRow W (fun k => cv W acc S k (0 + i)) x = aRow W (fun k => cU W Up k (0 + T + i)) x
    exact congrArg (fun u => aRow W u x) (funext fun k => by rw [Nat.zero_add, Nat.zero_add, cv_at hS hacc k i (by omega)])
  · show bRow W (fun k => cv W acc S k (0 + i)) x = bRow W (fun k => cU W Up k (0 + T + i)) x
    exact congrArg (fun u => bRow W u x) (funext fun k => by rw [Nat.zero_add, Nat.zero_add, cv_at hS hacc k i (by omega)])

include hc

/-- A part hands on what the rows before its end do. -/
theorem next_at : At W Up (T + 256) (next M W acc S L) where
  t5 x := (next_t5 M W acc S L x).trans (seq_at hS hacc x 256 (by omega))
  t6 x := (next_t6 M W acc S L x).trans (seq_at hS hacc x 257 (by omega))
  t7 x := (next_t7 M W acc S L x).trans (seq_at hS hacc x 258 (by omega))
  h x := (next_h M W acc S L hc x).trans (state_at hS hacc x 256 (by omega))

theorem out_at (r x : Fin 256) : out M W acc S L (ix2 r x)
    = hU W Up x (T + r.1 + 1) * geluS (acc (ix2 r (⟨256 + x.1, gate_lt x⟩ : Fin 512))) := by
  have h := r.2
  rw [out_apply M W acc S L hc r x, state_at hS hacc x (r.1 + 1) (by omega)]
  rfl
end

section
variable {T : ℕ} {S : Carry Ideal} (hS : At W Up T S) {acc : ℕ → FVec Ideal S256x512 .f32}
  (hacc : ∀ p, p < 4 → ∀ r x : Fin 256, acc p (ix2 r (⟨x.1, lane_lt x⟩ : Fin 512)) = Up x (T + 256 * p + r.1 + 3))
  (hc : ∀ x : Fin 256, 0 ≤ W.csp (ix2 (0 : Fin 1) x))
include hS hacc hc

theorem upTo_at : ∀ p, p ≤ 4 → At W Up (T + 256 * p) (upTo M W acc S p).1
  | 0, _ => hS
  | p + 1, h => next_at M (upTo_at p (by omega)) (fun r x => hacc p (by omega) r x) _ hc

/-- Part `p`'s rows of the tile. -/
theorem outAt_at (p : ℕ) (hp : p < 4) (r x : Fin 256) : outAt M W acc S p (ix2 r x)
    = hU W Up x (T + 256 * p + r.1 + 1) * geluS (acc p (ix2 r (⟨256 + x.1, gate_lt x⟩ : Fin 512))) :=
  out_at M (upTo_at M hS hacc hc p (by omega)) (fun r x => hacc p hp r x) _ hc r x

omit hS hacc hc in
/-- The tile's stores, read at a part's row. -/
theorem tile_read {κ : Kind} {sp : Space} (v : View sig κ sp S1024x256 .bf16) (f : v.ty.Contents (Elt Ideal)) (p : ℕ) (hp : p < 4) (r x : Fin 256) :
    v.read (Elt Ideal) (v.writes (Elt Ideal) f (tile M W acc S)) (ix2 (⟨256 * p + r.1, row_lt hp r⟩ : Fin 1024) x)
      = outAt M W acc S p (ix2 r x) := by
  have hr := r.2
  unfold tile
  have hp' : p = 0 ∨ p = 1 ∨ p = 2 ∨ p = 3 := by omega
  rcases hp' with rfl | rfl | rfl | rfl
  · refine (View.read_writes_cons_unit_of_not_mem v f _ _ _ _ rfl (0 : Fin 2) (Or.inl (by show 256 * 0 + r.1 < 768; omega))).trans ?_
    refine (View.read_writes_cons_unit_of_not_mem v f _ _ _ _ rfl (0 : Fin 2) (Or.inl (by show 256 * 0 + r.1 < 512; omega))).trans ?_
    refine (View.read_writes_cons_unit_of_not_mem v f _ _ _ _ rfl (0 : Fin 2) (Or.inl (by show 256 * 0 + r.1 < 256; omega))).trans ?_
    exact View.read_writes_cons_unit_of_mem v f _ _ _ _ (ix2 r x) rfl fun a => by
      match a with
      | ⟨0, _⟩ => show 256 * 0 + r.1 = 0 + r.1; omega
      | ⟨1, _⟩ => show x.1 = 0 + x.1; omega
  · refine (View.read_writes_cons_unit_of_not_mem v f _ _ _ _ rfl (0 : Fin 2) (Or.inl (by show 256 * 1 + r.1 < 768; omega))).trans ?_
    refine (View.read_writes_cons_unit_of_not_mem v f _ _ _ _ rfl (0 : Fin 2) (Or.inl (by show 256 * 1 + r.1 < 512; omega))).trans ?_
    exact View.read_writes_cons_unit_of_mem v f _ _ _ _ (ix2 r x) rfl fun a => by
      match a with
      | ⟨0, _⟩ => show 256 * 1 + r.1 = 256 + r.1; omega
      | ⟨1, _⟩ => show x.1 = 0 + x.1; omega
  · refine (View.read_writes_cons_unit_of_not_mem v f _ _ _ _ rfl (0 : Fin 2) (Or.inl (by show 256 * 2 + r.1 < 768; omega))).trans ?_
    exact View.read_writes_cons_unit_of_mem v f _ _ _ _ (ix2 r x) rfl fun a => by
      match a with
      | ⟨0, _⟩ => show 256 * 2 + r.1 = 512 + r.1; omega
      | ⟨1, _⟩ => show x.1 = 0 + x.1; omega
  · exact View.read_writes_cons_unit_of_mem v f _ _ _ _ (ix2 r x) rfl fun a => by
      match a with
      | ⟨0, _⟩ => show 256 * 3 + r.1 = 768 + r.1; omega
      | ⟨1, _⟩ => show x.1 = 0 + x.1; omega

omit hS hacc hc in
/-- The tail's stores, read at the last three rows. -/
theorem tail_read {κ : Kind} {sp : Space} (v : View sig κ sp S8x256 .f32) (f : v.ty.Contents (Elt Ideal))
    (L : List (View.Piece (Elt Ideal) S8x256 .f32)) (x : Fin 256) :
    v.read (Elt Ideal) (v.writes (Elt Ideal) f (tailStores M W acc S ++ L)) (ix2 (5 : Fin 8) x) = (upTo M W acc S 4).1.t5 (ix2 (0 : Fin 1) x)
    ∧ v.read (Elt Ideal) (v.writes (Elt Ideal) f (tailStores M W acc S ++ L)) (ix2 (6 : Fin 8) x) = (upTo M W acc S 4).1.t6 (ix2 (0 : Fin 1) x)
    ∧ v.read (Elt Ideal) (v.writes (Elt Ideal) f (tailStores M W acc S ++ L)) (ix2 (7 : Fin 8) x) = (upTo M W acc S 4).1.t7 (ix2 (0 : Fin 1) x) := by
  unfold tailStores
  refine ⟨?_, ?_, ?_⟩
  · refine (View.read_writes_cons_unit_of_not_mem v f _ _ _ _ rfl (0 : Fin 2) (Or.inl (by show 5 < 7; omega))).trans ?_
    refine (View.read_writes_cons_unit_of_not_mem v f _ _ _ _ rfl (0 : Fin 2) (Or.inl (by show 5 < 6; omega))).trans ?_
    refine (View.read_writes_cons_unit_of_mem v f _ _ _ _ (ix2 (0 : Fin 1) x) rfl fun a => by
      match a with
      | ⟨0, _⟩ => rfl
      | ⟨1, _⟩ => show x.1 = 0 + x.1; omega).trans ?_
    rw [shapeCast_self]
  · refine (View.read_writes_cons_unit_of_not_mem v f _ _ _ _ rfl (0 : Fin 2) (Or.inl (by show 6 < 7; omega))).trans ?_
    refine (View.read_writes_cons_unit_of_mem v f _ _ _ _ (ix2 (0 : Fin 1) x) rfl fun a => by
      match a with
      | ⟨0, _⟩ => rfl
      | ⟨1, _⟩ => show x.1 = 0 + x.1; omega).trans ?_
    rw [shapeCast_self]
  · refine (View.read_writes_cons_unit_of_mem v f _ _ _ _ (ix2 (0 : Fin 1) x) rfl fun a => by
      match a with
      | ⟨0, _⟩ => rfl
      | ⟨1, _⟩ => show x.1 = 0 + x.1; omega).trans ?_
    rw [shapeCast_self]

omit hS hacc hc in
/-- The state's store, read. -/
theorem carry_read {κ : Kind} {sp : Space} (v : View sig κ sp S1x256 .f32) (f : v.ty.Contents (Elt Ideal))
    (L : List (View.Piece (Elt Ideal) S1x256 .f32)) (x : Fin 256) :
    v.read (Elt Ideal) (v.writes (Elt Ideal) f (carryStores M W acc S ++ L)) (ix2 (0 : Fin 1) x) = (upTo M W acc S 4).1.h (ix2 (0 : Fin 1) x) := by
  unfold carryStores
  refine (View.read_writes_cons_unit_of_mem v f _ _ _ _ (ix2 (0 : Fin 1) x) rfl fun a => by
    match a with
    | ⟨0, _⟩ => rfl
    | ⟨1, _⟩ => show x.1 = 0 + x.1; omega).trans ?_
  rw [shapeCast_self]
end

end Cert.Tile

end
-- ==== Proof.Spec.lean ====
/- The block over the extended reals, row by row: what both programs compute. -/
module

public import proofs.«01_k».proof.Proof.Tile

@[expose] public section

noncomputable section

namespace Cert.Spec

open Idealize.ShloMosaic Idealize.ShloMosaic.TcCoe Idealize.SL.Sem
open Cert.Scan Cert.Gates Cert.PartOut Cert.Part Cert.Tile

/-- The arguments: the activations, the projection's matrix, the convolution's taps and bias, the gates' matrices and
    biases per head, and the decay's parameter. -/
structure Args where
  x : Fin 2 → Fin 8192 → Fin 4096 → EReal
  w : Fin 4096 → Fin 18432 → EReal
  cw : Fin 4 → Fin 4096 → EReal
  cb : Fin 4096 → EReal
  wr : Fin 16 → Fin 256 → Fin 256 → EReal
  br : Fin 4096 → EReal
  wi : Fin 16 → Fin 256 → Fin 256 → EReal
  bi : Fin 4096 → EReal
  lam : Fin 4096 → EReal

/-- The arguments of nine arrays. -/
def Args.of (a0 : (⟨3, ![2, 8192, 4096]⟩ : Shape).Idx → EReal) (a1 : (⟨3, ![1, 4096, 18432]⟩ : Shape).Idx → EReal)
    (a2 : (⟨3, ![1, 4, 4096]⟩ : Shape).Idx → EReal) (a3 : (⟨2, ![1, 4096]⟩ : Shape).Idx → EReal)
    (a4 : (⟨4, ![1, 16, 256, 256]⟩ : Shape).Idx → EReal) (a5 : (⟨2, ![1, 4096]⟩ : Shape).Idx → EReal)
    (a6 : (⟨4, ![1, 16, 256, 256]⟩ : Shape).Idx → EReal) (a7 a8 : (⟨2, ![1, 4096]⟩ : Shape).Idx → EReal) : Args where
  x b s k := a0 (ix3 b s k)
  w k j := a1 (ix3 (0 : Fin 1) k j)
  cw k j := a2 (ix3 (0 : Fin 1) k j)
  cb j := a3 (ix2 (0 : Fin 1) j)
  wr h i j := a4 (ix4 (0 : Fin 1) h i j)
  br j := a5 (ix2 (0 : Fin 1) j)
  wi h i j := a6 (ix4 (0 : Fin 1) h i j)
  bi j := a7 (ix2 (0 : Fin 1) j)
  lam j := a8 (ix2 (0 : Fin 1) j)

/-- Lane `x` of head `h`. -/
def col (h : Fin 16) (x : Fin 256) : Fin 4096 := ⟨256 * h.1 + x.1, by omega⟩

/-- The softplus function. -/
def spS (v : EReal) : EReal := max v 0 + Ideal.log1p (Ideal.exp (-(max v (-v))))
/-- The decay's scale. -/
def cspS (lam : EReal) : EReal := Ideal.ofBits .f32 0x41000000#32 * spS (-lam)

theorem eight_bits : Ideal.ofBits .f32 0x41000000#32 = 8 := by
  simp [Ideal.ofBits, Ideal.ieee]
  rw [← EReal.coe_mul]
  norm_num
  rfl

theorem exp_nonneg (v : EReal) : 0 ≤ Ideal.exp v := by
  induction v with
  | bot => exact le_refl (0 : EReal)
  | top => exact (le_top : (0 : EReal) ≤ ⊤)
  | coe r => show (0 : EReal) ≤ ((Real.exp r : ℝ) : EReal); exact_mod_cast (Real.exp_pos _).le

theorem log1p_nonneg {v : EReal} (h : 0 ≤ v) : 0 ≤ Ideal.log1p v := by
  unfold Ideal.log1p
  have h1 : (1 : EReal) ≤ 1 + v := le_add_of_nonneg_right h
  generalize 1 + v = y at h1
  induction y with
  | bot => exact absurd h1 (by decide)
  | top => exact (le_top : (0 : EReal) ≤ ⊤)
  | coe r =>
    have hr : (1 : ℝ) ≤ r := by exact_mod_cast h1
    show (0 : EReal) ≤ if r ≤ 0 then ⊥ else ((Real.log r : ℝ) : EReal)
    rw [if_neg (by linarith)]
    exact_mod_cast Real.log_nonneg hr

theorem spS_nonneg (v : EReal) : 0 ≤ spS v := add_nonneg (le_max_right _ _) (log1p_nonneg (exp_nonneg _))

theorem cspS_nonneg (lam : EReal) : 0 ≤ cspS lam := by
  unfold cspS
  rw [eight_bits]
  exact EReal.mul_nonneg (by norm_num) (spS_nonneg _)

variable (A : Args)

/-- The projection. -/
def proj (b : Fin 2) (s : Fin 8192) (j : Fin 18432) : EReal := ∑ k : Fin 4096, A.x b s k * A.w k j

/-- A lane's projected rows, three rows of zeros in front. -/
def up (b : Fin 2) (h : Fin 16) (x : Fin 256) (n : ℕ) : EReal :=
  if n < 3 then 0 else if hn : n - 3 < 8192 then proj A b ⟨n - 3, hn⟩ ⟨256 * h.1 + x.1, by omega⟩ else 0

/-- The gate's projected row. -/
def gate (b : Fin 2) (h : Fin 16) (x : Fin 256) (s : Fin 8192) : EReal := proj A b s ⟨4096 + (256 * h.1 + x.1), by omega⟩

/-- The convolution at row `n`. -/
def conv (b : Fin 2) (h : Fin 16) (x : Fin 256) (n : ℕ) : EReal :=
  up A b h x (n + 3) * A.cw 3 (col h x) + A.cb (col h x) + up A b h x (n + 2) * A.cw 2 (col h x)
    + up A b h x (n + 1) * A.cw 1 (col h x) + up A b h x n * A.cw 0 (col h x)

/-- A gate's argument at row `n`. -/
def logit (w : Fin 16 → Fin 256 → Fin 256 → EReal) (bias : Fin 4096 → EReal) (b : Fin 2) (h : Fin 16) (x : Fin 256) (n : ℕ) : EReal :=
  ∑ k : Fin 256, conv A b h k n * w h k x + bias (col h x)

/-- The decay and the recurrence's input at row `n`. -/
def dec (b : Fin 2) (h : Fin 16) (x : Fin 256) (n : ℕ) : EReal := aS (logit A A.wr A.br b h x n) (cspS (A.lam (col h x)))
def inp (b : Fin 2) (h : Fin 16) (x : Fin 256) (n : ℕ) : EReal :=
  rootS (s2S (logit A A.wr A.br b h x n) (cspS (A.lam (col h x)))) * (Ideal.logistic (logit A A.wi A.bi b h x n) * conv A b h x n)

/-- The state before row `n`. -/
def hid (b : Fin 2) (h : Fin 16) (x : Fin 256) (n : ℕ) : EReal := run (dec A b h x) (inp A b h x) 0 n 0

/-- The result at row `s` of sequence `b`. -/
def res (b : Fin 2) (s : Fin 8192) (h : Fin 16) (x : Fin 256) : EReal := hid A b h x (s.1 + 1) * geluS (gate A b h x s)

variable {A}

/-- The weights a point loads are head `h`'s. -/
structure IsHead (A : Args) (h : Fin 16) (W : Weights Ideal) : Prop where
  cw : ∀ (k : Fin 4) (x : Fin 256), W.cw (ix2 k x) = A.cw k (col h x)
  cb : ∀ x : Fin 256, W.cb (ix2 (0 : Fin 1) x) = A.cb (col h x)
  wr : ∀ k x : Fin 256, W.wr (ix2 k x) = A.wr h k x
  wi : ∀ k x : Fin 256, W.wi (ix2 k x) = A.wi h k x
  br : ∀ x : Fin 256, W.br (ix2 (0 : Fin 1) x) = A.br (col h x)
  bi : ∀ x : Fin 256, W.bi (ix2 (0 : Fin 1) x) = A.bi (col h x)
  csp : ∀ x : Fin 256, W.csp (ix2 (0 : Fin 1) x) = cspS (A.lam (col h x))

variable {h : Fin 16} {W : Weights Ideal} (hW : IsHead A h W) (b : Fin 2)
include hW

theorem cU_eq (x : Fin 256) (n : ℕ) : cU W (up A b h) x n = conv A b h x n := by
  unfold cU conv
  rw [hW.cw, hW.cw, hW.cw, hW.cw, hW.cb]

theorem zS_r (x : Fin 256) (n : ℕ) : zS W.wr W.br (fun k => cU W (up A b h) k n) x = logit A A.wr A.br b h x n := by
  unfold zS logit
  rw [hW.br]
  refine congrArg (· + A.br (col h x)) (Finset.sum_congr rfl fun k _ => ?_)
  rw [hW.wr]
  exact congrArg (· * A.wr h k x) (cU_eq hW b k n)

theorem zS_i (x : Fin 256) (n : ℕ) : zS W.wi W.bi (fun k => cU W (up A b h) k n) x = logit A A.wi A.bi b h x n := by
  unfold zS logit
  rw [hW.bi]
  refine congrArg (· + A.bi (col h x)) (Finset.sum_congr rfl fun k _ => ?_)
  rw [hW.wi]
  exact congrArg (· * A.wi h k x) (cU_eq hW b k n)

theorem hU_eq (x : Fin 256) (n : ℕ) : hU W (up A b h) x n = hid A b h x n := by
  unfold hU hid
  have ea : aU W (up A b h) x = dec A b h x := funext fun n => by
    unfold aU dec aRow
    rw [zS_r hW b x n, hW.csp]
  have eb : bU W (up A b h) x = inp A b h x := funext fun n => by
    unfold bU inp bRow
    rw [zS_r hW b x n, zS_i hW b x n, hW.csp]
    exact congrArg (fun u => _ * (_ * u)) (cU_eq hW b x n)
  rw [ea, eb]

theorem csp_nonneg (x : Fin 256) : 0 ≤ W.csp (ix2 (0 : Fin 1) x) := (hW.csp x).symm ▸ cspS_nonneg _

end Cert.Spec

end
-- ==== Proof.Blocks.lean ====
/- The blocks of the arguments a grid point loads, read at an index. -/
module

public import proofs.«01_k».proof.Proof.Point
public import proofs.«01_k».proof.Proof.Spec

@[expose] public section

noncomputable section

namespace Cert.Blocks

open Idealize.ShloMosaic Idealize.ShloMosaic.TcCoe Idealize.SL.Sem
open Cert.KernelIdeal Cert.KernelIdeal.Gen Cert.Part Cert.Point Cert.Spec

variable (m : (ℓ : Loc nD τ sig) → Buf (Elt Ideal) ℓ) (c : Dev nD) (t : Fin cfg0.N)

/-- The arguments as launched. -/
def args : Args := Args.of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))

theorem t_lt : t.1 < 256 := lt_of_lt_of_eq t.2 N_0

/-- The point's head. -/
def head : Fin 16 := ⟨t.1 / 16, by have := t_lt t; omega⟩
/-- The point's sequence. -/
def batch : Fin 2 := ⟨t.1 % 16 / 8, by omega⟩

theorem V0 : V m c main_v0 = shapeCast S16384x4096 (m ((c : Thread nD τ).loc main_arg0)) shapeCasts_S2x8192x4096_S16384x4096 := by
  show StableHlo.after hostOps0 _ (Proc.devRef .tc main_v0) = _
  after_results
  rfl
theorem V1 : V m c main_v1 = shapeCast S4096x18432 (m ((c : Thread nD τ).loc main_arg1)) shapeCasts_S1x4096x18432_S4096x18432 := by
  show StableHlo.after hostOps0 _ (Proc.devRef .tc main_v1) = _
  after_results
  rfl
theorem V2 : V m c main_v2 = shapeCast S4x4096 (m ((c : Thread nD τ).loc main_arg2)) shapeCasts_S1x4x4096_S4x4096 := by
  show StableHlo.after hostOps0 _ (Proc.devRef .tc main_v2) = _
  after_results
  rfl
theorem V4 : V m c main_v4 = shapeCast S16x256x256 (m ((c : Thread nD τ).loc main_arg4)) shapeCasts_S1x16x256x256_S16x256x256 := by
  show StableHlo.after hostOps0 _ (Proc.devRef .tc main_v4) = _
  after_results
  rfl
theorem V6 : V m c main_v6 = shapeCast S16x256x256 (m ((c : Thread nD τ).loc main_arg6)) shapeCasts_S1x16x256x256_S16x256x256 := by
  show StableHlo.after hostOps0 _ (Proc.devRef .tc main_v6) = _
  after_results
  rfl
theorem V9 : V m c main_v9 = shapeCast S1x4096 (shapeCast S4096 (m ((c : Thread nD τ).loc main_arg3)) shapeCasts_S1x4096_S4096) shapeCasts_S4096_S1x4096 := by
  show StableHlo.after hostOps0 _ (Proc.devRef .tc main_v9) = _
  after_results
  rfl
theorem V10 : V m c main_v10 = shapeCast S1x4096 (shapeCast S4096 (m ((c : Thread nD τ).loc main_arg5)) shapeCasts_S1x4096_S4096) shapeCasts_S4096_S1x4096 := by
  show StableHlo.after hostOps0 _ (Proc.devRef .tc main_v10) = _
  after_results
  rfl
theorem V11 : V m c main_v11 = shapeCast S1x4096 (shapeCast S4096 (m ((c : Thread nD τ).loc main_arg7)) shapeCasts_S1x4096_S4096) shapeCasts_S4096_S1x4096 := by
  show StableHlo.after hostOps0 _ (Proc.devRef .tc main_v11) = _
  after_results
  rfl
theorem V12 : V m c main_v12 = shapeCast S1x4096 (shapeCast S4096 (m ((c : Thread nD τ).loc main_arg8)) shapeCasts_S1x4096_S4096) shapeCasts_S4096_S1x4096 := by
  show StableHlo.after hostOps0 _ (Proc.devRef .tc main_v12) = _
  after_results
  rfl

/-- The blocks' places, per window. -/
theorem place0 : ∀ t : Fin cfg0.N, win0_0.index t (0 : Fin 2) = t.1 % 16 ∧ win0_0.index t (1 : Fin 2) = 0 := (by decide +kernel : ∀ t : Fin grid0.N, _)
theorem place1 : ∀ t : Fin cfg0.N, win0_1.index t (0 : Fin 2) = 0 ∧ win0_1.index t (1 : Fin 2) = t.1 / 16 := (by decide +kernel : ∀ t : Fin grid0.N, _)
theorem place2 : ∀ t : Fin cfg0.N, win0_2.index t (0 : Fin 2) = 0 ∧ win0_2.index t (1 : Fin 2) = 16 + t.1 / 16 := (by decide +kernel : ∀ t : Fin grid0.N, _)
theorem place3 : ∀ t : Fin cfg0.N, win0_3.index t (0 : Fin 2) = 0 ∧ win0_3.index t (1 : Fin 2) = t.1 / 16 := (by decide +kernel : ∀ t : Fin grid0.N, _)
theorem place4 : ∀ t : Fin cfg0.N, win0_4.index t (0 : Fin 2) = 0 ∧ win0_4.index t (1 : Fin 2) = t.1 / 16 := (by decide +kernel : ∀ t : Fin grid0.N, _)
theorem place5 : ∀ t : Fin cfg0.N, win0_5.index t (0 : Fin 3) = t.1 / 16 ∧ win0_5.index t (1 : Fin 3) = 0 ∧ win0_5.index t (2 : Fin 3) = 0 := (by decide +kernel : ∀ t : Fin grid0.N, _)
theorem place6 : ∀ t : Fin cfg0.N, win0_6.index t (0 : Fin 2) = 0 ∧ win0_6.index t (1 : Fin 2) = t.1 / 16 := (by decide +kernel : ∀ t : Fin grid0.N, _)
theorem place7 : ∀ t : Fin cfg0.N, win0_7.index t (0 : Fin 3) = t.1 / 16 ∧ win0_7.index t (1 : Fin 3) = 0 ∧ win0_7.index t (2 : Fin 3) = 0 := (by decide +kernel : ∀ t : Fin grid0.N, _)
theorem place8 : ∀ t : Fin cfg0.N, win0_8.index t (0 : Fin 2) = 0 ∧ win0_8.index t (1 : Fin 2) = t.1 / 16 := (by decide +kernel : ∀ t : Fin grid0.N, _)
theorem place9 : ∀ t : Fin cfg0.N, win0_9.index t (0 : Fin 2) = 0 ∧ win0_9.index t (1 : Fin 2) = t.1 / 16 := (by decide +kernel : ∀ t : Fin grid0.N, _)

/-- A row vector's array after its two reshapes. -/
theorem row_cast (v : FVec Ideal S1x4096 .f32) (j : Fin 4096) :
    shapeCast S1x4096 (shapeCast S4096 v shapeCasts_S1x4096_S4096) shapeCasts_S4096_S1x4096 (ix2 (0 : Fin 1) j) = v (ix2 (0 : Fin 1) j) := by
  refine (shapeCast_apply _ _ _ (ix1 j) (by
    rw [Shape.rowMajor_val_one, Shape.rowMajor_val_two]; show j.1 = 0 * 4096 + j.1; omega)).trans ?_
  exact shapeCast_apply _ _ _ (ix2 (0 : Fin 1) j) (by
    rw [Shape.rowMajor_val_one, Shape.rowMajor_val_two]; show 0 * 4096 + j.1 = j.1; omega)

/-- Row `r` of the point's 1024 rows of activations. -/
theorem blk0 (r : Fin 1024) (k : Fin 4096) : (iblk m c 0 t : Vec Ideal S1024x4096 .bf16) (ix2 r k)
    = (args m c).x (batch t) ⟨1024 * (t.1 % 8) + r.1, by omega⟩ k := by
  obtain ⟨e0, e1⟩ := place0 t
  have ht := t_lt t
  have hi : ((cfg0.win 0).blk t).view.emb (ix2 r k) = (ix2 (⟨1024 * (t.1 % 16) + r.1, by omega⟩ : Fin 16384) k : S16384x4096.Idx) := by
    funext a; apply Fin.ext
    match a with
    | ⟨0, _⟩ => show win0_0.index t (0 : Fin 2) * 1024 + 1 * r.1 = 1024 * (t.1 % 16) + r.1; rw [e0]; omega
    | ⟨1, _⟩ => show win0_0.index t (1 : Fin 2) * 4096 + 1 * k.1 = k.1; rw [e1]; omega
  show V m c main_v0 (((cfg0.win 0).blk t).view.emb (ix2 r k)) = _
  rw [hi, V0]
  refine shapeCast_apply _ _ _ (ix3 (batch t) (⟨1024 * (t.1 % 8) + r.1, by omega⟩ : Fin 8192) k) ?_
  rw [Shape.rowMajor_val_two, Shape.rowMajor_val_three]
  show (t.1 % 16 / 8 * 8192 + (1024 * (t.1 % 8) + r.1)) * 4096 + k.1 = (1024 * (t.1 % 16) + r.1) * 4096 + k.1
  omega

theorem blk1 (k : Fin 4096) (x : Fin 256) : (iblk m c 1 t : Vec Ideal S4096x256 .f32) (ix2 k x)
    = (args m c).w k ⟨256 * (head t).1 + x.1, by omega⟩ := by
  obtain ⟨e0, e1⟩ := place1 t
  have ht := t_lt t
  have hi : ((cfg0.win 1).blk t).view.emb (ix2 k x) = (ix2 k (⟨256 * (head t).1 + x.1, by omega⟩ : Fin 18432) : S4096x18432.Idx) := by
    funext a; apply Fin.ext
    match a with
    | ⟨0, _⟩ => show win0_1.index t (0 : Fin 2) * 4096 + 1 * k.1 = k.1; rw [e0]; omega
    | ⟨1, _⟩ => show win0_1.index t (1 : Fin 2) * 256 + 1 * x.1 = 256 * (t.1 / 16) + x.1; rw [e1]; omega
  show V m c main_v1 (((cfg0.win 1).blk t).view.emb (ix2 k x)) = _
  rw [hi, V1]
  refine shapeCast_apply _ _ _ (ix3 (0 : Fin 1) k (⟨256 * (head t).1 + x.1, by omega⟩ : Fin 18432)) ?_
  rw [Shape.rowMajor_val_two, Shape.rowMajor_val_three]
  show (0 * 4096 + k.1) * 18432 + (256 * (t.1 / 16) + x.1) = k.1 * 18432 + (256 * (t.1 / 16) + x.1)
  omega

theorem blk2 (k : Fin 4096) (x : Fin 256) : (iblk m c 2 t : Vec Ideal S4096x256 .f32) (ix2 k x)
    = (args m c).w k ⟨4096 + (256 * (head t).1 + x.1), by omega⟩ := by
  obtain ⟨e0, e1⟩ := place2 t
  have ht := t_lt t
  have hi : ((cfg0.win 2).blk t).view.emb (ix2 k x) = (ix2 k (⟨4096 + (256 * (head t).1 + x.1), by omega⟩ : Fin 18432) : S4096x18432.Idx) := by
    funext a; apply Fin.ext
    match a with
    | ⟨0, _⟩ => show win0_2.index t (0 : Fin 2) * 4096 + 1 * k.1 = k.1; rw [e0]; omega
    | ⟨1, _⟩ => show win0_2.index t (1 : Fin 2) * 256 + 1 * x.1 = 4096 + (256 * (t.1 / 16) + x.1); rw [e1]; omega
  show V m c main_v1 (((cfg0.win 2).blk t).view.emb (ix2 k x)) = _
  rw [hi, V1]
  refine shapeCast_apply _ _ _ (ix3 (0 : Fin 1) k (⟨4096 + (256 * (head t).1 + x.1), by omega⟩ : Fin 18432)) ?_
  rw [Shape.rowMajor_val_two, Shape.rowMajor_val_three]
  show (0 * 4096 + k.1) * 18432 + (4096 + (256 * (t.1 / 16) + x.1)) = k.1 * 18432 + (4096 + (256 * (t.1 / 16) + x.1))
  omega

theorem blk3 (k : Fin 4) (x : Fin 256) : (iblk m c 3 t : Vec Ideal S4x256 .f32) (ix2 k x) = (args m c).cw k (col (head t) x) := by
  obtain ⟨e0, e1⟩ := place3 t
  have hi : ((cfg0.win 3).blk t).view.emb (ix2 k x) = (ix2 k (col (head t) x) : S4x4096.Idx) := by
    funext a; apply Fin.ext
    match a with
    | ⟨0, _⟩ => show win0_3.index t (0 : Fin 2) * 4 + 1 * k.1 = k.1; rw [e0]; omega
    | ⟨1, _⟩ => show win0_3.index t (1 : Fin 2) * 256 + 1 * x.1 = 256 * (t.1 / 16) + x.1; rw [e1]; omega
  show V m c main_v2 (((cfg0.win 3).blk t).view.emb (ix2 k x)) = _
  rw [hi, V2]
  refine shapeCast_apply _ _ _ (ix3 (0 : Fin 1) k (col (head t) x)) ?_
  rw [Shape.rowMajor_val_two, Shape.rowMajor_val_three]
  show (0 * 4 + k.1) * 4096 + (col (head t) x).1 = k.1 * 4096 + (col (head t) x).1
  omega

theorem blk4 (x : Fin 256) : (iblk m c 4 t : Vec Ideal S1x256 .f32) (ix2 (0 : Fin 1) x) = (args m c).cb (col (head t) x) := by
  obtain ⟨e0, e1⟩ := place4 t
  have hi : ((cfg0.win 4).blk t).view.emb (ix2 (0 : Fin 1) x) = (ix2 (0 : Fin 1) (col (head t) x) : S1x4096.Idx) := by
    funext a; apply Fin.ext
    match a with
    | ⟨0, _⟩ => show win0_4.index t (0 : Fin 2) * 1 + 1 * 0 = 0; rw [e0]
    | ⟨1, _⟩ => show win0_4.index t (1 : Fin 2) * 256 + 1 * x.1 = 256 * (t.1 / 16) + x.1; rw [e1]; omega
  show V m c main_v9 (((cfg0.win 4).blk t).view.emb (ix2 (0 : Fin 1) x)) = _
  rw [hi, V9]
  exact row_cast _ _

theorem blk6 (x : Fin 256) : (iblk m c 6 t : Vec Ideal S1x256 .f32) (ix2 (0 : Fin 1) x) = (args m c).br (col (head t) x) := by
  obtain ⟨e0, e1⟩ := place6 t
  have hi : ((cfg0.win 6).blk t).view.emb (ix2 (0 : Fin 1) x) = (ix2 (0 : Fin 1) (col (head t) x) : S1x4096.Idx) := by
    funext a; apply Fin.ext
    match a with
    | ⟨0, _⟩ => show win0_6.index t (0 : Fin 2) * 1 + 1 * 0 = 0; rw [e0]
    | ⟨1, _⟩ => show win0_6.index t (1 : Fin 2) * 256 + 1 * x.1 = 256 * (t.1 / 16) + x.1; rw [e1]; omega
  show V m c main_v10 (((cfg0.win 6).blk t).view.emb (ix2 (0 : Fin 1) x)) = _
  rw [hi, V10]
  exact row_cast _ _

theorem blk8 (x : Fin 256) : (iblk m c 8 t : Vec Ideal S1x256 .f32) (ix2 (0 : Fin 1) x) = (args m c).bi (col (head t) x) := by
  obtain ⟨e0, e1⟩ := place8 t
  have hi : ((cfg0.win 8).blk t).view.emb (ix2 (0 : Fin 1) x) = (ix2 (0 : Fin 1) (col (head t) x) : S1x4096.Idx) := by
    funext a; apply Fin.ext
    match a with
    | ⟨0, _⟩ => show win0_8.index t (0 : Fin 2) * 1 + 1 * 0 = 0; rw [e0]
    | ⟨1, _⟩ => show win0_8.index t (1 : Fin 2) * 256 + 1 * x.1 = 256 * (t.1 / 16) + x.1; rw [e1]; omega
  show V m c main_v11 (((cfg0.win 8).blk t).view.emb (ix2 (0 : Fin 1) x)) = _
  rw [hi, V11]
  exact row_cast _ _

theorem blk9 (x : Fin 256) : (iblk m c 9 t : Vec Ideal S1x256 .f32) (ix2 (0 : Fin 1) x) = (args m c).lam (col (head t) x) := by
  obtain ⟨e0, e1⟩ := place9 t
  have hi : ((cfg0.win 9).blk t).view.emb (ix2 (0 : Fin 1) x) = (ix2 (0 : Fin 1) (col (head t) x) : S1x4096.Idx) := by
    funext a; apply Fin.ext
    match a with
    | ⟨0, _⟩ => show win0_9.index t (0 : Fin 2) * 1 + 1 * 0 = 0; rw [e0]
    | ⟨1, _⟩ => show win0_9.index t (1 : Fin 2) * 256 + 1 * x.1 = 256 * (t.1 / 16) + x.1; rw [e1]; omega
  show V m c main_v12 (((cfg0.win 9).blk t).view.emb (ix2 (0 : Fin 1) x)) = _
  rw [hi, V12]
  exact row_cast _ _

/-- A gate's array of matrices, read at a head. -/
theorem mat_cast (v : FVec Ideal S1x16x256x256 .f32) (h : Fin 16) (k x : Fin 256) :
    shapeCast S16x256x256 v shapeCasts_S1x16x256x256_S16x256x256 (ix3 h k x) = v (ix4 (0 : Fin 1) h k x) :=
  shapeCast_apply _ _ _ _ (by
    rw [Shape.rowMajor_val_three, Shape.rowMajor_val_four]
    show ((0 * 16 + h.1) * 256 + k.1) * 256 + x.1 = (h.1 * 256 + k.1) * 256 + x.1; omega)

theorem blk5 (k x : Fin 256) : (iblk m c 5 t : Vec Ideal S1x256x256 .f32) (ix3 (0 : Fin 1) k x) = (args m c).wr (head t) k x := by
  obtain ⟨e0, e1, e2⟩ := place5 t
  have hi : ((cfg0.win 5).blk t).view.emb (ix3 (0 : Fin 1) k x) = (ix3 (head t) k x : S16x256x256.Idx) := by
    funext a; apply Fin.ext
    match a with
    | ⟨0, _⟩ => show win0_5.index t (0 : Fin 3) * 1 + 1 * 0 = t.1 / 16; rw [e0]; omega
    | ⟨1, _⟩ => show win0_5.index t (1 : Fin 3) * 256 + 1 * k.1 = k.1; rw [e1]; omega
    | ⟨2, _⟩ => show win0_5.index t (2 : Fin 3) * 256 + 1 * x.1 = x.1; rw [e2]; omega
  show V m c main_v4 (((cfg0.win 5).blk t).view.emb (ix3 (0 : Fin 1) k x)) = _
  rw [hi, V4]
  exact mat_cast _ _ _ _

theorem blk7 (k x : Fin 256) : (iblk m c 7 t : Vec Ideal S1x256x256 .f32) (ix3 (0 : Fin 1) k x) = (args m c).wi (head t) k x := by
  obtain ⟨e0, e1, e2⟩ := place7 t
  have hi : ((cfg0.win 7).blk t).view.emb (ix3 (0 : Fin 1) k x) = (ix3 (head t) k x : S16x256x256.Idx) := by
    funext a; apply Fin.ext
    match a with
    | ⟨0, _⟩ => show win0_7.index t (0 : Fin 3) * 1 + 1 * 0 = t.1 / 16; rw [e0]; omega
    | ⟨1, _⟩ => show win0_7.index t (1 : Fin 3) * 256 + 1 * k.1 = k.1; rw [e1]; omega
    | ⟨2, _⟩ => show win0_7.index t (2 : Fin 3) * 256 + 1 * x.1 = x.1; rw [e2]; omega
  show V m c main_v6 (((cfg0.win 7).blk t).view.emb (ix3 (0 : Fin 1) k x)) = _
  rw [hi, V6]
  exact mat_cast _ _ _ _

end Cert.Blocks

end
-- ==== Proof.Loads.lean ====
/- What a grid point's loads hold: the head's weights, the stacked projection matrix, and the projected rows. -/
module

public import proofs.«01_k».proof.Proof.Blocks
public import Idealize.ShloMosaic.Lib.MatmulPlain
public import Idealize.ShloMosaic.Lib.Pointwise

@[expose] public section

noncomputable section

namespace Cert.Loads

open Idealize.ShloMosaic Idealize.ShloMosaic.TcCoe Idealize.SL.Sem
open Cert.KernelIdeal Cert.KernelIdeal.Gen Cert.Part Cert.Point Cert.Spec Cert.Blocks Cert.Gates

/-- A load from a memref that holds `X`. -/
theorem load_apply {κ : Kind} {sp : Space} {s : Shape} {e : EltTy} {M : Memref sig κ sp s e} (h : M.IsWhole)
    (X : s.Idx → Elt Ideal e) (r : LoadRect s) (y : r.shape.Idx) (i : s.Idx) (hi : r.idx y = i) :
    View.readAt (Elt Ideal) M.view r (h.unread X) y = X i := by
  subst hi
  exact congrFun (h.read_unread X) (r.idx y)

/-- The place a load's box reads at an index. -/
theorem idx2 {A B a b o p : ℕ} (inb : ∀ k, (![o, p] : Fin 2 → ℕ) k + (![a, b] : Fin 2 → ℕ) k ≤ (⟨2, ![A, B]⟩ : Shape).size k)
    (x : Fin a) (y : Fin b) (hx : o + x.1 < A) (hy : p + y.1 < B) :
    (Rect.unit (s := ⟨2, ![A, B]⟩) ![o, p] ![a, b] inb).toLoadRect.idx (ix2 x y) = ix2 (⟨o + x.1, hx⟩ : Fin A) (⟨p + y.1, hy⟩ : Fin B) := by
  funext k; apply Fin.ext
  match k with
  | ⟨0, _⟩ => show o + 1 * x.1 = o + x.1; omega
  | ⟨1, _⟩ => show p + 1 * y.1 = p + y.1; omega

variable (m : (ℓ : Loc nD τ sig) → Buf (Elt Ideal) ℓ) (c : Dev nD) (t : Fin cfg0.N)

/-- No value differs from itself. -/
theorem select_self (d a b : EReal) : Scalar.select (Ideal.cmp .one d d) a b = b := by
  simp [Scalar.select, Ideal.cmp]

/-! What the loads are put through: casts that change no value. -/
theorem pay7_apply (v : Vec Ideal S4x256 .f32) (i : S4x256.Idx) : k0_pay7 (F := Ideal) v i = v i := by
  unfold k0_pay7
  rw [shapeCast_self]
theorem pay8_apply (v : Vec Ideal S1x256 .f32) (i : S1x256.Idx) : k0_pay8 (F := Ideal) v i = v i := by
  unfold k0_pay8
  rw [shapeCast_self]
theorem pay11_apply (v : Vec Ideal S1x256 .f32) (i : S1x256.Idx) : k0_pay11 (F := Ideal) v i = v i := by
  unfold k0_pay11
  rw [shapeCast_self]
theorem pay12_apply (v : Vec Ideal S1x256 .f32) (i : S1x256.Idx) : k0_pay12 (F := Ideal) v i = v i := by
  unfold k0_pay12
  rw [shapeCast_self]
theorem matrix_apply (v : Vec Ideal S1x256x256 .f32) (k x : Fin 256) :
    shapeCast S256x256 v shapeCasts_S1x256x256_S256x256 (ix2 k x) = v (ix3 (0 : Fin 1) k x) :=
  shapeCast_apply _ _ _ _ (by
    rw [Shape.rowMajor_val_two, Shape.rowMajor_val_three]; show (0 * 256 + k.1) * 256 + x.1 = k.1 * 256 + x.1; omega)
theorem pay9_apply (v : Vec Ideal S1x256x256 .f32) (k x : Fin 256) : k0_pay9 (F := Ideal) v (ix2 k x) = v (ix3 (0 : Fin 1) k x) :=
  matrix_apply v k x
theorem pay10_apply (v : Vec Ideal S1x256x256 .f32) (k x : Fin 256) : k0_pay10 (F := Ideal) v (ix2 k x) = v (ix3 (0 : Fin 1) k x) :=
  matrix_apply v k x
theorem pay3_apply (v : Vec Ideal S4096x256 .f32) (i : S4096x256.Idx) : k0_pay3 (F := Ideal) v i = v i := by
  unfold k0_pay3
  rw [shapeCast_self, shapeCast_self]
  rfl
theorem pay4_apply (v : Vec Ideal S4096x256 .f32) (i : S4096x256.Idx) : k0_pay4 (F := Ideal) v i = v i := by
  unfold k0_pay4
  rw [shapeCast_self, shapeCast_self]
  rfl

/-- The decay's scale as the body computes it. -/
theorem scale_apply (v : FVec Ideal S1x256 .f32) (x : Fin 256) : k0_pay13 (F := Ideal) v (ix2 (0 : Fin 1) x) = cspS (v (ix2 (0 : Fin 1) x)) := by
  unfold k0_pay13
  rw [shapeCast_self]
  show Ideal.ofBits .f32 0x41000000#32 * Scalar.select (Ideal.cmp .one _ _) _ (max (Ideal.ofBits .f32 0x00000000#32 - _) (Ideal.ofBits .f32 0x00000000#32)
    + Ideal.log1p (Ideal.exp (Ideal.ofBits .f32 0x00000000#32 - (max ((Ideal.ofBits .f32 0x00000000#32 - v (ix2 (0 : Fin 1) x)) - Ideal.ofBits .f32 0x00000000#32)
        (-((Ideal.ofBits .f32 0x00000000#32 - v (ix2 (0 : Fin 1) x)) - Ideal.ofBits .f32 0x00000000#32)))))) = _
  rw [zero_bits, select_self]
  unfold cspS spS
  simp only [zero_sub, sub_zero]

/-- The loaded weights are the head's. -/
theorem weights_head : IsHead (args m c) (head t) (weights m c t) where
  cw k x := by
    simp only [weights]
    refine (pay7_apply _ _).trans ?_
    exact (load_apply (hs0_3 t) (iblk m c 3 t) _ _ (ix2 k x) ((idx2 _ k x (by omega) (by omega)).trans (by simp))).trans (blk3 m c t k x)
  cb x := by
    simp only [weights]
    refine (pay8_apply _ _).trans ?_
    exact (load_apply (hs0_4 t) (iblk m c 4 t) _ _ (ix2 (0 : Fin 1) x) ((idx2 _ (0 : Fin 1) x (by omega) (by omega)).trans (by simp))).trans (blk4 m c t x)
  br x := by
    simp only [weights]
    refine (pay11_apply _ _).trans ?_
    exact (load_apply (hs0_6 t) (iblk m c 6 t) _ _ (ix2 (0 : Fin 1) x) ((idx2 _ (0 : Fin 1) x (by omega) (by omega)).trans (by simp))).trans (blk6 m c t x)
  bi x := by
    simp only [weights]
    refine (pay12_apply _ _).trans ?_
    exact (load_apply (hs0_8 t) (iblk m c 8 t) _ _ (ix2 (0 : Fin 1) x) ((idx2 _ (0 : Fin 1) x (by omega) (by omega)).trans (by simp))).trans (blk8 m c t x)
  csp x := by
    refine (scale_apply _ x).trans (congrArg cspS ?_)
    exact (load_apply (hs0_9 t) (iblk m c 9 t) _ _ (ix2 (0 : Fin 1) x) ((idx2 _ (0 : Fin 1) x (by omega) (by omega)).trans (by simp))).trans (blk9 m c t x)
  wr k x := by
    refine (pay9_apply _ k x).trans ?_
    exact (load_apply (hs0_5 t) (iblk m c 5 t) _ _ (ix3 (0 : Fin 1) k x) (by
      funext a; apply Fin.ext
      match a with
      | ⟨0, _⟩ => rfl
      | ⟨1, _⟩ => show 0 + 1 * k.1 = k.1; omega
      | ⟨2, _⟩ => show 0 + 1 * x.1 = x.1; omega)).trans (blk5 m c t k x)
  wi k x := by
    refine (pay10_apply _ k x).trans ?_
    exact (load_apply (hs0_7 t) (iblk m c 7 t) _ _ (ix3 (0 : Fin 1) k x) (by
      funext a; apply Fin.ext
      match a with
      | ⟨0, _⟩ => rfl
      | ⟨1, _⟩ => show 0 + 1 * k.1 = k.1; omega
      | ⟨2, _⟩ => show 0 + 1 * x.1 = x.1; omega)).trans (blk7 m c t k x)

/-- A stacked matrix is head `h`'s columns of the projection, the recurrence's and then the gate's. -/
structure IsStacked (A : Args) (h : Fin 16) (w : Vec Ideal S4096x512 .bf16) : Prop where
  u : ∀ (k : Fin 4096) (x : Fin 256), w (ix2 k (⟨x.1, by omega⟩ : Fin 512)) = A.w k ⟨256 * h.1 + x.1, by omega⟩
  g : ∀ (k : Fin 4096) (x : Fin 256), w (ix2 k (⟨256 + x.1, by omega⟩ : Fin 512)) = A.w k ⟨4096 + (256 * h.1 + x.1), by omega⟩

/-- The stores that stack the matrix leave the head's. -/
theorem stacked_read {κ : Kind} {sp : Space} (v : View sig κ sp S4096x512 .bf16) (f : v.ty.Contents (Elt Ideal)) :
    IsStacked (args m c) (head t) (v.read (Elt Ideal) (v.writes (Elt Ideal) f (wStores m c t))) where
  u k x := by
    unfold wStores
    refine (View.read_writes_cons_unit_of_not_mem v f _ _ _ _ rfl (1 : Fin 2) (Or.inl (by show x.1 < 256; omega))).trans ?_
    refine (View.read_writes_cons_unit_of_mem v f _ _ _ _ (ix2 k x) rfl fun a => by
      match a with
      | ⟨0, _⟩ => show k.1 = 0 + k.1; omega
      | ⟨1, _⟩ => show x.1 = 0 + x.1; omega).trans ?_
    refine (pay3_apply _ _).trans ?_
    exact (load_apply (hs0_1 t) (iblk m c 1 t) _ _ (ix2 k x) ((idx2 _ k x (by omega) (by omega)).trans (by simp))).trans (blk1 m c t k x)
  g k x := by
    unfold wStores
    refine (View.read_writes_cons_unit_of_mem v f _ _ _ _ (ix2 k x) rfl fun a => by
      match a with
      | ⟨0, _⟩ => show k.1 = 0 + k.1; omega
      | ⟨1, _⟩ => show 256 + x.1 = 256 + x.1; omega).trans ?_
    refine (pay4_apply _ _).trans ?_
    exact (load_apply (hs0_2 t) (iblk m c 2 t) _ _ (ix2 k x) ((idx2 _ k x (by omega) (by omega)).trans (by simp))).trans (blk2 m c t k x)

/-- A load of the whole stacked matrix is the matrix. -/
theorem wLoad_eq (f : (scM0_0).view.ty.Contents (Elt Ideal)) : wLoad f = scM0_0.view.read (Elt Ideal) f := by
  funext y
  obtain ⟨k, x, rfl⟩ : ∃ (k : Fin 4096) (x : Fin 512), y = ix2 k x := ⟨y 0, y 1, by
    funext a
    match a with
    | ⟨0, _⟩ => rfl
    | ⟨1, _⟩ => rfl⟩
  exact congrArg (scM0_0.view.read (Elt Ideal) f) ((idx2 _ k x (by omega) (by omega)).trans (by simp))

/-- One part's projection at an index. -/
theorem part_proj (w : Vec Ideal S4096x512 .bf16) (o : ℕ) (inb : ∀ k, (![o, 0] : Fin 2 → ℕ) k + S256x4096.size k ≤ S1024x4096.size k)
    (ho : o + 256 ≤ 1024) (r : Fin 256) (y : Fin 512) :
    k0_pay14 (View.readAt (Elt Ideal) (ms0_0 t).view (Rect.unit (s := S1024x4096) ![o, 0] S256x4096.size inb).toLoadRect
      ((hs0_0 t).unread (iblk m c 0 t))) w (ix2 r y)
      = ∑ k : Fin 4096, (args m c).x (batch t) ⟨1024 * (t.1 % 8) + (o + r.1), by omega⟩ k * w (ix2 k y) := by
  have hd : dot_S256x4096_S4096x512_S256x512_1_0_0_1_n_n = DotDims.plain 256 4096 512 := rfl
  unfold k0_pay14
  rw [shapeCast_self, hd]
  refine (Ideal.matmul_plain_apply (M := 256) (K := 4096) (N := 512) none _ w (constant S256x512 .f32 0x00000000#32) r y).trans ?_
  refine (congrArg (· + _) zero_bits).trans ((zero_add _).trans ?_)
  refine Finset.sum_congr rfl fun k _ => congrArg (· * w (ix2 k y)) ?_
  exact (load_apply (hs0_0 t) (iblk m c 0 t) _ _ (ix2 (⟨o + r.1, by omega⟩ : Fin 1024) k) ((idx2 _ r k (by omega) (by omega)).trans (by simp))).trans (blk0 m c t ⟨o + r.1, by omega⟩ k)

/-- The projection of part `p`'s rows at an index. -/
theorem proj_apply (w : Vec Ideal S4096x512 .bf16) (p : ℕ) (hp : p < 4) (r : Fin 256) (y : Fin 512) :
    Point.proj m c t w p (ix2 r y)
      = ∑ k : Fin 4096, (args m c).x (batch t) ⟨1024 * (t.1 % 8) + (256 * p + r.1), by omega⟩ k * w (ix2 k y) := by
  have hp' : p = 0 ∨ p = 1 ∨ p = 2 ∨ p = 3 := by omega
  rcases hp' with rfl | rfl | rfl | rfl
  · exact part_proj m c t w 0 inb_S1024x4096_S256x4096_0_0 (by omega) r y
  · exact part_proj m c t w 256 inb_S1024x4096_S256x4096_256_0 (by omega) r y
  · exact part_proj m c t w 512 inb_S1024x4096_S256x4096_512_0 (by omega) r y
  · exact part_proj m c t w 768 inb_S1024x4096_S256x4096_768_0 (by omega) r y

end Cert.Loads

end
-- ==== Proof.Fold.lean ====
/- What every grid point leaves: by induction over the points, the scratch arrays hold what the rows so far hand on, and
   the point's tile holds the result. -/
module

public import proofs.«01_k».proof.Proof.Loads

@[expose] public section

noncomputable section

namespace Cert.Fold

open Idealize.ShloMosaic Idealize.ShloMosaic.TcCoe Idealize.SL.Sem
open Cert.KernelIdeal Cert.KernelIdeal.Gen Cert.Part Cert.Point Cert.Spec Cert.Blocks Cert.Gates Cert.Loads Cert.Tile Cert.PartOut

variable (m : (ℓ : Loc nD τ sig) → Buf (Elt Ideal) ℓ) (c : Dev nD) (t : Fin cfg0.N)

/-- The lanes' projected rows of the point's sequence and head. -/
abbrev Up : Fin 256 → ℕ → EReal := up (args m c) (batch t) (head t)
/-- The first row of the point's tile. -/
abbrev T : ℕ := 1024 * (t.1 % 8)

section
variable {w : Vec Ideal S4096x512 .bf16} (hw : IsStacked (args m c) (head t) w)
include hw

/-- The first half of the point's projected rows. -/
theorem acc_u (p : ℕ) (hp : p < 4) (r x : Fin 256) :
    Point.proj m c t w p (ix2 r (⟨x.1, by omega⟩ : Fin 512)) = Up m c t x (T t + 256 * p + r.1 + 3) := by
  refine (proj_apply m c t w p hp r _).trans ?_
  unfold Up up
  rw [if_neg (by omega), dif_pos (show T t + 256 * p + r.1 + 3 - 3 < 8192 by unfold T; omega)]
  unfold Spec.proj
  refine Finset.sum_congr rfl fun k _ => ?_
  rw [hw.u k x]
  refine congrArg (fun s => (args m c).x (batch t) s k * _) (Fin.ext ?_)
  show 1024 * (t.1 % 8) + (256 * p + r.1) = T t + 256 * p + r.1 + 3 - 3
  unfold T; omega

/-- The second half: the gate's rows. -/
theorem acc_g (p : ℕ) (hp : p < 4) (r x : Fin 256) :
    Point.proj m c t w p (ix2 r (⟨256 + x.1, by omega⟩ : Fin 512))
      = gate (args m c) (batch t) (head t) x ⟨1024 * (t.1 % 8) + (256 * p + r.1), by omega⟩ := by
  refine (proj_apply m c t w p hp r _).trans ?_
  unfold gate Spec.proj
  exact Finset.sum_congr rfl fun k _ => by rw [hw.g k x]
end

/-- What a point leaves: its tile, the stacked matrix, the tail and the state. -/
abbrev Outs := Vec Ideal S1024x256 .bf16 × Vec Ideal S4096x512 .bf16 × Vec Ideal S8x256 .f32 × Vec Ideal S1x256 .f32

/-- A point leaves the result's rows, the head's stacked matrix, the last three projected rows and the state. -/
structure Leaves (o : Outs) : Prop where
  out : ∀ p, ∀ hp : p < 4, ∀ r x : Fin 256, o.1 (ix2 (⟨256 * p + r.1, by omega⟩ : Fin 1024) x)
    = res (args m c) (batch t) ⟨1024 * (t.1 % 8) + (256 * p + r.1), by omega⟩ (head t) x
  stacked : IsStacked (args m c) (head t) o.2.1
  t5 : ∀ x : Fin 256, o.2.2.1 (ix2 (5 : Fin 8) x) = Up m c t x (T t + 1024)
  t6 : ∀ x : Fin 256, o.2.2.1 (ix2 (6 : Fin 8) x) = Up m c t x (T t + 1024 + 1)
  t7 : ∀ x : Fin 256, o.2.2.1 (ix2 (7 : Fin 8) x) = Up m c t x (T t + 1024 + 2)
  h : ∀ x : Fin 256, o.2.2.2 (ix2 (0 : Fin 1) x) = hid (args m c) (batch t) (head t) x (T t + 1024)

variable {m c t}

/-- A tile that starts from what the rows before hand on leaves what it should. -/
theorem leaves_of {S : Carry Ideal} (hS : At (weights m c t) (Up m c t) (T t) S) {w : Vec Ideal S4096x512 .bf16}
    (hw : IsStacked (args m c) (head t) w) {o : Outs} {κ κ' κ'' : Kind} {sp sp' sp'' : Space}
    (v : View sig κ sp S1024x256 .bf16) (f : v.ty.Contents (Elt Ideal))
    (ho : o.1 = v.read (Elt Ideal) (v.writes (Elt Ideal) f (tile mems (weights m c t) (Point.proj m c t w) S)))
    (hs : IsStacked (args m c) (head t) o.2.1)
    (v' : View sig κ' sp' S8x256 .f32) (f' : v'.ty.Contents (Elt Ideal)) (L : List (View.Piece (Elt Ideal) S8x256 .f32))
    (ht : o.2.2.1 = v'.read (Elt Ideal) (v'.writes (Elt Ideal) f' (tailStores mems (weights m c t) (Point.proj m c t w) S ++ L)))
    (v'' : View sig κ'' sp'' S1x256 .f32) (f'' : v''.ty.Contents (Elt Ideal)) (L' : List (View.Piece (Elt Ideal) S1x256 .f32))
    (hh : o.2.2.2 = v''.read (Elt Ideal) (v''.writes (Elt Ideal) f'' (carryStores mems (weights m c t) (Point.proj m c t w) S ++ L'))) :
    Leaves m c t o := by
  have hW := weights_head m c t
  have hacc := fun p hp r x => acc_u m c t hw p hp r x
  have hend : At (weights m c t) (Up m c t) (T t + 1024) (upTo mems (weights m c t) (Point.proj m c t w) S 4).1 :=
    upTo_at mems hS hacc (csp_nonneg hW) 4 (le_refl 4)
  refine ⟨fun p hp r x => ?_, hs, fun x => ?_, fun x => ?_, fun x => ?_, fun x => ?_⟩
  · rw [ho, tile_read mems v f p hp r x, outAt_at mems hS hacc (csp_nonneg hW) p hp r x, hU_eq hW, acc_g m c t hw p hp r x]
    exact congrArg (fun n => hid (args m c) (batch t) (head t) x n * _) (by show T t + 256 * p + r.1 + 1 = 1024 * (t.1 % 8) + (256 * p + r.1) + 1; unfold T; omega)
  · rw [ht, (tail_read mems v' f' L x).1, hend.t5]
  · rw [ht, (tail_read mems v' f' L x).2.1, hend.t6]
  · rw [ht, (tail_read mems v' f' L x).2.2, hend.t7]
  · rw [hh, carry_read mems v'' f'' L' x, hend.h, hU_eq hW]

/-- A whole array that holds `X`, read. -/
theorem unread_apply {κ : Kind} {sp : Space} {s : Shape} {e : EltTy} (M : Memref sig κ sp s e) (h : M.IsWhole)
    (X : s.Idx → Elt Ideal e) (i : s.Idx) : M.view.read (Elt Ideal) (h.unread X) i = X i := congrFun (h.read_unread X) i

/-- What is loaded from the tail's and the state's scratch. -/
theorem carry_of {W : Weights Ideal} {U : Fin 256 → ℕ → EReal} {n : ℕ} (f : (scM0_1).view.ty.Contents (Elt Ideal)) (g : (scM0_2).view.ty.Contents (Elt Ideal))
    (h5 : ∀ x : Fin 256, scM0_1.view.read (Elt Ideal) f (ix2 (5 : Fin 8) x) = U x n)
    (h6 : ∀ x : Fin 256, scM0_1.view.read (Elt Ideal) f (ix2 (6 : Fin 8) x) = U x (n + 1))
    (h7 : ∀ x : Fin 256, scM0_1.view.read (Elt Ideal) f (ix2 (7 : Fin 8) x) = U x (n + 2))
    (hh : ∀ x : Fin 256, scM0_2.view.read (Elt Ideal) g (ix2 (0 : Fin 1) x) = hU W U x n) :
    At W U n (carryLoad f g) where
  t5 x := (congrArg (scM0_1.view.read (Elt Ideal) f) ((idx2 _ (0 : Fin 1) x (by decide) (by omega)).trans (by simp))).trans (h5 x)
  t6 x := (congrArg (scM0_1.view.read (Elt Ideal) f) ((idx2 _ (0 : Fin 1) x (by decide) (by omega)).trans (by simp))).trans (h6 x)
  t7 x := (congrArg (scM0_1.view.read (Elt Ideal) f) ((idx2 _ (0 : Fin 1) x (by decide) (by omega)).trans (by simp))).trans (h7 x)
  h x := (congrArg (scM0_2.view.read (Elt Ideal) g) ((idx2 _ (0 : Fin 1) x (by decide) (by omega)).trans (by simp))).trans (hh x)

theorem noTail_read (y : Fin 8) (x : Fin 256) :
    scM0_1.view.read (Elt Ideal) (scM0_1.view.writes (Elt Ideal) scM0_1.view.junk noTail) (ix2 y x) = 0 := by
  unfold noTail
  refine (View.read_writes_cons_unit_of_mem _ _ _ _ _ _ (ix2 y x) rfl fun a => by
    match a with
    | ⟨0, _⟩ => show y.1 = 0 + y.1; omega
    | ⟨1, _⟩ => show x.1 = 0 + x.1; omega).trans ?_
  unfold k0_pay5
  rw [shapeCast_self]
  exact zero_bits
theorem noState_read (x : Fin 256) :
    scM0_2.view.read (Elt Ideal) (scM0_2.view.writes (Elt Ideal) scM0_2.view.junk noState) (ix2 (0 : Fin 1) x) = 0 := by
  unfold noState
  refine (View.read_writes_cons_unit_of_mem _ _ _ _ _ _ (ix2 (0 : Fin 1) x) rfl fun a => by
    match a with
    | ⟨0, _⟩ => rfl
    | ⟨1, _⟩ => show x.1 = 0 + x.1; omega).trans ?_
  unfold k0_pay6
  rw [shapeCast_self]
  exact zero_bits

/-- Emptied, the scratch holds what the first row of a sequence starts from. -/
theorem at_start (h8 : t.1 % 8 = 0) (W : Weights Ideal) :
    At W (Up m c t) (T t) (carryLoad (scM0_1.view.writes (Elt Ideal) scM0_1.view.junk noTail) (scM0_2.view.writes (Elt Ideal) scM0_2.view.junk noState)) := by
  have hT : T t = 0 := by unfold T; omega
  rw [hT]
  exact carry_of _ _ (fun x => noTail_read 5 x) (fun x => noTail_read 6 x) (fun x => noTail_read 7 x) (fun x => noState_read x)

/-- After the point before, inside a sequence, the scratch holds what the tile's first row starts from. -/
theorem at_next (t' : Fin cfg0.N) (e : t'.1 + 1 = t.1) (h8 : ¬t.1 % 8 = 0) {o : Outs} (ho : Leaves m c t' o) :
    At (weights m c t) (Up m c t) (T t) (carryLoad ((Memref.isWhole_whole _).unread o.2.2.1) ((Memref.isWhole_whole _).unread o.2.2.2)) := by
  have eT : T t' + 1024 = T t := by unfold T; omega
  have eb : batch t' = batch t := Fin.ext (by show t'.1 % 16 / 8 = t.1 % 16 / 8; omega)
  have eh : head t' = head t := Fin.ext (by show t'.1 / 16 = t.1 / 16; omega)
  have eU : Up m c t' = Up m c t := by unfold Up; rw [eb, eh]
  have h5 := ho.t5
  have h6 := ho.t6
  have h7 := ho.t7
  have hh := ho.h
  rw [eU, eT] at h5 h6 h7
  rw [eb, eh, eT] at hh
  refine carry_of _ _ (fun x => ?_) (fun x => ?_) (fun x => ?_) (fun x => ?_)
  · exact (unread_apply scM0_1 _ o.2.2.1 _).trans (h5 x)
  · exact (unread_apply scM0_1 _ o.2.2.1 _).trans (h6 x)
  · exact (unread_apply scM0_1 _ o.2.2.1 _).trans (h7 x)
  · exact (unread_apply scM0_2 _ o.2.2.2 _).trans ((hh x).trans (hU_eq (weights_head m c t) (batch t) x _).symm)

/-- The stacked matrix of the point before is the head's. -/
theorem stacked_next (t' : Fin cfg0.N) (e : t'.1 + 1 = t.1) (h16 : ¬t.1 % 16 = 0) {o : Outs} (ho : Leaves m c t' o) :
    IsStacked (args m c) (head t) o.2.1 := by
  have eh : head t' = head t := Fin.ext (by show t'.1 / 16 = t.1 / 16; omega)
  exact eh ▸ ho.stacked

theorem wLoad_unread (w : Vec Ideal S4096x512 .bf16) : wLoad ((Memref.isWhole_whole _).unread w) = w :=
  (wLoad_eq _).trans (funext fun i => unread_apply scM0_0 _ w i)

/-- Every point leaves what it should. -/
theorem leaves (m : (ℓ : Loc nD τ sig) → Buf (Elt Ideal) ℓ) (c : Dev nD) : ∀ n, ∀ hn : n < cfg0.N, Leaves m c ⟨n, hn⟩ (outsAt0 m c n hn) := by
  intro n
  induction n with
  | zero =>
    intro hn
    refine leaves_of (at_start rfl _) ?_ _ _ (out_A m c ⟨0, hn⟩ rfl) ?_ _ _ _ (tail_A m c ⟨0, hn⟩ rfl) _ _ _ (state_A m c ⟨0, hn⟩ rfl)
    · rw [wLoad_eq]
      exact stacked_read m c _ _ _
    · rw [stacked_A m c ⟨0, hn⟩ rfl]
      exact stacked_read m c _ _ _
  | succ n ih =>
    intro hn
    have prev := ih (Nat.lt_of_succ_lt hn)
    by_cases h0 : (n + 1) % 16 = 0
    · refine leaves_of (at_start (by show (n + 1) % 8 = 0; omega) _) ?_ _ _ (out_A m c ⟨n + 1, hn⟩ h0) ?_ _ _ _ (tail_A m c ⟨n + 1, hn⟩ h0) _ _ _ (state_A m c ⟨n + 1, hn⟩ h0)
      · rw [wLoad_eq]
        exact stacked_read m c _ _ _
      · rw [stacked_A m c ⟨n + 1, hn⟩ h0]
        exact stacked_read m c _ _ _
    · have hs := stacked_next (t := ⟨n + 1, hn⟩) ⟨n, Nat.lt_of_succ_lt hn⟩ rfl h0 prev
      by_cases h1 : (n + 1) % 8 = 0
      · refine leaves_of (at_start h1 _) ?_ _ _ (out_C m c ⟨n + 1, hn⟩ h0 h1) ?_ _ _ _ (tail_C m c ⟨n + 1, hn⟩ h0 h1) _ _ _ (state_C m c ⟨n + 1, hn⟩ h0 h1)
        · exact (wLoad_unread _).symm ▸ hs
        · rw [stacked_C m c ⟨n + 1, hn⟩ h0 h1]
          exact hs
      · refine leaves_of (at_next ⟨n, Nat.lt_of_succ_lt hn⟩ rfl h1 prev) ?_ _ _ (out_B m c ⟨n + 1, hn⟩ h0 h1) ?_ _ _ []
          (by rw [List.append_nil]; exact tail_B m c ⟨n + 1, hn⟩ h0 h1) _ _ [] (by rw [List.append_nil]; exact state_B m c ⟨n + 1, hn⟩ h0 h1)
        · exact (wLoad_unread _).symm ▸ hs
        · rw [stacked_B m c ⟨n + 1, hn⟩ h0 h1]
          exact hs

end Cert.Fold

end
-- ==== Proof.Result.lean ====
/- The array the kernel's launch leaves, at an index. -/
module

public import proofs.«01_k».proof.Proof.Fold

@[expose] public section

noncomputable section

namespace Cert.Result

open Idealize.ShloMosaic Idealize.ShloMosaic.TcCoe Idealize.SL.Sem
open Cert.KernelIdeal Cert.KernelIdeal.Gen Cert.KernelIdeal.Value Cert.Spec Cert.Blocks Cert.Fold

variable (m : (ℓ : Loc nD τ sig) → Buf (Elt Ideal) ℓ) (c : Dev nD)

/-- Row `8192 b + s`, lane `x` of head `h`: the specification's result. -/
theorem array_apply (b : Fin 2) (s : Fin 8192) (h : Fin 16) (x : Fin 256) :
    (G10 m c : Vec Ideal S16384x4096 .bf16) (ix2 (⟨8192 * b.1 + s.1, by omega⟩ : Fin 16384) (col h x)) = res (args m c) b s h x := by
  let i : S16384x4096.Idx := ix2 (⟨8192 * b.1 + s.1, by omega⟩ : Fin 16384) (col h x)
  have hx := x.2
  have hs := s.2
  have ht : pt10Of i = 16 * h.1 + (8 * b.1 + s.1 / 1024) := by
    show 1 * ((8192 * b.1 + s.1) / 1024 - 0) + 16 * ((256 * h.1 + x.1) / 256 - 0) = _
    omega
  have hn : pt10Of i < cfg0.N := by rw [ht]; exact lt_of_lt_of_eq (by omega) N_0.symm
  have hl := leaves m c (pt10Of i) hn
  have hp : s.1 % 1024 / 256 < 4 := by omega
  have ho := hl.out (s.1 % 1024 / 256) hp ⟨s.1 % 256, by omega⟩ x
  have eb : batch ⟨pt10Of i, hn⟩ = b := Fin.ext (by show pt10Of i % 16 / 8 = b.1; omega)
  have eh : head ⟨pt10Of i, hn⟩ = h := Fin.ext (by show pt10Of i / 16 = h.1; omega)
  have es : (⟨1024 * (pt10Of i % 8) + (256 * (s.1 % 1024 / 256) + s.1 % 256), by omega⟩ : Fin 8192) = s :=
    Fin.ext (by show 1024 * (pt10Of i % 8) + (256 * (s.1 % 1024 / 256) + s.1 % 256) = s.1; omega)
  have el : loc10Of i = ix2 (⟨256 * (s.1 % 1024 / 256) + s.1 % 256, by omega⟩ : Fin 1024) x := by
    funext a; apply Fin.ext
    match a with
    | ⟨0, _⟩ => show (8192 * b.1 + s.1) % 1024 = 256 * (s.1 % 1024 / 256) + s.1 % 256; omega
    | ⟨1, _⟩ => show (256 * h.1 + x.1) % 256 = x.1; omega
  show G10 m c i = _
  unfold G10
  rw [dif_pos hn, ← fold0_congr m c (pt10Of i) (by omega) (pt10Of i) (by omega) rfl, ← outsAt0_sweep m c (pt10Of i) hn, el]
  refine ho.trans ?_
  rw [eb, eh]
  exact congrArg (fun s => res (args m c) b s h x) es

end Cert.Result

end
-- ==== Proof.RefProj.lean ====
/- The reference's projection and convolution at an index. -/
module

public import proofs.«01_k».proof.Proof.Spec
public import proofs.«01_k».proof.Proof.Gen.ReferenceIdeal.Step
public import Idealize.ShloMosaic.Lib.KernelVsHost

@[expose] public section

noncomputable section

namespace Cert.RefProj

open Idealize.ShloMosaic Idealize.SL.Sem
open Cert.ReferenceIdeal Cert.ReferenceIdeal.Gen Cert.ReferenceIdeal.Step
open Cert.Spec (Args)
open Idealize.ShloMosaic.ValueIdx (contrEquiv1 contrEquiv1_symm_val)

/-- The product of the activations with a matrix, at an index. -/
theorem rows_dot (x : FVec Ideal S2x8192x4096 .f32) (w : FVec Ideal S4096x18432 .f32) (b : Fin 2) (s : Fin 8192) (j : Fin 18432) :
    Host.dotGeneral dot_S2x8192x4096_S4096x18432_S2x8192x18432_2_0_01_1_n_n none x w (ix3 b s j)
      = ∑ k : Fin 4096, x (ix3 b s k) * w (ix2 k j) := by
  show FloatOps.dotGeneral _ none _ x w (ix3 b s j) = _
  rw [Ideal.dotGeneral_apply, ← Equiv.sum_comp (contrEquiv1 dot_S2x8192x4096_S4096x18432_S2x8192x18432_2_0_01_1_n_n 4096 rfl rfl).symm]
  refine Finset.sum_congr rfl fun k _ => ?_
  have hk := contrEquiv1_symm_val dot_S2x8192x4096_S4096x18432_S2x8192x18432_2_0_01_1_n_n 4096 rfl rfl k
  have el : dot_S2x8192x4096_S4096x18432_S2x8192x18432_2_0_01_1_n_n.lhsIdx (ix3 b s j)
      ((contrEquiv1 dot_S2x8192x4096_S4096x18432_S2x8192x18432_2_0_01_1_n_n 4096 rfl rfl).symm k) = ix3 b s k := by
    funext a; apply Fin.ext
    match a with
    | ⟨0, _⟩ => rfl
    | ⟨1, _⟩ => rfl
    | ⟨2, _⟩ => exact hk
  have er : dot_S2x8192x4096_S4096x18432_S2x8192x18432_2_0_01_1_n_n.rhsIdx (ix3 b s j)
      ((contrEquiv1 dot_S2x8192x4096_S4096x18432_S2x8192x18432_2_0_01_1_n_n 4096 rfl rfl).symm k) = ix2 k j := by
    funext a; apply Fin.ext
    match a with
    | ⟨0, _⟩ => exact hk
    | ⟨1, _⟩ => rfl
  rw [el, er]

/-- The product of the heads' matrices with the rows, at an index. -/
theorem heads_dot (w : FVec Ideal S16x256x256 .f32) (u : FVec Ideal S2x8192x16x256 .f32) (h : Fin 16) (x : Fin 256) (b : Fin 2) (s : Fin 8192) :
    Host.dotGeneral dot_S16x256x256_S2x8192x16x256_S16x256x2x8192_1_3_2_01_0_2 none w u (ix4 h x b s)
      = ∑ k : Fin 256, w (ix3 h k x) * u (ix4 b s h k) := by
  show FloatOps.dotGeneral _ none _ w u (ix4 h x b s) = _
  rw [Ideal.dotGeneral_apply, ← Equiv.sum_comp (contrEquiv1 dot_S16x256x256_S2x8192x16x256_S16x256x2x8192_1_3_2_01_0_2 256 rfl rfl).symm]
  refine Finset.sum_congr rfl fun k _ => ?_
  have hk := contrEquiv1_symm_val dot_S16x256x256_S2x8192x16x256_S16x256x2x8192_1_3_2_01_0_2 256 rfl rfl k
  have el : dot_S16x256x256_S2x8192x16x256_S16x256x2x8192_1_3_2_01_0_2.lhsIdx (ix4 h x b s)
      ((contrEquiv1 dot_S16x256x256_S2x8192x16x256_S16x256x2x8192_1_3_2_01_0_2 256 rfl rfl).symm k) = ix3 h k x := by
    funext a; apply Fin.ext
    match a with
    | ⟨0, _⟩ => rfl
    | ⟨1, _⟩ => exact hk
    | ⟨2, _⟩ => rfl
  have er : dot_S16x256x256_S2x8192x16x256_S16x256x2x8192_1_3_2_01_0_2.rhsIdx (ix4 h x b s)
      ((contrEquiv1 dot_S16x256x256_S2x8192x16x256_S16x256x2x8192_1_3_2_01_0_2 256 rfl rfl).symm k) = ix4 b s h k := by
    funext a; apply Fin.ext
    match a with
    | ⟨0, _⟩ => rfl
    | ⟨1, _⟩ => rfl
    | ⟨2, _⟩ => rfl
    | ⟨3, _⟩ => exact hk
  rw [el, er]

/-- A row vector repeated over the rows of both sequences. -/
theorem spread_apply (v : FVec Ideal S4096 .f32) (b : Fin 2) (s : Fin 8192) (j : Fin 4096) :
    broadcastInDim S2x8192x4096 ![0, 1, 2] bcast_S1x1x4096_S2x8192x4096_0_1_2
      (broadcastInDim S1x1x4096 ![2] bcast_S4096_S1x1x4096_2 v) (ix3 b s j) = v (ix1 j) := by
  refine (broadcastInDim_apply _ _ _ _ (ix3 (0 : Fin 1) (0 : Fin 1) j) fun a => ?_).trans ?_
  · match a with
    | ⟨0, _⟩ => rfl
    | ⟨1, _⟩ => rfl
    | ⟨2, _⟩ => rfl
  · exact broadcastInDim_apply _ _ _ _ (ix1 j) fun a => by
      match a with
      | ⟨0, _⟩ => rfl

theorem vec_apply (v : FVec Ideal S1x4096 .f32) (j : Fin 4096) : shapeCast S4096 v shapeCasts_S1x4096_S4096 (ix1 j) = v (ix2 (0 : Fin 1) j) :=
  shapeCast_apply _ _ _ (ix2 (0 : Fin 1) j) (by
    rw [Shape.rowMajor_val_one, Shape.rowMajor_val_two]; show 0 * 4096 + j.1 = j.1; omega)

/-- A tap of the convolution. -/
theorem tap_apply (v : FVec Ideal S1x4x4096 .f32) (k : Fin 4) (h : S1x4x4096.Slices ![0, k.1, 0] S1x1x4096) (j : Fin 4096) :
    shapeCast S4096 (extractStridedSlice S1x1x4096 ![0, k.1, 0] v h) shapeCasts_S1x1x4096_S4096 (ix1 j) = v (ix3 (0 : Fin 1) k j) := by
  refine (shapeCast_apply _ _ _ (ix3 (0 : Fin 1) (0 : Fin 1) j) (by
    rw [Shape.rowMajor_val_one, Shape.rowMajor_val_three]; show (0 * 1 + 0) * 4096 + j.1 = j.1; omega)).trans ?_
  exact extractStridedSlice_apply _ _ _ _ (ix3 (0 : Fin 1) k j) fun a => by
    match a with
    | ⟨0, _⟩ => rfl
    | ⟨1, _⟩ => rfl
    | ⟨2, _⟩ => show j.1 = 0 + j.1; omega

variable (a0 : (⟨S2x8192x4096, .bf16⟩ : BufTy).Contents (Elt Ideal)) (a1 : (⟨S1x4096x18432, .f32⟩ : BufTy).Contents (Elt Ideal))
  (a2 : (⟨S1x4x4096, .f32⟩ : BufTy).Contents (Elt Ideal)) (a3 : (⟨S1x4096, .f32⟩ : BufTy).Contents (Elt Ideal))
  (a4 : (⟨S1x16x256x256, .f32⟩ : BufTy).Contents (Elt Ideal)) (a5 : (⟨S1x4096, .f32⟩ : BufTy).Contents (Elt Ideal))
  (a6 : (⟨S1x16x256x256, .f32⟩ : BufTy).Contents (Elt Ideal)) (a7 : (⟨S1x4096, .f32⟩ : BufTy).Contents (Elt Ideal))
  (a8 : (⟨S1x4096, .f32⟩ : BufTy).Contents (Elt Ideal))

/-- The projection. -/
theorem proj_apply (b : Fin 2) (s : Fin 8192) (j : Fin 18432) :
    A_main_v2 a0 a1 a2 a3 a4 a5 a6 a7 a8 (ix3 b s j) = Spec.proj (Args.of a0 a1 a2 a3 a4 a5 a6 a7 a8) b s j := by
  refine (rows_dot _ _ b s j).trans (Finset.sum_congr rfl fun k _ => congrArg (a0 (ix3 b s k) * ·) ?_)
  exact shapeCast_apply _ _ _ (ix3 (0 : Fin 1) k j) (by
    rw [Shape.rowMajor_val_two, Shape.rowMajor_val_three]; show (0 * 4096 + k.1) * 18432 + j.1 = k.1 * 18432 + j.1; omega)

theorem u_apply (b : Fin 2) (s : Fin 8192) (j : Fin 4096) :
    A_main_v3 a0 a1 a2 a3 a4 a5 a6 a7 a8 (ix3 b s j) = Spec.proj (Args.of a0 a1 a2 a3 a4 a5 a6 a7 a8) b s ⟨j.1, by omega⟩ := by
  refine (extractStridedSlice_apply _ _ _ _ (ix3 b s (⟨j.1, by omega⟩ : Fin 18432)) fun a => ?_).trans (proj_apply a0 a1 a2 a3 a4 a5 a6 a7 a8 b s _)
  match a with
  | ⟨0, _⟩ => show b.1 = 0 + b.1; omega
  | ⟨1, _⟩ => show s.1 = 0 + s.1; omega
  | ⟨2, _⟩ => show j.1 = 0 + j.1; omega

/-- The gate's rows. -/
theorem gate_apply (b : Fin 2) (s : Fin 8192) (h : Fin 16) (x : Fin 256) :
    A_main_v4 a0 a1 a2 a3 a4 a5 a6 a7 a8 (ix3 b s (Spec.col h x)) = Spec.gate (Args.of a0 a1 a2 a3 a4 a5 a6 a7 a8) b h x s := by
  refine (extractStridedSlice_apply _ _ _ _ (ix3 b s (⟨4096 + (256 * h.1 + x.1), by omega⟩ : Fin 18432)) fun a => ?_).trans (proj_apply a0 a1 a2 a3 a4 a5 a6 a7 a8 b s _)
  match a with
  | ⟨0, _⟩ => show b.1 = 0 + b.1; omega
  | ⟨1, _⟩ => show s.1 = 0 + s.1; omega
  | ⟨2, _⟩ => rfl

/-- The padded rows. -/
theorem padded_apply (b : Fin 2) (n : Fin 8195) (h : Fin 16) (x : Fin 256) :
    A_main_v5 a0 a1 a2 a3 a4 a5 a6 a7 a8 (ix3 b n (Spec.col h x)) = Spec.up (Args.of a0 a1 a2 a3 a4 a5 a6 a7 a8) b h x n.1 := by
  unfold A_main_v5 Spec.up
  by_cases hn : n.1 < 3
  · rw [if_pos hn]
    refine (pad_apply_of_not_inside _ _ _ _ _ _ _ _ (1 : Fin 3) fun hc => ?_).trans ?_
    · have h3 : 3 ≤ n.1 := hc.1
      omega
    · show (((0#32 : BitVec 32).toInt : ℝ) : EReal) = 0
      simp
  · rw [if_neg hn, dif_pos (by omega)]
    refine (pad_apply_of_inside _ _ _ _ _ _ _ _ (ix3 b (⟨n.1 - 3, by omega⟩ : Fin 8192) (Spec.col h x)) fun a => ?_).trans
      (u_apply a0 a1 a2 a3 a4 a5 a6 a7 a8 b _ _)
    match a with
    | ⟨0, _⟩ => show b.1 = 0 + b.1 * (0 + 1); omega
    | ⟨1, _⟩ => show n.1 = 3 + (n.1 - 3) * (0 + 1); omega
    | ⟨2, _⟩ => show (Spec.col h x).1 = 0 + (Spec.col h x).1 * (0 + 1); omega

/-- The padded rows moved down by `k`. -/
theorem shifted_apply (k : Fin 4) (hk : S2x8195x4096.Slices ![0, k.1, 0] S2x8192x4096) (b : Fin 2) (s : Fin 8192) (h : Fin 16) (x : Fin 256) :
    extractStridedSlice S2x8192x4096 ![0, k.1, 0] (A_main_v5 a0 a1 a2 a3 a4 a5 a6 a7 a8) hk (ix3 b s (Spec.col h x))
      = Spec.up (Args.of a0 a1 a2 a3 a4 a5 a6 a7 a8) b h x (s.1 + k.1) := by
  refine (extractStridedSlice_apply _ _ _ _ (ix3 b (⟨s.1 + k.1, by omega⟩ : Fin 8195) (Spec.col h x)) fun a => ?_).trans
    (padded_apply a0 a1 a2 a3 a4 a5 a6 a7 a8 b _ h x)
  match a with
  | ⟨0, _⟩ => show b.1 = 0 + b.1; omega
  | ⟨1, _⟩ => show s.1 + k.1 = k.1 + s.1; omega
  | ⟨2, _⟩ => show (Spec.col h x).1 = 0 + (Spec.col h x).1; omega

/-- One term of the convolution. -/
theorem term_apply (k : Fin 4) (hk : S2x8195x4096.Slices ![0, k.1, 0] S2x8192x4096) (hs : S1x4x4096.Slices ![0, k.1, 0] S1x1x4096)
    (b : Fin 2) (s : Fin 8192) (h : Fin 16) (x : Fin 256) :
    mulf (extractStridedSlice S2x8192x4096 ![0, k.1, 0] (A_main_v5 a0 a1 a2 a3 a4 a5 a6 a7 a8) hk)
      (broadcastInDim S2x8192x4096 ![0, 1, 2] bcast_S1x1x4096_S2x8192x4096_0_1_2 (broadcastInDim S1x1x4096 ![2] bcast_S4096_S1x1x4096_2
        (shapeCast S4096 (extractStridedSlice S1x1x4096 ![0, k.1, 0] a2 hs) shapeCasts_S1x1x4096_S4096))) (ix3 b s (Spec.col h x))
      = Spec.up (Args.of a0 a1 a2 a3 a4 a5 a6 a7 a8) b h x (s.1 + k.1) * a2 (ix3 (0 : Fin 1) k (Spec.col h x)) := by
  refine congrArg₂ (fun p q : EReal => p * q) (shifted_apply a0 a1 a2 a3 a4 a5 a6 a7 a8 k hk b s h x) ?_
  exact (spread_apply _ b s _).trans (tap_apply a2 k hs _)

/-- The convolution. -/
theorem conv_apply (b : Fin 2) (s : Fin 8192) (h : Fin 16) (x : Fin 256) :
    A_main_v38 a0 a1 a2 a3 a4 a5 a6 a7 a8 (ix3 b s (Spec.col h x)) = Spec.conv (Args.of a0 a1 a2 a3 a4 a5 a6 a7 a8) b h x s.1 := by
  have t0 := term_apply a0 a1 a2 a3 a4 a5 a6 a7 a8 0 slices_S2x8195x4096_S2x8192x4096_0_0_0 slices_S1x4x4096_S1x1x4096_0_0_0 b s h x
  have t1 := term_apply a0 a1 a2 a3 a4 a5 a6 a7 a8 1 slices_S2x8195x4096_S2x8192x4096_0_1_0 slices_S1x4x4096_S1x1x4096_0_1_0 b s h x
  have t2 := term_apply a0 a1 a2 a3 a4 a5 a6 a7 a8 2 slices_S2x8195x4096_S2x8192x4096_0_2_0 slices_S1x4x4096_S1x1x4096_0_2_0 b s h x
  have t3 := term_apply a0 a1 a2 a3 a4 a5 a6 a7 a8 3 slices_S2x8195x4096_S2x8192x4096_0_3_0 slices_S1x4x4096_S1x1x4096_0_3_0 b s h x
  have tb := (spread_apply _ b s (Spec.col h x)).trans (vec_apply a3 (Spec.col h x))
  have z : Ideal.ofBits .f32 0x00000000#32 = 0 := Gates.zero_bits
  have e : A_main_v38 a0 a1 a2 a3 a4 a5 a6 a7 a8 (ix3 b s (Spec.col h x))
      = Ideal.ofBits .f32 0x00000000#32 + Spec.up (Args.of a0 a1 a2 a3 a4 a5 a6 a7 a8) b h x (s.1 + 0) * a2 (ix3 (0 : Fin 1) (0 : Fin 4) (Spec.col h x))
        + Spec.up (Args.of a0 a1 a2 a3 a4 a5 a6 a7 a8) b h x (s.1 + 1) * a2 (ix3 (0 : Fin 1) (1 : Fin 4) (Spec.col h x))
        + Spec.up (Args.of a0 a1 a2 a3 a4 a5 a6 a7 a8) b h x (s.1 + 2) * a2 (ix3 (0 : Fin 1) (2 : Fin 4) (Spec.col h x))
        + Spec.up (Args.of a0 a1 a2 a3 a4 a5 a6 a7 a8) b h x (s.1 + 3) * a2 (ix3 (0 : Fin 1) (3 : Fin 4) (Spec.col h x))
        + a3 (ix2 (0 : Fin 1) (Spec.col h x)) :=
    congrArg₂ (fun p q : EReal => p + q) (congrArg₂ (fun p q : EReal => p + q) (congrArg₂ (fun p q : EReal => p + q)
      (congrArg₂ (fun p q : EReal => p + q) (congrArg (fun q : EReal => Ideal.ofBits .f32 0x00000000#32 + q) t0) t1) t2) t3) tb
  rw [e, z, zero_add]
  show Spec.up _ b h x s.1 * _ + _ + _ + _ + _ = Spec.up _ b h x (s.1 + 3) * a2 (ix3 (0 : Fin 1) (3 : Fin 4) (Spec.col h x)) + a3 (ix2 (0 : Fin 1) (Spec.col h x))
    + Spec.up _ b h x (s.1 + 2) * a2 (ix3 (0 : Fin 1) (2 : Fin 4) (Spec.col h x))
    + Spec.up _ b h x (s.1 + 1) * a2 (ix3 (0 : Fin 1) (1 : Fin 4) (Spec.col h x)) + Spec.up _ b h x s.1 * a2 (ix3 (0 : Fin 1) (0 : Fin 4) (Spec.col h x))
  ac_rfl

end Cert.RefProj

end
-- ==== Proof.Scalars.lean ====
/- The scalar identities between the kernel's formulas and the reference's. -/
module

public import proofs.«01_k».proof.Proof.Spec

@[expose] public section

noncomputable section

namespace Cert.Scalars

open Idealize.ShloMosaic Cert.Gates Cert.Spec Cert.PartOut

theorem minus_eight_bits : Ideal.ofBits .f32 0xC1000000#32 = -8 := by
  simp [Ideal.ofBits, Ideal.ieee]
  rw [← EReal.coe_mul]
  norm_num
  rfl

theorem two_bits : Ideal.ofBits .f32 0x40000000#32 = 2 := by
  simp [Ideal.ofBits, Ideal.ieee]
  rw [← EReal.coe_mul]
  norm_num
  rfl

/-- The decay's exponent. -/
theorem exponent_eq (s p : EReal) :
    Ideal.ofBits .f32 0xC1000000#32 * s * p = 0 - s * (Ideal.ofBits .f32 0x41000000#32 * p) := by
  rw [minus_eight_bits, eight_bits, zero_sub, neg_mul, neg_mul, mul_left_comm, mul_assoc]

/-- The decay's exponent is not negative. -/
theorem nla_nonneg (z lam : EReal) : 0 ≤ nlaS z (cspS lam) := EReal.mul_nonneg (logistic_nonneg z) (cspS_nonneg lam)

/-- The hyperbolic tangent times `1 + e⁻²ʳ` is `1 - e⁻²ʳ`. -/
theorem tanh_real (r : ℝ) : Real.tanh r * (1 + Real.exp (-r) * Real.exp (-r)) = 1 - Real.exp (2 * -r) := by
  have h1 : Real.exp r * Real.exp (-r) = 1 := by rw [← Real.exp_add]; simp
  have h2 : Real.exp (2 * -r) = Real.exp (-r) * Real.exp (-r) := by rw [← Real.exp_add]; ring_nf
  have hp : Real.exp r + Real.exp (-r) ≠ 0 := by positivity
  rw [h2, Real.tanh_eq_sinh_div_cosh, Real.sinh_eq, Real.cosh_eq]
  field_simp
  linear_combination (Real.exp (-r) * 2) * h1

/-- A square root through its reciprocal. -/
theorem rootS_real (v : ℝ) (hv : 0 ≤ v) : rootS (v : EReal) = Ideal.sqrt (v : EReal) := by
  unfold rootS
  have hs : Ideal.sqrt (v : EReal) = ((Real.sqrt v : ℝ) : EReal) := if_neg (not_lt.2 hv)
  rw [hs]
  by_cases h : 0 < v
  · rw [if_pos (by exact_mod_cast h)]
    have hr : Ideal.rsqrt (v : EReal) = (((Real.sqrt v)⁻¹ : ℝ) : EReal) := (if_neg (not_lt.2 hv)).trans (if_neg h.ne')
    rw [hr, ← EReal.coe_mul]
    congr 1
    have : Real.sqrt v ≠ 0 := (Real.sqrt_pos.2 h).ne'
    field_simp
    exact (Real.sq_sqrt hv).symm
  · have h0 : v = 0 := le_antisymm (not_lt.1 h) hv
    subst h0
    simp

/-- The input's scale. -/
theorem scale_eq (n : EReal) (hn : 0 ≤ n) :
    Ideal.sqrt (-(Ideal.expm1 (2 * (0 - n)))) = rootS (Ideal.tanh n * (1 + Ideal.exp (0 - n) * Ideal.exp (0 - n))) := by
  induction n with
  | bot => exact absurd hn (by decide)
  | top =>
    have e1 : (0 : EReal) - ⊤ = ⊥ := by simp
    have e2 : (2 : EReal) * ⊥ = ⊥ := EReal.mul_bot_of_pos (by norm_num)
    rw [e1, e2]
    have h1 : Ideal.exp ⊥ = 0 := rfl
    have h2 : Ideal.tanh ⊤ = 1 := rfl
    unfold Ideal.expm1
    rw [h1, h2, mul_zero, add_zero, mul_one, zero_sub, neg_neg]
    exact (rootS_real 1 zero_le_one).symm
  | coe r =>
    have hr : (0 : ℝ) ≤ r := by exact_mod_cast hn
    have e1 : (0 : EReal) - (r : EReal) = ((-r : ℝ) : EReal) := by rw [zero_sub, EReal.coe_neg]
    have e2 : (2 : EReal) * ((-r : ℝ) : EReal) = ((2 * -r : ℝ) : EReal) := by rw [EReal.coe_mul]; rfl
    have hx : ∀ s : ℝ, Ideal.exp (s : EReal) = ((Real.exp s : ℝ) : EReal) := fun _ => rfl
    have ht : Ideal.tanh (r : EReal) = ((Real.tanh r : ℝ) : EReal) := rfl
    have hl : -(((Real.exp (2 * -r) : ℝ) : EReal) - 1) = ((1 - Real.exp (2 * -r) : ℝ) : EReal) := by
      rw [← EReal.coe_one, ← EReal.coe_sub, ← EReal.coe_neg]; congr 1; ring
    unfold Ideal.expm1
    rw [e1, e2, hx, hx, ht, hl]
    have hv : (((Real.tanh r : ℝ) : EReal) * (1 + ((Real.exp (-r) : ℝ) : EReal) * ((Real.exp (-r) : ℝ) : EReal)))
        = ((1 - Real.exp (2 * -r) : ℝ) : EReal) := by
      rw [← tanh_real, EReal.coe_mul, EReal.coe_add, EReal.coe_mul, EReal.coe_one]
    rw [hv]
    exact (rootS_real _ (sub_nonneg.2 (Real.exp_le_one_iff.2 (by linarith)))).symm

end Cert.Scalars

end
-- ==== Proof.RefGates.lean ====
/- The reference's gates, decay, input and activation at an index. -/
module

public import proofs.«01_k».proof.Proof.RefProj
public import proofs.«01_k».proof.Proof.Scalars

@[expose] public section

noncomputable section

namespace Cert.RefGates

open Idealize.ShloMosaic Idealize.SL.Sem
open Cert.ReferenceIdeal Cert.ReferenceIdeal.Gen Cert.ReferenceIdeal.Step Cert.RefProj Cert.Gates Cert.Scalars Cert.PartOut
open Cert.Spec (Args col cspS spS)

/-- The heads' matrices times the convolved rows, at a lane. -/
theorem gate_sum (w : FVec Ideal S1x16x256x256 .f32) (u : FVec Ideal S2x8192x4096 .f32) (b : Fin 2) (s : Fin 8192) (h : Fin 16) (x : Fin 256) :
    shapeCast S2x8192x4096 (transpose S2x8192x16x256 [2, 3, 0, 1]
      (Host.dotGeneral dot_S16x256x256_S2x8192x16x256_S16x256x2x8192_1_3_2_01_0_2 none
        (shapeCast S16x256x256 w shapeCasts_S1x16x256x256_S16x256x256) (shapeCast S2x8192x16x256 u shapeCasts_S2x8192x4096_S2x8192x16x256))
      transposes_S16x256x2x8192_S2x8192x16x256_2_3_0_1) shapeCasts_S2x8192x16x256_S2x8192x4096 (ix3 b s (col h x))
      = ∑ k : Fin 256, u (ix3 b s (col h k)) * w (ix4 (0 : Fin 1) h k x) := by
  refine (shapeCast_apply _ _ _ (ix4 b s h x) (by
    rw [Shape.rowMajor_val_three, Shape.rowMajor_val_four]
    show ((b.1 * 8192 + s.1) * 16 + h.1) * 256 + x.1 = (b.1 * 8192 + s.1) * 4096 + (256 * h.1 + x.1); omega)).trans ?_
  refine (transpose_apply _ _ _ _ (ix4 h x b s) fun a => ?_).trans ?_
  · match a with
    | ⟨0, _⟩ => rfl
    | ⟨1, _⟩ => rfl
    | ⟨2, _⟩ => rfl
    | ⟨3, _⟩ => rfl
  refine (heads_dot _ _ h x b s).trans (Finset.sum_congr rfl fun k _ => ?_)
  refine (mul_comm (_ : EReal) _).trans (congrArg₂ (fun p q : EReal => p * q) ?_ ?_)
  · exact shapeCast_apply _ _ _ (ix3 b s (col h k)) (by
      rw [Shape.rowMajor_val_three, Shape.rowMajor_val_four]
      show (b.1 * 8192 + s.1) * 4096 + (256 * h.1 + k.1) = ((b.1 * 8192 + s.1) * 16 + h.1) * 256 + k.1; omega)
  · exact shapeCast_apply _ _ _ (ix4 (0 : Fin 1) h k x) (by
      rw [Shape.rowMajor_val_three, Shape.rowMajor_val_four]
      show ((0 * 16 + h.1) * 256 + k.1) * 256 + x.1 = (h.1 * 256 + k.1) * 256 + x.1; omega)

variable (a0 : (⟨S2x8192x4096, .bf16⟩ : BufTy).Contents (Elt Ideal)) (a1 : (⟨S1x4096x18432, .f32⟩ : BufTy).Contents (Elt Ideal))
  (a2 : (⟨S1x4x4096, .f32⟩ : BufTy).Contents (Elt Ideal)) (a3 : (⟨S1x4096, .f32⟩ : BufTy).Contents (Elt Ideal))
  (a4 : (⟨S1x16x256x256, .f32⟩ : BufTy).Contents (Elt Ideal)) (a5 : (⟨S1x4096, .f32⟩ : BufTy).Contents (Elt Ideal))
  (a6 : (⟨S1x16x256x256, .f32⟩ : BufTy).Contents (Elt Ideal)) (a7 : (⟨S1x4096, .f32⟩ : BufTy).Contents (Elt Ideal))
  (a8 : (⟨S1x4096, .f32⟩ : BufTy).Contents (Elt Ideal)) (b : Fin 2) (s : Fin 8192) (h : Fin 16) (x : Fin 256)

/-- The recurrence gate's argument. -/
theorem logit_r : A_main_v47 a0 a1 a2 a3 a4 a5 a6 a7 a8 (ix3 b s (col h x))
    = Spec.logit (Args.of a0 a1 a2 a3 a4 a5 a6 a7 a8) (Args.of a0 a1 a2 a3 a4 a5 a6 a7 a8).wr (Args.of a0 a1 a2 a3 a4 a5 a6 a7 a8).br b h x s.1 := by
  refine congrArg₂ (fun p q : EReal => p + q) ((gate_sum _ _ b s h x).trans (Finset.sum_congr rfl fun k _ => ?_))
    ((spread_apply _ b s (col h x)).trans (vec_apply a5 (col h x)))
  exact congrArg (fun p : EReal => p * _) (conv_apply a0 a1 a2 a3 a4 a5 a6 a7 a8 b s h k)

/-- The input gate's argument. -/
theorem logit_i : A_main_v61 a0 a1 a2 a3 a4 a5 a6 a7 a8 (ix3 b s (col h x))
    = Spec.logit (Args.of a0 a1 a2 a3 a4 a5 a6 a7 a8) (Args.of a0 a1 a2 a3 a4 a5 a6 a7 a8).wi (Args.of a0 a1 a2 a3 a4 a5 a6 a7 a8).bi b h x s.1 := by
  refine congrArg₂ (fun p q : EReal => p + q) ((gate_sum _ _ b s h x).trans (Finset.sum_congr rfl fun k _ => ?_))
    ((spread_apply _ b s (col h x)).trans (vec_apply a7 (col h x)))
  exact congrArg (fun p : EReal => p * _) (conv_apply a0 a1 a2 a3 a4 a5 a6 a7 a8 b s h k)

/-- One over one plus an exponential is the logistic function. -/
theorem sigmoid_apply (z : EReal) :
    Ideal.div (Ideal.ofBits .f32 0x3F800000#32) (Ideal.ofBits .f32 0x3F800000#32 + Ideal.exp (-z)) = Ideal.logistic z := by
  rw [one_bits]; rfl

theorem sigmoid_r : A_main_v53 a0 a1 a2 a3 a4 a5 a6 a7 a8 (ix3 b s (col h x))
    = Ideal.logistic (Spec.logit (Args.of a0 a1 a2 a3 a4 a5 a6 a7 a8) (Args.of a0 a1 a2 a3 a4 a5 a6 a7 a8).wr (Args.of a0 a1 a2 a3 a4 a5 a6 a7 a8).br b h x s.1) :=
  (sigmoid_apply _).trans (congrArg Ideal.logistic (logit_r a0 a1 a2 a3 a4 a5 a6 a7 a8 b s h x))

theorem sigmoid_i : A_main_v67 a0 a1 a2 a3 a4 a5 a6 a7 a8 (ix3 b s (col h x))
    = Ideal.logistic (Spec.logit (Args.of a0 a1 a2 a3 a4 a5 a6 a7 a8) (Args.of a0 a1 a2 a3 a4 a5 a6 a7 a8).wi (Args.of a0 a1 a2 a3 a4 a5 a6 a7 a8).bi b h x s.1) :=
  (sigmoid_apply _).trans (congrArg Ideal.logistic (logit_i a0 a1 a2 a3 a4 a5 a6 a7 a8 b s h x))

/-- The softplus of the negated parameter. -/
theorem softplus_apply (j : Fin 4096) : A_main_v72 a0 a1 a2 a3 a4 a5 a6 a7 a8 (ix1 j) = spS (-(a8 (ix2 (0 : Fin 1) j))) := by
  have hv : A_main_v70 a0 a1 a2 a3 a4 a5 a6 a7 a8 (ix1 j) = a8 (ix2 (0 : Fin 1) j) := vec_apply a8 j
  have e : A_main_v72 a0 a1 a2 a3 a4 a5 a6 a7 a8 (ix1 j) = Scalar.select (Ideal.cmp .une
      (-(A_main_v70 a0 a1 a2 a3 a4 a5 a6 a7 a8 (ix1 j)) - Ideal.ofBits .f32 0x00000000#32) (-(A_main_v70 a0 a1 a2 a3 a4 a5 a6 a7 a8 (ix1 j)) - Ideal.ofBits .f32 0x00000000#32))
      (-(A_main_v70 a0 a1 a2 a3 a4 a5 a6 a7 a8 (ix1 j)) + Ideal.ofBits .f32 0x00000000#32)
      (max (-(A_main_v70 a0 a1 a2 a3 a4 a5 a6 a7 a8 (ix1 j))) (Ideal.ofBits .f32 0x00000000#32)
        + Ideal.log1p (Ideal.exp (-(max (-(A_main_v70 a0 a1 a2 a3 a4 a5 a6 a7 a8 (ix1 j)) - Ideal.ofBits .f32 0x00000000#32)
          (-(-(A_main_v70 a0 a1 a2 a3 a4 a5 a6 a7 a8 (ix1 j)) - Ideal.ofBits .f32 0x00000000#32)))))) := rfl
  rw [e, hv, zero_bits]
  simp [Scalar.select, Ideal.cmp, spS]

/-- The decay's exponent. -/
theorem exponent_apply : A_main_v75 a0 a1 a2 a3 a4 a5 a6 a7 a8 (ix3 b s (col h x))
    = 0 - nlaS (Spec.logit (Args.of a0 a1 a2 a3 a4 a5 a6 a7 a8) (Args.of a0 a1 a2 a3 a4 a5 a6 a7 a8).wr (Args.of a0 a1 a2 a3 a4 a5 a6 a7 a8).br b h x s.1)
      (cspS (a8 (ix2 (0 : Fin 1) (col h x)))) := by
  refine Eq.trans (congrArg₂ (fun p q : EReal => p * q) (congrArg (fun p : EReal => Ideal.ofBits .f32 0xC1000000#32 * p)
    (sigmoid_r a0 a1 a2 a3 a4 a5 a6 a7 a8 b s h x)) ((spread_apply _ b s (col h x)).trans (softplus_apply a0 a1 a2 a3 a4 a5 a6 a7 a8 (col h x)))) ?_
  exact exponent_eq _ _

/-- The decay. -/
theorem decay_apply : A_main_v76 a0 a1 a2 a3 a4 a5 a6 a7 a8 (ix3 b s (col h x)) = Spec.dec (Args.of a0 a1 a2 a3 a4 a5 a6 a7 a8) b h x s.1 :=
  congrArg Ideal.exp (exponent_apply a0 a1 a2 a3 a4 a5 a6 a7 a8 b s h x)

/-- The recurrence's input. -/
theorem input_apply : A_main_v83 a0 a1 a2 a3 a4 a5 a6 a7 a8 (ix3 b s (col h x)) = Spec.inp (Args.of a0 a1 a2 a3 a4 a5 a6 a7 a8) b h x s.1 := by
  refine congrArg₂ (fun p q : EReal => p * q) ?_ (congrArg₂ (fun p q : EReal => p * q) (sigmoid_i a0 a1 a2 a3 a4 a5 a6 a7 a8 b s h x)
    (conv_apply a0 a1 a2 a3 a4 a5 a6 a7 a8 b s h x))
  refine Eq.trans (congrArg (fun e : EReal => Ideal.sqrt (-(Ideal.expm1 (Ideal.ofBits .f32 0x40000000#32 * e))))
    (exponent_apply a0 a1 a2 a3 a4 a5 a6 a7 a8 b s h x)) ?_
  rw [two_bits]
  exact scale_eq _ (nla_nonneg _ _)

/-- The gate's activation. -/
theorem gelu_apply : A_main_v96 a0 a1 a2 a3 a4 a5 a6 a7 a8 (ix3 b s (col h x)) = geluS (Spec.gate (Args.of a0 a1 a2 a3 a4 a5 a6 a7 a8) b h x s) := by
  have hg := gate_apply a0 a1 a2 a3 a4 a5 a6 a7 a8 b s h x
  have e : A_main_v96 a0 a1 a2 a3 a4 a5 a6 a7 a8 (ix3 b s (col h x)) = (fun g : EReal => g * (Ideal.ofBits .f32 0x3F000000#32 * (Ideal.ofBits .f32 0x3F800000#32
      + Ideal.tanh (Ideal.ofBits .f32 0x3F4C422A#32 * (g + Ideal.ofBits .f32 0x3D372713#32 * (g * g * g))))))
      (A_main_v4 a0 a1 a2 a3 a4 a5 a6 a7 a8 (ix3 b s (col h x))) := rfl
  rw [e, hg, one_bits]
  unfold geluS
  simp only [mul_assoc]

end Cert.RefGates

end
-- ==== Proof.RefLoop.lean ====
/- The reference's time loop: the buffers it carries hold the states of the recurrence, one state per trip. -/
module

public import proofs.«01_k».proof.Proof.Gen.ReferenceIdeal.Run
public import proofs.«01_k».proof.Proof.Gen.ReferenceIdeal.Step

@[expose] public section

noncomputable section

namespace Cert.RefLoop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The contents `X` carry the state `s` before trip `j`. -/
def Carries (X : Valuation τ sig (Elt F)) (s : State F) (j : ℕ) : Prop :=
  (X (Proc.devRef .tc main_v102_0) = s.main_v102_0 ∧ X (Proc.devRef .tc main_v102_1) = s.main_v102_1
    ∧ X (Proc.devRef .tc main_v102_2) = s.main_v102_2)
  ∧ X (Proc.devRef .tc main_v102_3) = constantI S_ 32 (BitVec.ofNat 32 j)
  ∧ X (Proc.devRef .tc main_v102_4) = s.main_v102_4 ∧ X (Proc.devRef .tc main_v102_5) = s.main_v102_5

set_option maxRecDepth 8192 in
/-- The new hidden state of a trip. -/
theorem hidden_eq {X : Valuation τ sig (Elt F)} {s : State F} {j : ℕ} (h : Carries X s j) :
    res_main_while0b_v110 X = Step.b13 j s := by
  obtain ⟨⟨h0, h1, _⟩, h3, h4, _⟩ := h
  unfold res_main_while0b_v110
  rw [h0, h1, h3, h4]
  rfl

set_option maxRecDepth 8192 in
/-- The array of results after a trip. -/
theorem results_eq {X : Valuation τ sig (Elt F)} {s : State F} {j : ℕ} (h : Carries X s j) :
    step_main_v102_5 X = Step.b18 j s := by
  have hh := hidden_eq h
  obtain ⟨⟨_, _, h2⟩, h3, _, h5⟩ := h
  unfold step_main_v102_5
  rw [hh, h2, h3, h5]
  rfl

/-- The trip's number after a trip. -/
theorem counter_eq {X : Valuation τ sig (Elt F)} {s : State F} {j : ℕ} (h : Carries X s j) :
    step_main_v102_3 X = constantI S_ 32 (BitVec.ofNat 32 (j + 1)) := by
  unfold step_main_v102_3
  rw [h.2.1]
  funext i
  exact (BitVec.ofNat_add j 1).symm

/-- One trip of the loop carries one step of the recurrence. -/
theorem carries_succ {X : Valuation τ sig (Elt F)} {s : State F} {j : ℕ} (h : Carries X s j) :
    Carries (STEP X) (step j s) (j + 1) := by
  refine ⟨⟨?_, ?_, ?_⟩, ?_, ?_, ?_⟩
  · exact (STEP_main_v102_0 X).trans h.1.1
  · exact (STEP_main_v102_1 X).trans h.1.2.1
  · exact (STEP_main_v102_2 X).trans h.1.2.2
  · exact (STEP_main_v102_3 X).trans (counter_eq h)
  · exact (STEP_main_v102_4 X).trans (hidden_eq h)
  · exact (STEP_main_v102_5 X).trans (results_eq h)

variable (m : (ℓ : Loc nD τ sig) → Buf (Elt F) ℓ) (c : Dev nD)

/-- The states of the recurrence from the arguments in the memory `m`. -/
def states : ℕ → State F
  | 0 => init (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8))
  | k + 1 => step k (states k)

set_option maxRecDepth 65536 in
set_option maxHeartbeats 1000000 in
/-- What the operations before the loop leave carries the first state. -/
theorem carries_zero : Carries (entryContents preI m c) (states m c 0) 0 := by
  refine ⟨⟨?_, ?_, ?_⟩, ?_, ?_, ?_⟩ <;>
    (simp only [entryContents, afterL_cons, afterL_nil]; after_reads_simp) <;> rfl

/-- Before trip `k` the loop's contents carry state `k`. -/
theorem carries (k : ℕ) : Carries (STEP^[k] (entryContents preI m c)) (states m c k) k := by
  induction k with
  | zero => exact carries_zero m c
  | succ k ih => rw [Function.iterate_succ_apply']; exact carries_succ ih

/-- The program's result is the last state's array of results, batch first. -/
theorem result_eq : out_main_v105 (STEP^[8192] (entryContents preI m c)) = Step.R_main_v105 (states m c 8192) := by
  unfold out_main_v105
  rw [(carries m c 8192).2.2.2]
  rfl

end Cert.RefLoop

end
-- ==== Proof.RefFold.lean ====
/- The reference's loop at an index: before trip `n` it holds the state before row `n` and the results of the rows so far. -/
module

public import proofs.«01_k».proof.Proof.RefGates
public import proofs.«01_k».proof.Proof.RefLoop
public import Idealize.ShloMosaic.Lib.DynamicIndex

@[expose] public section

noncomputable section

namespace Cert.RefFold

open Idealize.ShloMosaic Idealize.SL.Sem
open Cert.ReferenceIdeal Cert.ReferenceIdeal.Gen Cert.ReferenceIdeal.Step Cert.RefProj Cert.RefGates Cert.RefLoop Cert.Gates Cert.PartOut
open Cert.Spec (Args col)

theorem slice_fits {n : ℕ} (hn : n < 8192) : S8192x2x4096.Slices ![n, 0, 0] S1x2x4096 := ⟨rfl, fun a => by
  match a with
  | ⟨0, _⟩ => show n + 1 ≤ 8192; omega
  | ⟨1, _⟩ => show 0 + 2 ≤ 2; omega
  | ⟨2, _⟩ => show 0 + 4096 ≤ 4096; omega⟩

/-- The trip's start, as a number. -/
theorem start_eq {n : ℕ} (hn : n < 8192) (a : Fin 3) :
    (((![(constantI S_ 32 (BitVec.ofNat 32 n) : (⟨S_, .i32⟩ : BufTy).Contents (Elt Ideal)), constantI S_ 32 0#32, constantI S_ 32 0#32] :
      Fin 3 → (⟨S_, .i32⟩ : BufTy).Contents (Elt Ideal))) a (Shape.Idx.first h_S_)).toInt = ((![n, 0, 0] : Fin 3 → ℕ) a : Int) := by
  match a with
  | ⟨0, _⟩ => exact toInt_ofNat_of_lt (by omega)
  | ⟨1, _⟩ => rfl
  | ⟨2, _⟩ => rfl

/-- Row `n` of an array as a trip reads it. -/
theorem row_read (v : FVec Ideal S8192x2x4096 .f32) {n : ℕ} (hn : n < 8192) (b : Fin 2) (j : Fin 4096) :
    shapeCast S2x4096 (Host.dynamicSlice S1x2x4096 v (fun k => (((![(constantI S_ 32 (BitVec.ofNat 32 n) : (⟨S_, .i32⟩ : BufTy).Contents (Elt Ideal)), constantI S_ 32 0#32, constantI S_ 32 0#32] :
      Fin 3 → (⟨S_, .i32⟩ : BufTy).Contents (Elt Ideal))) k (Shape.Idx.first h_S_)).toInt) sliceFits_S8192x2x4096_S1x2x4096) shapeCasts_S1x2x4096_S2x4096 (ix2 b j)
      = v (ix3 (⟨n, hn⟩ : Fin 8192) b j) := by
  rw [Host.dynamicSlice_eq_extractStridedSlice S1x2x4096 v _ ![n, 0, 0] _ (slice_fits hn) (start_eq hn)]
  refine (shapeCast_apply _ _ _ (ix3 (0 : Fin 1) b j) (by
    rw [Shape.rowMajor_val_two, Shape.rowMajor_val_three]; show (0 * 2 + b.1) * 4096 + j.1 = b.1 * 4096 + j.1; omega)).trans ?_
  exact extractStridedSlice_apply _ _ _ _ (ix3 (⟨n, hn⟩ : Fin 8192) b j) fun a => by
    match a with
    | ⟨0, _⟩ => rfl
    | ⟨1, _⟩ => show b.1 = 0 + b.1; omega
    | ⟨2, _⟩ => show j.1 = 0 + j.1; omega

/-- An array after a trip stores its row. -/
theorem row_write (v : FVec Ideal S8192x2x4096 .f32) (u : FVec Ideal S2x4096 .f32) {n : ℕ} (hn : n < 8192) (s : Fin 8192) (b : Fin 2) (j : Fin 4096) :
    Host.dynamicUpdateSlice v (broadcastInDim S1x2x4096 ![1, 2] bcast_S2x4096_S1x2x4096_1_2 u)
      (fun k => (((![(constantI S_ 32 (BitVec.ofNat 32 n) : (⟨S_, .i32⟩ : BufTy).Contents (Elt Ideal)), constantI S_ 32 0#32, constantI S_ 32 0#32] :
      Fin 3 → (⟨S_, .i32⟩ : BufTy).Contents (Elt Ideal))) k (Shape.Idx.first h_S_)).toInt) updateFits_S8192x2x4096_S1x2x4096 (ix3 s b j)
      = if s.1 = n then u (ix2 b j) else v (ix3 s b j) := by
  have hs := start_eq hn
  rw [Host.dynamicUpdateSlice_eq_updateSlice v _ _ _ ![n, 0, 0] (fun a => by
    rw [hs a]
    match a with
    | ⟨0, _⟩ => show (min (max (n : Int) 0) ((8192 - 1 : ℕ) : Int)).toNat = n; omega
    | ⟨1, _⟩ => rfl
    | ⟨2, _⟩ => rfl) (slice_fits hn)]
  unfold updateSlice
  by_cases h : s.1 = n
  · rw [if_pos h, dif_pos fun a => by
      match a with
      | ⟨0, _⟩ => show n ≤ s.1 ∧ s.1 < n + 1; omega
      | ⟨1, _⟩ => show 0 ≤ b.1 ∧ b.1 < 0 + 2; omega
      | ⟨2, _⟩ => show 0 ≤ j.1 ∧ j.1 < 0 + 4096; omega]
    exact broadcastInDim_apply _ _ _ _ (ix2 b j) fun a => by
      match a with
      | ⟨0, _⟩ => rfl
      | ⟨1, _⟩ => rfl
  · rw [if_neg h, dif_neg fun hc => h (by
      have h0 : n ≤ s.1 ∧ s.1 < n + 1 := hc (0 : Fin 3)
      omega)]

theorem swap_apply (v : FVec Ideal S2x8192x4096 .f32) (s : Fin 8192) (b : Fin 2) (j : Fin 4096) :
    transpose S8192x2x4096 [1, 0, 2] v transposes_S2x8192x4096_S8192x2x4096_1_0_2 (ix3 s b j) = v (ix3 b s j) :=
  transpose_apply _ _ _ _ (ix3 b s j) fun a => by
    match a with
    | ⟨0, _⟩ => rfl
    | ⟨1, _⟩ => rfl
    | ⟨2, _⟩ => rfl

variable (m : (ℓ : Loc nD τ sig) → Buf (Elt Ideal) ℓ) (c : Dev nD)

/-- The arguments as launched. -/
def args : Args := Args.of (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8))

/-- What the loop holds before trip `n`. -/
structure Holds (s : State Ideal) (n : ℕ) : Prop where
  dec : ∀ (r : Fin 8192) (b : Fin 2) (h : Fin 16) (x : Fin 256), s.main_v102_0 (ix3 r b (col h x)) = Spec.dec (args m c) b h x r.1
  inp : ∀ (r : Fin 8192) (b : Fin 2) (h : Fin 16) (x : Fin 256), s.main_v102_1 (ix3 r b (col h x)) = Spec.inp (args m c) b h x r.1
  gelu : ∀ (r : Fin 8192) (b : Fin 2) (h : Fin 16) (x : Fin 256), s.main_v102_2 (ix3 r b (col h x)) = geluS (Spec.gate (args m c) b h x r)
  hid : ∀ (b : Fin 2) (h : Fin 16) (x : Fin 256), s.main_v102_4 (ix2 b (col h x)) = Spec.hid (args m c) b h x n
  res : ∀ (r : Fin 8192) (b : Fin 2) (h : Fin 16) (x : Fin 256), r.1 < n → s.main_v102_5 (ix3 r b (col h x)) = Spec.res (args m c) b r h x

theorem holds_zero : Holds m c (states m c 0) 0 where
  dec r b h x := (swap_apply _ r b _).trans (decay_apply _ _ _ _ _ _ _ _ _ b r h x)
  inp r b h x := (swap_apply _ r b _).trans (input_apply _ _ _ _ _ _ _ _ _ b r h x)
  gelu r b h x := (swap_apply _ r b _).trans (gelu_apply _ _ _ _ _ _ _ _ _ b r h x)
  hid b h x := zero_bits
  res r b h x hr := absurd hr (Nat.not_lt_zero _)

/-- The state after a trip. -/
theorem hid_succ {s : State Ideal} {n : ℕ} (hn : n < 8192) (H : Holds m c s n) (b : Fin 2) (h : Fin 16) (x : Fin 256) :
    b13 n s (ix2 b (col h x)) = Spec.hid (args m c) b h x (n + 1) := by
  have h0 := (row_read s.main_v102_0 hn b (col h x)).trans (H.dec ⟨n, hn⟩ b h x)
  have h1 := (row_read s.main_v102_1 hn b (col h x)).trans (H.inp ⟨n, hn⟩ b h x)
  refine (congrArg₂ (fun p q : EReal => p + q) (congrArg₂ (fun p q : EReal => p * q) h0 (H.hid b h x)) h1).trans ?_
  unfold Spec.hid
  show _ = Spec.dec (args m c) b h x (0 + n) * Scan.run _ _ 0 n 0 + Spec.inp (args m c) b h x (0 + n)
  rw [Nat.zero_add]

theorem holds_succ {s : State Ideal} {n : ℕ} (hn : n < 8192) (H : Holds m c s n) : Holds m c (step n s) (n + 1) where
  dec := H.dec
  inp := H.inp
  gelu := H.gelu
  hid b h x := hid_succ m c hn H b h x
  res r b h x hr := by
    refine (row_write s.main_v102_5 (b14 n s) hn r b (col h x)).trans ?_
    by_cases e : r.1 = n
    · rw [if_pos e]
      have h2 := (row_read s.main_v102_2 hn b (col h x)).trans (H.gelu ⟨n, hn⟩ b h x)
      refine (congrArg₂ (fun p q : EReal => p * q) h2 (hid_succ m c hn H b h x)).trans ((mul_comm (_ : EReal) _).trans ?_)
      unfold Spec.res
      have er : r = ⟨n, hn⟩ := Fin.ext e
      rw [er]
    · rw [if_neg e]
      exact H.res r b h x (by omega)

theorem holds : ∀ n, n ≤ 8192 → Holds m c (states m c n) n
  | 0, _ => holds_zero m c
  | n + 1, hn => holds_succ m c hn (holds n (by omega))

/-- Row `8192 b + s`, lane `x` of head `h` of the reference's result. -/
theorem result_apply (b : Fin 2) (s : Fin 8192) (h : Fin 16) (x : Fin 256) :
    (R_main_v105 (states m c 8192) : Vec Ideal S16384x4096 .bf16) (ix2 (⟨8192 * b.1 + s.1, by omega⟩ : Fin 16384) (col h x)) = Spec.res (args m c) b s h x := by
  show shapeCast S16384x4096 (transpose S2x8192x4096 [1, 0, 2] (states m c 8192).main_v102_5 transposes_S8192x2x4096_S2x8192x4096_1_0_2)
    shapeCasts_S2x8192x4096_S16384x4096 _ = _
  refine (shapeCast_apply _ shapeCasts_S2x8192x4096_S16384x4096 (ix2 (⟨8192 * b.1 + s.1, by omega⟩ : Fin 16384) (col h x)) (ix3 b s (col h x)) (by
    rw [Shape.rowMajor_val_two, Shape.rowMajor_val_three]
    show (b.1 * 8192 + s.1) * 4096 + (col h x).1 = (8192 * b.1 + s.1) * 4096 + (col h x).1; omega)).trans ?_
  refine (transpose_apply _ _ _ _ (ix3 s b (col h x)) fun a => ?_).trans ((holds m c 8192 (le_refl _)).res s b h x s.2)
  match a with
  | ⟨0, _⟩ => rfl
  | ⟨1, _⟩ => rfl
  | ⟨2, _⟩ => rfl

end Cert.RefFold

end
-- ==== Proof.Equation.lean ====
/- The equation: from the same arguments, the kernel's array and the reference's hold the same at every row and lane. -/
module

public import proofs.«01_k».proof.Proof.Result
public import proofs.«01_k».proof.Proof.RefFold

@[expose] public section

noncomputable section

namespace Cert.Equation

open Idealize.ShloMosaic Idealize.ShloMosaic.TcCoe Idealize.SL.Sem
open Cert.PartOut
open Cert.Spec (col)

/-- Every row and lane of the result is some position of a sequence and some lane of a head. -/
theorem index_split (i : (⟨2, ![16384, 4096]⟩ : Shape).Idx) :
    ∃ (b : Fin 2) (s : Fin 8192) (h : Fin 16) (x : Fin 256), i = ix2 (⟨8192 * b.1 + s.1, by omega⟩ : Fin 16384) (col h x) := by
  have h0 : (i 0).1 < 16384 := (i 0).2
  have h1 : (i 1).1 < 4096 := (i 1).2
  refine ⟨⟨(i 0).1 / 8192, by omega⟩, ⟨(i 0).1 % 8192, by omega⟩, ⟨(i 1).1 / 256, by omega⟩, ⟨(i 1).1 % 256, by omega⟩, ?_⟩
  funext a
  apply Fin.ext
  match a with
  | ⟨0, _⟩ => show (i 0).1 = 8192 * ((i 0).1 / 8192) + (i 0).1 % 8192; omega
  | ⟨1, _⟩ => show (i 1).1 = 256 * ((i 1).1 / 256) + (i 1).1 % 256; omega

/-- From equal arguments the reference's array is the kernel's. -/
theorem results_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : RefFold.args m' c = Blocks.args m c) :
    (ReferenceIdeal.Step.R_main_v105 (RefLoop.states m' c 8192) : Vec Ideal ⟨2, ![16384, 4096]⟩ .bf16)
      = (KernelIdeal.Value.G10 m c : Vec Ideal ⟨2, ![16384, 4096]⟩ .bf16) := by
  funext i
  obtain ⟨b, s, k, x, rfl⟩ := index_split i
  exact (RefFold.result_apply m' c b s k x).trans ((congrArg (fun A => Spec.res A b s k x) h).trans (Result.array_apply m c b s k x).symm)

end Cert.Equation

end
-- ==== Proof.Products.lean ====
/- What the layer's other products compute, as sums over an index: the projections of the activations, the merge, and the
   output projection. -/
module

public import proofs.«01_k».proof.Proof.Spec

@[expose] public section

noncomputable section

namespace Cert.Products

open Idealize.ShloMosaic

/-- Row `i` of the activations of both sequences, one after the other. -/
def row {D : ℕ} {e : FTy} (x : FVec Ideal ⟨3, ![2, 8192, D]⟩ e) (i : Fin 16384) (k : Fin D) : EReal :=
  x (ix3 (⟨i.1 / 8192, by omega⟩ : Fin 2) (⟨i.1 % 8192, by omega⟩ : Fin 8192) k)

/-- A column of the input projection. -/
def inProj (x : FVec Ideal ⟨3, ![2, 8192, 4096]⟩ .bf16) (w : FVec Ideal ⟨3, ![1, 4096, 18432]⟩ .f32) (i : Fin 16384) (j : Fin 18432) : EReal :=
  ∑ k : Fin 4096, row x i k * w (ix3 (0 : Fin 1) k j)

/-- The pool's columns of the input projection. -/
def poolIn (x : FVec Ideal ⟨3, ![2, 8192, 4096]⟩ .bf16) (w : FVec Ideal ⟨3, ![1, 4096, 18432]⟩ .f32) (i : Fin 16384) (j : Fin 2048) : EReal :=
  inProj x w i ⟨8192 + j.1, by omega⟩

/-- The merge's gates: the logistic of the last columns of the input projection and their biases. -/
def mergeIn (x : FVec Ideal ⟨3, ![2, 8192, 4096]⟩ .bf16) (w : FVec Ideal ⟨3, ![1, 4096, 18432]⟩ .f32) (b : FVec Ideal ⟨2, ![1, 8192]⟩ .f32)
    (i : Fin 16384) (j : Fin 8192) : EReal :=
  Ideal.logistic (inProj x w i ⟨10240 + j.1, by omega⟩ + b (ix2 (0 : Fin 1) j))

/-- The output projection added to the activations. -/
def outProj (x : FVec Ideal ⟨3, ![2, 8192, 4096]⟩ .f32) (g : FVec Ideal ⟨2, ![16384, 4096]⟩ .bf16) (w : FVec Ideal ⟨3, ![1, 4096, 4096]⟩ .f32)
    (i : Fin 16384) (j : Fin 4096) : EReal :=
  row x i j + ∑ k : Fin 4096, g (ix2 i k) * w (ix3 (0 : Fin 1) k j)

/-- The pool's branch: each group of 512 pooled lanes is multiplied by the group's matrix and scaled. -/
def poolOut (p : FVec Ideal ⟨2, ![16384, 2048]⟩ .bf16) (w : FVec Ideal ⟨4, ![1, 4, 512, 1024]⟩ .f32) (s : FVec Ideal ⟨2, ![1, 4096]⟩ .f32)
    (i : Fin 16384) (g : Fin 4) (y : Fin 1024) : EReal :=
  (∑ k : Fin 512, p (ix2 i (⟨512 * g.1 + k.1, by omega⟩ : Fin 2048)) * w (ix4 (0 : Fin 1) g k y)) * s (ix2 (0 : Fin 1) (⟨1024 * g.1 + y.1, by omega⟩ : Fin 4096))

/-- The merge: the recurrence's branch, projected, and the pool's branch, each weighted by its gate. -/
def mergeOut (h : FVec Ideal ⟨2, ![16384, 4096]⟩ .bf16) (w : FVec Ideal ⟨3, ![1, 4096, 4096]⟩ .f32) (p : FVec Ideal ⟨2, ![16384, 2048]⟩ .bf16)
    (pw : FVec Ideal ⟨4, ![1, 4, 512, 1024]⟩ .f32) (ps : FVec Ideal ⟨2, ![1, 4096]⟩ .f32) (mg : FVec Ideal ⟨2, ![16384, 8192]⟩ .bf16)
    (i : Fin 16384) (g : Fin 4) (y : Fin 1024) : EReal :=
  mg (ix2 i (⟨1024 * g.1 + y.1, by omega⟩ : Fin 8192)) * (∑ k : Fin 4096, h (ix2 i k) * w (ix3 (0 : Fin 1) k (⟨1024 * g.1 + y.1, by omega⟩ : Fin 4096)))
    + mg (ix2 i (⟨4096 + (1024 * g.1 + y.1), by omega⟩ : Fin 8192)) * poolOut p pw ps i g y

end Cert.Products

end
-- ==== Proof.Tiles.lean ====
/- What the tiled products share: whole loads and stores, the product of two blocks, and the weights kept over a column of
   blocks. -/
module

public import proofs.«01_k».proof.Proof.Products
public import proofs.«01_k».proof.Proof.Gates
public import Idealize.ShloMosaic.Lib.MatmulPlain
public import Idealize.ShloMosaic.Lib.WholeRead
public import Idealize.ShloMosaic.Lib.Pointwise

@[expose] public section

noncomputable section

namespace Cert.Tiles

open Idealize.ShloMosaic Idealize.ShloMosaic.TcCoe Idealize.SL.Sem
open Cert.Gates (zero_bits)

theorem zeros2 : (![0, 0] : Fin 2 → ℕ) = fun _ => 0 := by
  funext a
  match a with
  | ⟨0, _⟩ => rfl
  | ⟨1, _⟩ => rfl
theorem zeros3 : (![0, 0, 0] : Fin 3 → ℕ) = fun _ => 0 := by
  funext a
  match a with
  | ⟨0, _⟩ => rfl
  | ⟨1, _⟩ => rfl
  | ⟨2, _⟩ => rfl

/-- A load of all of a memref that holds `X`. -/
theorem load_whole {sig : RefSig} {κ : Kind} {sp : Space} {S : Shape} {e : EltTy} {M : Memref sig κ sp S e} (h : M.IsWhole) (X : S.Idx → Elt Ideal e)
    {o : Fin S.rank → ℕ} (ho : o = fun _ => 0) (inb : ∀ a, o a + S.size a ≤ S.size a) :
    View.readAt (Elt Ideal) M.view (Rect.unit o S.size inb).toLoadRect (h.unread X) = X := by
  subst ho
  funext y
  refine (h.readAt_unread X _ y).trans (congrArg X ?_)
  funext a; apply Fin.ext
  show 0 + 1 * (y a).1 = (y a).1
  omega

/-- A store over all of a view leaves what was stored. -/
theorem store_whole {sig : RefSig} {κ : Kind} {sp : Space} {S : Shape} {e : EltTy} (v : View sig κ sp S e) (f : v.ty.Contents (Elt Ideal))
    {o : Fin S.rank → ℕ} (ho : o = fun _ => 0) (inb : ∀ a, o a + S.size a ≤ S.size a) (X : S.Idx → Elt Ideal e) :
    v.read (Elt Ideal) (v.writes (Elt Ideal) f [⟨Rect.unit o S.size inb, X⟩]) = X :=
  (View.read_writes_eq_canon v f _ fun y => ⟨_, List.mem_singleton_self _, View.mem_set_unit_zero ho inb y⟩).trans (View.canon_unit_zero ho inb X)

/-- An index by its two coordinates. -/
theorem eq_ix2 {A B : ℕ} {i : (⟨2, ![A, B]⟩ : Shape).Idx} {a : Fin A} {b : Fin B} (ha : (i 0).1 = a.1) (hb : (i 1).1 = b.1) : i = ix2 a b := by
  funext k; apply Fin.ext
  match k with
  | ⟨0, _⟩ => exact ha
  | ⟨1, _⟩ => exact hb

/-- The activations as one array of rows. -/
theorem rows_apply {D : ℕ} {e : FTy} (x : FVec Ideal ⟨3, ![2, 8192, D]⟩ e) (h : (⟨3, ![2, 8192, D]⟩ : Shape).ShapeCasts ⟨2, ![16384, D]⟩)
    (i : Fin 16384) (k : Fin D) : shapeCast ⟨2, ![16384, D]⟩ x h (ix2 i k) = Products.row x i k :=
  shapeCast_apply _ _ _ _ (by
    rw [Shape.rowMajor_val_two, Shape.rowMajor_val_three]
    show (i.1 / 8192 * 8192 + i.1 % 8192) * D + k.1 = i.1 * D + k.1
    rw [show i.1 / 8192 * 8192 + i.1 % 8192 = i.1 by omega])

/-- A stack of one matrix is the matrix. -/
theorem matrix_apply {A B : ℕ} {e : FTy} (w : FVec Ideal ⟨3, ![1, A, B]⟩ e) (h : (⟨3, ![1, A, B]⟩ : Shape).ShapeCasts ⟨2, ![A, B]⟩)
    (k : Fin A) (j : Fin B) : shapeCast ⟨2, ![A, B]⟩ w h (ix2 k j) = w (ix3 (0 : Fin 1) k j) :=
  shapeCast_apply _ _ _ _ (by
    rw [Shape.rowMajor_val_two, Shape.rowMajor_val_three]
    show (0 * A + k.1) * B + j.1 = k.1 * B + j.1
    rw [Nat.zero_mul, Nat.zero_add])

/-- A row vector through a vector and back. -/
theorem row_apply {B : ℕ} {e : FTy} (v : FVec Ideal ⟨2, ![1, B]⟩ e) (h : (⟨2, ![1, B]⟩ : Shape).ShapeCasts ⟨1, ![B]⟩)
    (h' : (⟨1, ![B]⟩ : Shape).ShapeCasts ⟨2, ![1, B]⟩) (j : Fin B) :
    shapeCast ⟨2, ![1, B]⟩ (shapeCast ⟨1, ![B]⟩ v h) h' (ix2 (0 : Fin 1) j) = v (ix2 (0 : Fin 1) j) := by
  refine (shapeCast_apply _ _ _ (ix1 j) (by
    rw [Shape.rowMajor_val_one, Shape.rowMajor_val_two]; show j.1 = 0 * B + j.1; omega)).trans ?_
  exact shapeCast_apply _ _ _ (ix2 (0 : Fin 1) j) (by
    rw [Shape.rowMajor_val_one, Shape.rowMajor_val_two]; show 0 * B + j.1 = j.1; omega)

/-- The product of two blocks, from nothing, at an index. -/
theorem product_apply {M K N : ℕ} {d : DotDims ⟨2, ![M, K]⟩ ⟨2, ![K, N]⟩ ⟨2, ![M, N]⟩} (hd : d = DotDims.plain M K N)
    {e e' : FTy} (x : FVec Ideal ⟨2, ![M, K]⟩ e) (w : FVec Ideal ⟨2, ![K, N]⟩ e') (r : Fin M) (y : Fin N) :
    matmul d none x w (constant (F := Ideal) ⟨2, ![M, N]⟩ .f32 0x00000000#32) (ix2 r y) = ∑ k : Fin K, x (ix2 r k) * w (ix2 k y) := by
  subst hd
  refine (Ideal.matmul_plain_apply (M := M) (K := K) (N := N) none x w (constant ⟨2, ![M, N]⟩ .f32 0x00000000#32) r y).trans ?_
  exact (congrArg (· + _) zero_bits).trans (zero_add _)

/-- A buffer filled at the first of each 32 points and kept over the rest holds, at every point, what that point would fill it
    with, where that doesn't change over the 32. -/
theorem held {α : Type} {N : ℕ} (scr blk : ∀ n, n < N → α) (h0 : ∀ n hn, n % 32 = 0 → scr n hn = blk n hn)
    (h1 : ∀ n hn, ¬ n % 32 = 0 → scr n hn = scr (n - 1) (Nat.lt_of_le_of_lt (Nat.sub_le _ _) hn))
    (hb : ∀ n hn, ¬ n % 32 = 0 → blk n hn = blk (n - 1) (Nat.lt_of_le_of_lt (Nat.sub_le _ _) hn)) : ∀ n hn, scr n hn = blk n hn
  | 0, hn => h0 0 hn rfl
  | n + 1, hn => by
    by_cases h : (n + 1) % 32 = 0
    · exact h0 _ hn h
    · exact (h1 _ hn h).trans ((held scr blk h0 h1 hb n _).trans (hb _ hn h).symm)

/-- What each point writes, where it writes by `f` from such a buffer: from the one just filled at the first of 32 points, from the
    one the point before left at the others. -/
theorem written {α β : Type} {N : ℕ} (out : ∀ n, n < N → β) (scr blk : ∀ n, n < N → α) (f : ∀ n, n < N → α → β)
    (h0 : ∀ n hn, n % 32 = 0 → scr n hn = blk n hn)
    (h1 : ∀ n hn, ¬ n % 32 = 0 → scr n hn = scr (n - 1) (Nat.lt_of_le_of_lt (Nat.sub_le _ _) hn))
    (hb : ∀ n hn, ¬ n % 32 = 0 → blk n hn = blk (n - 1) (Nat.lt_of_le_of_lt (Nat.sub_le _ _) hn))
    (hA : ∀ n hn, n % 32 = 0 → out n hn = f n hn (blk n hn))
    (hB : ∀ n hn, ¬ n % 32 = 0 → out n hn = f n hn (scr (n - 1) (Nat.lt_of_le_of_lt (Nat.sub_le _ _) hn))) (n : ℕ) (hn : n < N) :
    out n hn = f n hn (blk n hn) := by
  by_cases h : n % 32 = 0
  · exact hA n hn h
  · exact (hB n hn h).trans (congrArg (f n hn) ((held scr blk h0 h1 hb _ _).trans (hb n hn h).symm))

end Cert.Tiles

end
-- ==== Proof.RouterTop.lean ====
/- The greatest and the second greatest of eight values, the place of the first greatest, and the softmax: as the router's
   kernel finds them, by reductions, and as a sort finds them. -/
module

public import proofs.«01_k».proof.Proof.Tiles
public import Idealize.ShloMosaic.Lib.SortFacts

@[expose] public section

noncomputable section

namespace Cert.Router

open Idealize.ShloMosaic Idealize.SL.Sem

/-- The greatest of eight values. -/
def top (f : Fin 8 → EReal) : EReal := (Finset.univ : Finset (Fin 8)).fold max ⊥ f

theorem le_top (f : Fin 8 → EReal) (j : Fin 8) : f j ≤ top f := (Finset.le_fold_max (f j)).2 (Or.inr ⟨j, Finset.mem_univ j, le_rfl⟩)
theorem top_le {f : Fin 8 → EReal} {b : EReal} (h : ∀ j, f j ≤ b) : top f ≤ b := (Finset.fold_max_le b).2 ⟨bot_le, fun j _ => h j⟩

theorem top_mem (f : Fin 8 → EReal) : ∃ j, f j = top f := by
  obtain ⟨j, hj⟩ := Finite.exists_max f
  exact ⟨j, le_antisymm (le_top f j) (top_le hj)⟩

/-- A place holds the greatest value and none before it does. -/
def IsFirst (f : Fin 8 → EReal) (a : Fin 8) : Prop := f a = top f ∧ ∀ j, j < a → f j ≠ top f

theorem exists_first (f : Fin 8 → EReal) : ∃ a, IsFirst f a := by
  classical
  have hne : (Finset.univ.filter fun j => f j = top f).Nonempty := by
    obtain ⟨j, hj⟩ := top_mem f
    exact ⟨j, by simpa using hj⟩
  refine ⟨Finset.min' _ hne, by simpa using Finset.min'_mem _ hne, fun j hj h => ?_⟩
  exact absurd (Finset.min'_le _ j (by simpa using h)) (not_le.2 hj)

/-- The first place of the greatest value. -/
def first (f : Fin 8 → EReal) : Fin 8 := (exists_first f).choose

theorem first_spec (f : Fin 8 → EReal) : IsFirst f (first f) := (exists_first f).choose_spec

theorem first_unique {f : Fin 8 → EReal} {a : Fin 8} (h : IsFirst f a) : a = first f := by
  rcases lt_trichotomy a (first f) with h' | h' | h'
  · exact absurd h.1 ((first_spec f).2 a h')
  · exact h'
  · exact absurd (first_spec f).1 (h.2 _ h')

/-- The greatest value once the first greatest is set to `b`. -/
def second (b : EReal) (f : Fin 8 → EReal) : EReal := top fun j => if j = first f then b else f j

/-- The softmax of eight values. -/
def soft (f : Fin 8 → EReal) : Fin 8 → EReal := fun j => Ideal.div (Ideal.exp (f j - top f)) (∑ k : Fin 8, Ideal.exp (f k - top f))

theorem minsi_toInt (x y : BitVec 32) : (IntOp.minsi x y).toInt = min x.toInt y.toInt := by
  unfold IntOp.minsi
  by_cases h : x.slt y = true
  · rw [if_pos h]
    exact (min_eq_left (le_of_lt (by simpa [BitVec.slt] using h))).symm
  · rw [if_neg h]
    exact (min_eq_right (by simpa [BitVec.slt] using h)).symm

/-- The least of the places' words, eight where a place is not the greatest's, is the first greatest's. -/
theorem fold_first (f : Fin 8 → EReal) :
    (Finset.univ : Finset (Fin 8)).fold IntOp.minsi 2147483647#32 (fun j => if f j = top f then BitVec.ofNat 32 j.1 else 8#32) = BitVec.ofNat 32 (first f).1 := by
  have hw : ∀ j : Fin 8, (BitVec.ofNat 32 j.1).toInt = j.1 := by decide
  apply BitVec.eq_of_toInt_eq
  rw [← Finset.fold_hom (op' := min) (m := BitVec.toInt) minsi_toInt, hw]
  apply le_antisymm
  · refine (Finset.fold_min_le _).2 (Or.inr ⟨first f, Finset.mem_univ _, ?_⟩)
    rw [if_pos (first_spec f).1, hw]
  · refine (Finset.le_fold_min _).2 ⟨?_, fun j _ => ?_⟩
    · have := (first f).2
      show ((first f).1 : ℤ) ≤ 2147483647
      omega
    · by_cases h : f j = top f
      · rw [if_pos h, hw]
        have : ¬ j < first f := fun h' => (first_spec f).2 j h' h
        have : (first f).1 ≤ j.1 := by simpa using this
        exact_mod_cast this
      · rw [if_neg h]
        have := (first f).2
        show ((first f).1 : ℤ) ≤ 8
        omega

/-! ## The sort -/

/-- Of two places the one with the greater value comes first. -/
def before (f : Fin 8 → EReal) (k k' : Fin 8) : Bool := decide (f k' < f k)
/-- The same, the earlier place first where the values are equal. -/
def before' (f : Fin 8 → EReal) (k k' : Fin 8) : Bool := decide (f k' < f k ∨ f k' = f k ∧ k < k')

theorem stableSort_before (f : Fin 8 → EReal) : ∀ l : List (Fin 8), l.Pairwise (· < ·) → stableSort (before f) l = stableSort (before' f) l
  | [], _ => rfl
  | a :: l, h => by
    rw [List.pairwise_cons] at h
    unfold stableSort
    rw [stableSort_before f l h.2]
    refine insertBefore_congr _ _ a _ fun b hb => ?_
    have hab : a < b := h.1 b ((perm_stableSort (before' f) l).mem_iff.mp hb)
    have : ¬ b < a := not_lt.2 hab.le
    simp [before, before', this]

theorem sortedFrom_before (f : Fin 8 → EReal) : sortedFrom (before f) = sortedFrom (before' f) := by
  have h : sortPositions 8 (before f) = sortPositions 8 (before' f) := stableSort_before f _ (List.pairwise_lt_finRange 8)
  funext k
  unfold sortedFrom
  rw [List.get_of_eq h]
  rfl

/-- In the sorted order no later value is greater. -/
theorem sorted_le (f : Fin 8 → EReal) (i j : Fin 8) (h : i < j) : f (sortedFrom (before f) j) ≤ f (sortedFrom (before f) i) := by
  have := sortedFrom_noInversion (before f) (before f) (fun a b h => by simp [before] at h ⊢; exact h.le) (fun _ _ h => h)
    (fun a b c h h' => by simp [before] at h h' ⊢; exact h.trans h') i j h
  simpa [before] using this

theorem sorted_zero_le (f : Fin 8 → EReal) (k : Fin 8) : f (sortedFrom (before f) k) ≤ f (sortedFrom (before f) 0) := by
  rcases eq_or_ne k 0 with rfl | h
  · exact le_rfl
  · exact sorted_le f 0 k (Fin.pos_of_ne_zero h)

theorem sorted_zero (f : Fin 8 → EReal) : f (sortedFrom (before f) 0) = top f := by
  refine le_antisymm (le_top f _) (top_le fun j => ?_)
  obtain ⟨k, rfl⟩ := sortedFrom_surjective (before f) j
  exact sorted_zero_le f k

/-- The sorted order begins with the first greatest. -/
theorem sorted_first (f : Fin 8 → EReal) : sortedFrom (before f) 0 = first f := by
  refine first_unique ⟨sorted_zero f, fun j hj h => ?_⟩
  rw [← sorted_zero f] at h
  rw [sortedFrom_before] at hj h
  obtain ⟨k, rfl⟩ := sortedFrom_surjective (before' f) j
  have hk : (0 : Fin 8) < k := Fin.pos_of_ne_zero fun e => by rw [e] at hj; exact lt_irrefl _ hj
  have := sortedFrom_noInversion (before' f) (before' f)
    (fun a b h => by
      simp only [before', decide_eq_true_eq, decide_eq_false_iff_not] at h ⊢
      rintro (h' | ⟨h', h''⟩)
      · rcases h with h | ⟨h, _⟩
        · exact absurd (h.trans h') (lt_irrefl _)
        · exact absurd h h'.ne'
      · rcases h with h | ⟨_, h⟩
        · exact absurd h' h.ne'
        · exact absurd (h.trans h'') (lt_irrefl _))
    (fun _ _ h => h)
    (fun a b c h h' => by
      simp only [before', decide_eq_false_iff_not, not_or, not_and, not_lt] at h h' ⊢
      refine ⟨h.1.trans h'.1, fun e => ?_⟩
      have e1 : f b = f a := le_antisymm (e ▸ h'.1) h.1
      have e2 : f c = f b := e.trans e1.symm
      exact (h'.2 e2).trans (h.2 e1)) 0 k hk
  simp only [before', decide_eq_false_iff_not, not_or, not_and] at this
  exact this.2 h.symm hj

/-- The second of the sorted order is the second greatest, where no value is under what the greatest is set to. -/
theorem sorted_second (f : Fin 8 → EReal) (b : EReal) (hb : ∀ j, b ≤ f j) : f (sortedFrom (before f) 1) = second b f := by
  have h1 : sortedFrom (before f) 1 ≠ first f := by
    rw [← sorted_first]
    exact fun e => absurd (sortedFrom_injective (before f) e) (by decide)
  apply le_antisymm
  · have := le_top (fun j => if j = first f then b else f j) (sortedFrom (before f) 1)
    rw [if_neg h1] at this
    exact this
  · refine top_le fun j => ?_
    by_cases h : j = first f
    · rw [if_pos h]; exact hb _
    · rw [if_neg h]
      obtain ⟨k, rfl⟩ := sortedFrom_surjective (before f) j
      have hk : k ≠ 0 := fun e => h (by rw [e, sorted_first])
      rcases eq_or_ne k 1 with rfl | hk1
      · exact le_rfl
      · refine sorted_le f 1 k ?_
        have h0 : k.1 ≠ 0 := fun e => hk (Fin.ext e)
        have h1' : k.1 ≠ 1 := fun e => hk1 (Fin.ext e)
        show (1 : ℕ) < k.1
        omega

/-! ## Real values -/

/-- A value that is a real number. -/
def Real' (x : EReal) : Prop := ∃ r : ℝ, x = r

theorem Real'.mul {x y : EReal} (hx : Real' x) (hy : Real' y) : Real' (x * y) := by
  obtain ⟨a, rfl⟩ := hx; obtain ⟨b, rfl⟩ := hy
  exact ⟨a * b, (EReal.coe_mul a b).symm⟩
theorem Real'.add {x y : EReal} (hx : Real' x) (hy : Real' y) : Real' (x + y) := by
  obtain ⟨a, rfl⟩ := hx; obtain ⟨b, rfl⟩ := hy
  exact ⟨a + b, (EReal.coe_add a b).symm⟩
theorem Real'.sub_self {x : EReal} (hx : Real' x) : x - x = 0 := by
  obtain ⟨a, rfl⟩ := hx
  rw [← EReal.coe_sub, _root_.sub_self]; rfl

theorem Real'.sum {ι : Type} (s : Finset ι) (f : ι → EReal) (h : ∀ i ∈ s, Real' (f i)) : Real' (∑ i ∈ s, f i) :=
  Finset.sum_induction f Real' (fun _ _ => Real'.add) ⟨0, rfl⟩ h

theorem exp_nonneg (x : EReal) : 0 ≤ Ideal.exp x := by
  match x with
  | ⊥ => exact le_rfl
  | ⊤ => exact _root_.le_top
  | (r : ℝ) => exact EReal.coe_nonneg.2 (Real.exp_pos r).le

/-- A softmax of real values is nowhere negative. -/
theorem soft_nonneg (f : Fin 8 → EReal) (h : ∀ j, Real' (f j)) (j : Fin 8) : 0 ≤ soft f j := by
  obtain ⟨a, ha⟩ := top_mem f
  have hs : (0 : EReal) < ∑ k : Fin 8, Ideal.exp (f k - top f) := by
    refine lt_of_lt_of_le ?_ (Finset.single_le_sum (fun k _ => exp_nonneg (f k - top f)) (Finset.mem_univ a))
    rw [← ha, (h a).sub_self]
    exact EReal.coe_pos.2 (Real.exp_pos 0)
  unfold soft Ideal.div
  rw [if_neg hs.ne']
  exact mul_nonneg (exp_nonneg _) (EReal.inv_nonneg_of_nonneg hs.le)

/-- A row's scale is real where the sum of its squares is. -/
theorem scale_real (r : ℝ) (hr : 0 ≤ r) :
    Real' (Ideal.rsqrt (Ideal.div r (FloatOps.ofBits (F := Ideal) (φ := .f32) 0x45800000#32) + FloatOps.ofBits (F := Ideal) (φ := .f32) 0x358637BD#32)) := by
  have e0 : ∃ n : ℝ, 0 < n ∧ (FloatOps.ofBits (F := Ideal) (φ := .f32) 0x45800000#32 : EReal) = (n : EReal) := by
    refine ⟨8388608 * 2 ^ (-11 : ℤ), by positivity, ?_⟩
    show Ideal.ofBits .f32 0x45800000#32 = _
    simp [Ideal.ofBits, Ideal.ieee]
  have e1 : ∃ n : ℝ, 0 < n ∧ (FloatOps.ofBits (F := Ideal) (φ := .f32) 0x358637BD#32 : EReal) = (n : EReal) := by
    refine ⟨8796093 * 2 ^ (-43 : ℤ), by positivity, ?_⟩
    show Ideal.ofBits .f32 0x358637BD#32 = _
    simp [Ideal.ofBits, Ideal.ieee]
  obtain ⟨n, hn, e0⟩ := e0
  obtain ⟨e, he, e1⟩ := e1
  rw [e0, e1]
  unfold Ideal.div
  rw [if_neg (by exact_mod_cast hn.ne'), ← EReal.coe_inv, ← EReal.coe_mul, ← EReal.coe_add]
  have hp : 0 < r * n⁻¹ + e := by positivity
  refine ⟨(Real.sqrt (r * n⁻¹ + e))⁻¹, ?_⟩
  show (if _ then _ else if _ then _ else _) = _
  rw [if_neg (not_lt.2 hp.le), if_neg hp.ne']

theorem low_bits : Ideal.ofBits .f32 0xFF800000#32 = ⊥ := by
  simp [Ideal.ofBits, Ideal.ieee]
theorem minus_bits : Ideal.ofBits .f32 0xBF800000#32 ≤ 0 := by
  simp [Ideal.ofBits, Ideal.ieee]
  rw [← EReal.coe_mul]
  exact EReal.coe_nonneg.2 (by positivity)
theorem high_bits : Ideal.ofBits .f32 0x7F800000#32 = ⊤ := by
  simp [Ideal.ofBits, Ideal.ieee]

/-- A value whose magnitude is less than infinity is real. -/
theorem real_of_abs {x : EReal} (h : max x (-x) < ⊤) : Real' x := by
  match x with
  | ⊥ => simp at h
  | ⊤ => simp at h
  | (r : ℝ) => exact ⟨r, rfl⟩

end Cert.Router

end
-- ==== Proof.Norm.lean ====
/- The array the first RMSNorm leaves, at an index. -/
module

public import proofs.«01_k».proof.Proof.Tiles
public import proofs.«01_k».proof.Proof.Gen.Kernel7Ideal.Value

@[expose] public section

noncomputable section

namespace Cert.Norm

open Idealize.ShloMosaic Idealize.ShloMosaic.TcCoe Idealize.SL.Sem
open Cert.Kernel7Ideal Cert.Kernel7Ideal.Gen Cert.Kernel7Ideal.Value Cert.Tiles Cert.Products
open Cert.Gates (zero_bits)

/-- One over the root of a row's mean square and the norm's epsilon, from the sum of the squares. -/
def scale (s : EReal) : EReal :=
  Ideal.rsqrt (Ideal.div s (FloatOps.ofBits (F := Ideal) (φ := .f32) 0x45800000#32) + FloatOps.ofBits (F := Ideal) (φ := .f32) 0x358637BD#32)

/-- A row over its root mean square, times the norm's gains. -/
def normed (x : FVec Ideal ⟨3, ![2, 8192, 4096]⟩ .f32) (g : FVec Ideal ⟨2, ![1, 4096]⟩ .f32) (i : Fin 16384) (j : Fin 4096) : EReal :=
  row x i j * scale (∑ k : Fin 4096, row x i k * row x i k) * g (ix2 (0 : Fin 1) j)

variable (m : (ℓ : Loc nD τ sig) → Buf (Elt Ideal) ℓ) (c : Dev nD) (t : Fin cfg0.N)

/-- The activations and the gains as launched. -/
abbrev x : FVec Ideal S2x8192x4096 .f32 := m ((c : Thread nD τ).loc main_arg0)
abbrev g : FVec Ideal S1x4096 .f32 := m ((c : Thread nD τ).loc main_arg1)

theorem t_lt : t.1 < 32 := lt_of_lt_of_eq t.2 N_0

theorem VX : V m c (Pipeline.arrRef spec0 0) = shapeCast S16384x4096 (x m c) shapeCasts_S2x8192x4096_S16384x4096 := by
  show StableHlo.after hostOps0 _ (Proc.devRef .tc _) = _
  after_results
  rfl
theorem VG : V m c (Pipeline.arrRef spec0 1) = shapeCast S1x4096 (shapeCast S4096 (g m c) shapeCasts_S1x4096_S4096) shapeCasts_S4096_S1x4096 := by
  show StableHlo.after hostOps0 _ (Proc.devRef .tc _) = _
  after_results
  rfl

/-- The blocks' places, per window. -/
theorem place0 : ∀ t : Fin cfg0.N, win0_0.index t (0 : Fin 2) = t.1 ∧ win0_0.index t (1 : Fin 2) = 0 := (by decide +kernel : ∀ t : Fin grid0.N, _)
theorem place1 : ∀ t : Fin cfg0.N, win0_1.index t (0 : Fin 2) = 0 ∧ win0_1.index t (1 : Fin 2) = 0 := (by decide +kernel : ∀ t : Fin grid0.N, _)
theorem place2 : ∀ t : Fin cfg0.N, win0_2.index t (0 : Fin 2) = t.1 ∧ win0_2.index t (1 : Fin 2) = 0 := (by decide +kernel : ∀ t : Fin grid0.N, _)
theorem flushes : ∀ t : Fin cfg0.N, (cfg0.win 2).flush t = true := (by decide +kernel : ∀ t : Fin grid0.N, _)

/-- Row `r` of the point's 512. -/
theorem blk0 (r : Fin 512) (k : Fin 4096) : (iblk m c 0 t : FVec Ideal S512x4096 .f32) (ix2 r k) = row (x m c) ⟨512 * t.1 + r.1, by have := t_lt t; omega⟩ k := by
  obtain ⟨e0, e1⟩ := place0 t
  have ht := t_lt t
  show V m c (Pipeline.arrRef spec0 0) (((cfg0.win 0).blk t).view.emb (ix2 r k)) = _
  rw [VX, eq_ix2 (i := ((cfg0.win 0).blk t).view.emb (ix2 r k)) (a := (⟨512 * t.1 + r.1, by omega⟩ : Fin 16384)) (b := k)
    (by show win0_0.index t (0 : Fin 2) * 512 + 1 * r.1 = 512 * t.1 + r.1; rw [e0]; omega)
    (by show win0_0.index t (1 : Fin 2) * 4096 + 1 * k.1 = k.1; rw [e1]; omega)]
  exact rows_apply _ _ _ _

/-- The gains the point loads. -/
theorem blk1 (k : Fin 4096) : (iblk m c 1 t : FVec Ideal S1x4096 .f32) (ix2 (0 : Fin 1) k) = g m c (ix2 (0 : Fin 1) k) := by
  obtain ⟨e0, e1⟩ := place1 t
  show V m c (Pipeline.arrRef spec0 1) (((cfg0.win 1).blk t).view.emb (ix2 (0 : Fin 1) k)) = _
  rw [VG, eq_ix2 (i := ((cfg0.win 1).blk t).view.emb (ix2 (0 : Fin 1) k)) (a := (0 : Fin 1)) (b := k)
    (by show win0_1.index t (0 : Fin 2) * 1 + 1 * 0 = 0; rw [e0])
    (by show win0_1.index t (1 : Fin 2) * 4096 + 1 * k.1 = k.1; rw [e1]; omega)]
  exact row_apply _ _ _ _

/-- The sum of the squares of a block's row. -/
theorem squares_apply (v : FVec Ideal S512x4096 .f32) (y : S512.Idx) (r : Fin 512) (hr : (y 0).1 = r.1) :
    multiReduction .add [1] S512 (mulf (shapeCast S512x4096 v shapeCasts_S512x4096_S512x4096) (shapeCast S512x4096 v shapeCasts_S512x4096_S512x4096))
      0x00000000#32 reduces_S512x4096_S512 (.inl rfl) rfl y = ∑ k : Fin 4096, v (ix2 r k) * v (ix2 r k) := by
  refine (multiReduction_add_apply _ _ _ _ _ _).trans ((Ideal.reduceAdd_r2_a1 _ _ _).trans (Finset.sum_congr rfl fun k _ => ?_))
  rw [shapeCast_self]
  exact congrArg (fun i => v i * v i) (eq_ix2 hr rfl)

/-- A load of all of a block. -/
theorem load_all {S : Shape} {o : Fin S.rank → ℕ} (ho : o = fun _ => 0) (inb : ∀ a, o a + S.size a ≤ S.size a) (X : S.Idx → Elt Ideal .f32) :
    View.ld (Val := Elt Ideal) (e' := .f32) X (Rect.unit o S.size inb) = X := by
  subst ho
  exact View.ld_unit_zero rfl inb X

/-- The body's result at an index of its block, from two blocks. -/
theorem body_apply (P0 : FVec Ideal S512x4096 .f32) (P1 : FVec Ideal S1x4096 .f32) (r : Fin 512) (y : Fin 4096) :
    E2 (F := Ideal) P0 P1 (ix2 r y) = P0 (ix2 r y) * scale (∑ k : Fin 4096, P0 (ix2 r k) * P0 (ix2 r k)) * P1 (ix2 (0 : Fin 1) y) := by
  have e0 : ix2_0 (ix2 r y) = ix2 r y := eq_ix2 rfl rfl
  have e2 : ix2_2 (ix2 r y) = ix2 (0 : Fin 1) y := eq_ix2 rfl rfl
  rw [← squares_apply P0 (ix2_1 (ix2 r y)) r rfl]
  unfold E2
  rw [e0, e2]
  rfl

/-- The store of a point, at an index of its block, from what the point loads. -/
theorem stored_apply (P0 : FVec Ideal S512x4096 .f32) (P1 : FVec Ideal S1x4096 .f32) (r : Fin 512) (y : Fin 4096) :
    out0_2 (F := Ideal) P0 P1 (ix2 r y) = P0 (ix2 r y) * scale (∑ k : Fin 4096, P0 (ix2 r k) * P0 (ix2 r k)) * P1 (ix2 (0 : Fin 1) y) := by
  have h0 : View.ld (Val := Elt Ideal) (e' := .f32) P0 r0_0 = P0 := load_all zeros2 _ P0
  have h1 : View.ld (Val := Elt Ideal) (e' := .f32) P1 r0_1 = P1 := load_all zeros2 _ P1
  unfold out0_2
  refine (canon2_eq (F := Ideal) (View.ld (Val := Elt Ideal) (e' := .f32) P0 r0_0) (View.ld (Val := Elt Ideal) (e' := .f32) P1 r0_1) (ix2 r y)).trans ((body_apply _ _ r y).trans ?_)
  exact congrArg₂ (fun (a : FVec Ideal S512x4096 .f32) (b : FVec Ideal S1x4096 .f32) =>
    (a (ix2 r y) * scale (∑ k : Fin 4096, a (ix2 r k) * a (ix2 r k)) * b (ix2 (0 : Fin 1) y) : EReal)) h0 h1

/-- What the point writes, at an index of its block. -/
theorem out_apply (r : Fin 512) (y : Fin 4096) : out0_2 (F := Ideal) (iblk m c 0 t) (iblk m c 1 t) (ix2 r y)
    = normed (x m c) (g m c) ⟨512 * t.1 + r.1, by have := t_lt t; omega⟩ y := by
  refine (stored_apply _ _ r y).trans ?_
  exact congrArg₂ (fun a b : EReal => a * b) (congrArg₂ (fun a b : EReal => a * b) (blk0 m c t r y)
    (congrArg scale (Finset.sum_congr rfl fun k _ => congrArg (fun a : EReal => a * a) (blk0 m c t r k)))) (blk1 m c t y)

/-- The array the launch leaves, at an index. -/
theorem array_apply (i : Fin 16384) (j : Fin 4096) : ((dats m 0 c).arrAt 2 cfg0.N : FVec Ideal S16384x4096 .bf16) (ix2 i j) = normed (x m c) (g m c) i j := by
  have hn : i.1 / 512 < cfg0.N := lt_of_lt_of_eq (by omega) N_0.symm
  obtain ⟨e0, e1⟩ := place2 ⟨i.1 / 512, hn⟩
  have hb := congrFun (blocks2 (F := Ideal) m c ⟨i.1 / 512, hn⟩ (flushes _)) (ix2 (⟨i.1 % 512, by omega⟩ : Fin 512) j)
  rw [flushed2] at hb
  have hi : ((cfg0.win 2).blk ⟨i.1 / 512, hn⟩).view.emb (ix2 (⟨i.1 % 512, by omega⟩ : Fin 512) j) = ix2 i j :=
    eq_ix2 (by show win0_2.index ⟨i.1 / 512, hn⟩ (0 : Fin 2) * 512 + 1 * (i.1 % 512) = i.1; rw [e0]; show i.1 / 512 * 512 + _ = _; omega)
      (by show win0_2.index ⟨i.1 / 512, hn⟩ (1 : Fin 2) * 4096 + 1 * j.1 = j.1; rw [e1]; omega)
  refine (congrArg ((dats m 0 c).arrAt 2 cfg0.N : FVec Ideal S16384x4096 .bf16) hi.symm).trans (hb.trans ?_)
  refine Eq.trans ?_ ((out_apply m c ⟨i.1 / 512, hn⟩ (⟨i.1 % 512, by omega⟩ : Fin 512) j).trans ?_)
  · rfl
  · exact congrArg (fun i => normed (x m c) (g m c) i j) (Fin.ext (by show 512 * (i.1 / 512) + i.1 % 512 = i.1; omega))

end Cert.Norm

end
-- ==== Proof.RouterBody.lean ====
/- What the router's body computes of a block of 256 rows: the two chosen experts' weights, from the rows' logits. -/
module

public import proofs.«01_k».proof.Proof.RouterTop
public import proofs.«01_k».proof.Proof.Norm
public import proofs.«01_k».proof.Proof.Gen.Kernel8Ideal.Value
public import Idealize.ShloMosaic.Lib.ValueLayout

@[expose] public section

noncomputable section

namespace Cert.Router

open Idealize.ShloMosaic Idealize.ShloMosaic.TcCoe Idealize.SL.Sem
open Cert.Kernel8Ideal Cert.Kernel8Ideal.Gen Cert.Tiles Cert.Norm
open Cert.Gates (zero_bits)

/-- The weights a row gives its two experts, in the first two of 128 lanes, from the groups' logits and each group's experts'. -/
def weight (g : Fin 8 → EReal) (e : Fin 8 → Fin 8 → EReal) (j : Fin 128) : EReal :=
  let p := soft (e (first (soft g)))
  let q := second (Ideal.ofBits .f32 0xBF800000#32) p
  if j.1 = 0 then Ideal.div (top (soft g) * top p) (top p + q) else if j.1 = 1 then Ideal.div (top (soft g) * q) (top p + q) else 0

section Columns
variable (v : FVec Ideal S8x256 .f32) (j : Fin 8) (r : Fin 256)

theorem line_apply {α : Type} (u : S256.Idx → α) : shapeCast S1x256 u shapeCasts_S256_S1x256 (ix2 (0 : Fin 1) r) = u (ix1 r) :=
  shapeCast_apply _ _ _ _ (by rw [Shape.rowMajor_val_one, Shape.rowMajor_val_two]; show r.1 = 0 * 256 + r.1; omega)

theorem down_apply {α : Type} (u : S1x256.Idx → α) : broadcastTo S8x256 u broadcasts_S1x256_S8x256 (ix2 j r) = u (ix2 (0 : Fin 1) r) :=
  broadcastTo_apply _ _ _ _ fun a => by
    match a with
    | ⟨0, _⟩ => rfl
    | ⟨1, _⟩ => rfl

/-- The greatest of each column, over the columns. -/
def tops : FVec Ideal S1x256 .f32 := shapeCast S1x256 (multiReduction .maximumf [0] S256 v 0xFF800000#32 reduces_S8x256_S256 (.inl rfl) rfl) shapeCasts_S256_S1x256

theorem tops_apply : tops v (ix2 (0 : Fin 1) r) = top fun k => v (ix2 k r) := by
  refine (line_apply r _).trans ((Ideal.multiReduction_maximumf_single v _ reduces_S8x256_S256 (.inl rfl) rfl (ix1 r)).trans ?_)
  unfold top
  show Finset.fold max (Ideal.ofBits .f32 0xFF800000#32) _ _ = _
  rw [low_bits]
  exact Finset.fold_congr fun k _ => congrArg v (eq_ix2 rfl rfl)

/-- The exponentials of the columns under their greatest. -/
def exps : FVec Ideal S8x256 .f32 := exp (subf v (broadcastTo S8x256 (tops v) broadcasts_S1x256_S8x256))

theorem exps_apply : exps v (ix2 j r) = Ideal.exp (v (ix2 j r) - top fun k => v (ix2 k r)) :=
  congrArg (fun a : EReal => Ideal.exp (v (ix2 j r) - a)) ((down_apply j r _).trans (tops_apply v r))

/-- The softmax of every column. -/
def softs : FVec Ideal S8x256 .f32 := divf (exps v) (broadcastTo S8x256 (shapeCast S1x256 (multiReduction .add [0] S256 (exps v) 0x00000000#32 reduces_S8x256_S256 (.inl rfl) rfl) shapeCasts_S256_S1x256) broadcasts_S1x256_S8x256)

theorem softs_apply : softs v (ix2 j r) = soft (fun k => v (ix2 k r)) j := by
  refine congrArg₂ Ideal.div (exps_apply v j r) ((down_apply j r _).trans ((line_apply r _).trans ?_))
  refine (multiReduction_add_apply _ _ _ _ _ _).trans ((Ideal.reduceAdd_r2_a0 _ _ _).trans (Finset.sum_congr rfl fun k _ => ?_))
  exact (congrArg (exps v) (eq_ix2 rfl rfl)).trans (exps_apply v k r)

/-- The rows' numbers. -/
theorem number_apply {n : ℕ} (h) (j : Fin n) (r : Fin 256) : iota .tc (⟨2, ![n, 256]⟩ : Shape) 32 [0] h (ix2 j r) = BitVec.ofNat 32 j.1 :=
  iota_single_apply _ _ _ _ h _

/-- The first greatest of each column, as a word. -/
def firsts : IVec S1x256 32 := shapeCast S1x256 (multiReductionI .minsi [0] S256
  (select (cmpf .oeq v (broadcastTo S8x256 (tops v) broadcasts_S1x256_S8x256)) (iota .tc S8x256 32 [0] iota_S8x256_d0_w32) (broadcast S8x256 8#32))
  2147483647#32 reduces_S8x256_S256 rfl) shapeCasts_S256_S1x256

theorem marks_apply : select (cmpf .oeq v (broadcastTo S8x256 (tops v) broadcasts_S1x256_S8x256)) (iota .tc S8x256 32 [0] iota_S8x256_d0_w32) (broadcast S8x256 8#32) (ix2 j r)
    = if v (ix2 j r) = top fun k => v (ix2 k r) then BitVec.ofNat 32 j.1 else 8#32 := by
  show Scalar.select (Ideal.cmp .oeq (v (ix2 j r)) (broadcastTo S8x256 (tops v) broadcasts_S1x256_S8x256 (ix2 j r)))
    (iota .tc S8x256 32 [0] iota_S8x256_d0_w32 (ix2 j r)) 8#32 = _
  rw [down_apply, tops_apply, number_apply]
  by_cases h : v (ix2 j r) = top fun k => v (ix2 k r)
  · rw [if_pos h]; simp [Scalar.select, Ideal.cmp, ← h]
  · rw [if_neg h]; simp [Scalar.select, Ideal.cmp, h]

theorem firsts_apply : firsts v (ix2 (0 : Fin 1) r) = BitVec.ofNat 32 (first fun k => v (ix2 k r)).1 := by
  refine (line_apply r _).trans ((multiReductionI_eq_fold _ _ _ reduces_S8x256_S256 rfl (ix1 r)).trans
    ((reduces_S8x256_S256.fold_filter_drop_single _ _ _ (ix1 r)).trans (Eq.trans ?_ (fold_first fun k => v (ix2 k r)))))
  exact Finset.fold_congr fun k _ => (congrArg (select _ _ _) (eq_ix2 rfl rfl : reduces_S8x256_S256.lift (ix1 r) k = ix2 (k : Fin 8) r)).trans (marks_apply v k r)

/-- A choice by the column's word. -/
theorem pick_apply (w : IVec S1x256 32) (c : BitVec 32) (a b : FVec Ideal S8x256 .f32) :
    select (broadcastTo S8x256 (shapeCast S1x256 (cmpi .eq w (broadcast S1x256 c)) shapeCasts_S1x256_S1x256) broadcasts_S1x256_S8x256) a b (ix2 j r)
      = if w (ix2 (0 : Fin 1) r) = c then a (ix2 j r) else b (ix2 j r) := by
  rw [shapeCast_self]
  show Scalar.select (broadcastTo S8x256 (cmpi .eq w (broadcast S1x256 c)) broadcasts_S1x256_S8x256 (ix2 j r)) _ _ = _
  rw [down_apply]
  show Scalar.select (BitVec.ofBool (w (ix2 (0 : Fin 1) r) == c)) _ _ = _
  by_cases h : w (ix2 (0 : Fin 1) r) = c
  · rw [if_pos h]; simp [Scalar.select, h]
  · rw [if_neg h, beq_false_of_ne h]; rfl

end Columns

/-- Eight rows of the logits. -/
theorem eight_apply (o : ℕ) (ho : o + 8 ≤ 128) (L : FVec Ideal S128x256 .f32) (h : S128x256.Slices ![o, 0] S8x256) (k : Fin 8) (r : Fin 256) :
    extractStridedSlice S8x256 ![o, 0] L h (ix2 k r) = L (ix2 (⟨o + k.1, by omega⟩ : Fin 128) r) :=
  extractStridedSlice_apply _ _ _ _ _ fun a => by
    match a with
    | ⟨0, _⟩ => rfl
    | ⟨1, _⟩ => show r.1 = 0 + r.1; omega

section Body
variable (v33 v35 : FVec Ideal S256x128 .f32) (v38 : FVec Ideal S128x1 .f32) (k : Fin 8) (r : Fin 256)

/-- The logits of a block's rows, as columns. -/
abbrev logits : FVec Ideal S128x256 .f32 := k0_pay11 (F := Ideal) v33 v35 v38

/-- A row's logits for the groups, and for the experts of a group. -/
def groupLogits (r : Fin 256) : Fin 8 → EReal := fun k => logits v33 v35 v38 (ix2 (⟨k.1, by omega⟩ : Fin 128) r)
def expertLogits (r : Fin 256) : Fin 8 → Fin 8 → EReal := fun g k => logits v33 v35 v38 (ix2 (⟨8 + 8 * g.1 + k.1, by omega⟩ : Fin 128) r)

theorem pay12_apply : k0_pay12 (F := Ideal) v33 v35 v38 (ix2 k r) = soft (groupLogits v33 v35 v38 r) k := by
  refine (show _ = softs (extractStridedSlice S8x256 ![0, 0] (logits v33 v35 v38) slices_S128x256_o0_0_S8x256) (ix2 k r) from rfl).trans ?_
  refine (softs_apply _ k r).trans (congrArg (fun f => soft f k) (funext fun k' => ?_))
  refine (eight_apply 0 (by omega) _ _ k' r).trans ?_
  exact congrArg (fun i : Fin 128 => logits v33 v35 v38 (ix2 i r)) (Fin.ext (Nat.zero_add _))

theorem columns12 : (fun k : Fin 8 => k0_pay12 (F := Ideal) v33 v35 v38 (ix2 k r)) = soft (groupLogits v33 v35 v38 r) :=
  funext fun k => pay12_apply v33 v35 v38 k r

theorem pay13_apply : k0_pay13 (F := Ideal) v33 v35 v38 (ix2 (0 : Fin 1) r) = top (soft (groupLogits v33 v35 v38 r)) :=
  (tops_apply (k0_pay12 (F := Ideal) v33 v35 v38) r).trans (congrArg top (columns12 v33 v35 v38 r))

theorem pay14_apply : k0_pay14 (F := Ideal) v33 v35 v38 (ix2 (0 : Fin 1) r) = BitVec.ofNat 32 (first (soft (groupLogits v33 v35 v38 r))).1 :=
  (firsts_apply (k0_pay12 (F := Ideal) v33 v35 v38) r).trans (congrArg (fun f => BitVec.ofNat 32 (first f).1) (columns12 v33 v35 v38 r))

/-- The chosen group's experts' logits. -/
def chosen : FVec Ideal S8x256 .f32 :=
  let w := k0_pay14 (F := Ideal) v33 v35 v38
  let L := logits v33 v35 v38
  let p (c : BitVec 32) (a b : FVec Ideal S8x256 .f32) : FVec Ideal S8x256 .f32 :=
    select (broadcastTo S8x256 (shapeCast S1x256 (cmpi .eq w (broadcast S1x256 c)) shapeCasts_S1x256_S1x256) broadcasts_S1x256_S8x256) a b
  p 7#32 (extractStridedSlice S8x256 ![64, 0] L slices_S128x256_o64_0_S8x256) (p 6#32 (extractStridedSlice S8x256 ![56, 0] L slices_S128x256_o56_0_S8x256)
    (p 5#32 (extractStridedSlice S8x256 ![48, 0] L slices_S128x256_o48_0_S8x256) (p 4#32 (extractStridedSlice S8x256 ![40, 0] L slices_S128x256_o40_0_S8x256)
    (p 3#32 (extractStridedSlice S8x256 ![32, 0] L slices_S128x256_o32_0_S8x256) (p 2#32 (extractStridedSlice S8x256 ![24, 0] L slices_S128x256_o24_0_S8x256)
    (p 1#32 (extractStridedSlice S8x256 ![16, 0] L slices_S128x256_o16_0_S8x256) (p 0#32 (extractStridedSlice S8x256 ![8, 0] L slices_S128x256_o8_0_S8x256)
    (broadcast S8x256 (Scalar.ofBits .f32 0x00000000#32)))))))))

theorem chosen_apply : chosen v33 v35 v38 (ix2 k r) = expertLogits v33 v35 v38 r (first (soft (groupLogits v33 v35 v38 r))) k := by
  unfold chosen
  simp only [pick_apply, pay14_apply]
  rw [eight_apply 64 (by omega), eight_apply 56 (by omega), eight_apply 48 (by omega), eight_apply 40 (by omega), eight_apply 32 (by omega),
    eight_apply 24 (by omega), eight_apply 16 (by omega), eight_apply 8 (by omega)]
  generalize first (soft (groupLogits v33 v35 v38 r)) = a
  unfold expertLogits
  revert a
  refine Fin.cases ?_ (Fin.cases ?_ (Fin.cases ?_ (Fin.cases ?_ (Fin.cases ?_ (Fin.cases ?_ (Fin.cases ?_ (Fin.cases ?_ fun a => a.elim0))))))) <;> rfl

/-- The softmax over the chosen group's experts. -/
def probs : FVec Ideal S8x256 .f32 := softs (chosen v33 v35 v38)

/-- The same, of one row. -/
def rowProbs (r : Fin 256) : Fin 8 → EReal := soft (expertLogits v33 v35 v38 r (first (soft (groupLogits v33 v35 v38 r))))

theorem probs_apply : probs v33 v35 v38 (ix2 k r) = rowProbs v33 v35 v38 r k :=
  (softs_apply _ k r).trans (congrArg (fun f => soft f k) (funext fun k' => chosen_apply v33 v35 v38 k' r))

theorem columnsP : (fun k : Fin 8 => probs v33 v35 v38 (ix2 k r)) = rowProbs v33 v35 v38 r := funext fun k => probs_apply v33 v35 v38 k r

/-- The same with the first greatest out of the way. -/
def rest : FVec Ideal S8x256 .f32 :=
  select (cmpi .eq (iota .tc S8x256 32 [0] iota_S8x256_d0_w32) (broadcastTo S8x256 (firsts (probs v33 v35 v38)) broadcasts_S1x256_S8x256))
    (broadcast S8x256 (Scalar.ofBits .f32 0xBF800000#32)) (probs v33 v35 v38)

theorem rest_apply : rest v33 v35 v38 (ix2 k r)
    = if k = first (rowProbs v33 v35 v38 r) then Ideal.ofBits .f32 0xBF800000#32 else rowProbs v33 v35 v38 r k := by
  unfold rest
  show Scalar.select (BitVec.ofBool (iota .tc S8x256 32 [0] iota_S8x256_d0_w32 (ix2 k r) == broadcastTo S8x256 (firsts (probs v33 v35 v38)) broadcasts_S1x256_S8x256 (ix2 k r)))
    (Ideal.ofBits .f32 0xBF800000#32) (probs v33 v35 v38 (ix2 k r)) = _
  rw [down_apply, firsts_apply, columnsP, probs_apply, number_apply]
  generalize first (rowProbs v33 v35 v38 r) = a
  have hw : ∀ a k : Fin 8, (BitVec.ofNat 32 k.1 == BitVec.ofNat 32 a.1) = decide (k = a) := by decide
  rw [hw]
  by_cases h : k = a
  · rw [if_pos h]; simp [Scalar.select, h]
  · rw [if_neg h]; simp [Scalar.select, h]

/-- The weights the body stores. -/
def stores : FVec Ideal S256x128 .f32 :=
  k0_pay25 (F := Ideal) (k0_pay13 (F := Ideal) v33 v35 v38) (tops (probs v33 v35 v38)) (tops (rest v33 v35 v38))

theorem lanes_apply {α : Type} (u : S1x256.Idx → α) (j : Fin 128) : broadcastTo S128x256 u broadcasts_S1x256_S128x256 (ix2 j r) = u (ix2 (0 : Fin 1) r) :=
  broadcastTo_apply _ _ _ _ fun a => by
    match a with
    | ⟨0, _⟩ => rfl
    | ⟨1, _⟩ => rfl

theorem pay25_apply (a b c : FVec Ideal S1x256 .f32) (j : Fin 128) : k0_pay25 (F := Ideal) a b c (ix2 r j)
    = if j.1 = 0 then Ideal.div (a (ix2 (0 : Fin 1) r) * b (ix2 (0 : Fin 1) r)) (b (ix2 (0 : Fin 1) r) + c (ix2 (0 : Fin 1) r))
      else if j.1 = 1 then Ideal.div (a (ix2 (0 : Fin 1) r) * c (ix2 (0 : Fin 1) r)) (b (ix2 (0 : Fin 1) r) + c (ix2 (0 : Fin 1) r)) else 0 := by
  unfold k0_pay25
  rw [shapeCast_self, shapeCast_self]
  refine (transpose_apply _ _ _ _ (ix2 j r) fun a => ?_).trans ?_
  · match a with
    | ⟨0, _⟩ => rfl
    | ⟨1, _⟩ => rfl
  show Scalar.select (BitVec.ofBool (iota .tc S128x256 32 [0] iota_S128x256_d0_w32 (ix2 j r) == 0#32)) (broadcastTo S128x256 (divf (mulf a b) (addf b c)) broadcasts_S1x256_S128x256 (ix2 j r))
    (Scalar.select (BitVec.ofBool (iota .tc S128x256 32 [0] iota_S128x256_d0_w32 (ix2 j r) == 1#32)) (broadcastTo S128x256 (divf (mulf a c) (addf b c)) broadcasts_S1x256_S128x256 (ix2 j r))
      (Ideal.ofBits .f32 0x00000000#32)) = _
  rw [lanes_apply, lanes_apply, number_apply]
  have h0 : (BitVec.ofNat 32 j.1 == 0#32) = decide (j.1 = 0) := by revert j; decide
  have h1 : (BitVec.ofNat 32 j.1 == 1#32) = decide (j.1 = 1) := by revert j; decide
  rw [h0, h1]
  by_cases e0 : j.1 = 0
  · rw [if_pos e0]; simp [Scalar.select, e0]; rfl
  · rw [if_neg e0]
    by_cases e1 : j.1 = 1
    · rw [if_pos e1]; simp [Scalar.select, e1]; rfl
    · rw [if_neg e1]; simp [Scalar.select, e0, e1]

theorem stores_apply (j : Fin 128) : stores v33 v35 v38 (ix2 r j) = weight (groupLogits v33 v35 v38 r) (expertLogits v33 v35 v38 r) j := by
  have e1 := (tops_apply (probs v33 v35 v38) r).trans (congrArg top (columnsP v33 v35 v38 r))
  have e2 : tops (rest v33 v35 v38) (ix2 (0 : Fin 1) r) = second (Ideal.ofBits .f32 0xBF800000#32) (rowProbs v33 v35 v38 r) :=
    (tops_apply (rest v33 v35 v38) r).trans (congrArg top (funext fun k => rest_apply v33 v35 v38 k r))
  refine (pay25_apply r _ _ _ j).trans ?_
  rw [e1, e2, pay13_apply]
  rfl

end Body

/-- The named values above are the body's. -/
theorem body_eq (v33 v35 : FVec Ideal S256x128 .f32) (v38 : FVec Ideal S128x1 .f32) :
    k0_pay25 (F := Ideal) (k0_pay13 v33 v35 v38)
      (k0_pay19 (k0_pay11 v33 v35 v38) (k0_pay14 v33 v35 v38) (k0_pay15 v33 v35 v38) (k0_pay16 v33 v35 v38) (k0_pay17 v33 v35 v38))
      (k0_pay22 (k0_pay11 v33 v35 v38) (iota .tc S8x256 32 [0] iota_S8x256_d0_w32) (k0_pay14 v33 v35 v38) (k0_pay15 v33 v35 v38) (k0_pay16 v33 v35 v38) (k0_pay17 v33 v35 v38))
      = stores v33 v35 v38 := rfl

/-! ## The logits -/

section Logits
variable (X : FVec Ideal S256x4096 .f32) (G : FVec Ideal S1x4096 .f32) (W2 : FVec Ideal S4096x256 .bf16) (W : FVec Ideal S4096x128 .bf16)
  (B : FVec Ideal S128x1 .f32) (r : Fin 256)

/-- The normed row. -/
def hidden (d : Fin 4096) : EReal := X (ix2 r d) * scale (∑ k : Fin 4096, X (ix2 r k) * X (ix2 r k)) * G (ix2 (0 : Fin 1) d)

theorem sums_apply (y : S256.Idx) (r : Fin 256) (hr : (y 0).1 = r.1) : multiReduction .add [1] S256 (mulf X X) 0x00000000#32 reduces_S256x4096_S256 (.inl rfl) rfl y
    = ∑ k : Fin 4096, X (ix2 r k) * X (ix2 r k) :=
  (multiReduction_add_apply _ _ _ _ _ _).trans ((Ideal.reduceAdd_r2_a1 _ _ _).trans (Finset.sum_congr rfl fun k _ => congrArg (fun i => X i * X i) (eq_ix2 hr rfl)))

theorem across_apply (u : FVec Ideal S256x1 .f32) (d : Fin 4096) : broadcastTo S256x4096 u broadcasts_S256x1_S256x4096 (ix2 r d) = u (ix2 r (0 : Fin 1)) :=
  broadcastTo_apply _ _ _ _ fun a => by
    match a with
    | ⟨0, _⟩ => rfl
    | ⟨1, _⟩ => rfl

theorem pay2_apply (d : Fin 4096) : k0_pay2 (F := Ideal) X G (ix2 r d) = hidden X G r d := by
  unfold k0_pay2
  rw [shapeCast_self]
  refine congrArg₂ (fun a b : EReal => X (ix2 r d) * a * b) ((across_apply r _ d).trans ?_) (Idealize.ShloMosaic.ValueIdx.broadcastTo_1b_ab_apply _ _ r d)
  refine congrArg (fun a : EReal => scale a) ?_
  refine (shapeCast_apply _ _ _ (ix1 r) (by
    rw [Shape.rowMajor_val_one, Shape.rowMajor_val_two]; show r.1 = r.1 * 1 + 0; omega)).trans ?_
  exact sums_apply X (ix1 r) r rfl

theorem plainA : dot_S256x4096_S4096x256_S256x256_1_0_0_1_n_n = DotDims.plain 256 4096 256 := rfl
theorem plainB : dot_S256x4096_S4096x128_S256x128_1_0_0_1_n_n = DotDims.plain 256 4096 128 := rfl

theorem pay9_apply (k : Fin 128) : k0_pay9 (F := Ideal) X G W2 (ix2 r k)
    = (∑ d : Fin 4096, hidden X G r d * W2 (ix2 d (⟨k.1, by omega⟩ : Fin 256))) + ∑ d : Fin 4096, hidden X G r d * W2 (ix2 d (⟨128 + k.1, by omega⟩ : Fin 256)) := by
  have hp (y : Fin 256) : matmul dot_S256x4096_S4096x256_S256x256_1_0_0_1_n_n none (k0_pay3 (F := Ideal) X G) W2 (constant (F := Ideal) S256x256 .f32 0x00000000#32) (ix2 r y)
      = ∑ d : Fin 4096, hidden X G r d * W2 (ix2 d y) :=
    (product_apply plainA _ _ r y).trans (Finset.sum_congr rfl fun d _ => congrArg (fun a : EReal => a * W2 (ix2 d y)) (pay2_apply X G r d))
  unfold k0_pay9
  refine congrArg₂ (fun a b : EReal => a + b) ?_ ?_
  · refine (extractStridedSlice_apply _ _ _ _ (ix2 r (⟨k.1, by omega⟩ : Fin 256)) fun a => ?_).trans (hp _)
    match a with
    | ⟨0, _⟩ => show r.1 = 0 + r.1; omega
    | ⟨1, _⟩ => show k.1 = 0 + k.1; omega
  · refine (extractStridedSlice_apply _ _ _ _ (ix2 r (⟨128 + k.1, by omega⟩ : Fin 256)) fun a => ?_).trans (hp _)
    match a with
    | ⟨0, _⟩ => show r.1 = 0 + r.1; omega
    | ⟨1, _⟩ => rfl

theorem pay10_apply (hr : ∀ d, Real' (hidden X G r d)) (k : Fin 128) : k0_pay10 (F := Ideal) X G W (ix2 r k) = 0 := by
  unfold k0_pay10
  refine (product_apply plainB _ _ r k).trans (Finset.sum_eq_zero fun d _ => ?_)
  have e : (k0_pay2 (F := Ideal) X G (ix2 r d) : EReal) - k0_pay2 (F := Ideal) X G (ix2 r d) = 0 := by rw [pay2_apply]; exact (hr d).sub_self
  exact (congrArg (fun a : EReal => a * W (ix2 d k)) e).trans (zero_mul _)

/-- A row's logit, where the second half of the kept weights is nothing. -/
theorem logits_apply (hr : ∀ d, Real' (hidden X G r d)) (k : Fin 128) (hW : ∀ d : Fin 4096, W2 (ix2 d (⟨128 + k.1, by omega⟩ : Fin 256)) = (0 : EReal)) :
    logits (k0_pay9 (F := Ideal) X G W2) (k0_pay10 (F := Ideal) X G W) B (ix2 k r)
      = (∑ d : Fin 4096, hidden X G r d * W2 (ix2 d (⟨k.1, by omega⟩ : Fin 256))) + B (ix2 k (0 : Fin 1)) := by
  show k0_pay11 (F := Ideal) _ _ _ _ = _
  unfold k0_pay11
  rw [shapeCast_self]
  refine congrArg₂ (fun a b : EReal => a + b) ?_ ?_
  · refine (transpose_apply _ _ _ _ (ix2 r k) fun a => ?_).trans ?_
    · match a with
      | ⟨0, _⟩ => rfl
      | ⟨1, _⟩ => rfl
    refine (congrArg₂ (fun a b : EReal => a + b) (pay9_apply X G W2 r k) (pay10_apply X G W r hr k)).trans ((add_zero _).trans ?_)
    rw [Finset.sum_eq_zero (s := Finset.univ) (f := fun d : Fin 4096 => hidden X G r d * W2 (ix2 d (⟨128 + k.1, by omega⟩ : Fin 256)))
      fun d _ => by rw [hW d, mul_zero], add_zero]
  · exact broadcastTo_apply _ _ _ _ fun a => by
      match a with
      | ⟨0, _⟩ => rfl
      | ⟨1, _⟩ => rfl

end Logits

end Cert.Router

end
-- ==== Proof.RouterArgs.lean ====
/- The blocks the router's points load, from its arguments. -/
module

public import proofs.«01_k».proof.Proof.RouterBody
public import Idealize.ShloMosaic.Lib.KernelVsHost

@[expose] public section

noncomputable section

namespace Cert.Router

open Idealize.ShloMosaic Idealize.ShloMosaic.TcCoe Idealize.SL.Sem
open Cert.Kernel8Ideal Cert.Kernel8Ideal.Gen Cert.Kernel8Ideal.Value Cert.Tiles Cert.Norm

variable (m : (ℓ : Loc nD τ sig) → Buf (Elt Ideal) ℓ) (c : Dev nD) (t : Fin cfg0.N)

/-- The rows, the norm's gains, and the groups' and the experts' weights and biases as launched. -/
abbrev rowsIn : FVec Ideal S16384x4096 .f32 := m ((c : Thread nD τ).loc main_arg0)
abbrev gains : FVec Ideal S1x4096 .f32 := m ((c : Thread nD τ).loc main_arg1)
abbrev groupW : FVec Ideal S1x4096x8 .f32 := m ((c : Thread nD τ).loc main_arg2)
abbrev groupB : FVec Ideal S1x8 .f32 := m ((c : Thread nD τ).loc main_arg3)
abbrev expertW : FVec Ideal S1x4096x64 .f32 := m ((c : Thread nD τ).loc main_arg4)
abbrev expertB : FVec Ideal S1x64 .f32 := m ((c : Thread nD τ).loc main_arg5)

/-- The groups' and the experts' weights side by side, filled up to 128 columns. -/
def weightsIn (gw : FVec Ideal S1x4096x8 .f32) (ew : FVec Ideal S1x4096x64 .f32) : FVec Ideal S4096x128 .f32 :=
  pad S4096x128 ![0, 0] ![0, 56] ![0, 0] (concatenate S4096x72 1 [⟨S4096x8, shapeCast S4096x8 gw shapeCasts_S1x4096x8_S4096x8⟩,
    ⟨S4096x64, shapeCast S4096x64 ew shapeCasts_S1x4096x64_S4096x64⟩] concatenates_S4096x8_S4096x64_S4096x72_d1) (sitofp (F := Ideal) .f32 (constantI S_ 32 0#32))
    pads_S4096x72_S4096x128_000_0560 h_S_

/-- The groups' and the experts' biases, filled up to 128. -/
def biasesIn (gb : FVec Ideal S1x8 .f32) (eb : FVec Ideal S1x64 .f32) : FVec Ideal S128x1 .f32 :=
  shapeCast S128x1 (pad S128 ![0] ![56] ![0] (concatenate S72 0 [⟨S8, shapeCast S8 gb shapeCasts_S1x8_S8⟩,
    ⟨S64, shapeCast S64 eb shapeCasts_S1x64_S64⟩] concatenates_S8_S64_S72_d0) (sitofp (F := Ideal) .f32 (constantI S_ 32 0#32)) pads_S72_S128_0560 h_S_)
    shapeCasts_S128_S128x1

theorem VG : V m c main_v10 = shapeCast S1x4096 (shapeCast S4096 (gains m c) shapeCasts_S1x4096_S4096) shapeCasts_S4096_S1x4096 := by
  show StableHlo.after (List.flatten [hostOps0, hostOps0_1, hostOps0_2, hostOps0_3, hostOps0_4]) _ (Proc.devRef .tc main_v10) = _
  simp only [List.flatten_cons, List.flatten_nil, List.append_nil, List.cons_append, List.nil_append]
  after_results
  rfl
theorem VW : V m c main_v6 = weightsIn (groupW m c) (expertW m c) := by
  show StableHlo.after (List.flatten [hostOps0, hostOps0_1, hostOps0_2, hostOps0_3, hostOps0_4]) _ (Proc.devRef .tc main_v6) = _
  simp only [List.flatten_cons, List.flatten_nil, List.append_nil, List.cons_append, List.nil_append]
  after_results
  rfl
theorem VB : V m c main_v9 = biasesIn (groupB m c) (expertB m c) := by
  show StableHlo.after (List.flatten [hostOps0, hostOps0_1, hostOps0_2, hostOps0_3, hostOps0_4]) _ (Proc.devRef .tc main_v9) = _
  simp only [List.flatten_cons, List.flatten_nil, List.append_nil, List.cons_append, List.nil_append]
  after_results
  rfl

section Columns
variable (gw : FVec Ideal S1x4096x8 .f32) (ew : FVec Ideal S1x4096x64 .f32) (gb : FVec Ideal S1x8 .f32) (eb : FVec Ideal S1x64 .f32) (d : Fin 4096)

theorem weights_group (k : Fin 8) : weightsIn gw ew (ix2 d (⟨k.1, by omega⟩ : Fin 128)) = gw (ix3 (0 : Fin 1) d k) := by
  unfold weightsIn
  refine (pad_apply_of_inside _ _ _ _ _ _ _ _ (ix2 d (⟨k.1, by omega⟩ : Fin 72)) fun a => ?_).trans ?_
  · match a with
    | ⟨0, _⟩ => show d.1 = 0 + d.1 * (0 + 1); omega
    | ⟨1, _⟩ => show k.1 = 0 + k.1 * (0 + 1); omega
  refine (concatenate_apply_piece (t := S4096x72) 1 [⟨S4096x8, shapeCast S4096x8 gw shapeCasts_S1x4096x8_S4096x8⟩,
    ⟨S4096x64, shapeCast S4096x64 ew shapeCasts_S1x4096x64_S4096x64⟩] _ (ix2 d (⟨k.1, by omega⟩ : Fin 72)) 0 (by show 0 < 2; decide)
      S4096x8 (shapeCast S4096x8 gw shapeCasts_S1x4096x8_S4096x8) rfl rfl 0 rfl (ix2 d k) (fun b hb => ?_) ?_).trans (matrix_apply _ _ _ _)
  · match b with
    | ⟨0, _⟩ => rfl
    | ⟨1, _⟩ => exact absurd rfl hb
  · show 0 + k.1 = k.1; omega

theorem weights_expert (k : Fin 64) : weightsIn gw ew (ix2 d (⟨8 + k.1, by omega⟩ : Fin 128)) = ew (ix3 (0 : Fin 1) d k) := by
  unfold weightsIn
  refine (pad_apply_of_inside _ _ _ _ _ _ _ _ (ix2 d (⟨8 + k.1, by omega⟩ : Fin 72)) fun a => ?_).trans ?_
  · match a with
    | ⟨0, _⟩ => show d.1 = 0 + d.1 * (0 + 1); omega
    | ⟨1, _⟩ => show 8 + k.1 = 0 + (8 + k.1) * (0 + 1); omega
  refine (concatenate_apply_piece (t := S4096x72) 1 [⟨S4096x8, shapeCast S4096x8 gw shapeCasts_S1x4096x8_S4096x8⟩,
    ⟨S4096x64, shapeCast S4096x64 ew shapeCasts_S1x4096x64_S4096x64⟩] _ (ix2 d (⟨8 + k.1, by omega⟩ : Fin 72)) 1 (by show 1 < 2; decide)
      S4096x64 (shapeCast S4096x64 ew shapeCasts_S1x4096x64_S4096x64) rfl rfl 8 rfl (ix2 d k) (fun b hb => ?_) ?_).trans (matrix_apply _ _ _ _)
  · match b with
    | ⟨0, _⟩ => rfl
    | ⟨1, _⟩ => exact absurd rfl hb
  · show 8 + k.1 = 8 + k.1; rfl

/-- A row vector as a vector. -/
theorem vector_apply {B : ℕ} (v : FVec Ideal ⟨2, ![1, B]⟩ .f32) (h : (⟨2, ![1, B]⟩ : Shape).ShapeCasts ⟨1, ![B]⟩) (k : Fin B) :
    shapeCast ⟨1, ![B]⟩ v h (ix1 k) = v (ix2 (0 : Fin 1) k) :=
  shapeCast_apply _ _ _ (ix2 (0 : Fin 1) k) (by
    rw [Shape.rowMajor_val_one, Shape.rowMajor_val_two]; show 0 * B + k.1 = k.1; omega)

/-- A vector as a column. -/
theorem column_apply (v : FVec Ideal S128 .f32) (k : Fin 128) : shapeCast S128x1 v shapeCasts_S128_S128x1 (ix2 k (0 : Fin 1)) = v (ix1 k) :=
  shapeCast_apply _ _ _ (ix1 k) (by
    rw [Shape.rowMajor_val_one, Shape.rowMajor_val_two]; show k.1 = k.1 * 1 + 0; omega)

theorem biases_group (k : Fin 8) : biasesIn gb eb (ix2 (⟨k.1, by omega⟩ : Fin 128) (0 : Fin 1)) = gb (ix2 (0 : Fin 1) k) := by
  unfold biasesIn
  refine (column_apply _ _).trans ((pad_apply_of_inside _ _ _ _ _ _ _ _ (ix1 (⟨k.1, by omega⟩ : Fin 72)) fun a => ?_).trans ?_)
  · match a with
    | ⟨0, _⟩ => show k.1 = 0 + k.1 * (0 + 1); omega
  refine (concatenate_apply_piece (t := S72) 0 [⟨S8, shapeCast S8 gb shapeCasts_S1x8_S8⟩, ⟨S64, shapeCast S64 eb shapeCasts_S1x64_S64⟩] _
    (ix1 (⟨k.1, by omega⟩ : Fin 72)) 0 (by show 0 < 2; decide) S8 (shapeCast S8 gb shapeCasts_S1x8_S8) rfl rfl 0 rfl (ix1 k) (fun b hb => ?_) ?_).trans
    (vector_apply _ _ _)
  · match b with
    | ⟨0, _⟩ => exact absurd rfl hb
  · show 0 + k.1 = k.1; omega

theorem biases_expert (k : Fin 64) : biasesIn gb eb (ix2 (⟨8 + k.1, by omega⟩ : Fin 128) (0 : Fin 1)) = eb (ix2 (0 : Fin 1) k) := by
  unfold biasesIn
  refine (column_apply _ _).trans ((pad_apply_of_inside _ _ _ _ _ _ _ _ (ix1 (⟨8 + k.1, by omega⟩ : Fin 72)) fun a => ?_).trans ?_)
  · match a with
    | ⟨0, _⟩ => show 8 + k.1 = 0 + (8 + k.1) * (0 + 1); omega
  refine (concatenate_apply_piece (t := S72) 0 [⟨S8, shapeCast S8 gb shapeCasts_S1x8_S8⟩, ⟨S64, shapeCast S64 eb shapeCasts_S1x64_S64⟩] _
    (ix1 (⟨8 + k.1, by omega⟩ : Fin 72)) 1 (by show 1 < 2; decide) S64 (shapeCast S64 eb shapeCasts_S1x64_S64) rfl rfl 8 rfl (ix1 k) (fun b hb => ?_) ?_).trans
    (vector_apply _ _ _)
  · match b with
    | ⟨0, _⟩ => exact absurd rfl hb
  · show 8 + k.1 = 8 + k.1; rfl

end Columns

/-! ## The blocks -/

theorem t_lt : t.1 < 64 := lt_of_lt_of_eq t.2 N_0

theorem place0 : ∀ t : Fin cfg0.N, win0_0.index t (0 : Fin 2) = t.1 ∧ win0_0.index t (1 : Fin 2) = 0 := (by decide +kernel : ∀ t : Fin grid0.N, _)
theorem place1 : ∀ t : Fin cfg0.N, win0_1.index t (0 : Fin 2) = 0 ∧ win0_1.index t (1 : Fin 2) = 0 := (by decide +kernel : ∀ t : Fin grid0.N, _)
theorem place2 : ∀ t : Fin cfg0.N, win0_2.index t (0 : Fin 2) = 0 ∧ win0_2.index t (1 : Fin 2) = 0 := (by decide +kernel : ∀ t : Fin grid0.N, _)
theorem place3 : ∀ t : Fin cfg0.N, win0_3.index t (0 : Fin 2) = 0 ∧ win0_3.index t (1 : Fin 2) = 0 := (by decide +kernel : ∀ t : Fin grid0.N, _)
theorem place6 : ∀ t : Fin cfg0.N, win0_6.index t (0 : Fin 2) = t.1 ∧ win0_6.index t (1 : Fin 2) = 0 := (by decide +kernel : ∀ t : Fin grid0.N, _)
theorem flushes : ∀ t : Fin cfg0.N, (cfg0.win 6).flush t = true := (by decide +kernel : ∀ t : Fin grid0.N, _)

/-- Row `r` of the point's 256. -/
theorem blk0 (r : Fin 256) (k : Fin 4096) : (iblk m c 0 t : FVec Ideal S256x4096 .f32) (ix2 r k)
    = rowsIn m c (ix2 (⟨256 * t.1 + r.1, by have := t_lt t; omega⟩ : Fin 16384) k) := by
  obtain ⟨e0, e1⟩ := place0 t
  have ht := t_lt t
  show V m c main_arg0 (((cfg0.win 0).blk t).view.emb (ix2 r k)) = _
  rw [V_main_arg0, eq_ix2 (i := ((cfg0.win 0).blk t).view.emb (ix2 r k)) (a := (⟨256 * t.1 + r.1, by omega⟩ : Fin 16384)) (b := k)
    (by show win0_0.index t (0 : Fin 2) * 256 + 1 * r.1 = 256 * t.1 + r.1; rw [e0]; omega)
    (by show win0_0.index t (1 : Fin 2) * 4096 + 1 * k.1 = k.1; rw [e1]; omega)]

theorem blk1 (k : Fin 4096) : (iblk m c 1 t : FVec Ideal S1x4096 .f32) (ix2 (0 : Fin 1) k) = gains m c (ix2 (0 : Fin 1) k) := by
  obtain ⟨e0, e1⟩ := place1 t
  show V m c main_v10 (((cfg0.win 1).blk t).view.emb (ix2 (0 : Fin 1) k)) = _
  rw [VG, eq_ix2 (i := ((cfg0.win 1).blk t).view.emb (ix2 (0 : Fin 1) k)) (a := (0 : Fin 1)) (b := k)
    (by show win0_1.index t (0 : Fin 2) * 1 + 1 * 0 = 0; rw [e0])
    (by show win0_1.index t (1 : Fin 2) * 4096 + 1 * k.1 = k.1; rw [e1]; omega)]
  exact row_apply _ _ _ _

/-- Every point loads all of the weights and all of the biases. -/
theorem blk2 : (iblk m c 2 t : FVec Ideal S4096x128 .f32) = weightsIn (groupW m c) (expertW m c) := by
  obtain ⟨e0, e1⟩ := place2 t
  funext i
  obtain ⟨d, k, rfl⟩ : ∃ (d : Fin 4096) (k : Fin 128), i = ix2 d k := ⟨i 0, i 1, eq_ix2 rfl rfl⟩
  show V m c main_v6 (((cfg0.win 2).blk t).view.emb (ix2 d k)) = _
  rw [VW, eq_ix2 (i := ((cfg0.win 2).blk t).view.emb (ix2 d k)) (a := d) (b := k)
    (by show win0_2.index t (0 : Fin 2) * 4096 + 1 * d.1 = d.1; rw [e0]; omega)
    (by show win0_2.index t (1 : Fin 2) * 128 + 1 * k.1 = k.1; rw [e1]; omega)]

theorem blk3 (k : Fin 128) : (iblk m c 3 t : FVec Ideal S128x1 .f32) (ix2 k (0 : Fin 1)) = biasesIn (groupB m c) (expertB m c) (ix2 k (0 : Fin 1)) := by
  obtain ⟨e0, e1⟩ := place3 t
  show V m c main_v9 (((cfg0.win 3).blk t).view.emb (ix2 k (0 : Fin 1))) = _
  rw [VB, eq_ix2 (i := ((cfg0.win 3).blk t).view.emb (ix2 k (0 : Fin 1))) (a := k) (b := (0 : Fin 1))
    (by show win0_3.index t (0 : Fin 2) * 128 + 1 * k.1 = k.1; rw [e0]; omega)
    (by show win0_3.index t (1 : Fin 2) * 1 + 1 * 0 = 0; rw [e1])]

end Cert.Router

end
-- ==== Proof.Router.lean ====
/- The array of the experts' weights, at an index. -/
module

public import proofs.«01_k».proof.Proof.RouterArgs
public import Idealize.ShloMosaic.Lib.Pipeline.FrameBody

@[expose] public section

noncomputable section

namespace Cert.Router

open Idealize.ShloMosaic Idealize.ShloMosaic.TcCoe Idealize.SL.Sem
open Cert.Kernel8Ideal Cert.Kernel8Ideal.Gen Cert.Kernel8Ideal.Value Cert.Tiles Cert.Norm

section Spec
variable (x : FVec Ideal ⟨2, ![16384, 4096]⟩ .f32) (g : FVec Ideal ⟨2, ![1, 4096]⟩ .f32) (gw : FVec Ideal ⟨3, ![1, 4096, 8]⟩ .f32)
  (gb : FVec Ideal ⟨2, ![1, 8]⟩ .f32) (ew : FVec Ideal ⟨3, ![1, 4096, 64]⟩ .f32) (eb : FVec Ideal ⟨2, ![1, 64]⟩ .f32) (i : Fin 16384)

/-- A row over its root mean square, times the norm's gains. -/
def hid (d : Fin 4096) : EReal := x (ix2 i d) * scale (∑ k : Fin 4096, x (ix2 i k) * x (ix2 i k)) * g (ix2 (0 : Fin 1) d)

/-- A row's logits for the groups. -/
def toGroup (k : Fin 8) : EReal := (∑ d : Fin 4096, hid x g i d * gw (ix3 (0 : Fin 1) d k)) + gb (ix2 (0 : Fin 1) k)

/-- A row's logits for the experts. -/
def toExpert (k : Fin 64) : EReal := (∑ d : Fin 4096, hid x g i d * ew (ix3 (0 : Fin 1) d k)) + eb (ix2 (0 : Fin 1) k)

/-- The `k`-th expert of group `a`. -/
def expert (a k : Fin 8) : Fin 64 := ⟨8 * a.1 + k.1, by omega⟩

/-- The two weights a row gives, in the first two of 128 lanes. -/
def routed (j : Fin 128) : EReal := weight (toGroup x g gw gb i) (fun a k => toExpert x g ew eb i (expert a k)) j

/-- All the arguments are real numbers, but for the groups' biases. -/
structure Reals : Prop where
  x : ∀ i, Real' (x i)
  g : ∀ i, Real' (g i)
  gw : ∀ i, Real' (gw i)
  ew : ∀ i, Real' (ew i)
  eb : ∀ i, Real' (eb i)

variable {x g gw gb ew eb}

theorem hid_real (h : Reals x g gw ew eb) (d : Fin 4096) : Real' (hid x g i d) := by
  obtain ⟨s, hs⟩ := Real'.sum Finset.univ (fun k : Fin 4096 => x (ix2 i k) * x (ix2 i k)) fun k _ => (h.x _).mul (h.x _)
  have h0 : (0 : EReal) ≤ ∑ k : Fin 4096, x (ix2 i k) * x (ix2 i k) := Finset.sum_nonneg fun k _ => by
    obtain ⟨a, ha⟩ := h.x (ix2 i k)
    rw [ha, ← EReal.coe_mul]
    exact EReal.coe_nonneg.2 (mul_self_nonneg a)
  rw [hs] at h0
  unfold hid
  rw [hs]
  exact ((h.x _).mul (scale_real s (EReal.coe_nonneg.1 h0))).mul (h.g _)

theorem toExpert_real (h : Reals x g gw ew eb) (k : Fin 64) : Real' (toExpert x g ew eb i k) :=
  (Real'.sum _ _ fun d _ => (hid_real i h d).mul (h.ew _)).add (h.eb _)

end Spec

/-! ## The kept weights: the weights, and what their cast loses -/

/-- Both halves as kept from the weights loaded. -/
def kept (W : FVec Ideal S4096x128 .f32) : FVec Ideal S4096x256 .bf16 :=
  View.canon (Val := Elt Ideal) (e := .bf16) [⟨Rect.unit (s := S4096x256) ![0, 128] S4096x128.size inb_S4096x256_S4096x128_0_128, k0_pay8 (F := Ideal) W⟩,
    ⟨Rect.unit (s := S4096x256) ![0, 0] S4096x128.size inb_S4096x256_S4096x128_0_0, k0_pay7 (F := Ideal) W⟩]

theorem kept_right (W : FVec Ideal S4096x128 .f32) (d : Fin 4096) (k : Fin 128) (h : Real' (W (ix2 d k))) :
    kept W (ix2 d (⟨128 + k.1, by omega⟩ : Fin 256)) = (0 : EReal) := by
  have hi : (Rect.unit (s := S4096x256) ![0, 128] S4096x128.size inb_S4096x256_S4096x128_0_128).emb (ix2 d k) = ix2 d (⟨128 + k.1, by omega⟩ : Fin 256) :=
    eq_ix2 (by show 0 + 1 * d.1 = d.1; omega) (by show 128 + 1 * k.1 = 128 + k.1; omega)
  unfold kept
  rw [← hi, View.canon_cons_emb]
  unfold k0_pay8 k0_pay6 k0_pay5
  rw [shapeCast_self, shapeCast_self]
  exact h.sub_self

theorem kept_left (W : FVec Ideal S4096x128 .f32) (d : Fin 4096) (k : Fin 128) : kept W (ix2 d (⟨k.1, by omega⟩ : Fin 256)) = W (ix2 d k) := by
  have hi : (Rect.unit (s := S4096x256) ![0, 0] S4096x128.size inb_S4096x256_S4096x128_0_0).emb (ix2 d k) = ix2 d (⟨k.1, by omega⟩ : Fin 256) :=
    eq_ix2 (by show 0 + 1 * d.1 = d.1; omega) (by show 0 + 1 * k.1 = k.1; omega)
  unfold kept
  rw [View.canon_cons_of_not_mem _ _ (Rect.not_mem_set_of_axis _ _ (1 : Fin 2) 128 128 rfl rfl rfl (Or.inl k.2)), ← hi, View.canon_cons_emb]
  unfold k0_pay7 k0_pay6 k0_pay5
  rw [shapeCast_self, shapeCast_self]
  rfl

variable (m : (ℓ : Loc nD τ sig) → Buf (Elt Ideal) ℓ) (c : Dev nD) (t : Fin cfg0.N)

/-- The point's store over its block, from the weights it loads. -/
def stored (W2 : FVec Ideal S4096x256 .bf16) (W : FVec Ideal S4096x128 .bf16) : FVec Ideal S256x128 .f32 :=
  let x := View.readAt (Elt Ideal) (ms0_0 t).view (Rect.unit (s := S256x4096) ![0, 0] S256x4096.size inb_S256x4096_S256x4096_0_0).toLoadRect ((hs0_0 t).unread (iblk m c 0 t))
  let g := View.readAt (Elt Ideal) (ms0_1 t).view (Rect.unit (s := S1x4096) ![0, 0] S1x4096.size inb_S1x4096_S1x4096_0_0).toLoadRect ((hs0_1 t).unread (iblk m c 1 t))
  let b := View.readAt (Elt Ideal) (ms0_3 t).view (Rect.unit (s := S128x1) ![0, 0] S128x1.size inb_S128x1_S128x1_0_0).toLoadRect ((hs0_3 t).unread (iblk m c 3 t))
  let v33 := k0_pay9 (F := Ideal) x g W2
  let v35 := k0_pay10 (F := Ideal) x g W
  VO0_6.read (Elt Ideal) (VO0_6.writes (Elt Ideal) VO0_6.junk [⟨Rect.unit (s := S256x128) ![0, 0] S256x128.size inb_S256x128_S256x128_0_0,
    k0_pay25 (F := Ideal) (k0_pay13 v33 v35 b)
      (k0_pay19 (k0_pay11 v33 v35 b) (k0_pay14 v33 v35 b) (k0_pay15 v33 v35 b) (k0_pay16 v33 v35 b) (k0_pay17 v33 v35 b))
      (k0_pay22 (k0_pay11 v33 v35 b) (iota .tc S8x256 32 [0] iota_S8x256_d0_w32) (k0_pay14 v33 v35 b) (k0_pay15 v33 v35 b) (k0_pay16 v33 v35 b) (k0_pay17 v33 v35 b))⟩])

theorem stored_eq (W2 : FVec Ideal S4096x256 .bf16) (W : FVec Ideal S4096x128 .bf16) : stored m c t W2 W
    = stores (k0_pay9 (F := Ideal) (iblk m c 0 t) (iblk m c 1 t) W2) (k0_pay10 (F := Ideal) (iblk m c 0 t) (iblk m c 1 t) W) (iblk m c 3 t) := by
  unfold stored
  rw [store_whole _ _ zeros2, load_whole (hs0_0 t) _ zeros2, load_whole (hs0_1 t) _ zeros2, load_whole (hs0_3 t) _ zeros2]
  exact body_eq _ _ _

/-- The stores of the first point into the kept weights, last first. -/
abbrev firstStores : List (View.Piece (Elt Ideal) S4096x256 .bf16) :=
  let w := View.readAt (Elt Ideal) (ms0_2 t).view (Rect.unit (s := S4096x128) ![0, 0] S4096x128.size inb_S4096x128_S4096x128_0_0).toLoadRect ((hs0_2 t).unread (iblk m c 2 t))
  [⟨Rect.unit (s := S4096x256) ![0, 128] S4096x128.size inb_S4096x256_S4096x128_0_128, k0_pay8 (F := Ideal) w⟩,
    ⟨Rect.unit (s := S4096x256) ![0, 0] S4096x128.size inb_S4096x256_S4096x128_0_0, k0_pay7 (F := Ideal) w⟩]

theorem canon_firstStores : View.canon (Val := Elt Ideal) (e := .bf16) (firstStores m c t) = kept (weightsIn (groupW m c) (expertW m c)) := by
  unfold firstStores kept
  rw [load_whole (hs0_2 t) _ zeros2]
  exact congrArg (fun w => kept w) (blk2 m c t)

/-- All of the kept weights, loaded after the first point's stores. -/
theorem load_canon (L : List (View.Piece (Elt Ideal) S4096x256 .bf16)) : scM0_1.view.readCov (Val := Elt Ideal) L
    (Rect.unit (s := S4096x256) ![0, 0] S4096x256.size inb_S4096x256_S4096x256_0_0).toLoadRect = View.canon (Val := Elt Ideal) (e := .bf16) L := by
  refine (View.readCov_eq_canon' _ _ _).trans (funext fun j => congrArg (View.canon (Val := Elt Ideal) (e := .bf16) L) ?_)
  funext a; apply Fin.ext
  match a with
  | ⟨0, _⟩ => show 0 + 1 * (j 0).1 = (j 0).1; omega
  | ⟨1, _⟩ => show 0 + 1 * (j 1).1 = (j 1).1; omega

theorem firstLoad : scM0_1.view.readCov (Val := Elt Ideal) (firstStores m c t)
    (Rect.unit (s := S4096x256) ![0, 0] S4096x256.size inb_S4096x256_S4096x256_0_0).toLoadRect = kept (weightsIn (groupW m c) (expertW m c)) :=
  (load_canon _).trans (canon_firstStores m c t)

theorem scratch_A (h0 : t.val % 64 = 0) : (outsAt0 m c t.val t.isLt).2.2.2.2.2 = kept (weightsIn (groupW m c) (expertW m c)) := by
  refine (congrArg (fun x => x.2.2.2.2.2) (outsAt0_A m c t h0 h0)).trans ?_
  refine (show _ = VS0_1.read (Elt Ideal) (VS0_1.writes (Elt Ideal) VS0_1.junk (firstStores m c t)) from by sl_kernel_rfl).trans ?_
  exact (View.read_writes_junk_eq_canon _ _).trans (canon_firstStores m c t)

theorem scratch_B (h0 : ¬ t.val % 64 = 0) : (outsAt0 m c t.val t.isLt).2.2.2.2.2 = (outsAt0 m c (t.val - 1) (Nat.lt_of_le_of_lt (Nat.sub_le _ _) t.isLt)).2.2.2.2.2 := by
  refine (congrArg (fun x => x.2.2.2.2.2) (outsAt0_B m c t h0 h0)).trans ?_
  sl_kernel_rfl

/-- Every point leaves the weights kept at the first. -/
theorem scratch_eq : ∀ n (hn : n < cfg0.N), (outsAt0 m c n hn).2.2.2.2.2 = kept (weightsIn (groupW m c) (expertW m c))
  | 0, hn => scratch_A m c ⟨0, hn⟩ rfl
  | n + 1, hn => (scratch_B m c ⟨n + 1, hn⟩ (by have : n + 1 < 64 := lt_of_lt_of_eq hn N_0; show ¬ (n + 1) % 64 = 0; omega)).trans (scratch_eq n _)

theorem out_A (h0 : t.val % 64 = 0) : ∃ W, (outsAt0 m c t.val t.isLt).2.2.1 = stored m c t (kept (weightsIn (groupW m c) (expertW m c))) W := by
  refine ⟨scM0_1.view.readCov (Val := Elt Ideal) (firstStores m c t)
    (Rect.unit (s := S4096x256) ![0, 0] S4096x128.size inb_S4096x256_S4096x128_0_0).toLoadRect, ?_⟩
  refine (congrArg (fun x => x.2.2.1) (outsAt0_A m c t h0 h0)).trans ?_
  refine (show _ = stored m c t (scM0_1.view.readCov (Val := Elt Ideal) (firstStores m c t)
      (Rect.unit (s := S4096x256) ![0, 0] S4096x256.size inb_S4096x256_S4096x256_0_0).toLoadRect)
    (scM0_1.view.readCov (Val := Elt Ideal) (firstStores m c t) (Rect.unit (s := S4096x256) ![0, 0] S4096x128.size inb_S4096x256_S4096x128_0_0).toLoadRect)
    from by sl_kernel_rfl).trans ?_
  rw [firstLoad]

theorem out_B (h0 : ¬ t.val % 64 = 0) : ∃ W, (outsAt0 m c t.val t.isLt).2.2.1
    = stored m c t (outsAt0 m c (t.val - 1) (Nat.lt_of_le_of_lt (Nat.sub_le _ _) t.isLt)).2.2.2.2.2 W := by
  refine ⟨View.readAt (Elt Ideal) scM0_1.view (Rect.unit (s := S4096x256) ![0, 0] S4096x128.size inb_S4096x256_S4096x128_0_0).toLoadRect
    ((Memref.isWhole_whole _).unread (outsAt0 m c (t.val - 1) (Nat.lt_of_le_of_lt (Nat.sub_le _ _) t.isLt)).2.2.2.2.2), ?_⟩
  refine (congrArg (fun x => x.2.2.1) (outsAt0_B m c t h0 h0)).trans ?_
  refine (show _ = stored m c t (View.readAt (Elt Ideal) scM0_1.view (Rect.unit (s := S4096x256) ![0, 0] S4096x256.size inb_S4096x256_S4096x256_0_0).toLoadRect
      ((Memref.isWhole_whole _).unread (outsAt0 m c (t.val - 1) (Nat.lt_of_le_of_lt (Nat.sub_le _ _) t.isLt)).2.2.2.2.2))
    (View.readAt (Elt Ideal) scM0_1.view (Rect.unit (s := S4096x256) ![0, 0] S4096x128.size inb_S4096x256_S4096x128_0_0).toLoadRect
      ((Memref.isWhole_whole _).unread (outsAt0 m c (t.val - 1) (Nat.lt_of_le_of_lt (Nat.sub_le _ _) t.isLt)).2.2.2.2.2))
    from by sl_kernel_rfl).trans ?_
  rw [load_whole (M := scM0_1) (Memref.isWhole_whole _) _ zeros2]

/-- What the point writes. -/
theorem out_eq : ∃ W, (outsAt0 m c t.val t.isLt).2.2.1
    = stores (k0_pay9 (F := Ideal) (iblk m c 0 t) (iblk m c 1 t) (kept (weightsIn (groupW m c) (expertW m c)))) (k0_pay10 (F := Ideal) (iblk m c 0 t) (iblk m c 1 t) W)
      (iblk m c 3 t) := by
  by_cases h0 : t.val % 64 = 0
  · obtain ⟨W, hW⟩ := out_A m c t h0
    exact ⟨W, hW.trans (stored_eq m c t _ W)⟩
  · obtain ⟨W, hW⟩ := out_B m c t h0
    exact ⟨W, hW.trans ((congrArg (fun w => stored m c t w W) (scratch_eq m c _ _)).trans (stored_eq m c t _ W))⟩

/-- The arguments are all real. -/
abbrev AllReal : Prop := Reals (rowsIn m c) (gains m c) (groupW m c) (expertW m c) (expertB m c)

/-- A point's row as normed. -/
theorem hidden_eq (r : Fin 256) (i : Fin 16384) (hi : i.1 = 256 * t.1 + r.1) (d : Fin 4096) :
    hidden (iblk m c 0 t) (iblk m c 1 t) r d = hid (rowsIn m c) (gains m c) i d := by
  have e (k : Fin 4096) : (iblk m c 0 t : FVec Ideal S256x4096 .f32) (ix2 r k) = rowsIn m c (ix2 i k) :=
    (blk0 m c t r k).trans (congrArg (fun i : Fin 16384 => rowsIn m c (ix2 i k)) (Fin.ext hi.symm))
  exact congrArg₂ (fun a b : EReal => a * b) (congrArg₂ (fun a b : EReal => a * b) (e d)
    (congrArg scale (Finset.sum_congr rfl fun k _ => congrArg (fun a : EReal => a * a) (e k)))) (blk1 m c t d)

theorem out_apply (h : AllReal m c) (r : Fin 256) (i : Fin 16384) (hi : i.1 = 256 * t.1 + r.1) (j : Fin 128) : (outsAt0 m c t.val t.isLt).2.2.1 (ix2 r j)
    = routed (rowsIn m c) (gains m c) (groupW m c) (groupB m c) (expertW m c) (expertB m c) i j := by
  obtain ⟨W, hW⟩ := out_eq m c t
  have hr (d : Fin 4096) : Real' (hidden (iblk m c 0 t) (iblk m c 1 t) r d) := by
    rw [hidden_eq m c t r i hi d]; exact hid_real i h d
  refine (congrFun hW (ix2 r j)).trans ((stores_apply _ _ _ r j).trans ?_)
  refine congrArg₂ (fun a b => weight a b j) (funext fun k => ?_) (funext fun a => funext fun k => ?_)
  · refine (logits_apply _ _ _ W _ r hr (⟨k.1, by omega⟩ : Fin 128) fun d => kept_right _ d _ ?_).trans ?_
    · rw [weights_group]; exact h.gw _
    refine congrArg₂ (fun a b : EReal => a + b) (Finset.sum_congr rfl fun d _ => ?_) ((blk3 m c t _).trans (biases_group _ _ k))
    exact congrArg₂ (fun a b : EReal => a * b) (hidden_eq m c t r i hi d) ((kept_left _ d (⟨k.1, by omega⟩ : Fin 128)).trans (weights_group _ _ d k))
  · have hk : (⟨8 + 8 * a.1 + k.1, by omega⟩ : Fin 128) = ⟨8 + (expert a k).1, by have := (expert a k).2; omega⟩ :=
      Fin.ext (by show 8 + 8 * a.1 + k.1 = 8 + (8 * a.1 + k.1); omega)
    unfold expertLogits
    rw [hk]
    refine (logits_apply _ _ _ W _ r hr _ fun d => kept_right _ d _ ?_).trans ?_
    · rw [weights_expert]; exact h.ew _
    refine congrArg₂ (fun a b : EReal => a + b) (Finset.sum_congr rfl fun d _ => ?_) ((blk3 m c t _).trans (biases_expert _ _ (expert a k)))
    exact congrArg₂ (fun a b : EReal => a * b) (hidden_eq m c t r i hi d) ((kept_left _ d _).trans (weights_expert _ _ d (expert a k)))

/-- The array the launch leaves, at an index. -/
theorem array_apply (h : AllReal m c) (i : Fin 16384) (j : Fin 128) : ((dats m 0 c).arrAt 6 cfg0.N : FVec Ideal S16384x128 .f32) (ix2 i j)
    = routed (rowsIn m c) (gains m c) (groupW m c) (groupB m c) (expertW m c) (expertB m c) i j := by
  have hn : i.1 / 256 < cfg0.N := lt_of_lt_of_eq (by omega) N_0.symm
  obtain ⟨e0, e1⟩ := place6 ⟨i.1 / 256, hn⟩
  have hb := congrFun (blocks6 (F := Ideal) m c ⟨i.1 / 256, hn⟩ (flushes _)) (ix2 (⟨i.1 % 256, by omega⟩ : Fin 256) j)
  rw [flushed6] at hb
  have hi : ((cfg0.win 6).blk ⟨i.1 / 256, hn⟩).view.emb (ix2 (⟨i.1 % 256, by omega⟩ : Fin 256) j) = ix2 i j :=
    eq_ix2 (by show win0_6.index ⟨i.1 / 256, hn⟩ (0 : Fin 2) * 256 + 1 * (i.1 % 256) = i.1; rw [e0]; show i.1 / 256 * 256 + _ = _; omega)
      (by show win0_6.index ⟨i.1 / 256, hn⟩ (1 : Fin 2) * 128 + 1 * j.1 = j.1; rw [e1]; omega)
  refine (congrArg ((dats m 0 c).arrAt 6 cfg0.N : FVec Ideal S16384x128 .f32) hi.symm).trans (hb.trans ?_)
  refine Eq.trans ?_ (out_apply m c ⟨i.1 / 256, hn⟩ h (⟨i.1 % 256, by omega⟩ : Fin 256) i (by show i.1 = 256 * (i.1 / 256) + i.1 % 256; omega) j)
  rfl

end Cert.Router

end
-- ==== Proof.RouterPre.lean ====
/- What the router's precondition says of its arguments: every value is real but the groups' biases. -/
module

public import proofs.«01_k».proof.Defs
public import proofs.«01_k».proof.Proof.Router

@[expose] public section

noncomputable section

namespace Cert.Router

open Idealize.ShloMosaic Idealize.ShloMosaic.TcCoe Idealize.SL.Sem

theorem pre_facts : Cert.Pre_finite.Facts := ⟨by decide, by decide, by decide, by decide, by decide⟩

/-- A value whose magnitude the compare finds below infinity is real. -/
theorem real_of_mark {s : Shape} (x : FVec Ideal s .f32) (h : Pre_finite.S_.BroadcastsInDim s ![])
    (hx : cmpf .olt (Host.absf x) (broadcastInDim s ![] h (constant (F := Ideal) Pre_finite.S_ .f32 0x7F800000#32)) = fun _ => 1#1) (i : s.Idx) : Real' (x i) := by
  have e : BitVec.ofBool (decide (max (x i) (-x i) < Ideal.ofBits .f32 0x7F800000#32)) = 1#1 := congrFun hx i
  rw [high_bits] at e
  refine real_of_abs ?_
  by_contra hc
  rw [decide_eq_false hc] at e
  exact absurd e (by decide)

theorem all_real (m : (ℓ : Loc Kernel8Ideal.nD Kernel8Ideal.τ Kernel8Ideal.sig) → Buf (Elt Ideal) ℓ) (h : Pre_Kernel8Ideal_finite (hPre_finite := pre_facts) m)
    (c : Dev Kernel8Ideal.nD) : AllReal m c := by
  obtain ⟨h0, h1, h2, h3, h4⟩ := h c
  exact ⟨real_of_mark _ _ h0, real_of_mark _ _ h1, real_of_mark _ _ h2, real_of_mark _ _ h3, real_of_mark _ _ h4⟩

end Cert.Router

end
-- ==== Proof.RouterRef.lean ====
/- The reference of the experts' weights at an index. -/
module

public import proofs.«01_k».proof.Proof.Router
public import proofs.«01_k».proof.Proof.Gen.Reference8Ideal.Run
public import Idealize.ShloMosaic.Lib.StackMember

@[expose] public section

noncomputable section

namespace Cert.RouterRef

open Idealize.ShloMosaic Idealize.ShloMosaic.TcCoe Idealize.SL.Sem
open Cert.Reference8Ideal Cert.Reference8Ideal.Gen Cert.Tiles Cert.Norm
open Cert.Router (top le_top first soft second before weight hid toGroup toExpert expert routed Reals)
open Cert.Gates (zero_bits)

/-! ## The reference's values by name -/

def normedRows (x : FVec Ideal S16384x4096 .f32) (g : FVec Ideal S1x4096 .f32) : FVec Ideal S16384x4096 .f32 :=
  mulf (mulf x (broadcastInDim S16384x4096 ![0, 1] bcast_S16384x1_S16384x4096_0_1 (Host.rsqrt (addf (Host.divf (broadcastInDim S16384x1 ![0] bcast_S16384_S16384x1_0
    (Host.reduceAdd (mulf x x) (constant S_ .f32 0x00000000#32) reducesTo_S16384x4096_S16384_d1 h_S_)) (broadcastInDim S16384x1 ![] bcast_S_S16384x1 (constant S_ .f32 0x45800000#32)))
    (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 (shapeCast S4096 g shapeCasts_S1x4096_S4096)))

def groupLogits (h : FVec Ideal S16384x4096 .f32) (gw : FVec Ideal S1x4096x8 .f32) (gb : FVec Ideal S1x8 .f32) : FVec Ideal S16384x8 .f32 :=
  addf (Host.dotGeneral dot_S16384x4096_S4096x8_S16384x8_1_0_0_1_n_n none h (shapeCast S4096x8 gw shapeCasts_S1x4096x8_S4096x8))
    (broadcastInDim S16384x8 ![0, 1] bcast_S1x8_S16384x8_0_1 (broadcastInDim S1x8 ![1] bcast_S8_S1x8_1 (shapeCast S8 gb shapeCasts_S1x8_S8)))

def expertLogits (h : FVec Ideal S16384x4096 .f32) (ew : FVec Ideal S1x4096x64 .f32) (eb : FVec Ideal S1x64 .f32) : FVec Ideal S16384x64 .f32 :=
  addf (Host.dotGeneral dot_S16384x4096_S4096x64_S16384x64_1_0_0_1_n_n none h (shapeCast S4096x64 ew shapeCasts_S1x4096x64_S4096x64))
    (broadcastInDim S16384x64 ![0, 1] bcast_S1x64_S16384x64_0_1 (broadcastInDim S1x64 ![1] bcast_S64_S1x64_1 (shapeCast S64 eb shapeCasts_S1x64_S64)))

/-- A vector of one value a row, over the eight columns. -/
abbrev over8 (u : FVec Ideal S16384 .f32) : FVec Ideal S16384x8 .f32 :=
  broadcastInDim S16384x8 ![0, 1] bcast_S16384x1_S16384x8_0_1 (broadcastInDim S16384x1 ![0] bcast_S16384_S16384x1_0 u)

def expsOf (A : FVec Ideal S16384x8 .f32) : FVec Ideal S16384x8 .f32 :=
  Host.exp (subf A (over8 (maximumf (broadcastInDim S16384 ![] bcast_S_S16384 (constant S_ .f32 0xFF800000#32))
    (Host.reduce FloatOps.maximumf A (constant S_ .f32 0xFF800000#32) reducesTo_S16384x8_S16384_d1 h_S_))))

def softmaxOf (A : FVec Ideal S16384x8 .f32) : FVec Ideal S16384x8 .f32 :=
  Host.divf (expsOf A) (over8 (Host.reduceAdd (expsOf A) (constant S_ .f32 0x00000000#32) reducesTo_S16384x8_S16384_d1 h_S_))

abbrev best (P : FVec Ideal S16384x8 .f32) := Host.topK S16384x1 1 (FloatOps.cmpfTotal (F := Ideal) (φ := .f32) .gt) P sliceFits_S16384x8_S16384x1
abbrev bestTwo (P : FVec Ideal S16384x8 .f32) := Host.topK S16384x2 1 (FloatOps.cmpfTotal (F := Ideal) (φ := .f32) .gt) P sliceFits_S16384x8_S16384x2

/-- The chosen group's experts' logits. -/
def chosenOf (w : IVec S16384x1 32) (L : FVec Ideal S16384x64 .f32) : FVec Ideal S16384x8 .f32 :=
  Host.reduceAdd (select (broadcastInDim S16384x8x8 ![0, 1, 2] bcast_S16384x8x1_S16384x8x8_0_1_2 (cmpi .eq
      (broadcastInDim S16384x8x1 ![0, 1, 2] bcast_S1x8x1_S16384x8x1_0_1_2 (broadcastInDim S1x8x1 ![1] bcast_S8_S1x8x1_1 (iotaInDim S8 32 0)))
      (broadcastInDim S16384x8x1 ![0, 1, 2] bcast_S16384x1x1_S16384x8x1_0_1_2 (broadcastInDim S16384x1x1 ![0, 1] bcast_S16384x1_S16384x1x1_0_1 w))))
    (shapeCast S16384x8x8 L shapeCasts_S16384x64_S16384x8x8) (broadcastInDim S16384x8x8 ![] bcast_S_S16384x8x8 (id (constant S_ .f32 0x00000000#32))))
    (constant S_ .f32 0x00000000#32) reducesTo_S16384x8x8_S16384x8_d1 h_S_

/-- The two weights, in the first two of 128 lanes. -/
def pairOf (u : FVec Ideal S16384x1 .f32) (v : FVec Ideal S16384x2 .f32) : FVec Ideal S16384x128 .f32 :=
  pad S16384x128 ![0, 0] ![0, 126] ![0, 0] (Host.divf (mulf (broadcastInDim S16384x2 ![0, 1] bcast_S16384x1_S16384x2_0_1 u) v)
    (broadcastInDim S16384x2 ![0, 1] bcast_S16384x1_S16384x2_0_1 (broadcastInDim S16384x1 ![0] bcast_S16384_S16384x1_0
      (Host.reduceAdd v (constant S_ .f32 0x00000000#32) reducesTo_S16384x2_S16384_d1 h_S_)))) (sitofp (F := Ideal) .f32 (constantI S_ 32 0#32)) pads_S16384x2_S16384x128_000_01260 h_S_

def resultOf (P : FVec Ideal S16384x8 .f32) (L : FVec Ideal S16384x64 .f32) : FVec Ideal S16384x128 .f32 :=
  pairOf (best P).1 (bestTwo (softmaxOf (chosenOf (best P).2 L))).1

/-- The reference's result from its arguments. -/
def result (x : FVec Ideal S16384x4096 .f32) (g : FVec Ideal S1x4096 .f32) (gw : FVec Ideal S1x4096x8 .f32) (gb : FVec Ideal S1x8 .f32)
    (ew : FVec Ideal S1x4096x64 .f32) (eb : FVec Ideal S1x64 .f32) : FVec Ideal S16384x128 .f32 :=
  resultOf (softmaxOf (groupLogits (normedRows x g) gw gb)) (expertLogits (normedRows x g) ew eb)

/-- The run's result is this. -/
theorem run_result (m : (ℓ : Loc nD τ sig) → Buf (Elt Ideal) ℓ) (c : Dev nD) : Value.res_main_v63 m c
    = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

/-! ## At an index -/

theorem spread_apply {n : ℕ} {α : Type} (h : S16384x1.BroadcastsInDim ⟨2, ![16384, n]⟩ ![0, 1]) (h' : S16384.BroadcastsInDim S16384x1 ![0]) (u : S16384.Idx → α)
    (i : Fin 16384) (j : Fin n) : broadcastInDim ⟨2, ![16384, n]⟩ ![0, 1] h (broadcastInDim S16384x1 ![0] h' u) (ix2 i j) = u (ix1 i) := by
  refine (broadcastInDim_apply _ _ _ _ (ix2 i (0 : Fin 1)) fun a => ?_).trans (broadcastInDim_apply _ _ _ _ (ix1 i) fun a => ?_)
  · match a with
    | ⟨0, _⟩ => rfl
    | ⟨1, _⟩ => rfl
  · match a with
    | ⟨0, _⟩ => rfl

/-- The sum of a row. -/
theorem sum_apply {n : ℕ} (A : FVec Ideal ⟨2, ![16384, n]⟩ .f32) (h : (⟨2, ![16384, n]⟩ : Shape).ReducesTo [1] S16384) (i : Fin 16384) :
    Host.reduceAdd A (constant (F := Ideal) S_ .f32 0x00000000#32) h h_S_ (ix1 i) = ∑ k : Fin n, A (ix2 i k) := by
  refine (Host.reduceAdd_apply _ _ _ _ _).trans ((Ideal.hostReduceAdd_r2_a1 _ _ _ _).trans ?_)
  exact (congrArg (fun a : EReal => a + _) zero_bits).trans ((zero_add _).trans (Finset.sum_congr rfl fun k _ => congrArg A (eq_ix2 rfl rfl)))

theorem reduces8 : S16384x8.Reduces [1] S16384 := ⟨reducesTo_S16384x8_S16384_d1.1, by decide⟩

theorem most_apply (A : FVec Ideal S16384x8 .f32) (i : Fin 16384) : maximumf (broadcastInDim S16384 ![] bcast_S_S16384 (constant (F := Ideal) S_ .f32 0xFF800000#32))
    (Host.reduce FloatOps.maximumf A (constant S_ .f32 0xFF800000#32) reducesTo_S16384x8_S16384_d1 h_S_) (ix1 i) = top fun k => A (ix2 i k) := by
  have e : Host.reduce FloatOps.maximumf A (constant S_ .f32 0xFF800000#32) reducesTo_S16384x8_S16384_d1 h_S_ (ix1 i) = top fun k => A (ix2 i k) := by
    refine (Host.reduce_eq_fold_single _ _ _ _ reduces8 _ _).trans ?_
    show Finset.fold max (Ideal.ofBits .f32 0xFF800000#32) _ _ = _
    rw [Router.low_bits]
    exact Finset.fold_congr fun k _ => congrArg A (eq_ix2 rfl rfl)
  refine (congrArg₂ (fun a b : EReal => max a b) Router.low_bits e).trans ?_
  exact max_eq_right bot_le

theorem exps_apply (A : FVec Ideal S16384x8 .f32) (i : Fin 16384) (j : Fin 8) : expsOf A (ix2 i j) = Ideal.exp (A (ix2 i j) - top fun k => A (ix2 i k)) :=
  congrArg (fun a : EReal => Ideal.exp (A (ix2 i j) - a)) ((spread_apply _ _ _ i j).trans (most_apply A i))

theorem div_apply {s : Shape} (a b : FVec Ideal s .f32) (i : s.Idx) : Host.divf a b i = Ideal.div (a i) (b i) := rfl
theorem mul_apply {s : Shape} (a b : FVec Ideal s .f32) (i : s.Idx) : mulf a b i = a i * b i := rfl

theorem softmax_apply (A : FVec Ideal S16384x8 .f32) (i : Fin 16384) (j : Fin 8) : softmaxOf A (ix2 i j) = soft (fun k => A (ix2 i k)) j := by
  have e : over8 (Host.reduceAdd (expsOf A) (constant S_ .f32 0x00000000#32) reducesTo_S16384x8_S16384_d1 h_S_) (ix2 i j) = ∑ k : Fin 8, Ideal.exp (A (ix2 i k) - top fun k => A (ix2 i k)) :=
    (spread_apply (n := 8) _ _ _ i j).trans ((sum_apply (expsOf A) _ i).trans (Finset.sum_congr rfl fun k _ => exps_apply A i k))
  unfold softmaxOf
  rw [div_apply, exps_apply, e]
  rfl

/-- The sort's order on a row. -/
theorem order_eq (A : FVec Ideal S16384x8 .f32) (y : IVec S16384x8 32) (i : Fin 16384) (j : Fin 8) :
    (Host.sort2 S16384x8 1 (fun l r => FloatOps.cmpfTotal (F := Ideal) (φ := .f32) .gt l.1 r.1) A y).1 (ix2 i j) = A (ix2 i (sortedFrom (before fun k => A (ix2 i k)) j))
      ∧ (Host.sort2 S16384x8 1 (fun l r => FloatOps.cmpfTotal (F := Ideal) (φ := .f32) .gt l.1 r.1) A y).2 (ix2 i j) = y (ix2 i (sortedFrom (before fun k => A (ix2 i k)) j)) := by
  have ha (k : Fin 8) : (ix2 i j : S16384x8.Idx).along (1 : Fin 2) k = ix2 i k := eq_ix2 rfl rfl
  have hb : (fun k k' : Fin 8 => FloatOps.cmpfTotal (F := Ideal) (φ := .f32) .gt (A ((ix2 i j : S16384x8.Idx).along (1 : Fin 2) k)) (A ((ix2 i j : S16384x8.Idx).along (1 : Fin 2) k')) == 1#1)
      = before fun k => A (ix2 i k) := by
    funext k k'
    rw [ha, ha]
    show (BitVec.ofBool (decide (A (ix2 i k') < A (ix2 i k))) == 1#1) = decide (A (ix2 i k') < A (ix2 i k))
    cases decide (A (ix2 i k') < A (ix2 i k)) <;> rfl
  constructor
  · exact (congrArg A (ha _)).trans (congrArg (fun f => A (ix2 i (sortedFrom f j))) hb)
  · exact (congrArg y (ha _)).trans (congrArg (fun f => y (ix2 i (sortedFrom f j))) hb)

theorem topK_apply {n : ℕ} (A : FVec Ideal S16384x8 .f32) (h : S16384x8.Slices (fun _ => 0) ⟨2, ![16384, n]⟩) (i : Fin 16384) (j : Fin n) (j' : Fin 8) (hj : j'.1 = j.1) :
    (Host.topK ⟨2, ![16384, n]⟩ 1 (FloatOps.cmpfTotal (F := Ideal) (φ := .f32) .gt) A h).1 (ix2 i j) = A (ix2 i (sortedFrom (before fun k => A (ix2 i k)) j'))
      ∧ (Host.topK ⟨2, ![16384, n]⟩ 1 (FloatOps.cmpfTotal (F := Ideal) (φ := .f32) .gt) A h).2 (ix2 i j) = BitVec.ofNat 32 (sortedFrom (before fun k => A (ix2 i k)) j').1 := by
  have hk (a : Fin 2) : ((ix2 i j' : S16384x8.Idx) a).1 = 0 + ((ix2 i j : (⟨2, ![16384, n]⟩ : Shape).Idx) (a.cast rfl)).1 := by
    match a with
    | ⟨0, _⟩ => exact (Nat.zero_add _).symm
    | ⟨1, _⟩ => exact hj.trans (Nat.zero_add _).symm
  let y : IVec S16384x8 32 := fun i => if hd : 1 < S16384x8.rank then iotaInDim S16384x8 32 ⟨1, hd⟩ i else 0#32
  constructor
  · exact (extractStridedSlice_apply (fun _ => 0) (Host.sort2 S16384x8 1 (fun l r => FloatOps.cmpfTotal (F := Ideal) (φ := .f32) .gt l.1 r.1) A y).1 h (ix2 i j) (ix2 i j') hk).trans
      (order_eq A y i j').1
  · exact (extractStridedSlice_apply (fun _ => 0) (Host.sort2 S16384x8 1 (fun l r => FloatOps.cmpfTotal (F := Ideal) (φ := .f32) .gt l.1 r.1) A y).2 h (ix2 i j) (ix2 i j') hk).trans
      (order_eq A y i j').2

theorem chosen_apply (w : IVec S16384x1 32) (L : FVec Ideal S16384x64 .f32) (i : Fin 16384) (a : Fin 8) (ha : w (ix2 i (0 : Fin 1)) = BitVec.ofNat 32 a.1) (k : Fin 8) :
    chosenOf w L (ix2 i k) = L (ix2 i (expert a k)) := by
  have hm (g : Fin 8) : (select (broadcastInDim S16384x8x8 ![0, 1, 2] bcast_S16384x8x1_S16384x8x8_0_1_2 (cmpi .eq
      (broadcastInDim S16384x8x1 ![0, 1, 2] bcast_S1x8x1_S16384x8x1_0_1_2 (broadcastInDim S1x8x1 ![1] bcast_S8_S1x8x1_1 (iotaInDim S8 32 0)))
      (broadcastInDim S16384x8x1 ![0, 1, 2] bcast_S16384x1x1_S16384x8x1_0_1_2 (broadcastInDim S16384x1x1 ![0, 1] bcast_S16384x1_S16384x1x1_0_1 w))))
      (shapeCast S16384x8x8 L shapeCasts_S16384x64_S16384x8x8) (broadcastInDim S16384x8x8 ![] bcast_S_S16384x8x8 (id (constant (F := Ideal) S_ .f32 0x00000000#32)))) (ix3 i g k)
      = (if g = a then L (ix2 i (expert a k)) else 0 : EReal) := by
    have e1 : broadcastInDim S16384x8x1 ![0, 1, 2] bcast_S1x8x1_S16384x8x1_0_1_2 (broadcastInDim S1x8x1 ![1] bcast_S8_S1x8x1_1 (iotaInDim S8 32 0)) (ix3 i g (0 : Fin 1))
        = BitVec.ofNat 32 g.1 := by
      refine (broadcastInDim_apply _ _ _ _ (ix3 (0 : Fin 1) g (0 : Fin 1)) fun a => ?_).trans (broadcastInDim_apply _ _ _ _ (ix1 g) fun a => ?_)
      · match a with
        | ⟨0, _⟩ => rfl
        | ⟨1, _⟩ => rfl
        | ⟨2, _⟩ => rfl
      · match a with
        | ⟨0, _⟩ => rfl
    have e2 : broadcastInDim S16384x8x1 ![0, 1, 2] bcast_S16384x1x1_S16384x8x1_0_1_2 (broadcastInDim S16384x1x1 ![0, 1] bcast_S16384x1_S16384x1x1_0_1 w) (ix3 i g (0 : Fin 1))
        = BitVec.ofNat 32 a.1 := by
      refine (broadcastInDim_apply _ _ _ _ (ix3 i (0 : Fin 1) (0 : Fin 1)) fun a => ?_).trans ((broadcastInDim_apply _ _ _ _ (ix2 i (0 : Fin 1)) fun a => ?_).trans ha)
      · match a with
        | ⟨0, _⟩ => rfl
        | ⟨1, _⟩ => rfl
        | ⟨2, _⟩ => rfl
      · match a with
        | ⟨0, _⟩ => rfl
        | ⟨1, _⟩ => rfl
    have e3 : shapeCast S16384x8x8 L shapeCasts_S16384x64_S16384x8x8 (ix3 i g k) = L (ix2 i (expert g k)) :=
      shapeCast_apply _ _ _ _ (by
        rw [Shape.rowMajor_val_three, Shape.rowMajor_val_two]
        show i.1 * 64 + (8 * g.1 + k.1) = (i.1 * 8 + g.1) * 8 + k.1
        omega)
    have e4 : broadcastInDim S16384x8x8 ![0, 1, 2] bcast_S16384x8x1_S16384x8x8_0_1_2 (cmpi .eq
        (broadcastInDim S16384x8x1 ![0, 1, 2] bcast_S1x8x1_S16384x8x1_0_1_2 (broadcastInDim S1x8x1 ![1] bcast_S8_S1x8x1_1 (iotaInDim S8 32 0)))
        (broadcastInDim S16384x8x1 ![0, 1, 2] bcast_S16384x1x1_S16384x8x1_0_1_2 (broadcastInDim S16384x1x1 ![0, 1] bcast_S16384x1_S16384x1x1_0_1 w))) (ix3 i g k)
        = BitVec.ofBool (decide (g = a)) := by
      refine (broadcastInDim_apply _ _ _ _ (ix3 i g (0 : Fin 1)) fun a => ?_).trans ((congrArg₂ (fun a b : BitVec 32 => BitVec.ofBool (a == b)) e1 e2).trans ?_)
      · match a with
        | ⟨0, _⟩ => rfl
        | ⟨1, _⟩ => rfl
        | ⟨2, _⟩ => rfl
      · have : ∀ g a : Fin 8, BitVec.ofBool (BitVec.ofNat 32 g.1 == BitVec.ofNat 32 a.1) = BitVec.ofBool (decide (g = a)) := by decide
        exact this g a
    refine (congrArg₂ (fun (b : BitVec 1) (a : EReal) => Scalar.select b a (Ideal.ofBits .f32 0x00000000#32)) e4 e3).trans ?_
    by_cases h : g = a
    · rw [if_pos h, h]; simp [Scalar.select]
    · rw [if_neg h, decide_eq_false h]; exact zero_bits
  unfold chosenOf
  refine (Host.reduceAdd_apply _ _ _ _ _).trans ((Ideal.hostReduceAdd_r3_a1 _ _ _ _).trans ?_)
  refine (congrArg (fun a : EReal => a + _) zero_bits).trans ((zero_add _).trans ?_)
  refine (Finset.sum_congr rfl fun g _ => hm g).trans ?_
  rw [Finset.sum_ite_eq' Finset.univ a, if_pos (Finset.mem_univ _)]

theorem zero_word : sitofp (F := Ideal) .f32 (constantI S_ 32 0#32) (Shape.Idx.first h_S_) = (0 : EReal) := by
  show (((0#32 : BitVec 32).toInt : ℝ) : EReal) = 0
  simp

theorem pair_apply (u : FVec Ideal S16384x1 .f32) (v : FVec Ideal S16384x2 .f32) (i : Fin 16384) (j : Fin 128) : pairOf u v (ix2 i j)
    = if j.1 = 0 then Ideal.div (u (ix2 i (0 : Fin 1)) * v (ix2 i (0 : Fin 2))) (v (ix2 i (0 : Fin 2)) + v (ix2 i (1 : Fin 2)))
      else if j.1 = 1 then Ideal.div (u (ix2 i (0 : Fin 1)) * v (ix2 i (1 : Fin 2))) (v (ix2 i (0 : Fin 2)) + v (ix2 i (1 : Fin 2))) else 0 := by
  have hin (l : Fin 2) (hl : j.1 = l.1) : pairOf u v (ix2 i j) = Ideal.div (u (ix2 i (0 : Fin 1)) * v (ix2 i l)) (v (ix2 i (0 : Fin 2)) + v (ix2 i (1 : Fin 2))) := by
    refine (pad_apply_of_inside _ _ _ _ _ _ _ _ (ix2 i l) fun a => ?_).trans ?_
    · match a with
      | ⟨0, _⟩ => show i.1 = 0 + i.1 * (0 + 1); omega
      | ⟨1, _⟩ => show j.1 = 0 + l.1 * (0 + 1); omega
    · have e : broadcastInDim S16384x2 ![0, 1] bcast_S16384x1_S16384x2_0_1 (broadcastInDim S16384x1 ![0] bcast_S16384_S16384x1_0
          (Host.reduceAdd v (constant S_ .f32 0x00000000#32) reducesTo_S16384x2_S16384_d1 h_S_)) (ix2 i l) = v (ix2 i (0 : Fin 2)) + v (ix2 i (1 : Fin 2)) :=
        (spread_apply (n := 2) _ _ _ i l).trans ((sum_apply v _ i).trans (Fin.sum_univ_two _))
      have e' : broadcastInDim S16384x2 ![0, 1] bcast_S16384x1_S16384x2_0_1 u (ix2 i l) = u (ix2 i (0 : Fin 1)) :=
        broadcastInDim_apply _ _ _ _ (ix2 i (0 : Fin 1)) fun a => by
          match a with
          | ⟨0, _⟩ => rfl
          | ⟨1, _⟩ => rfl
      rw [div_apply, mul_apply, e, e']
  by_cases h0 : j.1 = 0
  · rw [if_pos h0]; exact hin 0 h0
  rw [if_neg h0]
  by_cases h1 : j.1 = 1
  · rw [if_pos h1]; exact hin 1 h1
  rw [if_neg h1]
  refine (pad_apply_of_not_inside _ _ _ _ _ _ _ _ (1 : Fin 2) ?_).trans zero_word
  rintro ⟨_, _, h⟩
  have h' : (j.1 - 0) / (0 + 1) < 2 := h
  omega

theorem result_weight (A : FVec Ideal S16384x8 .f32) (L : FVec Ideal S16384x64 .f32) (i : Fin 16384) (h : ∀ k, Router.Real' (L (ix2 i k))) (j : Fin 128) :
    resultOf (softmaxOf A) L (ix2 i j) = weight (fun k => A (ix2 i k)) (fun a k => L (ix2 i (expert a k))) j := by
  have hP : (fun k => softmaxOf A (ix2 i k)) = soft fun k => A (ix2 i k) := funext fun k => softmax_apply A i k
  have e0 : (best (softmaxOf A)).1 (ix2 i (0 : Fin 1)) = top (soft fun k => A (ix2 i k)) :=
    (topK_apply (n := 1) (softmaxOf A) _ i 0 0 rfl).1.trans ((Router.sorted_zero fun k => softmaxOf A (ix2 i k)).trans (congrArg top hP))
  have e1 : (best (softmaxOf A)).2 (ix2 i (0 : Fin 1)) = BitVec.ofNat 32 (first (soft fun k => A (ix2 i k))).1 :=
    (topK_apply (n := 1) (softmaxOf A) _ i 0 0 rfl).2.trans (congrArg (fun a : Fin 8 => BitVec.ofNat 32 a.1) ((Router.sorted_first fun k => softmaxOf A (ix2 i k)).trans (congrArg first hP)))
  have hQ : (fun k => softmaxOf (chosenOf (best (softmaxOf A)).2 L) (ix2 i k)) = soft fun k => L (ix2 i (expert (first (soft fun k => A (ix2 i k))) k)) :=
    funext fun k => (softmax_apply _ i k).trans (congrArg (fun f => soft f k) (funext fun k' => chosen_apply _ L i _ e1 k'))
  have e2 : (bestTwo (softmaxOf (chosenOf (best (softmaxOf A)).2 L))).1 (ix2 i (0 : Fin 2)) = top (soft fun k => L (ix2 i (expert (first (soft fun k => A (ix2 i k))) k))) :=
    (topK_apply (n := 2) _ _ i 0 0 rfl).1.trans ((Router.sorted_zero fun k => softmaxOf (chosenOf (best (softmaxOf A)).2 L) (ix2 i k)).trans (congrArg top hQ))
  have e3 : (bestTwo (softmaxOf (chosenOf (best (softmaxOf A)).2 L))).1 (ix2 i (1 : Fin 2))
      = second (Ideal.ofBits .f32 0xBF800000#32) (soft fun k => L (ix2 i (expert (first (soft fun k => A (ix2 i k))) k))) := by
    refine (topK_apply (n := 2) _ _ i 1 1 rfl).1.trans ?_
    have := Router.sorted_second (soft fun k => L (ix2 i (expert (first (soft fun k => A (ix2 i k))) k))) (Ideal.ofBits .f32 0xBF800000#32)
      fun k => Router.minus_bits.trans (Router.soft_nonneg _ (fun k => h _) k)
    rw [← hQ] at this
    exact this.trans (congrArg (second _) hQ)
  unfold resultOf
  rw [pair_apply, e0, e2, e3]
  rfl

/-! ## The logits -/

theorem rows_apply (x : FVec Ideal S16384x4096 .f32) (g : FVec Ideal S1x4096 .f32) (i : Fin 16384) (d : Fin 4096) : normedRows x g (ix2 i d) = hid x g i d := by
  refine congrArg₂ (fun a b : EReal => x (ix2 i d) * a * b) ?_ ?_
  · refine (broadcastInDim_apply _ _ _ _ (ix2 i (0 : Fin 1)) fun a => ?_).trans ?_
    · match a with
      | ⟨0, _⟩ => rfl
      | ⟨1, _⟩ => rfl
    refine congrArg scale ((broadcastInDim_apply _ _ _ _ (ix1 i) fun a => ?_).trans (sum_apply _ _ i))
    match a with
    | ⟨0, _⟩ => rfl
  · refine (broadcastInDim_apply _ _ _ _ (ix2 (0 : Fin 1) d) fun a => ?_).trans ((broadcastInDim_apply _ _ _ _ (ix1 d) fun a => ?_).trans (Router.vector_apply _ _ _))
    · match a with
      | ⟨0, _⟩ => rfl
      | ⟨1, _⟩ => rfl
    · match a with
      | ⟨0, _⟩ => rfl

/-- A product with the weights and a bias over the rows. -/
theorem logit_apply {n : ℕ} (hn : 1 < n) {D : DotDims S16384x4096 ⟨2, ![4096, n]⟩ ⟨2, ![16384, n]⟩} (hD : D = DotDims.plain 16384 4096 n) (H : FVec Ideal S16384x4096 .f32)
    (w : FVec Ideal ⟨3, ![1, 4096, n]⟩ .f32) (b : FVec Ideal ⟨2, ![1, n]⟩ .f32) (hw : (⟨3, ![1, 4096, n]⟩ : Shape).ShapeCasts ⟨2, ![4096, n]⟩)
    (hb : (⟨2, ![1, n]⟩ : Shape).ShapeCasts ⟨1, ![n]⟩) (h1 : (⟨2, ![1, n]⟩ : Shape).BroadcastsInDim ⟨2, ![16384, n]⟩ ![0, 1]) (h2 : (⟨1, ![n]⟩ : Shape).BroadcastsInDim ⟨2, ![1, n]⟩ ![1])
    (i : Fin 16384) (k : Fin n) : addf (Host.dotGeneral D none H (shapeCast ⟨2, ![4096, n]⟩ w hw))
      (broadcastInDim ⟨2, ![16384, n]⟩ ![0, 1] h1 (broadcastInDim ⟨2, ![1, n]⟩ ![1] h2 (shapeCast ⟨1, ![n]⟩ b hb))) (ix2 i k)
      = (∑ d : Fin 4096, H (ix2 i d) * w (ix3 (0 : Fin 1) d k)) + b (ix2 (0 : Fin 1) k) := by
  subst hD
  refine congrArg₂ (fun a b : EReal => a + b) ?_ ?_
  · exact (StackMember.dotGeneral_plain_apply none _ _ i k).trans (Finset.sum_congr rfl fun d _ => congrArg (fun a : EReal => H (ix2 i d) * a) (matrix_apply w hw d k))
  · refine (broadcastInDim_apply _ _ _ _ (ix2 (0 : Fin 1) k) fun a => ?_).trans ((broadcastInDim_apply _ _ _ _ (ix1 k) fun a => ?_).trans (Router.vector_apply _ _ _))
    · match a with
      | ⟨0, _⟩ => rfl
      | ⟨1, _⟩ => exact (if_neg (by show ¬ n = 1; omega)).symm
    · match a with
      | ⟨0, _⟩ => exact (if_neg (by show ¬ n = 1; omega)).symm

theorem result_apply (x : FVec Ideal S16384x4096 .f32) (g : FVec Ideal S1x4096 .f32) (gw : FVec Ideal S1x4096x8 .f32) (gb : FVec Ideal S1x8 .f32)
    (ew : FVec Ideal S1x4096x64 .f32) (eb : FVec Ideal S1x64 .f32) (h : Reals x g gw ew eb) (i : Fin 16384) (j : Fin 128) :
    result x g gw gb ew eb (ix2 i j) = routed x g gw gb ew eb i j := by
  have e0 (k : Fin 8) : groupLogits (normedRows x g) gw gb (ix2 i k) = toGroup x g gw gb i k :=
    (logit_apply (by omega) rfl _ gw gb _ _ _ _ i k).trans (congrArg (fun a : EReal => a + _) (Finset.sum_congr rfl fun d _ => congrArg (fun a : EReal => a * _) (rows_apply x g i d)))
  have e1 (k : Fin 64) : expertLogits (normedRows x g) ew eb (ix2 i k) = toExpert x g ew eb i k :=
    (logit_apply (by omega) rfl _ ew eb _ _ _ _ i k).trans (congrArg (fun a : EReal => a + _) (Finset.sum_congr rfl fun d _ => congrArg (fun a : EReal => a * _) (rows_apply x g i d)))
  refine (result_weight _ _ i (fun k => ?_) j).trans ?_
  · rw [e1]; exact Router.toExpert_real i h k
  · exact congrArg₂ (fun a b => weight a b j) (funext e0) (funext fun a => funext fun k => e1 (expert a k))

/-- From equal arguments the reference's array is the kernel's. -/
theorem results_eq (m : (ℓ : Loc Kernel8Ideal.nD Kernel8Ideal.τ Kernel8Ideal.sig) → Buf (Elt Ideal) ℓ) (c : Dev Kernel8Ideal.nD) (h : Router.AllReal m c) :
    result (Router.rowsIn m c) (Router.gains m c) (Router.groupW m c) (Router.groupB m c) (Router.expertW m c) (Router.expertB m c)
      = ((Kernel8Ideal.Gen.dats m 0 c).arrAt 6 Kernel8Ideal.cfg0.N : FVec Ideal S16384x128 .f32) := by
  funext i
  obtain ⟨r, j, rfl⟩ : ∃ (r : Fin 16384) (j : Fin 128), i = ix2 r j := ⟨i 0, i 1, eq_ix2 rfl rfl⟩
  exact (result_apply _ _ _ _ _ _ h r j).trans (Router.array_apply m c h r j).symm

end Cert.RouterRef

end
-- ==== Proof.MergeIn.lean ====
/- The array of the merge's gates, at an index. -/
module

public import proofs.«01_k».proof.Proof.Tiles
public import proofs.«01_k».proof.Proof.Gen.Kernel2Ideal.Value
public import Idealize.ShloMosaic.Lib.ValueLayout

@[expose] public section

noncomputable section

namespace Cert.MergeIn

open Idealize.ShloMosaic Idealize.ShloMosaic.TcCoe Idealize.SL.Sem
open Cert.Kernel2Ideal Cert.Kernel2Ideal.Gen Cert.Kernel2Ideal.Value Cert.Tiles Cert.Products

variable (m : (ℓ : Loc nD τ sig) → Buf (Elt Ideal) ℓ) (c : Dev nD) (t : Fin cfg0.N)

/-- The activations, the weights and the gates' biases as launched. -/
abbrev x : FVec Ideal S2x8192x4096 .bf16 := m ((c : Thread nD τ).loc main_arg0)
abbrev w : FVec Ideal S1x4096x18432 .f32 := m ((c : Thread nD τ).loc main_arg1)
abbrev b : FVec Ideal S1x8192 .f32 := m ((c : Thread nD τ).loc main_arg2)

theorem t_lt : t.1 < 256 := lt_of_lt_of_eq t.2 N_0

theorem V0 : V m c main_v0 = shapeCast S16384x4096 (x m c) shapeCasts_S2x8192x4096_S16384x4096 := by
  show StableHlo.after hostOps0 _ (Proc.devRef .tc main_v0) = _
  after_results
  rfl
theorem V1 : V m c main_v1 = shapeCast S4096x18432 (w m c) shapeCasts_S1x4096x18432_S4096x18432 := by
  show StableHlo.after hostOps0 _ (Proc.devRef .tc main_v1) = _
  after_results
  rfl
theorem V3 : V m c main_v3 = shapeCast S1x8192 (shapeCast S8192 (b m c) shapeCasts_S1x8192_S8192) shapeCasts_S8192_S1x8192 := by
  show StableHlo.after hostOps0 _ (Proc.devRef .tc main_v3) = _
  after_results
  rfl

/-- The blocks' places, per window. -/
theorem place0 : ∀ t : Fin cfg0.N, win0_0.index t (0 : Fin 2) = t.1 % 32 ∧ win0_0.index t (1 : Fin 2) = 0 := (by decide +kernel : ∀ t : Fin grid0.N, _)
theorem place1 : ∀ t : Fin cfg0.N, win0_1.index t (0 : Fin 2) = 0 ∧ win0_1.index t (1 : Fin 2) = 10 + t.1 / 32 := (by decide +kernel : ∀ t : Fin grid0.N, _)
theorem place2 : ∀ t : Fin cfg0.N, win0_2.index t (0 : Fin 2) = 0 ∧ win0_2.index t (1 : Fin 2) = t.1 / 32 := (by decide +kernel : ∀ t : Fin grid0.N, _)

/-- Row `r` of the point's 512 rows of activations. -/
theorem blk0 (r : Fin 512) (k : Fin 4096) : (iblk m c 0 t : FVec Ideal S512x4096 .bf16) (ix2 r k) = row (x m c) ⟨512 * (t.1 % 32) + r.1, by omega⟩ k := by
  obtain ⟨e0, e1⟩ := place0 t
  show V m c main_v0 (((cfg0.win 0).blk t).view.emb (ix2 r k)) = _
  rw [V0, eq_ix2 (i := ((cfg0.win 0).blk t).view.emb (ix2 r k)) (a := (⟨512 * (t.1 % 32) + r.1, by omega⟩ : Fin 16384)) (b := k)
    (by show win0_0.index t (0 : Fin 2) * 512 + 1 * r.1 = 512 * (t.1 % 32) + r.1; rw [e0]; omega)
    (by show win0_0.index t (1 : Fin 2) * 4096 + 1 * k.1 = k.1; rw [e1]; omega)]
  exact rows_apply _ _ _ _

/-- The point's 1024 columns of the weights. -/
theorem blk1 (k : Fin 4096) (y : Fin 1024) : (iblk m c 1 t : FVec Ideal S4096x1024 .f32) (ix2 k y)
    = w m c (ix3 (0 : Fin 1) k (⟨10240 + (1024 * (t.1 / 32) + y.1), by have := t_lt t; omega⟩ : Fin 18432)) := by
  obtain ⟨e0, e1⟩ := place1 t
  have ht := t_lt t
  show V m c main_v1 (((cfg0.win 1).blk t).view.emb (ix2 k y)) = _
  rw [V1, eq_ix2 (i := ((cfg0.win 1).blk t).view.emb (ix2 k y)) (a := k) (b := (⟨10240 + (1024 * (t.1 / 32) + y.1), by omega⟩ : Fin 18432))
    (by show win0_1.index t (0 : Fin 2) * 4096 + 1 * k.1 = k.1; rw [e0]; omega)
    (by show win0_1.index t (1 : Fin 2) * 1024 + 1 * y.1 = 10240 + (1024 * (t.1 / 32) + y.1); rw [e1]; omega)]
  exact matrix_apply _ _ _ _

/-- The point's 1024 biases. -/
theorem blk2 (y : Fin 1024) : (iblk m c 2 t : FVec Ideal S1x1024 .f32) (ix2 (0 : Fin 1) y)
    = b m c (ix2 (0 : Fin 1) (⟨1024 * (t.1 / 32) + y.1, by have := t_lt t; omega⟩ : Fin 8192)) := by
  obtain ⟨e0, e1⟩ := place2 t
  have ht := t_lt t
  show V m c main_v3 (((cfg0.win 2).blk t).view.emb (ix2 (0 : Fin 1) y)) = _
  rw [V3, eq_ix2 (i := ((cfg0.win 2).blk t).view.emb (ix2 (0 : Fin 1) y)) (a := (0 : Fin 1)) (b := (⟨1024 * (t.1 / 32) + y.1, by omega⟩ : Fin 8192))
    (by show win0_2.index t (0 : Fin 2) * 1 + 1 * 0 = 0; rw [e0])
    (by show win0_2.index t (1 : Fin 2) * 1024 + 1 * y.1 = 1024 * (t.1 / 32) + y.1; rw [e1]; omega)]
  exact row_apply _ _ _ _

/-- The cast of the weights changes no value. -/
theorem cast_apply (v : FVec Ideal S4096x1024 .f32) (i : S4096x1024.Idx) : k0_pay1 (F := Ideal) v i = v i := by
  unfold k0_pay1
  rw [shapeCast_self, shapeCast_self]
  rfl

/-- The weights kept at a point. -/
def kept : FVec Ideal S4096x1024 .bf16 := k0_pay1 (F := Ideal) (iblk m c 1 t)

theorem kept_apply (k : Fin 4096) (y : Fin 1024) : kept m c t (ix2 k y)
    = w m c (ix3 (0 : Fin 1) k (⟨10240 + (1024 * (t.1 / 32) + y.1), by have := t_lt t; omega⟩ : Fin 18432)) :=
  (cast_apply _ _).trans (blk1 m c t k y)

theorem kept_eq (h0 : ¬ t.val % 32 = 0) : kept m c t = kept m c ⟨t.val - 1, Nat.lt_of_le_of_lt (Nat.sub_le _ _) t.isLt⟩ := by
  funext i
  obtain ⟨k, y, rfl⟩ : ∃ (k : Fin 4096) (y : Fin 1024), i = ix2 k y := ⟨i 0, i 1, eq_ix2 rfl rfl⟩
  refine (kept_apply m c t k y).trans (Eq.trans ?_ (kept_apply m c _ k y).symm)
  exact congrArg (fun j => w m c (ix3 (0 : Fin 1) k j)) (Fin.ext (by
    show 10240 + (1024 * (t.1 / 32) + y.1) = 10240 + (1024 * ((t.1 - 1) / 32) + y.1); omega))

theorem scratch_A (h0 : t.val % 32 = 0) : (outsAt0 m c t.val t.isLt).2 = kept m c t := by
  refine (congrArg (fun x => x.2) (outsAt0_A m c t h0)).trans ?_
  refine (show _ = VS0_0.read (Elt Ideal) (VS0_0.writes (Elt Ideal) VS0_0.junk [⟨Rect.unit (s := S4096x1024) ![0, 0] S4096x1024.size inb_S4096x1024_S4096x1024_0_0,
    k0_pay1 (View.readAt (Elt Ideal) (ms0_1 t).view (Rect.unit (s := S4096x1024) ![0, 0] S4096x1024.size inb_S4096x1024_S4096x1024_0_0).toLoadRect ((hs0_1 t).unread (iblk m c 1 t)))⟩])
    from by sl_kernel_rfl).trans ?_
  rw [store_whole _ _ zeros2, load_whole (hs0_1 t) _ zeros2]
  rfl
theorem scratch_B (h0 : ¬ t.val % 32 = 0) : (outsAt0 m c t.val t.isLt).2 = (outsAt0 m c (t.val - 1) (Nat.lt_of_le_of_lt (Nat.sub_le _ _) t.isLt)).2 := by
  refine (congrArg (fun x => x.2) (outsAt0_B m c t h0)).trans ?_
  sl_kernel_rfl

/-- The point's store over its block, from the weights it loads. -/
def stored (W : FVec Ideal S4096x1024 .bf16) : FVec Ideal S512x1024 .bf16 :=
  VO0_3.read (Elt Ideal) (VO0_3.writes (Elt Ideal) VO0_3.junk [⟨Rect.unit (s := S512x1024) ![0, 0] S512x1024.size inb_S512x1024_S512x1024_0_0,
    k0_pay2 (View.readAt (Elt Ideal) (ms0_0 t).view (Rect.unit (s := S512x4096) ![0, 0] S512x4096.size inb_S512x4096_S512x4096_0_0).toLoadRect ((hs0_0 t).unread (iblk m c 0 t)))
      W (View.readAt (Elt Ideal) (ms0_2 t).view (Rect.unit (s := S1x1024) ![0, 0] S1x1024.size inb_S1x1024_S1x1024_0_0).toLoadRect ((hs0_2 t).unread (iblk m c 2 t)))⟩])

theorem stored_eq (W : FVec Ideal S4096x1024 .bf16) : stored m c t W = k0_pay2 (F := Ideal) (iblk m c 0 t) W (iblk m c 2 t) := by
  unfold stored
  rw [store_whole _ _ zeros2, load_whole (hs0_0 t) _ zeros2, load_whole (hs0_2 t) _ zeros2]

theorem out_A (h0 : t.val % 32 = 0) : (outsAt0 m c t.val t.isLt).1 = stored m c t (kept m c t) := by
  refine (congrArg (fun x => x.1) (outsAt0_A m c t h0)).trans ?_
  refine (show _ = stored m c t (scM0_0.view.readCov (Val := Elt Ideal) [⟨Rect.unit (s := S4096x1024) ![0, 0] S4096x1024.size inb_S4096x1024_S4096x1024_0_0,
        k0_pay1 (View.readAt (Elt Ideal) (ms0_1 t).view (Rect.unit (s := S4096x1024) ![0, 0] S4096x1024.size inb_S4096x1024_S4096x1024_0_0).toLoadRect ((hs0_1 t).unread (iblk m c 1 t)))⟩]
        (Rect.unit (s := S4096x1024) ![0, 0] S4096x1024.size inb_S4096x1024_S4096x1024_0_0).toLoadRect)
    from by sl_kernel_rfl).trans ?_
  rw [View.readCov_unit_zero _ zeros2, load_whole (hs0_1 t) _ zeros2]
  rfl
theorem out_B (h0 : ¬ t.val % 32 = 0) : (outsAt0 m c t.val t.isLt).1
    = stored m c t (outsAt0 m c (t.val - 1) (Nat.lt_of_le_of_lt (Nat.sub_le _ _) t.isLt)).2 := by
  refine (congrArg (fun x => x.1) (outsAt0_B m c t h0)).trans ?_
  refine (show _ = stored m c t (View.readAt (Elt Ideal) scM0_0.view (Rect.unit (s := S4096x1024) ![0, 0] S4096x1024.size inb_S4096x1024_S4096x1024_0_0).toLoadRect
        ((Memref.isWhole_whole _).unread (outsAt0 m c (t.val - 1) (Nat.lt_of_le_of_lt (Nat.sub_le _ _) t.isLt)).2))
    from by sl_kernel_rfl).trans ?_
  rw [load_whole (M := scM0_0) (Memref.isWhole_whole _) _ zeros2]

/-- What the point writes. -/
theorem out_eq : (outsAt0 m c t.val t.isLt).1 = k0_pay2 (F := Ideal) (iblk m c 0 t) (kept m c t) (iblk m c 2 t) :=
  (written (fun n hn => (outsAt0 m c n hn).1) (fun n hn => (outsAt0 m c n hn).2) (fun n hn => kept m c ⟨n, hn⟩)
    (fun n hn => stored m c ⟨n, hn⟩) (fun n hn => scratch_A m c ⟨n, hn⟩) (fun n hn => scratch_B m c ⟨n, hn⟩)
    (fun n hn => kept_eq m c ⟨n, hn⟩) (fun n hn => out_A m c ⟨n, hn⟩) (fun n hn => out_B m c ⟨n, hn⟩) t.1 t.2).trans (stored_eq m c t _)

/-- The same, at an index of its block. -/
theorem out_apply (r : Fin 512) (y : Fin 1024) : (outsAt0 m c t.val t.isLt).1 (ix2 r y)
    = mergeIn (x m c) (w m c) (b m c) ⟨512 * (t.1 % 32) + r.1, by omega⟩ ⟨1024 * (t.1 / 32) + y.1, by have := t_lt t; omega⟩ := by
  rw [out_eq]
  unfold k0_pay2
  rw [shapeCast_self, shapeCast_self]
  refine congrArg₂ (fun a b : EReal => Ideal.logistic (a + b)) ?_ ?_
  · exact (product_apply rfl _ _ r y).trans (Finset.sum_congr rfl fun k _ => congrArg₂ (fun a b : EReal => a * b) (blk0 m c t r k) (kept_apply m c t k y))
  · exact (Idealize.ShloMosaic.ValueIdx.broadcastTo_1b_ab_apply _ _ r y).trans (blk2 m c t y)

/-- The array the launch leaves, at an index. -/
theorem array_apply (i : Fin 16384) (j : Fin 8192) : (G3 m c : FVec Ideal S16384x8192 .bf16) (ix2 i j) = mergeIn (x m c) (w m c) (b m c) i j := by
  have ht : pt3Of (ix2 i j : S16384x8192.Idx) = 32 * (j.1 / 1024) + i.1 / 512 := by
    show 1 * (i.1 / 512 - 0) + 32 * (j.1 / 1024 - 0) = _
    omega
  have hn : pt3Of (ix2 i j : S16384x8192.Idx) < cfg0.N := by rw [ht]; exact lt_of_lt_of_eq (by omega) N_0.symm
  have el : loc3Of (ix2 i j : S16384x8192.Idx) = ix2 (⟨i.1 % 512, by omega⟩ : Fin 512) (⟨j.1 % 1024, by omega⟩ : Fin 1024) := eq_ix2 rfl rfl
  unfold G3
  rw [dif_pos hn, ← fold0_congr m c (pt3Of (ix2 i j : S16384x8192.Idx)) (by omega) (pt3Of (ix2 i j : S16384x8192.Idx)) (by omega) rfl,
    ← outsAt0_sweep m c (pt3Of (ix2 i j : S16384x8192.Idx)) hn, el]
  refine (out_apply m c ⟨_, hn⟩ _ _).trans ?_
  exact congrArg₂ (mergeIn (x m c) (w m c) (b m c)) (Fin.ext (by show 512 * (pt3Of (ix2 i j : S16384x8192.Idx) % 32) + i.1 % 512 = i.1; omega))
    (Fin.ext (by show 1024 * (pt3Of (ix2 i j : S16384x8192.Idx) / 32) + j.1 % 1024 = j.1; omega))

end Cert.MergeIn

end
-- ==== Proof.RefProducts.lean ====
/- The references' products at an index. -/
module

public import proofs.«01_k».proof.Proof.Tiles
public import proofs.«01_k».proof.Proof.RefProj
public import Idealize.ShloMosaic.Lib.StackMember

@[expose] public section

noncomputable section

namespace Cert.RefProducts

open Idealize.ShloMosaic Idealize.SL.Sem
open Cert.Products Cert.Tiles

/-- The activations times the input projection's matrix, at a row of both sequences. -/
theorem inProj_apply (x : FVec Ideal ⟨3, ![2, 8192, 4096]⟩ .bf16) (w : FVec Ideal ⟨3, ![1, 4096, 18432]⟩ .f32) (hb : FTy.bits .bf16 < FTy.bits .f32)
    (hw : (⟨3, ![1, 4096, 18432]⟩ : Shape).ShapeCasts ⟨2, ![4096, 18432]⟩) (i : Fin 16384) (j : Fin 18432) :
    Host.dotGeneral ReferenceIdeal.dot_S2x8192x4096_S4096x18432_S2x8192x18432_2_0_01_1_n_n none (extf .f32 x hb) (shapeCast ⟨2, ![4096, 18432]⟩ w hw)
      (ix3 (⟨i.1 / 8192, by omega⟩ : Fin 2) (⟨i.1 % 8192, by omega⟩ : Fin 8192) j) = inProj x w i j :=
  (RefProj.rows_dot _ _ _ _ j).trans (Finset.sum_congr rfl fun k _ => congrArg (fun a : EReal => row x i k * a) (matrix_apply w hw k j))

/-- Rows times a stack of one matrix. -/
theorem product_apply {M K N : ℕ} {d : DotDims ⟨2, ![M, K]⟩ ⟨2, ![K, N]⟩ ⟨2, ![M, N]⟩} (hd : d = DotDims.plain M K N)
    (x : FVec Ideal ⟨2, ![M, K]⟩ .bf16) (w : FVec Ideal ⟨3, ![1, K, N]⟩ .f32) (hb : FTy.bits .bf16 < FTy.bits .f32)
    (hw : (⟨3, ![1, K, N]⟩ : Shape).ShapeCasts ⟨2, ![K, N]⟩) (i : Fin M) (j : Fin N) :
    Host.dotGeneral d none (extf .f32 x hb) (shapeCast ⟨2, ![K, N]⟩ w hw) (ix2 i j) = ∑ k : Fin K, x (ix2 i k) * w (ix3 (0 : Fin 1) k j) := by
  subst hd
  exact (StackMember.dotGeneral_plain_apply none _ _ i j).trans (Finset.sum_congr rfl fun k _ => congrArg (fun a : EReal => x (ix2 i k) * a) (matrix_apply w hw k j))

end Cert.RefProducts

end
-- ==== Proof.MergeInRef.lean ====
/- The reference of the merge's gates at an index, and its equality with the kernel's array. -/
module

public import proofs.«01_k».proof.Proof.MergeIn
public import proofs.«01_k».proof.Proof.RefProducts
public import proofs.«01_k».proof.Proof.RefGates
public import proofs.«01_k».proof.Proof.Gen.Reference2Ideal.Run

@[expose] public section

noncomputable section

namespace Cert.MergeInRef

open Idealize.ShloMosaic Idealize.ShloMosaic.TcCoe Idealize.SL.Sem
open Cert.Reference2Ideal Cert.Reference2Ideal.Gen Cert.Products Cert.Tiles

variable (x : FVec Ideal S2x8192x4096 .bf16) (w : FVec Ideal S1x4096x18432 .f32) (b : FVec Ideal S1x8192 .f32)

/-- The gates before the logistic function. -/
def logits : FVec Ideal S2x8192x8192 .f32 :=
  addf (extractStridedSlice S2x8192x8192 ![0, 0, 10240] (Host.dotGeneral dot_S2x8192x4096_S4096x18432_S2x8192x18432_2_0_01_1_n_n none
    (extf .f32 x bitsLt_bf16_f32) (shapeCast S4096x18432 w shapeCasts_S1x4096x18432_S4096x18432)) slices_S2x8192x18432_S2x8192x8192_0_0_10240)
    (broadcastInDim S2x8192x8192 ![0, 1, 2] bcast_S1x1x8192_S2x8192x8192_0_1_2 (broadcastInDim S1x1x8192 ![2] bcast_S8192_S1x1x8192_2
      (shapeCast S8192 b shapeCasts_S1x8192_S8192)))

/-- The gates. -/
def gates : FVec Ideal S2x8192x8192 .f32 :=
  Host.divf (broadcastInDim S2x8192x8192 ![] bcast_S_S2x8192x8192 (constant S_ .f32 0x3F800000#32))
    (addf (broadcastInDim S2x8192x8192 ![] bcast_S_S2x8192x8192 (constant S_ .f32 0x3F800000#32)) (Host.exp (Host.negf (logits x w b))))

/-- The reference's result from its arguments. -/
def result : FVec Ideal S16384x8192 .bf16 :=
  truncf .bf16 (shapeCast S16384x8192 (gates x w b) shapeCasts_S2x8192x8192_S16384x8192) bitsLt_bf16_f32

/-- The biases over the rows of both sequences. -/
theorem bias_apply (p : Fin 2) (s : Fin 8192) (j : Fin 8192) :
    broadcastInDim S2x8192x8192 ![0, 1, 2] bcast_S1x1x8192_S2x8192x8192_0_1_2 (broadcastInDim S1x1x8192 ![2] bcast_S8192_S1x1x8192_2
      (shapeCast S8192 b shapeCasts_S1x8192_S8192)) (ix3 p s j) = b (ix2 (0 : Fin 1) j) := by
  refine (broadcastInDim_apply _ _ _ _ (ix3 (0 : Fin 1) (0 : Fin 1) j) fun a => ?_).trans ?_
  · match a with
    | ⟨0, _⟩ => rfl
    | ⟨1, _⟩ => rfl
    | ⟨2, _⟩ => rfl
  refine (broadcastInDim_apply _ _ _ _ (ix1 j) fun a => ?_).trans ?_
  · match a with
    | ⟨0, _⟩ => rfl
  exact shapeCast_apply _ _ _ (ix2 (0 : Fin 1) j) (by
    rw [Shape.rowMajor_val_one, Shape.rowMajor_val_two]; show 0 * 8192 + j.1 = j.1; omega)

theorem logits_apply (i : Fin 16384) (j : Fin 8192) : row (logits x w b) i j = inProj x w i ⟨10240 + j.1, by omega⟩ + b (ix2 (0 : Fin 1) j) := by
  refine congrArg₂ (fun a b : EReal => a + b) ?_ (bias_apply b _ _ j)
  refine (extractStridedSlice_apply _ _ _ _ (ix3 (⟨i.1 / 8192, by omega⟩ : Fin 2) (⟨i.1 % 8192, by omega⟩ : Fin 8192) (⟨10240 + j.1, by omega⟩ : Fin 18432)) fun a => ?_).trans
    (RefProducts.inProj_apply x w _ _ i _)
  match a with
  | ⟨0, _⟩ => show i.1 / 8192 = 0 + i.1 / 8192; omega
  | ⟨1, _⟩ => show i.1 % 8192 = 0 + i.1 % 8192; omega
  | ⟨2, _⟩ => rfl

theorem result_apply (i : Fin 16384) (j : Fin 8192) : result x w b (ix2 i j) = mergeIn x w b i j := by
  show shapeCast S16384x8192 (gates x w b) shapeCasts_S2x8192x8192_S16384x8192 (ix2 i j) = _
  refine (rows_apply _ _ i j).trans ?_
  exact (RefGates.sigmoid_apply _).trans (congrArg Ideal.logistic (logits_apply x w b i j))

/-- From equal arguments the reference's array is the kernel's. -/
theorem results_eq (m : (ℓ : Loc Kernel2Ideal.nD Kernel2Ideal.τ Kernel2Ideal.sig) → Buf (Elt Ideal) ℓ) (c : Dev Kernel2Ideal.nD) :
    result (MergeIn.x m c) (MergeIn.w m c) (MergeIn.b m c) = (Kernel2Ideal.Value.G3 m c : FVec Ideal S16384x8192 .bf16) := by
  funext i
  obtain ⟨r, j, rfl⟩ : ∃ (r : Fin 16384) (j : Fin 8192), i = ix2 r j := ⟨i 0, i 1, eq_ix2 rfl rfl⟩
  exact (result_apply _ _ _ r j).trans (MergeIn.array_apply m c r j).symm

end Cert.MergeInRef

end
-- ==== Proof.MergeOut.lean ====
/- The array of the merge, at an index. -/
module

public import proofs.«01_k».proof.Proof.Tiles
public import proofs.«01_k».proof.Proof.Gen.Kernel3Ideal.Value
public import Idealize.ShloMosaic.Lib.ValueLayout

@[expose] public section

noncomputable section

namespace Cert.MergeOut

open Idealize.ShloMosaic Idealize.ShloMosaic.TcCoe Idealize.SL.Sem
open Cert.Kernel3Ideal Cert.Kernel3Ideal.Gen Cert.Kernel3Ideal.Value Cert.Tiles Cert.Products

variable (m : (ℓ : Loc nD τ sig) → Buf (Elt Ideal) ℓ) (c : Dev nD) (t : Fin cfg0.N)

/-- The recurrence's rows, its weights, the pooled rows, the pool's matrices and scales, and the gates as launched. -/
abbrev h : FVec Ideal S16384x4096 .bf16 := m ((c : Thread nD τ).loc main_arg0)
abbrev w : FVec Ideal S1x4096x4096 .f32 := m ((c : Thread nD τ).loc main_arg1)
abbrev p : FVec Ideal S16384x2048 .bf16 := m ((c : Thread nD τ).loc main_arg2)
abbrev pw : FVec Ideal S1x4x512x1024 .f32 := m ((c : Thread nD τ).loc main_arg3)
abbrev ps : FVec Ideal S1x4096 .f32 := m ((c : Thread nD τ).loc main_arg4)
abbrev mg : FVec Ideal S16384x8192 .bf16 := m ((c : Thread nD τ).loc main_arg5)

theorem t_lt : t.1 < 128 := lt_of_lt_of_eq t.2 N_0

/-- The point's group of 1024 columns. -/
def group : Fin 4 := ⟨t.1 / 32, by have := t_lt t; omega⟩

theorem Vh : V m c main_arg0 = h m c := by
  show StableHlo.after hostOps0 _ (Proc.devRef .tc main_arg0) = _
  after_results
theorem Vp : V m c main_arg2 = p m c := by
  show StableHlo.after hostOps0 _ (Proc.devRef .tc main_arg2) = _
  after_results
theorem Vmg : V m c main_arg5 = mg m c := by
  show StableHlo.after hostOps0 _ (Proc.devRef .tc main_arg5) = _
  after_results
theorem V0 : V m c main_v0 = shapeCast S4096x4096 (w m c) shapeCasts_S1x4096x4096_S4096x4096 := by
  show StableHlo.after hostOps0 _ (Proc.devRef .tc main_v0) = _
  after_results
  rfl
theorem V1 : V m c main_v1 = shapeCast S4x512x1024 (pw m c) shapeCasts_S1x4x512x1024_S4x512x1024 := by
  show StableHlo.after hostOps0 _ (Proc.devRef .tc main_v1) = _
  after_results
  rfl
theorem V3 : V m c main_v3 = shapeCast S1x4096 (shapeCast S4096 (ps m c) shapeCasts_S1x4096_S4096) shapeCasts_S4096_S1x4096 := by
  show StableHlo.after hostOps0 _ (Proc.devRef .tc main_v3) = _
  after_results
  rfl

/-- The blocks' places, per window. -/
theorem place0 : ∀ t : Fin cfg0.N, win0_0.index t (0 : Fin 2) = t.1 % 32 ∧ win0_0.index t (1 : Fin 2) = 0 := (by decide +kernel : ∀ t : Fin grid0.N, _)
theorem place1 : ∀ t : Fin cfg0.N, win0_1.index t (0 : Fin 2) = 0 ∧ win0_1.index t (1 : Fin 2) = t.1 / 32 := (by decide +kernel : ∀ t : Fin grid0.N, _)
theorem place2 : ∀ t : Fin cfg0.N, win0_2.index t (0 : Fin 2) = t.1 % 32 ∧ win0_2.index t (1 : Fin 2) = t.1 / 32 := (by decide +kernel : ∀ t : Fin grid0.N, _)
theorem place3 : ∀ t : Fin cfg0.N, win0_3.index t (0 : Fin 3) = t.1 / 32 ∧ win0_3.index t (1 : Fin 3) = 0 ∧ win0_3.index t (2 : Fin 3) = 0 := (by decide +kernel : ∀ t : Fin grid0.N, _)
theorem place4 : ∀ t : Fin cfg0.N, win0_4.index t (0 : Fin 2) = 0 ∧ win0_4.index t (1 : Fin 2) = t.1 / 32 := (by decide +kernel : ∀ t : Fin grid0.N, _)
theorem place5 : ∀ t : Fin cfg0.N, win0_5.index t (0 : Fin 2) = t.1 % 32 ∧ win0_5.index t (1 : Fin 2) = t.1 / 32 := (by decide +kernel : ∀ t : Fin grid0.N, _)
theorem place6 : ∀ t : Fin cfg0.N, win0_6.index t (0 : Fin 2) = t.1 % 32 ∧ win0_6.index t (1 : Fin 2) = 4 + t.1 / 32 := (by decide +kernel : ∀ t : Fin grid0.N, _)

/-- Row `r` of the point's 512 rows of the recurrence. -/
theorem blk0 (r : Fin 512) (k : Fin 4096) : (iblk m c 0 t : FVec Ideal S512x4096 .bf16) (ix2 r k)
    = h m c (ix2 (⟨512 * (t.1 % 32) + r.1, by omega⟩ : Fin 16384) k) := by
  obtain ⟨e0, e1⟩ := place0 t
  show V m c main_arg0 (((cfg0.win 0).blk t).view.emb (ix2 r k)) = _
  rw [Vh, eq_ix2 (i := ((cfg0.win 0).blk t).view.emb (ix2 r k)) (a := (⟨512 * (t.1 % 32) + r.1, by omega⟩ : Fin 16384)) (b := k)
    (by show win0_0.index t (0 : Fin 2) * 512 + 1 * r.1 = 512 * (t.1 % 32) + r.1; rw [e0]; omega)
    (by show win0_0.index t (1 : Fin 2) * 4096 + 1 * k.1 = k.1; rw [e1]; omega)]

/-- The point's 1024 columns of the weights. -/
theorem blk1 (k : Fin 4096) (y : Fin 1024) : (iblk m c 1 t : FVec Ideal S4096x1024 .f32) (ix2 k y)
    = w m c (ix3 (0 : Fin 1) k (⟨1024 * (group t).1 + y.1, by omega⟩ : Fin 4096)) := by
  obtain ⟨e0, e1⟩ := place1 t
  show V m c main_v0 (((cfg0.win 1).blk t).view.emb (ix2 k y)) = _
  rw [V0, eq_ix2 (i := ((cfg0.win 1).blk t).view.emb (ix2 k y)) (a := k) (b := (⟨1024 * (group t).1 + y.1, by omega⟩ : Fin 4096))
    (by show win0_1.index t (0 : Fin 2) * 4096 + 1 * k.1 = k.1; rw [e0]; omega)
    (by show win0_1.index t (1 : Fin 2) * 1024 + 1 * y.1 = 1024 * (t.1 / 32) + y.1; rw [e1]; omega)]
  exact matrix_apply _ _ _ _

/-- The group's pooled lanes. -/
theorem blk2 (r : Fin 512) (k : Fin 512) : (iblk m c 2 t : FVec Ideal S512x512 .bf16) (ix2 r k)
    = p m c (ix2 (⟨512 * (t.1 % 32) + r.1, by omega⟩ : Fin 16384) (⟨512 * (group t).1 + k.1, by omega⟩ : Fin 2048)) := by
  obtain ⟨e0, e1⟩ := place2 t
  show V m c main_arg2 (((cfg0.win 2).blk t).view.emb (ix2 r k)) = _
  rw [Vp, eq_ix2 (i := ((cfg0.win 2).blk t).view.emb (ix2 r k)) (a := (⟨512 * (t.1 % 32) + r.1, by omega⟩ : Fin 16384)) (b := (⟨512 * (group t).1 + k.1, by omega⟩ : Fin 2048))
    (by show win0_2.index t (0 : Fin 2) * 512 + 1 * r.1 = 512 * (t.1 % 32) + r.1; rw [e0]; omega)
    (by show win0_2.index t (1 : Fin 2) * 512 + 1 * k.1 = 512 * (t.1 / 32) + k.1; rw [e1]; omega)]

/-- The group's matrix. -/
theorem blk3 (k : Fin 512) (y : Fin 1024) : (iblk m c 3 t : FVec Ideal S1x512x1024 .f32) (ix3 (0 : Fin 1) k y) = pw m c (ix4 (0 : Fin 1) (group t) k y) := by
  obtain ⟨e0, e1, e2⟩ := place3 t
  have hi : ((cfg0.win 3).blk t).view.emb (ix3 (0 : Fin 1) k y) = (ix3 (group t) k y : S4x512x1024.Idx) := by
    funext a; apply Fin.ext
    match a with
    | ⟨0, _⟩ => show win0_3.index t (0 : Fin 3) * 1 + 1 * 0 = t.1 / 32; rw [e0]; omega
    | ⟨1, _⟩ => show win0_3.index t (1 : Fin 3) * 512 + 1 * k.1 = k.1; rw [e1]; omega
    | ⟨2, _⟩ => show win0_3.index t (2 : Fin 3) * 1024 + 1 * y.1 = y.1; rw [e2]; omega
  show V m c main_v1 (((cfg0.win 3).blk t).view.emb (ix3 (0 : Fin 1) k y)) = _
  rw [hi, V1]
  exact shapeCast_apply _ _ _ _ (by
    rw [Shape.rowMajor_val_three, Shape.rowMajor_val_four]
    show ((0 * 4 + (group t).1) * 512 + k.1) * 1024 + y.1 = ((group t).1 * 512 + k.1) * 1024 + y.1
    omega)

/-- The group's scales. -/
theorem blk4 (y : Fin 1024) : (iblk m c 4 t : FVec Ideal S1x1024 .f32) (ix2 (0 : Fin 1) y)
    = ps m c (ix2 (0 : Fin 1) (⟨1024 * (group t).1 + y.1, by omega⟩ : Fin 4096)) := by
  obtain ⟨e0, e1⟩ := place4 t
  show V m c main_v3 (((cfg0.win 4).blk t).view.emb (ix2 (0 : Fin 1) y)) = _
  rw [V3, eq_ix2 (i := ((cfg0.win 4).blk t).view.emb (ix2 (0 : Fin 1) y)) (a := (0 : Fin 1)) (b := (⟨1024 * (group t).1 + y.1, by omega⟩ : Fin 4096))
    (by show win0_4.index t (0 : Fin 2) * 1 + 1 * 0 = 0; rw [e0])
    (by show win0_4.index t (1 : Fin 2) * 1024 + 1 * y.1 = 1024 * (t.1 / 32) + y.1; rw [e1]; omega)]
  exact row_apply _ _ _ _

/-- The recurrence's gates. -/
theorem blk5 (r : Fin 512) (y : Fin 1024) : (iblk m c 5 t : FVec Ideal S512x1024 .bf16) (ix2 r y)
    = mg m c (ix2 (⟨512 * (t.1 % 32) + r.1, by omega⟩ : Fin 16384) (⟨1024 * (group t).1 + y.1, by omega⟩ : Fin 8192)) := by
  obtain ⟨e0, e1⟩ := place5 t
  show V m c main_arg5 (((cfg0.win 5).blk t).view.emb (ix2 r y)) = _
  rw [Vmg, eq_ix2 (i := ((cfg0.win 5).blk t).view.emb (ix2 r y)) (a := (⟨512 * (t.1 % 32) + r.1, by omega⟩ : Fin 16384)) (b := (⟨1024 * (group t).1 + y.1, by omega⟩ : Fin 8192))
    (by show win0_5.index t (0 : Fin 2) * 512 + 1 * r.1 = 512 * (t.1 % 32) + r.1; rw [e0]; omega)
    (by show win0_5.index t (1 : Fin 2) * 1024 + 1 * y.1 = 1024 * (t.1 / 32) + y.1; rw [e1]; omega)]

/-- The pool's gates. -/
theorem blk6 (r : Fin 512) (y : Fin 1024) : (iblk m c 6 t : FVec Ideal S512x1024 .bf16) (ix2 r y)
    = mg m c (ix2 (⟨512 * (t.1 % 32) + r.1, by omega⟩ : Fin 16384) (⟨4096 + (1024 * (group t).1 + y.1), by omega⟩ : Fin 8192)) := by
  obtain ⟨e0, e1⟩ := place6 t
  show V m c main_arg5 (((cfg0.win 6).blk t).view.emb (ix2 r y)) = _
  rw [Vmg, eq_ix2 (i := ((cfg0.win 6).blk t).view.emb (ix2 r y)) (a := (⟨512 * (t.1 % 32) + r.1, by omega⟩ : Fin 16384)) (b := (⟨4096 + (1024 * (group t).1 + y.1), by omega⟩ : Fin 8192))
    (by show win0_6.index t (0 : Fin 2) * 512 + 1 * r.1 = 512 * (t.1 % 32) + r.1; rw [e0]; omega)
    (by show win0_6.index t (1 : Fin 2) * 1024 + 1 * y.1 = 4096 + (1024 * (t.1 / 32) + y.1); rw [e1]; omega)]

/-- The cast of the weights changes no value. -/
theorem cast_apply (v : FVec Ideal S4096x1024 .f32) (i : S4096x1024.Idx) : k0_pay1 (F := Ideal) v i = v i := by
  unfold k0_pay1
  rw [shapeCast_self, shapeCast_self]
  rfl

/-- The weights kept at a point. -/
def kept : FVec Ideal S4096x1024 .bf16 := k0_pay1 (F := Ideal) (iblk m c 1 t)

theorem kept_apply (k : Fin 4096) (y : Fin 1024) : kept m c t (ix2 k y)
    = w m c (ix3 (0 : Fin 1) k (⟨1024 * (group t).1 + y.1, by omega⟩ : Fin 4096)) :=
  (cast_apply _ _).trans (blk1 m c t k y)

theorem kept_eq (h0 : ¬ t.val % 32 = 0) : kept m c t = kept m c ⟨t.val - 1, Nat.lt_of_le_of_lt (Nat.sub_le _ _) t.isLt⟩ := by
  funext i
  obtain ⟨k, y, rfl⟩ : ∃ (k : Fin 4096) (y : Fin 1024), i = ix2 k y := ⟨i 0, i 1, eq_ix2 rfl rfl⟩
  refine (kept_apply m c t k y).trans (Eq.trans ?_ (kept_apply m c _ k y).symm)
  exact congrArg (fun j => w m c (ix3 (0 : Fin 1) k j)) (Fin.ext (by
    show 1024 * (t.1 / 32) + y.1 = 1024 * ((t.1 - 1) / 32) + y.1; omega))

theorem scratch_A (h0 : t.val % 32 = 0) : (outsAt0 m c t.val t.isLt).2 = kept m c t := by
  refine (congrArg (fun x => x.2) (outsAt0_A m c t h0)).trans ?_
  refine (show _ = VS0_0.read (Elt Ideal) (VS0_0.writes (Elt Ideal) VS0_0.junk [⟨Rect.unit (s := S4096x1024) ![0, 0] S4096x1024.size inb_S4096x1024_S4096x1024_0_0,
    k0_pay1 (View.readAt (Elt Ideal) (ms0_1 t).view (Rect.unit (s := S4096x1024) ![0, 0] S4096x1024.size inb_S4096x1024_S4096x1024_0_0).toLoadRect ((hs0_1 t).unread (iblk m c 1 t)))⟩])
    from by sl_kernel_rfl).trans ?_
  rw [store_whole _ _ zeros2, load_whole (hs0_1 t) _ zeros2]
  rfl
theorem scratch_B (h0 : ¬ t.val % 32 = 0) : (outsAt0 m c t.val t.isLt).2 = (outsAt0 m c (t.val - 1) (Nat.lt_of_le_of_lt (Nat.sub_le _ _) t.isLt)).2 := by
  refine (congrArg (fun x => x.2) (outsAt0_B m c t h0)).trans ?_
  sl_kernel_rfl

/-- The point's store over its block, from the weights it loads. -/
def stored (W : FVec Ideal S4096x1024 .bf16) : FVec Ideal S512x1024 .bf16 :=
  VO0_7.read (Elt Ideal) (VO0_7.writes (Elt Ideal) VO0_7.junk [⟨Rect.unit (s := S512x1024) ![0, 0] S512x1024.size inb_S512x1024_S512x1024_0_0,
    k0_pay2 (View.readAt (Elt Ideal) (ms0_0 t).view (Rect.unit (s := S512x4096) ![0, 0] S512x4096.size inb_S512x4096_S512x4096_0_0).toLoadRect ((hs0_0 t).unread (iblk m c 0 t)))
      W (View.readAt (Elt Ideal) (ms0_2 t).view (Rect.unit (s := S512x512) ![0, 0] S512x512.size inb_S512x512_S512x512_0_0).toLoadRect ((hs0_2 t).unread (iblk m c 2 t)))
      (View.readAt (Elt Ideal) (ms0_3 t).view (Rect.unit (s := S1x512x1024) ![0, 0, 0] S1x512x1024.size inb_S1x512x1024_S1x512x1024_0_0_0).toLoadRect ((hs0_3 t).unread (iblk m c 3 t)))
      (View.readAt (Elt Ideal) (ms0_4 t).view (Rect.unit (s := S1x1024) ![0, 0] S1x1024.size inb_S1x1024_S1x1024_0_0).toLoadRect ((hs0_4 t).unread (iblk m c 4 t)))
      (View.readAt (Elt Ideal) (ms0_5 t).view (Rect.unit (s := S512x1024) ![0, 0] S512x1024.size inb_S512x1024_S512x1024_0_0).toLoadRect ((hs0_5 t).unread (iblk m c 5 t)))
      (View.readAt (Elt Ideal) (ms0_6 t).view (Rect.unit (s := S512x1024) ![0, 0] S512x1024.size inb_S512x1024_S512x1024_0_0).toLoadRect ((hs0_6 t).unread (iblk m c 6 t)))⟩])

theorem stored_eq (W : FVec Ideal S4096x1024 .bf16) : stored m c t W
    = k0_pay2 (F := Ideal) (iblk m c 0 t) W (iblk m c 2 t) (iblk m c 3 t) (iblk m c 4 t) (iblk m c 5 t) (iblk m c 6 t) := by
  unfold stored
  rw [store_whole _ _ zeros2, load_whole (hs0_0 t) _ zeros2, load_whole (hs0_2 t) _ zeros2, load_whole (hs0_3 t) _ zeros3,
    load_whole (hs0_4 t) _ zeros2, load_whole (hs0_5 t) _ zeros2, load_whole (hs0_6 t) _ zeros2]

theorem out_A (h0 : t.val % 32 = 0) : (outsAt0 m c t.val t.isLt).1 = stored m c t (kept m c t) := by
  refine (congrArg (fun x => x.1) (outsAt0_A m c t h0)).trans ?_
  refine (show _ = stored m c t (scM0_0.view.readCov (Val := Elt Ideal) [⟨Rect.unit (s := S4096x1024) ![0, 0] S4096x1024.size inb_S4096x1024_S4096x1024_0_0,
        k0_pay1 (View.readAt (Elt Ideal) (ms0_1 t).view (Rect.unit (s := S4096x1024) ![0, 0] S4096x1024.size inb_S4096x1024_S4096x1024_0_0).toLoadRect ((hs0_1 t).unread (iblk m c 1 t)))⟩]
        (Rect.unit (s := S4096x1024) ![0, 0] S4096x1024.size inb_S4096x1024_S4096x1024_0_0).toLoadRect)
    from by sl_kernel_rfl).trans ?_
  rw [View.readCov_unit_zero _ zeros2, load_whole (hs0_1 t) _ zeros2]
  rfl
theorem out_B (h0 : ¬ t.val % 32 = 0) : (outsAt0 m c t.val t.isLt).1
    = stored m c t (outsAt0 m c (t.val - 1) (Nat.lt_of_le_of_lt (Nat.sub_le _ _) t.isLt)).2 := by
  refine (congrArg (fun x => x.1) (outsAt0_B m c t h0)).trans ?_
  refine (show _ = stored m c t (View.readAt (Elt Ideal) scM0_0.view (Rect.unit (s := S4096x1024) ![0, 0] S4096x1024.size inb_S4096x1024_S4096x1024_0_0).toLoadRect
        ((Memref.isWhole_whole _).unread (outsAt0 m c (t.val - 1) (Nat.lt_of_le_of_lt (Nat.sub_le _ _) t.isLt)).2))
    from by sl_kernel_rfl).trans ?_
  rw [load_whole (M := scM0_0) (Memref.isWhole_whole _) _ zeros2]

/-- What the point writes. -/
theorem out_eq : (outsAt0 m c t.val t.isLt).1
    = k0_pay2 (F := Ideal) (iblk m c 0 t) (kept m c t) (iblk m c 2 t) (iblk m c 3 t) (iblk m c 4 t) (iblk m c 5 t) (iblk m c 6 t) :=
  (written (fun n hn => (outsAt0 m c n hn).1) (fun n hn => (outsAt0 m c n hn).2) (fun n hn => kept m c ⟨n, hn⟩)
    (fun n hn => stored m c ⟨n, hn⟩) (fun n hn => scratch_A m c ⟨n, hn⟩) (fun n hn => scratch_B m c ⟨n, hn⟩)
    (fun n hn => kept_eq m c ⟨n, hn⟩) (fun n hn => out_A m c ⟨n, hn⟩) (fun n hn => out_B m c ⟨n, hn⟩) t.1 t.2).trans (stored_eq m c t _)

/-- The group's product, from the blocks loaded. -/
theorem group_product (u : FVec Ideal S512x512 .bf16) (v : FVec Ideal S1x512x1024 .f32) (r : Fin 512) (y : Fin 1024) :
    matmul dot_S512x512_S512x1024_S512x1024_1_0_0_1_n_n none u
        (truncf .bf16 (shapeCast S512x1024 v shapeCasts_S1x512x1024_S512x1024 : FVec Ideal S512x1024 .f32) bitsLt_bf16_f32 : FVec Ideal S512x1024 .bf16)
        (constant (F := Ideal) S512x1024 .f32 0x00000000#32) (ix2 r y)
      = ∑ k : Fin 512, u (ix2 r k) * v (ix3 (0 : Fin 1) k y) := by
  refine (product_apply (d := dot_S512x512_S512x1024_S512x1024_1_0_0_1_n_n) rfl _ _ r y).trans (Finset.sum_congr rfl fun k _ => ?_)
  refine congrArg (fun a : EReal => u (ix2 r k) * a) ?_
  show shapeCast S512x1024 v shapeCasts_S1x512x1024_S512x1024 (ix2 k y) = _
  exact matrix_apply _ _ k y

/-- The same, at an index of its block. -/
theorem out_apply (r : Fin 512) (y : Fin 1024) : (outsAt0 m c t.val t.isLt).1 (ix2 r y)
    = mergeOut (h m c) (w m c) (p m c) (pw m c) (ps m c) (mg m c) ⟨512 * (t.1 % 32) + r.1, by omega⟩ (group t) y := by
  rw [out_eq]
  unfold k0_pay2
  rw [shapeCast_self, shapeCast_self]
  unfold mergeOut poolOut
  refine congrArg₂ (fun a b : EReal => a + b) (congrArg₂ (fun a b : EReal => a * b) (blk5 m c t r y) ?_)
    (congrArg₂ (fun a b : EReal => a * b) (blk6 m c t r y) (congrArg₂ (fun a b : EReal => a * b) ?_ ?_))
  · exact (product_apply rfl _ _ r y).trans (Finset.sum_congr rfl fun k _ => congrArg₂ (fun a b : EReal => a * b) (blk0 m c t r k) (kept_apply m c t k y))
  · exact (group_product _ _ r y).trans (Finset.sum_congr rfl fun k _ => congrArg₂ (fun a b : EReal => a * b) (blk2 m c t r k) (blk3 m c t k y))
  · exact (ValueIdx.broadcastTo_1b_ab_apply _ _ r y).trans (blk4 m c t y)

/-- The array the launch leaves, at an index. -/
theorem array_apply (i : Fin 16384) (g : Fin 4) (y : Fin 1024) :
    (G7 m c : FVec Ideal S16384x4096 .bf16) (ix2 i (⟨1024 * g.1 + y.1, by omega⟩ : Fin 4096)) = mergeOut (h m c) (w m c) (p m c) (pw m c) (ps m c) (mg m c) i g y := by
  let j : Fin 4096 := ⟨1024 * g.1 + y.1, by omega⟩
  have ht : pt7Of (ix2 i j : S16384x4096.Idx) = 32 * g.1 + i.1 / 512 := by
    show 1 * (i.1 / 512 - 0) + 32 * ((1024 * g.1 + y.1) / 1024 - 0) = _
    omega
  have hn : pt7Of (ix2 i j : S16384x4096.Idx) < cfg0.N := by rw [ht]; exact lt_of_lt_of_eq (by omega) N_0.symm
  have el : loc7Of (ix2 i j : S16384x4096.Idx) = ix2 (⟨i.1 % 512, by omega⟩ : Fin 512) y :=
    eq_ix2 rfl (by show (1024 * g.1 + y.1) % 1024 = y.1; omega)
  show G7 m c (ix2 i j : S16384x4096.Idx) = _
  unfold G7
  rw [dif_pos hn, ← fold0_congr m c (pt7Of (ix2 i j : S16384x4096.Idx)) (by omega) (pt7Of (ix2 i j : S16384x4096.Idx)) (by omega) rfl,
    ← outsAt0_sweep m c (pt7Of (ix2 i j : S16384x4096.Idx)) hn, el]
  refine (out_apply m c ⟨_, hn⟩ _ _).trans ?_
  exact congrArg₂ (fun i g => mergeOut (h m c) (w m c) (p m c) (pw m c) (ps m c) (mg m c) i g y)
    (Fin.ext (by show 512 * (pt7Of (ix2 i j : S16384x4096.Idx) % 32) + i.1 % 512 = i.1; omega))
    (Fin.ext (by show pt7Of (ix2 i j : S16384x4096.Idx) / 32 = g.1; omega))

end Cert.MergeOut

end
-- ==== Proof.MergeOutRef.lean ====
/- The reference of the merge at an index, and its equality with the kernel's array. -/
module

public import proofs.«01_k».proof.Proof.MergeOut
public import proofs.«01_k».proof.Proof.RefProducts
public import proofs.«01_k».proof.Proof.Gen.Reference3Ideal.Run

@[expose] public section

noncomputable section

namespace Cert.MergeOutRef

open Idealize.ShloMosaic Idealize.ShloMosaic.TcCoe Idealize.SL.Sem
open Cert.Reference3Ideal Cert.Reference3Ideal.Gen Cert.Products Cert.Tiles
open Idealize.ShloMosaic.ValueIdx (contrEquiv1 contrEquiv1_symm_val)

variable (h : FVec Ideal S16384x4096 .bf16) (w : FVec Ideal S1x4096x4096 .f32) (p : FVec Ideal S16384x2048 .bf16)
  (pw : FVec Ideal S1x4x512x1024 .f32) (ps : FVec Ideal S1x4096 .f32) (mg : FVec Ideal S16384x8192 .bf16)

/-- The groups' matrices times their pooled lanes. -/
def groups : FVec Ideal S4x1024x2x8192 .f32 :=
  Host.dotGeneral dot_S4x512x1024_S2x8192x4x512_S4x1024x2x8192_1_3_2_01_0_2 none (shapeCast S4x512x1024 pw shapeCasts_S1x4x512x1024_S4x512x1024)
    (shapeCast S2x8192x4x512 (extf .f32 p bitsLt_bf16_f32) shapeCasts_S16384x2048_S2x8192x4x512)

/-- The pool's branch. -/
def pool : FVec Ideal S16384x4096 .f32 :=
  mulf (shapeCast S16384x4096 (transpose S2x8192x4x1024 [2, 3, 0, 1] (groups p pw) transposes_S4x1024x2x8192_S2x8192x4x1024_2_3_0_1) shapeCasts_S2x8192x4x1024_S16384x4096)
    (broadcastInDim S16384x4096 ![0, 1] bcast_S1x4096_S16384x4096_0_1 (broadcastInDim S1x4096 ![1] bcast_S4096_S1x4096_1 (shapeCast S4096 ps shapeCasts_S1x4096_S4096)))

/-- The reference's result from its arguments. -/
def result : FVec Ideal S16384x4096 .bf16 :=
  truncf .bf16 (addf (mulf (extractStridedSlice S16384x4096 ![0, 0] (extf .f32 mg bitsLt_bf16_f32) slices_S16384x8192_S16384x4096_0_0)
      (Host.dotGeneral dot_S16384x4096_S4096x4096_S16384x4096_1_0_0_1_n_n none (extf .f32 h bitsLt_bf16_f32) (shapeCast S4096x4096 w shapeCasts_S1x4096x4096_S4096x4096)))
    (mulf (extractStridedSlice S16384x4096 ![0, 4096] (extf .f32 mg bitsLt_bf16_f32) slices_S16384x8192_S16384x4096_0_4096) (pool p pw ps))) bitsLt_bf16_f32

/-- The groups' products at an index. -/
theorem groups_dot (u : FVec Ideal S4x512x1024 .f32) (v : FVec Ideal S2x8192x4x512 .f32) (g : Fin 4) (y : Fin 1024) (b : Fin 2) (s : Fin 8192) :
    Host.dotGeneral dot_S4x512x1024_S2x8192x4x512_S4x1024x2x8192_1_3_2_01_0_2 none u v (ix4 g y b s) = ∑ k : Fin 512, u (ix3 g k y) * v (ix4 b s g k) := by
  show FloatOps.dotGeneral _ none _ u v (ix4 g y b s) = _
  rw [Ideal.dotGeneral_apply, ← Equiv.sum_comp (contrEquiv1 dot_S4x512x1024_S2x8192x4x512_S4x1024x2x8192_1_3_2_01_0_2 512 rfl rfl).symm]
  refine Finset.sum_congr rfl fun k _ => ?_
  have hk := contrEquiv1_symm_val dot_S4x512x1024_S2x8192x4x512_S4x1024x2x8192_1_3_2_01_0_2 512 rfl rfl k
  refine congrArg₂ (fun a b : EReal => a * b) (congrArg u ?_) (congrArg v ?_)
  · funext a; apply Fin.ext
    match a with
    | ⟨0, _⟩ => rfl
    | ⟨1, _⟩ => exact hk
    | ⟨2, _⟩ => rfl
  · funext a; apply Fin.ext
    match a with
    | ⟨0, _⟩ => rfl
    | ⟨1, _⟩ => rfl
    | ⟨2, _⟩ => rfl
    | ⟨3, _⟩ => exact hk

theorem groups_apply (i : Fin 16384) (g : Fin 4) (y : Fin 1024) :
    groups p pw (ix4 g y (⟨i.1 / 8192, by omega⟩ : Fin 2) (⟨i.1 % 8192, by omega⟩ : Fin 8192))
      = ∑ k : Fin 512, p (ix2 i (⟨512 * g.1 + k.1, by omega⟩ : Fin 2048)) * pw (ix4 (0 : Fin 1) g k y) := by
  refine (groups_dot _ _ g y _ _).trans (Finset.sum_congr rfl fun k _ => (mul_comm _ _).trans (congrArg₂ (fun a b : EReal => a * b) ?_ ?_))
  · show shapeCast S2x8192x4x512 p shapeCasts_S16384x2048_S2x8192x4x512 _ = _
    exact shapeCast_apply _ _ _ (ix2 i (⟨512 * g.1 + k.1, by omega⟩ : Fin 2048)) (by
      rw [Shape.rowMajor_val_two, Shape.rowMajor_val_four]
      show i.1 * 2048 + (512 * g.1 + k.1) = ((i.1 / 8192 * 8192 + i.1 % 8192) * 4 + g.1) * 512 + k.1
      omega)
  · exact shapeCast_apply _ _ _ (ix4 (0 : Fin 1) g k y) (by
      rw [Shape.rowMajor_val_three, Shape.rowMajor_val_four]
      show ((0 * 4 + g.1) * 512 + k.1) * 1024 + y.1 = (g.1 * 512 + k.1) * 1024 + y.1
      omega)

theorem pool_apply (i : Fin 16384) (g : Fin 4) (y : Fin 1024) : pool p pw ps (ix2 i (⟨1024 * g.1 + y.1, by omega⟩ : Fin 4096)) = poolOut p pw ps i g y := by
  refine congrArg₂ (fun a b : EReal => a * b) ?_ ?_
  · refine (shapeCast_apply _ _ _ (ix4 (⟨i.1 / 8192, by omega⟩ : Fin 2) (⟨i.1 % 8192, by omega⟩ : Fin 8192) g y) (by
      rw [Shape.rowMajor_val_two, Shape.rowMajor_val_four]
      show ((i.1 / 8192 * 8192 + i.1 % 8192) * 4 + g.1) * 1024 + y.1 = i.1 * 4096 + (1024 * g.1 + y.1)
      omega)).trans ?_
    refine (transpose_apply _ _ _ _ (ix4 g y (⟨i.1 / 8192, by omega⟩ : Fin 2) (⟨i.1 % 8192, by omega⟩ : Fin 8192)) fun a => ?_).trans (groups_apply p pw i g y)
    match a with
    | ⟨0, _⟩ => rfl
    | ⟨1, _⟩ => rfl
    | ⟨2, _⟩ => rfl
    | ⟨3, _⟩ => rfl
  · refine (broadcastInDim_apply _ _ _ _ (ix2 (0 : Fin 1) (⟨1024 * g.1 + y.1, by omega⟩ : Fin 4096)) fun a => ?_).trans ?_
    · match a with
      | ⟨0, _⟩ => rfl
      | ⟨1, _⟩ => rfl
    refine (broadcastInDim_apply _ _ _ _ (ix1 (⟨1024 * g.1 + y.1, by omega⟩ : Fin 4096)) fun a => ?_).trans ?_
    · match a with
      | ⟨0, _⟩ => rfl
    exact shapeCast_apply _ _ _ (ix2 (0 : Fin 1) (⟨1024 * g.1 + y.1, by omega⟩ : Fin 4096)) (by
      rw [Shape.rowMajor_val_one, Shape.rowMajor_val_two]; show 0 * 4096 + (1024 * g.1 + y.1) = 1024 * g.1 + y.1; omega)

theorem result_apply (i : Fin 16384) (g : Fin 4) (y : Fin 1024) :
    result h w p pw ps mg (ix2 i (⟨1024 * g.1 + y.1, by omega⟩ : Fin 4096)) = mergeOut h w p pw ps mg i g y := by
  refine congrArg₂ (fun a b : EReal => a + b) (congrArg₂ (fun a b : EReal => a * b) ?_ (RefProducts.product_apply rfl h w _ _ i _))
    (congrArg₂ (fun a b : EReal => a * b) ?_ (pool_apply p pw ps i g y))
  · show extractStridedSlice S16384x4096 ![0, 0] mg slices_S16384x8192_S16384x4096_0_0 _ = _
    exact extractStridedSlice_apply _ _ _ _ (ix2 i (⟨1024 * g.1 + y.1, by omega⟩ : Fin 8192)) fun a => by
      match a with
      | ⟨0, _⟩ => show i.1 = 0 + i.1; omega
      | ⟨1, _⟩ => show 1024 * g.1 + y.1 = 0 + (1024 * g.1 + y.1); omega
  · show extractStridedSlice S16384x4096 ![0, 4096] mg slices_S16384x8192_S16384x4096_0_4096 _ = _
    exact extractStridedSlice_apply _ _ _ _ (ix2 i (⟨4096 + (1024 * g.1 + y.1), by omega⟩ : Fin 8192)) fun a => by
      match a with
      | ⟨0, _⟩ => show i.1 = 0 + i.1; omega
      | ⟨1, _⟩ => rfl

/-- From equal arguments the reference's array is the kernel's. -/
theorem results_eq (m : (ℓ : Loc Kernel3Ideal.nD Kernel3Ideal.τ Kernel3Ideal.sig) → Buf (Elt Ideal) ℓ) (c : Dev Kernel3Ideal.nD) :
    result (MergeOut.h m c) (MergeOut.w m c) (MergeOut.p m c) (MergeOut.pw m c) (MergeOut.ps m c) (MergeOut.mg m c)
      = (Kernel3Ideal.Value.G7 m c : FVec Ideal S16384x4096 .bf16) := by
  funext i
  obtain ⟨r, g, y, rfl⟩ : ∃ (r : Fin 16384) (g : Fin 4) (y : Fin 1024), i = ix2 r (⟨1024 * g.1 + y.1, by omega⟩ : Fin 4096) := by
    have h1 : (i 1).1 < 4096 := (i 1).2
    exact ⟨i 0, ⟨(i 1).1 / 1024, by omega⟩, ⟨(i 1).1 % 1024, by omega⟩, eq_ix2 rfl (by show (i 1).1 = 1024 * ((i 1).1 / 1024) + (i 1).1 % 1024; omega)⟩
  exact (result_apply _ _ _ _ _ _ r g y).trans (MergeOut.array_apply m c r g y).symm

end Cert.MergeOutRef

end
-- ==== Proof.OutProj.lean ====
/- The array the output projection leaves, at an index. -/
module

public import proofs.«01_k».proof.Proof.Tiles
public import proofs.«01_k».proof.Proof.Gen.Kernel4Ideal.Value

@[expose] public section

noncomputable section

namespace Cert.OutProj

open Idealize.ShloMosaic Idealize.ShloMosaic.TcCoe Idealize.SL.Sem
open Cert.Kernel4Ideal Cert.Kernel4Ideal.Gen Cert.Kernel4Ideal.Value Cert.Tiles Cert.Products

variable (m : (ℓ : Loc nD τ sig) → Buf (Elt Ideal) ℓ) (c : Dev nD) (t : Fin cfg0.N)

/-- The activations, the merged rows and the weights as launched. -/
abbrev x : FVec Ideal S2x8192x4096 .f32 := m ((c : Thread nD τ).loc main_arg0)
abbrev g : FVec Ideal S16384x4096 .bf16 := m ((c : Thread nD τ).loc main_arg1)
abbrev w : FVec Ideal S1x4096x4096 .f32 := m ((c : Thread nD τ).loc main_arg2)

theorem t_lt : t.1 < 128 := lt_of_lt_of_eq t.2 N_0

theorem VG : V m c main_arg1 = g m c := by
  show StableHlo.after hostOps0 _ (Proc.devRef .tc main_arg1) = _
  after_results
theorem V0 : V m c main_v0 = shapeCast S4096x4096 (w m c) shapeCasts_S1x4096x4096_S4096x4096 := by
  show StableHlo.after hostOps0 _ (Proc.devRef .tc main_v0) = _
  after_results
  rfl
theorem V1 : V m c main_v1 = shapeCast S16384x4096 (x m c) shapeCasts_S2x8192x4096_S16384x4096 := by
  show StableHlo.after hostOps0 _ (Proc.devRef .tc main_v1) = _
  after_results
  rfl

/-- The blocks' places, per window. -/
theorem place0 : ∀ t : Fin cfg0.N, win0_0.index t (0 : Fin 2) = t.1 % 32 ∧ win0_0.index t (1 : Fin 2) = 0 := (by decide +kernel : ∀ t : Fin grid0.N, _)
theorem place1 : ∀ t : Fin cfg0.N, win0_1.index t (0 : Fin 2) = 0 ∧ win0_1.index t (1 : Fin 2) = t.1 / 32 := (by decide +kernel : ∀ t : Fin grid0.N, _)
theorem place2 : ∀ t : Fin cfg0.N, win0_2.index t (0 : Fin 2) = t.1 % 32 ∧ win0_2.index t (1 : Fin 2) = t.1 / 32 := (by decide +kernel : ∀ t : Fin grid0.N, _)

/-- Row `r` of the point's 512 merged rows. -/
theorem blk0 (r : Fin 512) (k : Fin 4096) : (iblk m c 0 t : FVec Ideal S512x4096 .bf16) (ix2 r k)
    = g m c (ix2 (⟨512 * (t.1 % 32) + r.1, by omega⟩ : Fin 16384) k) := by
  obtain ⟨e0, e1⟩ := place0 t
  show V m c main_arg1 (((cfg0.win 0).blk t).view.emb (ix2 r k)) = _
  rw [VG, eq_ix2 (i := ((cfg0.win 0).blk t).view.emb (ix2 r k)) (a := (⟨512 * (t.1 % 32) + r.1, by omega⟩ : Fin 16384)) (b := k)
    (by show win0_0.index t (0 : Fin 2) * 512 + 1 * r.1 = 512 * (t.1 % 32) + r.1; rw [e0]; omega)
    (by show win0_0.index t (1 : Fin 2) * 4096 + 1 * k.1 = k.1; rw [e1]; omega)]

/-- The point's 1024 columns of the weights. -/
theorem blk1 (k : Fin 4096) (y : Fin 1024) : (iblk m c 1 t : FVec Ideal S4096x1024 .f32) (ix2 k y)
    = w m c (ix3 (0 : Fin 1) k (⟨1024 * (t.1 / 32) + y.1, by have := t_lt t; omega⟩ : Fin 4096)) := by
  obtain ⟨e0, e1⟩ := place1 t
  have ht := t_lt t
  show V m c main_v0 (((cfg0.win 1).blk t).view.emb (ix2 k y)) = _
  rw [V0, eq_ix2 (i := ((cfg0.win 1).blk t).view.emb (ix2 k y)) (a := k) (b := (⟨1024 * (t.1 / 32) + y.1, by omega⟩ : Fin 4096))
    (by show win0_1.index t (0 : Fin 2) * 4096 + 1 * k.1 = k.1; rw [e0]; omega)
    (by show win0_1.index t (1 : Fin 2) * 1024 + 1 * y.1 = 1024 * (t.1 / 32) + y.1; rw [e1]; omega)]
  exact matrix_apply _ _ _ _

/-- The activations the point adds to. -/
theorem blk2 (r : Fin 512) (y : Fin 1024) : (iblk m c 2 t : FVec Ideal S512x1024 .f32) (ix2 r y)
    = row (x m c) ⟨512 * (t.1 % 32) + r.1, by omega⟩ ⟨1024 * (t.1 / 32) + y.1, by have := t_lt t; omega⟩ := by
  obtain ⟨e0, e1⟩ := place2 t
  have ht := t_lt t
  show V m c main_v1 (((cfg0.win 2).blk t).view.emb (ix2 r y)) = _
  rw [V1, eq_ix2 (i := ((cfg0.win 2).blk t).view.emb (ix2 r y)) (a := (⟨512 * (t.1 % 32) + r.1, by omega⟩ : Fin 16384)) (b := (⟨1024 * (t.1 / 32) + y.1, by omega⟩ : Fin 4096))
    (by show win0_2.index t (0 : Fin 2) * 512 + 1 * r.1 = 512 * (t.1 % 32) + r.1; rw [e0]; omega)
    (by show win0_2.index t (1 : Fin 2) * 1024 + 1 * y.1 = 1024 * (t.1 / 32) + y.1; rw [e1]; omega)]
  exact rows_apply _ _ _ _

/-- The cast of the weights changes no value. -/
theorem cast_apply (v : FVec Ideal S4096x1024 .f32) (i : S4096x1024.Idx) : k0_pay1 (F := Ideal) v i = v i := by
  unfold k0_pay1
  rw [shapeCast_self, shapeCast_self]
  rfl

/-- The weights kept at a point. -/
def kept : FVec Ideal S4096x1024 .bf16 := k0_pay1 (F := Ideal) (iblk m c 1 t)

theorem kept_apply (k : Fin 4096) (y : Fin 1024) : kept m c t (ix2 k y)
    = w m c (ix3 (0 : Fin 1) k (⟨1024 * (t.1 / 32) + y.1, by have := t_lt t; omega⟩ : Fin 4096)) :=
  (cast_apply _ _).trans (blk1 m c t k y)

theorem kept_eq (h0 : ¬ t.val % 32 = 0) : kept m c t = kept m c ⟨t.val - 1, Nat.lt_of_le_of_lt (Nat.sub_le _ _) t.isLt⟩ := by
  funext i
  obtain ⟨k, y, rfl⟩ : ∃ (k : Fin 4096) (y : Fin 1024), i = ix2 k y := ⟨i 0, i 1, eq_ix2 rfl rfl⟩
  refine (kept_apply m c t k y).trans (Eq.trans ?_ (kept_apply m c _ k y).symm)
  exact congrArg (fun j => w m c (ix3 (0 : Fin 1) k j)) (Fin.ext (by
    show 1024 * (t.1 / 32) + y.1 = 1024 * ((t.1 - 1) / 32) + y.1; omega))

theorem scratch_A (h0 : t.val % 32 = 0) : (outsAt0 m c t.val t.isLt).2 = kept m c t := by
  refine (congrArg (fun x => x.2) (outsAt0_A m c t h0)).trans ?_
  refine (show _ = VS0_0.read (Elt Ideal) (VS0_0.writes (Elt Ideal) VS0_0.junk [⟨Rect.unit (s := S4096x1024) ![0, 0] S4096x1024.size inb_S4096x1024_S4096x1024_0_0,
    k0_pay1 (View.readAt (Elt Ideal) (ms0_1 t).view (Rect.unit (s := S4096x1024) ![0, 0] S4096x1024.size inb_S4096x1024_S4096x1024_0_0).toLoadRect ((hs0_1 t).unread (iblk m c 1 t)))⟩])
    from by sl_kernel_rfl).trans ?_
  rw [store_whole _ _ zeros2, load_whole (hs0_1 t) _ zeros2]
  rfl
theorem scratch_B (h0 : ¬ t.val % 32 = 0) : (outsAt0 m c t.val t.isLt).2 = (outsAt0 m c (t.val - 1) (Nat.lt_of_le_of_lt (Nat.sub_le _ _) t.isLt)).2 := by
  refine (congrArg (fun x => x.2) (outsAt0_B m c t h0)).trans ?_
  sl_kernel_rfl

/-- The point's store over its block, from the weights it loads. -/
def stored (W : FVec Ideal S4096x1024 .bf16) : FVec Ideal S512x1024 .f32 :=
  VO0_3.read (Elt Ideal) (VO0_3.writes (Elt Ideal) VO0_3.junk [⟨Rect.unit (s := S512x1024) ![0, 0] S512x1024.size inb_S512x1024_S512x1024_0_0,
    k0_pay2 (View.readAt (Elt Ideal) (ms0_0 t).view (Rect.unit (s := S512x4096) ![0, 0] S512x4096.size inb_S512x4096_S512x4096_0_0).toLoadRect ((hs0_0 t).unread (iblk m c 0 t)))
      W (View.readAt (Elt Ideal) (ms0_2 t).view (Rect.unit (s := S512x1024) ![0, 0] S512x1024.size inb_S512x1024_S512x1024_0_0).toLoadRect ((hs0_2 t).unread (iblk m c 2 t)))⟩])

theorem stored_eq (W : FVec Ideal S4096x1024 .bf16) : stored m c t W = k0_pay2 (F := Ideal) (iblk m c 0 t) W (iblk m c 2 t) := by
  unfold stored
  rw [store_whole _ _ zeros2, load_whole (hs0_0 t) _ zeros2, load_whole (hs0_2 t) _ zeros2]

theorem out_A (h0 : t.val % 32 = 0) : (outsAt0 m c t.val t.isLt).1 = stored m c t (kept m c t) := by
  refine (congrArg (fun x => x.1) (outsAt0_A m c t h0)).trans ?_
  refine (show _ = stored m c t (scM0_0.view.readCov (Val := Elt Ideal) [⟨Rect.unit (s := S4096x1024) ![0, 0] S4096x1024.size inb_S4096x1024_S4096x1024_0_0,
        k0_pay1 (View.readAt (Elt Ideal) (ms0_1 t).view (Rect.unit (s := S4096x1024) ![0, 0] S4096x1024.size inb_S4096x1024_S4096x1024_0_0).toLoadRect ((hs0_1 t).unread (iblk m c 1 t)))⟩]
        (Rect.unit (s := S4096x1024) ![0, 0] S4096x1024.size inb_S4096x1024_S4096x1024_0_0).toLoadRect)
    from by sl_kernel_rfl).trans ?_
  rw [View.readCov_unit_zero _ zeros2, load_whole (hs0_1 t) _ zeros2]
  rfl
theorem out_B (h0 : ¬ t.val % 32 = 0) : (outsAt0 m c t.val t.isLt).1
    = stored m c t (outsAt0 m c (t.val - 1) (Nat.lt_of_le_of_lt (Nat.sub_le _ _) t.isLt)).2 := by
  refine (congrArg (fun x => x.1) (outsAt0_B m c t h0)).trans ?_
  refine (show _ = stored m c t (View.readAt (Elt Ideal) scM0_0.view (Rect.unit (s := S4096x1024) ![0, 0] S4096x1024.size inb_S4096x1024_S4096x1024_0_0).toLoadRect
        ((Memref.isWhole_whole _).unread (outsAt0 m c (t.val - 1) (Nat.lt_of_le_of_lt (Nat.sub_le _ _) t.isLt)).2))
    from by sl_kernel_rfl).trans ?_
  rw [load_whole (M := scM0_0) (Memref.isWhole_whole _) _ zeros2]

/-- What the point writes. -/
theorem out_eq : (outsAt0 m c t.val t.isLt).1 = k0_pay2 (F := Ideal) (iblk m c 0 t) (kept m c t) (iblk m c 2 t) :=
  (written (fun n hn => (outsAt0 m c n hn).1) (fun n hn => (outsAt0 m c n hn).2) (fun n hn => kept m c ⟨n, hn⟩)
    (fun n hn => stored m c ⟨n, hn⟩) (fun n hn => scratch_A m c ⟨n, hn⟩) (fun n hn => scratch_B m c ⟨n, hn⟩)
    (fun n hn => kept_eq m c ⟨n, hn⟩) (fun n hn => out_A m c ⟨n, hn⟩) (fun n hn => out_B m c ⟨n, hn⟩) t.1 t.2).trans (stored_eq m c t _)

/-- The same, at an index of its block. -/
theorem out_apply (r : Fin 512) (y : Fin 1024) : (outsAt0 m c t.val t.isLt).1 (ix2 r y)
    = outProj (x m c) (g m c) (w m c) ⟨512 * (t.1 % 32) + r.1, by omega⟩ ⟨1024 * (t.1 / 32) + y.1, by have := t_lt t; omega⟩ := by
  rw [out_eq]
  unfold k0_pay2
  rw [shapeCast_self]
  refine congrArg₂ (fun a b : EReal => a + b) (blk2 m c t r y) ?_
  exact (product_apply rfl _ _ r y).trans (Finset.sum_congr rfl fun k _ => congrArg₂ (fun a b : EReal => a * b) (blk0 m c t r k) (kept_apply m c t k y))

/-- The array the launch leaves, at an index. -/
theorem array_apply (i : Fin 16384) (j : Fin 4096) : (G3 m c : FVec Ideal S16384x4096 .f32) (ix2 i j) = outProj (x m c) (g m c) (w m c) i j := by
  have ht : pt3Of (ix2 i j : S16384x4096.Idx) = 32 * (j.1 / 1024) + i.1 / 512 := by
    show 1 * (i.1 / 512 - 0) + 32 * (j.1 / 1024 - 0) = _
    omega
  have hn : pt3Of (ix2 i j : S16384x4096.Idx) < cfg0.N := by rw [ht]; exact lt_of_lt_of_eq (by omega) N_0.symm
  have el : loc3Of (ix2 i j : S16384x4096.Idx) = ix2 (⟨i.1 % 512, by omega⟩ : Fin 512) (⟨j.1 % 1024, by omega⟩ : Fin 1024) := eq_ix2 rfl rfl
  unfold G3
  rw [dif_pos hn, ← fold0_congr m c (pt3Of (ix2 i j : S16384x4096.Idx)) (by omega) (pt3Of (ix2 i j : S16384x4096.Idx)) (by omega) rfl,
    ← outsAt0_sweep m c (pt3Of (ix2 i j : S16384x4096.Idx)) hn, el]
  refine (out_apply m c ⟨_, hn⟩ _ _).trans ?_
  exact congrArg₂ (outProj (x m c) (g m c) (w m c)) (Fin.ext (by show 512 * (pt3Of (ix2 i j : S16384x4096.Idx) % 32) + i.1 % 512 = i.1; omega))
    (Fin.ext (by show 1024 * (pt3Of (ix2 i j : S16384x4096.Idx) / 32) + j.1 % 1024 = j.1; omega))

end Cert.OutProj

end
-- ==== Proof.OutProjRef.lean ====
/- The reference of the output projection at an index, and its equality with the kernel's array. -/
module

public import proofs.«01_k».proof.Proof.OutProj
public import proofs.«01_k».proof.Proof.RefProducts
public import proofs.«01_k».proof.Proof.Gen.Reference4Ideal.Run

@[expose] public section

noncomputable section

namespace Cert.OutProjRef

open Idealize.ShloMosaic Idealize.ShloMosaic.TcCoe Idealize.SL.Sem
open Cert.Reference4Ideal Cert.Reference4Ideal.Gen Cert.Products Cert.Tiles

/-- The reference's result from its arguments. -/
def result (x : FVec Ideal S2x8192x4096 .f32) (g : FVec Ideal S16384x4096 .bf16) (w : FVec Ideal S1x4096x4096 .f32) : FVec Ideal S16384x4096 .f32 :=
  addf (shapeCast S16384x4096 x shapeCasts_S2x8192x4096_S16384x4096) (Host.dotGeneral dot_S16384x4096_S4096x4096_S16384x4096_1_0_0_1_n_n none
    (extf .f32 g bitsLt_bf16_f32) (shapeCast S4096x4096 w shapeCasts_S1x4096x4096_S4096x4096))

theorem result_apply (x : FVec Ideal S2x8192x4096 .f32) (g : FVec Ideal S16384x4096 .bf16) (w : FVec Ideal S1x4096x4096 .f32) (i : Fin 16384) (j : Fin 4096) :
    result x g w (ix2 i j) = outProj x g w i j :=
  congrArg₂ (fun a b : EReal => a + b) (rows_apply x _ i j) (RefProducts.product_apply rfl g w _ _ i j)

/-- From equal arguments the reference's array is the kernel's. -/
theorem results_eq (m : (ℓ : Loc Kernel4Ideal.nD Kernel4Ideal.τ Kernel4Ideal.sig) → Buf (Elt Ideal) ℓ) (c : Dev Kernel4Ideal.nD) :
    result (OutProj.x m c) (OutProj.g m c) (OutProj.w m c) = (Kernel4Ideal.Value.G3 m c : FVec Ideal S16384x4096 .f32) := by
  funext i
  obtain ⟨r, j, rfl⟩ : ∃ (r : Fin 16384) (j : Fin 4096), i = ix2 r j := ⟨i 0, i 1, eq_ix2 rfl rfl⟩
  exact (result_apply _ _ _ r j).trans (OutProj.array_apply m c r j).symm

end Cert.OutProjRef

end
-- ==== Proof.PoolIn.lean ====
/- The array the pool's input projection leaves, at an index. -/
module

public import proofs.«01_k».proof.Proof.Tiles
public import proofs.«01_k».proof.Proof.Gen.Kernel5Ideal.Value

@[expose] public section

noncomputable section

namespace Cert.PoolIn

open Idealize.ShloMosaic Idealize.ShloMosaic.TcCoe Idealize.SL.Sem
open Cert.Kernel5Ideal Cert.Kernel5Ideal.Gen Cert.Kernel5Ideal.Value Cert.Tiles Cert.Products

variable (m : (ℓ : Loc nD τ sig) → Buf (Elt Ideal) ℓ) (c : Dev nD) (t : Fin cfg0.N)

/-- The activations and the weights as launched. -/
abbrev x : FVec Ideal S2x8192x4096 .bf16 := m ((c : Thread nD τ).loc main_arg0)
abbrev w : FVec Ideal S1x4096x18432 .f32 := m ((c : Thread nD τ).loc main_arg1)

theorem t_lt : t.1 < 64 := lt_of_lt_of_eq t.2 N_0

theorem V0 : V m c main_v0 = shapeCast S16384x4096 (x m c) shapeCasts_S2x8192x4096_S16384x4096 := by
  show StableHlo.after hostOps0 _ (Proc.devRef .tc main_v0) = _
  after_results
  rfl
theorem V1 : V m c main_v1 = shapeCast S4096x18432 (w m c) shapeCasts_S1x4096x18432_S4096x18432 := by
  show StableHlo.after hostOps0 _ (Proc.devRef .tc main_v1) = _
  after_results
  rfl

/-- The blocks' places, per window. -/
theorem place0 : ∀ t : Fin cfg0.N, win0_0.index t (0 : Fin 2) = t.1 % 32 ∧ win0_0.index t (1 : Fin 2) = 0 := (by decide +kernel : ∀ t : Fin grid0.N, _)
theorem place1 : ∀ t : Fin cfg0.N, win0_1.index t (0 : Fin 2) = 0 ∧ win0_1.index t (1 : Fin 2) = 8 + t.1 / 32 := (by decide +kernel : ∀ t : Fin grid0.N, _)

/-- Row `r` of the point's 512 rows of activations. -/
theorem blk0 (r : Fin 512) (k : Fin 4096) : (iblk m c 0 t : FVec Ideal S512x4096 .bf16) (ix2 r k) = row (x m c) ⟨512 * (t.1 % 32) + r.1, by omega⟩ k := by
  obtain ⟨e0, e1⟩ := place0 t
  show V m c main_v0 (((cfg0.win 0).blk t).view.emb (ix2 r k)) = _
  rw [V0, eq_ix2 (i := ((cfg0.win 0).blk t).view.emb (ix2 r k)) (a := (⟨512 * (t.1 % 32) + r.1, by omega⟩ : Fin 16384)) (b := k)
    (by show win0_0.index t (0 : Fin 2) * 512 + 1 * r.1 = 512 * (t.1 % 32) + r.1; rw [e0]; omega)
    (by show win0_0.index t (1 : Fin 2) * 4096 + 1 * k.1 = k.1; rw [e1]; omega)]
  exact rows_apply _ _ _ _

/-- The point's 1024 columns of the weights. -/
theorem blk1 (k : Fin 4096) (y : Fin 1024) : (iblk m c 1 t : FVec Ideal S4096x1024 .f32) (ix2 k y)
    = w m c (ix3 (0 : Fin 1) k (⟨8192 + (1024 * (t.1 / 32) + y.1), by have := t_lt t; omega⟩ : Fin 18432)) := by
  obtain ⟨e0, e1⟩ := place1 t
  have ht := t_lt t
  show V m c main_v1 (((cfg0.win 1).blk t).view.emb (ix2 k y)) = _
  rw [V1, eq_ix2 (i := ((cfg0.win 1).blk t).view.emb (ix2 k y)) (a := k) (b := (⟨8192 + (1024 * (t.1 / 32) + y.1), by omega⟩ : Fin 18432))
    (by show win0_1.index t (0 : Fin 2) * 4096 + 1 * k.1 = k.1; rw [e0]; omega)
    (by show win0_1.index t (1 : Fin 2) * 1024 + 1 * y.1 = 8192 + (1024 * (t.1 / 32) + y.1); rw [e1]; omega)]
  exact matrix_apply _ _ _ _

/-- The cast of the weights changes no value. -/
theorem cast_apply (v : FVec Ideal S4096x1024 .f32) (i : S4096x1024.Idx) : k0_pay1 (F := Ideal) v i = v i := by
  unfold k0_pay1
  rw [shapeCast_self, shapeCast_self]
  rfl

/-- The weights kept at a point. -/
def kept : FVec Ideal S4096x1024 .bf16 := k0_pay1 (F := Ideal) (iblk m c 1 t)

theorem scratch_A (h0 : t.val % 32 = 0) : (outsAt0 m c t.val t.isLt).2 = kept m c t := by
  refine (congrArg (fun x => x.2) (outsAt0_A m c t h0)).trans ?_
  refine (show _ = VS0_0.read (Elt Ideal) (VS0_0.writes (Elt Ideal) VS0_0.junk [⟨Rect.unit (s := S4096x1024) ![0, 0] S4096x1024.size inb_S4096x1024_S4096x1024_0_0,
    k0_pay1 (View.readAt (Elt Ideal) (ms0_1 t).view (Rect.unit (s := S4096x1024) ![0, 0] S4096x1024.size inb_S4096x1024_S4096x1024_0_0).toLoadRect ((hs0_1 t).unread (iblk m c 1 t)))⟩])
    from by sl_kernel_rfl).trans ?_
  rw [store_whole _ _ zeros2, load_whole (hs0_1 t) _ zeros2]
  rfl
theorem scratch_B (h0 : ¬ t.val % 32 = 0) : (outsAt0 m c t.val t.isLt).2 = (outsAt0 m c (t.val - 1) (Nat.lt_of_le_of_lt (Nat.sub_le _ _) t.isLt)).2 := by
  refine (congrArg (fun x => x.2) (outsAt0_B m c t h0)).trans ?_
  sl_kernel_rfl

theorem out_A (h0 : t.val % 32 = 0) : (outsAt0 m c t.val t.isLt).1 = k0_pay2 (F := Ideal) (iblk m c 0 t) (kept m c t) := by
  refine (congrArg (fun x => x.1) (outsAt0_A m c t h0)).trans ?_
  refine (show _ = VO0_2.read (Elt Ideal) (VO0_2.writes (Elt Ideal) VO0_2.junk [⟨Rect.unit (s := S512x1024) ![0, 0] S512x1024.size inb_S512x1024_S512x1024_0_0,
    k0_pay2 (View.readAt (Elt Ideal) (ms0_0 t).view (Rect.unit (s := S512x4096) ![0, 0] S512x4096.size inb_S512x4096_S512x4096_0_0).toLoadRect ((hs0_0 t).unread (iblk m c 0 t)))
      (scM0_0.view.readCov [⟨Rect.unit (s := S4096x1024) ![0, 0] S4096x1024.size inb_S4096x1024_S4096x1024_0_0,
        k0_pay1 (View.readAt (Elt Ideal) (ms0_1 t).view (Rect.unit (s := S4096x1024) ![0, 0] S4096x1024.size inb_S4096x1024_S4096x1024_0_0).toLoadRect ((hs0_1 t).unread (iblk m c 1 t)))⟩]
        (Rect.unit (s := S4096x1024) ![0, 0] S4096x1024.size inb_S4096x1024_S4096x1024_0_0).toLoadRect)⟩])
    from by sl_kernel_rfl).trans ?_
  rw [store_whole _ _ zeros2, View.readCov_unit_zero _ zeros2, load_whole (hs0_1 t) _ zeros2, load_whole (hs0_0 t) _ zeros2]
  rfl
theorem out_B (h0 : ¬ t.val % 32 = 0) : (outsAt0 m c t.val t.isLt).1
    = k0_pay2 (F := Ideal) (iblk m c 0 t) (outsAt0 m c (t.val - 1) (Nat.lt_of_le_of_lt (Nat.sub_le _ _) t.isLt)).2 := by
  refine (congrArg (fun x => x.1) (outsAt0_B m c t h0)).trans ?_
  refine (show _ = VO0_2.read (Elt Ideal) (VO0_2.writes (Elt Ideal) VO0_2.junk [⟨Rect.unit (s := S512x1024) ![0, 0] S512x1024.size inb_S512x1024_S512x1024_0_0,
    k0_pay2 (View.readAt (Elt Ideal) (ms0_0 t).view (Rect.unit (s := S512x4096) ![0, 0] S512x4096.size inb_S512x4096_S512x4096_0_0).toLoadRect ((hs0_0 t).unread (iblk m c 0 t)))
      (View.readAt (Elt Ideal) scM0_0.view (Rect.unit (s := S4096x1024) ![0, 0] S4096x1024.size inb_S4096x1024_S4096x1024_0_0).toLoadRect
        ((Memref.isWhole_whole _).unread (outsAt0 m c (t.val - 1) (Nat.lt_of_le_of_lt (Nat.sub_le _ _) t.isLt)).2))⟩])
    from by sl_kernel_rfl).trans ?_
  rw [store_whole _ _ zeros2, load_whole (M := scM0_0) (Memref.isWhole_whole _) _ zeros2, load_whole (hs0_0 t) _ zeros2]

theorem kept_eq (h0 : ¬ t.val % 32 = 0) : kept m c t = kept m c ⟨t.val - 1, Nat.lt_of_le_of_lt (Nat.sub_le _ _) t.isLt⟩ := by
  funext i
  obtain ⟨k, y, rfl⟩ : ∃ (k : Fin 4096) (y : Fin 1024), i = ix2 k y := ⟨i 0, i 1, eq_ix2 rfl rfl⟩
  refine (cast_apply _ _).trans ((blk1 m c t k y).trans (Eq.trans ?_ ((cast_apply _ _).trans (blk1 m c _ k y)).symm))
  exact congrArg (fun j => w m c (ix3 (0 : Fin 1) k j)) (Fin.ext (by
    show 8192 + (1024 * (t.1 / 32) + y.1) = 8192 + (1024 * ((t.1 - 1) / 32) + y.1); omega))

/-- What the point writes. -/
theorem out_eq : (outsAt0 m c t.val t.isLt).1 = k0_pay2 (F := Ideal) (iblk m c 0 t) (kept m c t) :=
  written (fun n hn => (outsAt0 m c n hn).1) (fun n hn => (outsAt0 m c n hn).2) (fun n hn => kept m c ⟨n, hn⟩)
    (fun n hn => k0_pay2 (F := Ideal) (iblk m c 0 ⟨n, hn⟩)) (fun n hn => scratch_A m c ⟨n, hn⟩) (fun n hn => scratch_B m c ⟨n, hn⟩)
    (fun n hn => kept_eq m c ⟨n, hn⟩) (fun n hn => out_A m c ⟨n, hn⟩) (fun n hn => out_B m c ⟨n, hn⟩) t.1 t.2

/-- The same, at an index of its block. -/
theorem out_apply (r : Fin 512) (y : Fin 1024) : (outsAt0 m c t.val t.isLt).1 (ix2 r y)
    = poolIn (x m c) (w m c) ⟨512 * (t.1 % 32) + r.1, by omega⟩ ⟨1024 * (t.1 / 32) + y.1, by have := t_lt t; omega⟩ := by
  rw [out_eq]
  unfold k0_pay2
  rw [shapeCast_self]
  unfold poolIn inProj
  refine (product_apply rfl _ _ r y).trans (Finset.sum_congr rfl fun k _ => ?_)
  exact congrArg₂ (· * ·) (blk0 m c t r k) ((cast_apply _ _).trans (blk1 m c t k y))

/-- The array the launch leaves, at an index. -/
theorem array_apply (i : Fin 16384) (j : Fin 2048) : (G2 m c : FVec Ideal S16384x2048 .f32) (ix2 i j) = poolIn (x m c) (w m c) i j := by
  have ht : pt2Of (ix2 i j : S16384x2048.Idx) = 32 * (j.1 / 1024) + i.1 / 512 := by
    show 1 * (i.1 / 512 - 0) + 32 * (j.1 / 1024 - 0) = _
    omega
  have hn : pt2Of (ix2 i j : S16384x2048.Idx) < cfg0.N := by rw [ht]; exact lt_of_lt_of_eq (by omega) N_0.symm
  have el : loc2Of (ix2 i j : S16384x2048.Idx) = ix2 (⟨i.1 % 512, by omega⟩ : Fin 512) (⟨j.1 % 1024, by omega⟩ : Fin 1024) := eq_ix2 rfl rfl
  unfold G2
  rw [dif_pos hn, ← fold0_congr m c (pt2Of (ix2 i j : S16384x2048.Idx)) (by omega) (pt2Of (ix2 i j : S16384x2048.Idx)) (by omega) rfl,
    ← outsAt0_sweep m c (pt2Of (ix2 i j : S16384x2048.Idx)) hn, el]
  refine (out_apply m c ⟨_, hn⟩ _ _).trans ?_
  exact congrArg₂ (poolIn (x m c) (w m c)) (Fin.ext (by show 512 * (pt2Of (ix2 i j : S16384x2048.Idx) % 32) + i.1 % 512 = i.1; omega))
    (Fin.ext (by show 1024 * (pt2Of (ix2 i j : S16384x2048.Idx) / 32) + j.1 % 1024 = j.1; omega))

end Cert.PoolIn

end
-- ==== Proof.PoolInRef.lean ====
/- The reference of the pool's input projection at an index, and its equality with the kernel's array. -/
module

public import proofs.«01_k».proof.Proof.PoolIn
public import proofs.«01_k».proof.Proof.RefProducts
public import proofs.«01_k».proof.Proof.Gen.Reference5Ideal.Run

@[expose] public section

noncomputable section

namespace Cert.PoolInRef

open Idealize.ShloMosaic Idealize.ShloMosaic.TcCoe Idealize.SL.Sem
open Cert.Reference5Ideal Cert.Reference5Ideal.Gen Cert.Products Cert.Tiles

/-- The reference's result from its arguments. -/
def result (x : FVec Ideal S2x8192x4096 .bf16) (w : FVec Ideal S1x4096x18432 .f32) : FVec Ideal S16384x2048 .f32 :=
  shapeCast S16384x2048 (extractStridedSlice S2x8192x2048 ![0, 0, 8192] (Host.dotGeneral dot_S2x8192x4096_S4096x18432_S2x8192x18432_2_0_01_1_n_n none
    (extf .f32 x bitsLt_bf16_f32) (shapeCast S4096x18432 w shapeCasts_S1x4096x18432_S4096x18432)) slices_S2x8192x18432_S2x8192x2048_0_0_8192) shapeCasts_S2x8192x2048_S16384x2048

theorem result_apply (x : FVec Ideal S2x8192x4096 .bf16) (w : FVec Ideal S1x4096x18432 .f32) (i : Fin 16384) (j : Fin 2048) :
    result x w (ix2 i j) = poolIn x w i j := by
  unfold result
  refine (rows_apply _ _ i j).trans ?_
  refine (extractStridedSlice_apply _ _ _ _ (ix3 (⟨i.1 / 8192, by omega⟩ : Fin 2) (⟨i.1 % 8192, by omega⟩ : Fin 8192) (⟨8192 + j.1, by omega⟩ : Fin 18432)) fun a => ?_).trans
    (RefProducts.inProj_apply x w _ _ i _)
  match a with
  | ⟨0, _⟩ => show i.1 / 8192 = 0 + i.1 / 8192; omega
  | ⟨1, _⟩ => show i.1 % 8192 = 0 + i.1 % 8192; omega
  | ⟨2, _⟩ => rfl

/-- From equal arguments the reference's array is the kernel's. -/
theorem results_eq (m : (ℓ : Loc Kernel5Ideal.nD Kernel5Ideal.τ Kernel5Ideal.sig) → Buf (Elt Ideal) ℓ) (c : Dev Kernel5Ideal.nD) :
    result (PoolIn.x m c) (PoolIn.w m c) = (Kernel5Ideal.Value.G2 m c : FVec Ideal S16384x2048 .f32) := by
  funext i
  obtain ⟨r, j, rfl⟩ : ∃ (r : Fin 16384) (j : Fin 2048), i = ix2 r j := ⟨i 0, i 1, eq_ix2 rfl rfl⟩
  exact (result_apply _ _ r j).trans (PoolIn.array_apply m c r j).symm

end Cert.PoolInRef

end
-- ==== Proof.PoolSpec.lean ====
/- The trailing means of the pooling branch, and sums over a window by doubling. -/
module

public import proofs.«01_k».proof.Proof.Tiles

@[expose] public section

noncomputable section

namespace Cert.PoolSpec

open Idealize.ShloMosaic Idealize.ShloMosaic.TcCoe Idealize.SL.Sem
open Cert.Tiles

/-- The value `k` frames before a row, in the row's own sequence: zero before the first frame. -/
def past (v : FVec Ideal ⟨2, ![16384, 2048]⟩ .f32) (i : Fin 16384) (j : Fin 2048) (k : ℕ) : EReal :=
  if k ≤ i.1 % 8192 then v (ix2 (⟨i.1 - k, by omega⟩ : Fin 16384) j) else 0

/-- How many frames the window of `w` holds at the `n`-th frame, counted from one. -/
def frames (n w : ℕ) : EReal := (((IntOp.minsi (BitVec.ofNat 32 n) (BitVec.ofNat 32 w)).toInt : ℝ) : EReal)

/-- The mean over a trailing window of `w` frames, less the value. -/
def mean (w : ℕ) (v : FVec Ideal ⟨2, ![16384, 2048]⟩ .f32) (i : Fin 16384) (j : Fin 2048) : EReal :=
  Ideal.div (∑ k ∈ Finset.range w, past v i j k) (frames (i.1 % 8192 + 1) w) - v (ix2 i j)

/-- The branch: windows of 2, 4, 8 and 16 frames over four groups of 512 columns. -/
def pooled (v : FVec Ideal ⟨2, ![16384, 2048]⟩ .f32) (i : Fin 16384) (j : Fin 2048) : EReal := mean (2 ^ (j.1 / 512 + 1)) v i j

/-- Row `n` of 528, by its number. -/
def at_ (e : FVec Ideal ⟨2, ![528, 512]⟩ .f32) (n : ℕ) (y : Fin 512) : EReal := if h : n < 528 then e (ix2 (⟨n, h⟩ : Fin 528) y) else 0

/-- `s` holds, at every row with that many before it, the sum of the last `w` rows of `e`. -/
def Sums (e s : FVec Ideal ⟨2, ![528, 512]⟩ .f32) (w : ℕ) : Prop :=
  ∀ (r : Fin 528) (y : Fin 512), w ≤ r.1 + 1 → s (ix2 r y) = ∑ k ∈ Finset.range w, at_ e (r.1 - k) y

theorem sums_one (e : FVec Ideal ⟨2, ![528, 512]⟩ .f32) : Sums e e 1 := fun r y _ => by
  rw [Finset.sum_range_one]
  unfold at_
  rw [dif_pos (show r.1 - 0 < 528 from r.2)]
  rfl

/-- Rows moved down by a number of places, at a row with that many before it. -/
theorem moved_apply (s : FVec Ideal ⟨2, ![528, 512]⟩ .f32) (b : BitVec 32) (h : (⟨2, ![528, 512]⟩ : Shape).Rotates (0 : Fin 2) none)
    (r : Fin 528) (y : Fin 512) (hr : b.toNat ≤ r.1) : dynamicRotate (0 : Fin 2) b none s h (ix2 r y) = s (ix2 (⟨r.1 - b.toNat, by omega⟩ : Fin 528) y) := by
  rw [Pointwise.dynamicRotate_apply]
  refine congrArg s (eq_ix2 ?_ rfl)
  show (r.1 + 528 - (b.toNat + 0) % 528) % 528 = r.1 - b.toNat
  omega

/-- Adding the same rows moved down by `w` doubles the window. -/
theorem sums_double {e s : FVec Ideal ⟨2, ![528, 512]⟩ .f32} {w : ℕ} (hs : Sums e s w) (b : BitVec 32) (hb : b.toNat = w)
    (h : (⟨2, ![528, 512]⟩ : Shape).Rotates (0 : Fin 2) none) : Sums e (addf s (dynamicRotate (0 : Fin 2) b none s h)) (w + w) := fun r y hr => by
  by_cases h0 : w = 0
  · subst h0
    show s (ix2 r y) + dynamicRotate (0 : Fin 2) b none s h (ix2 r y) = _
    rw [moved_apply s b h r y (by omega), hs r y (by omega), hs _ y (by omega)]
    simp
  · show s (ix2 r y) + dynamicRotate (0 : Fin 2) b none s h (ix2 r y) = _
    rw [moved_apply s b h r y (by omega), hs r y (by omega), hs _ y (by show w ≤ r.1 - b.toNat + 1; omega), Finset.sum_range_add]
    refine congrArg (fun a : EReal => _ + a) (Finset.sum_congr rfl fun k _ => ?_)
    show at_ e (r.1 - b.toNat - k) y = at_ e (r.1 - (w + k)) y
    rw [hb, Nat.sub_sub]

end Cert.PoolSpec

end
-- ==== Proof.Pool.lean ====
/- The array the pooling branch leaves, at an index. -/
module

public import proofs.«01_k».proof.Proof.PoolSpec
public import proofs.«01_k».proof.Proof.Gen.Kernel6Ideal.Value

@[expose] public section

noncomputable section

namespace Cert.Pool

open Idealize.ShloMosaic Idealize.ShloMosaic.TcCoe Idealize.SL.Sem
open Cert.Kernel6Ideal Cert.Kernel6Ideal.Gen Cert.Kernel6Ideal.Value Cert.Tiles Cert.PoolSpec
open Cert.Gates (zero_bits)

variable (m : (ℓ : Loc nD τ sig) → Buf (Elt Ideal) ℓ) (c : Dev nD) (t : Fin cfg0.N)

/-- The branch's input as launched. -/
abbrev v : FVec Ideal S16384x2048 .f32 := m ((c : Thread nD τ).loc main_arg0)

theorem t_lt : t.1 < 32 := lt_of_lt_of_eq t.2 N_0

theorem place0 : ∀ t : Fin cfg0.N, win0_0.index t (0 : Fin 2) = t.1 ∧ win0_0.index t (1 : Fin 2) = 0 := (by decide +kernel : ∀ t : Fin grid0.N, _)

/-- The row of the whole array that is row `r` of the point's block. -/
def at0 (r : Fin 512) : Fin 16384 := ⟨512 * t.1 + r.1, by have := t_lt t; omega⟩

theorem blk0 (r : Fin 512) (j : Fin 2048) : (iblk m c 0 t : FVec Ideal S512x2048 .f32) (ix2 r j) = v m c (ix2 (at0 t r) j) := by
  obtain ⟨e0, e1⟩ := place0 t
  show V m c main_arg0 (((cfg0.win 0).blk t).view.emb (ix2 r j)) = _
  rw [V_main_arg0]
  exact congrArg (v m c) (eq_ix2 (by show win0_0.index t (0 : Fin 2) * 512 + 1 * r.1 = 512 * t.1 + r.1; rw [e0]; omega)
    (by show win0_0.index t (1 : Fin 2) * 2048 + 1 * j.1 = j.1; rw [e1]; omega))

/-- Sixteen rows that hold what lies before the point's block. -/
def Before (tl : FVec Ideal S16x2048 .f32) : Prop := ∀ (n : Fin 16) (j : Fin 2048), tl (ix2 n j) = past (v m c) (at0 t 0) j (16 - n.1)

theorem zeros_apply (i : S16x2048.Idx) : k0_pay1 (F := Ideal) i = 0 := by
  unfold k0_pay1
  rw [shapeCast_self]
  exact zero_bits

theorem last_apply (b : FVec Ideal S512x2048 .f32) (n : Fin 16) (j : Fin 2048) :
    k0_pay3 (F := Ideal) b (ix2 n j) = b (ix2 (⟨496 + n.1, by omega⟩ : Fin 512) j) := by
  unfold k0_pay3
  rw [shapeCast_self]
  exact extractStridedSlice_apply _ _ _ _ _ fun a => by
    match a with
    | ⟨0, _⟩ => rfl
    | ⟨1, _⟩ => show j.1 = 0 + j.1; omega

theorem before_A (h0 : t.1 % 16 = 0) : Before m c t (k0_pay1 (F := Ideal)) := fun n j => by
  rw [zeros_apply]
  unfold past
  rw [if_neg (by show ¬ 16 - n.1 ≤ (512 * t.1 + 0) % 8192; omega)]

theorem before_B (h0 : ¬ t.1 % 16 = 0) : Before m c t (k0_pay3 (F := Ideal) (iblk m c 0 ⟨t.val - 1, Nat.lt_of_le_of_lt (Nat.sub_le _ _) t.isLt⟩)) := fun n j => by
  refine (last_apply _ n j).trans ((blk0 m c _ _ j).trans ?_)
  unfold past
  rw [if_pos (by show 16 - n.1 ≤ (512 * t.1 + 0) % 8192; omega)]
  exact congrArg (fun i => v m c (ix2 i j)) (Fin.ext (by show 512 * (t.1 - 1) + (496 + n.1) = 512 * t.1 + 0 - (16 - n.1); omega))

/-- The block with the sixteen rows before it. -/
theorem ext_low (b : FVec Ideal S512x2048 .f32) (tl : FVec Ideal S16x2048 .f32) (n : Fin 528) (h : n.1 < 16) (j : Fin 2048) :
    k0_pay2 (F := Ideal) b tl (ix2 n j) = tl (ix2 (⟨n.1, h⟩ : Fin 16) j) := by
  unfold k0_pay2
  exact concatenate_pair_apply_left (t := S528x2048) (s₁ := S16x2048) (s₂ := S512x2048) (0 : Fin 2) tl b _ (ix2 n j) rfl (ix2 (⟨n.1, h⟩ : Fin 16) j) fun a => by
    match a with
    | ⟨0, _⟩ => rfl
    | ⟨1, _⟩ => rfl
theorem ext_high (b : FVec Ideal S512x2048 .f32) (tl : FVec Ideal S16x2048 .f32) (n : Fin 528) (h : 16 ≤ n.1) (j : Fin 2048) :
    k0_pay2 (F := Ideal) b tl (ix2 n j) = b (ix2 (⟨n.1 - 16, by omega⟩ : Fin 512) j) := by
  unfold k0_pay2
  refine concatenate_pair_apply_right (t := S528x2048) (s₁ := S16x2048) (s₂ := S512x2048) (0 : Fin 2) tl b _ (ix2 n j) rfl rfl (ix2 (⟨n.1 - 16, by omega⟩ : Fin 512) j) (fun a ha => ?_) ?_
  · match a with
    | ⟨0, _⟩ => exact absurd rfl ha
    | ⟨1, _⟩ => rfl
  · show n.1 - 16 + 16 = n.1
    omega

theorem ext_past {tl : FVec Ideal S16x2048 .f32} (ht : Before m c t tl) (r : Fin 512) (j : Fin 2048) (k : ℕ) (hk : k ≤ 15) :
    k0_pay2 (F := Ideal) (iblk m c 0 t) tl (ix2 (⟨16 + r.1 - k, by omega⟩ : Fin 528) j) = past (v m c) (at0 t r) j k := by
  by_cases h : k ≤ r.1
  · refine (ext_high _ _ _ (by show 16 ≤ 16 + r.1 - k; omega) j).trans ((blk0 m c t _ j).trans ?_)
    unfold past
    rw [if_pos (by show k ≤ (512 * t.1 + r.1) % 8192; omega)]
    exact congrArg (fun i => v m c (ix2 i j)) (Fin.ext (by show 512 * t.1 + (16 + r.1 - k - 16) = 512 * t.1 + r.1 - k; omega))
  · refine (ext_low _ _ _ (by show 16 + r.1 - k < 16; omega) j).trans ((ht _ j).trans ?_)
    unfold past
    by_cases h1 : k ≤ (at0 t r).1 % 8192
    · have h1' : k ≤ (512 * t.1 + r.1) % 8192 := h1
      rw [if_pos (by show 16 - (16 + r.1 - k) ≤ (512 * t.1 + 0) % 8192; omega), if_pos h1]
      exact congrArg (fun i => v m c (ix2 i j)) (Fin.ext (by show 512 * t.1 + 0 - (16 - (16 + r.1 - k)) = 512 * t.1 + r.1 - k; omega))
    · have h1' : ¬ k ≤ (512 * t.1 + r.1) % 8192 := h1
      rw [if_neg (by show ¬ 16 - (16 + r.1 - k) ≤ (512 * t.1 + 0) % 8192; omega), if_neg h1]

/-- The frames' numbers from one. -/
theorem frame_apply (r : Fin 512) : k0_pay4 (grid0.coords t) (ix2 r (0 : Fin 1)) = BitVec.ofNat 32 ((at0 t r).1 % 8192 + 1) := by
  have ht := t_lt t
  have e1 : (grid0.coords t 1).val = t.val / 1 % 16 := Pipeline.Grid.coords_val t 1 (by decide) rfl
  have ei : iota .tc S512x1 32 [0] iota_S512x1_d0_w32 (ix2 r (0 : Fin 1)) = BitVec.ofNat 32 r.1 := iota_single_apply _ _ _ _ _ _
  show BitVec.ofNat 32 (grid0.coords t 1).val * 512#32 + iota .tc S512x1 32 [0] iota_S512x1_d0_w32 (ix2 r (0 : Fin 1)) + 1#32 = _
  rw [ei]
  rw [e1]
  apply BitVec.eq_of_toNat_eq
  simp only [BitVec.toNat_add, BitVec.toNat_mul, BitVec.toNat_ofNat]
  show _ = ((512 * t.1 + r.1) % 8192 + 1) % 2 ^ 32
  omega

/-- One group of columns, from the sums over its window. -/
theorem group_apply {tl : FVec Ideal S16x2048 .f32} (ht : Before m c t tl) {o w : ℕ} (ho : o + 512 ≤ 2048) (hw : w ≤ 16) (b : BitVec 32) (hb : b = BitVec.ofNat 32 w)
    {s : FVec Ideal S528x512 .f32} {h : S528x2048.Slices ![0, o] S528x512} (hs : Sums (extractStridedSlice S528x512 ![0, o] (k0_pay2 (F := Ideal) (iblk m c 0 t) tl) h) s w)
    (h1 : S528x512.Slices ![16, 0] S512x512) (h2 : S512x1.Broadcasts S512x512) (h3 : S512x2048.Slices ![0, o] S512x512) (r y : Fin 512) :
    Ideal.div (extractStridedSlice S512x512 ![16, 0] s h1 (ix2 r y))
        (broadcastTo S512x512 (sitofp (F := Ideal) .f32 (minsi (k0_pay4 (grid0.coords t)) (broadcast S512x1 b))) h2 (ix2 r y))
      - extractStridedSlice S512x512 ![0, o] (iblk m c 0 t : FVec Ideal S512x2048 .f32) h3 (ix2 r y)
      = mean w (v m c) (at0 t r) ⟨o + y.1, by omega⟩ := by
  subst hb
  unfold mean
  refine congrArg₂ (fun a c : EReal => a - c) (congrArg₂ Ideal.div ?_ ?_) ?_
  · refine (extractStridedSlice_apply _ _ _ _ (ix2 (⟨16 + r.1, by omega⟩ : Fin 528) y) fun a => ?_).trans ?_
    · match a with
      | ⟨0, _⟩ => rfl
      | ⟨1, _⟩ => show y.1 = 0 + y.1; omega
    · refine (hs _ y (by show w ≤ 16 + r.1 + 1; omega)).trans (Finset.sum_congr rfl fun k hk => ?_)
      have hk' : k < w := Finset.mem_range.mp hk
      unfold at_
      rw [dif_pos (show 16 + r.1 - k < 528 by omega)]
      refine (extractStridedSlice_apply _ _ _ _ (ix2 (⟨16 + r.1 - k, by omega⟩ : Fin 528) (⟨o + y.1, by omega⟩ : Fin 2048)) fun a => ?_).trans
        (ext_past m c t ht r _ k (by omega))
      match a with
      | ⟨0, _⟩ => show 16 + r.1 - k = 0 + (16 + r.1 - k); omega
      | ⟨1, _⟩ => rfl
  · refine (broadcastTo_apply _ _ _ (ix2 r (0 : Fin 1)) fun a => ?_).trans ?_
    · match a with
      | ⟨0, _⟩ => rfl
      | ⟨1, _⟩ => rfl
    · unfold frames
      rw [← frame_apply t r]
      rfl
  · refine (extractStridedSlice_apply _ _ _ _ (ix2 r (⟨o + y.1, by omega⟩ : Fin 2048)) fun a => ?_).trans (blk0 m c t r _)
    match a with
    | ⟨0, _⟩ => show r.1 = 0 + r.1; omega
    | ⟨1, _⟩ => rfl

/-- A group's mean is the branch's, at the group's columns. -/
theorem mean_pooled (u : FVec Ideal S16384x2048 .f32) {o w : ℕ} (hw : w = 2 ^ (o / 512 + 1)) (ho : o % 512 = 0) (y : Fin 512) (hj : o + y.1 < 2048)
    {i i' : Fin 16384} {j : Fin 2048} (hi : i = i') (h : o + y.1 = j.1) : mean w u i ⟨o + y.1, hj⟩ = pooled u i' j := by
  subst hi
  obtain rfl : (⟨o + y.1, hj⟩ : Fin 2048) = j := Fin.ext h
  subst hw
  unfold pooled
  rw [show (o + y.1) / 512 = o / 512 by omega]

/-- The point's four stores over its block, last first, from the block and the rows before it. -/
def pieces (X : FVec Ideal S512x2048 .f32) (T : FVec Ideal S16x2048 .f32) : List (View.Piece (Elt Ideal) S512x2048 .bf16) :=
  [⟨Rect.unit (s := S512x2048) ![0, 1536] S512x512.size inb_S512x2048_S512x512_0_1536, k0_pay10 (F := Ideal) X (k0_pay2 X T) (k0_pay4 (grid0.coords t))⟩,
   ⟨Rect.unit (s := S512x2048) ![0, 1024] S512x512.size inb_S512x2048_S512x512_0_1024, k0_pay9 (F := Ideal) X (k0_pay2 X T) (k0_pay4 (grid0.coords t))⟩,
   ⟨Rect.unit (s := S512x2048) ![0, 512] S512x512.size inb_S512x2048_S512x512_0_512, k0_pay8 (F := Ideal) X (k0_pay6 (F := Ideal) (grid0.coords t)) (k0_pay7 (F := Ideal) X T)⟩,
   ⟨Rect.unit (s := S512x2048) ![0, 0] S512x512.size inb_S512x2048_S512x512_0_0, k0_pay5 (F := Ideal) (grid0.coords t) X T⟩]

/-- What the block should hold at an index. -/
def want : S512x2048.Idx → EReal := fun i => pooled (v m c) (at0 t (i 0)) (i 1)

theorem piece0 {T : FVec Ideal S16x2048 .f32} (hT : Before m c t T) (r y : Fin 512) :
    k0_pay5 (F := Ideal) (grid0.coords t) (iblk m c 0 t) T (ix2 r y) = mean 2 (v m c) (at0 t r) ⟨0 + y.1, by omega⟩ :=
  group_apply m c t hT (by omega) (by omega) 2#32 rfl (sums_double (sums_one _) 1#32 rfl _) slices_S528x512_o16_0_S512x512 _ _ r y
theorem piece1 {T : FVec Ideal S16x2048 .f32} (hT : Before m c t T) (r y : Fin 512) :
    k0_pay8 (F := Ideal) (iblk m c 0 t) (k0_pay6 (F := Ideal) (grid0.coords t)) (k0_pay7 (F := Ideal) (iblk m c 0 t) T) (ix2 r y)
      = mean 4 (v m c) (at0 t r) ⟨512 + y.1, by omega⟩ :=
  group_apply m c t hT (by omega) (by omega) 4#32 rfl (sums_double (sums_double (sums_one _) 1#32 rfl _) 2#32 rfl _) slices_S528x512_o16_0_S512x512 _ _ r y
theorem piece2 {T : FVec Ideal S16x2048 .f32} (hT : Before m c t T) (r y : Fin 512) :
    k0_pay9 (F := Ideal) (iblk m c 0 t) (k0_pay2 (F := Ideal) (iblk m c 0 t) T) (k0_pay4 (grid0.coords t)) (ix2 r y)
      = mean 8 (v m c) (at0 t r) ⟨1024 + y.1, by omega⟩ :=
  group_apply m c t hT (by omega) (by omega) 8#32 rfl (sums_double (sums_double (sums_double (sums_one _) 1#32 rfl _) 2#32 rfl _) 4#32 rfl _) slices_S528x512_o16_0_S512x512 _ _ r y
theorem piece3 {T : FVec Ideal S16x2048 .f32} (hT : Before m c t T) (r y : Fin 512) :
    k0_pay10 (F := Ideal) (iblk m c 0 t) (k0_pay2 (F := Ideal) (iblk m c 0 t) T) (k0_pay4 (grid0.coords t)) (ix2 r y)
      = mean 16 (v m c) (at0 t r) ⟨1536 + y.1, by omega⟩ :=
  group_apply m c t hT (by omega) (by omega) 16#32 rfl (sums_double (sums_double (sums_double (sums_double (sums_one _) 1#32 rfl _) 2#32 rfl _) 4#32 rfl _) 8#32 rfl _) slices_S528x512_o16_0_S512x512 _ _ r y

/-- A store of the right means over a group's columns. -/
theorem piece_want {o w : ℕ} (hw : w = 2 ^ (o / 512 + 1)) (ho : o % 512 = 0) (hl : o + 512 ≤ 2048) (inb : ∀ a, (![0, o] : Fin 2 → ℕ) a + S512x512.size a ≤ S512x2048.size a)
    (P : FVec Ideal S512x512 .bf16) (hP : ∀ r y : Fin 512, P (ix2 r y) = mean w (v m c) (at0 t r) ⟨o + y.1, by omega⟩) (x : S512x512.Idx) :
    P x = want m c t ((Rect.unit (s := S512x2048) ![0, o] S512x512.size inb).emb x) := by
  obtain ⟨r, y, rfl⟩ : ∃ (r y : Fin 512), x = ix2 r y := ⟨x 0, x 1, eq_ix2 rfl rfl⟩
  refine (hP r y).trans (mean_pooled (v m c) hw ho y (by omega) (Fin.ext ?_) ?_)
  · show 512 * t.1 + r.1 = 512 * t.1 + (0 + 1 * r.1)
    omega
  · show o + y.1 = o + 1 * y.1
    omega

theorem pieces_want {T : FVec Ideal S16x2048 .f32} (hT : Before m c t T) :
    ∀ p ∈ pieces t (iblk m c 0 t) T, ∀ x : p.1.shape.Idx, p.2 x = want m c t (p.1.emb x) := by
  refine List.forall_mem_cons.mpr ⟨piece_want m c t rfl rfl (by omega) inb_S512x2048_S512x512_0_1536 _ (piece3 m c t hT), List.forall_mem_cons.mpr
    ⟨piece_want m c t rfl rfl (by omega) inb_S512x2048_S512x512_0_1024 _ (piece2 m c t hT), List.forall_mem_cons.mpr
    ⟨piece_want m c t rfl rfl (by omega) inb_S512x2048_S512x512_0_512 _ (piece1 m c t hT), List.forall_mem_cons.mpr
    ⟨piece_want m c t rfl rfl (by omega) inb_S512x2048_S512x512_0_0 _ (piece0 m c t hT), fun p hp => absurd hp List.not_mem_nil⟩⟩⟩⟩

/-- The point's stores leave the branch's values. -/
theorem stored_apply {T : FVec Ideal S16x2048 .f32} (hT : Before m c t T) (r : Fin 512) (j : Fin 2048) :
    VO0_1.read (Elt Ideal) (VO0_1.writes (Elt Ideal) VO0_1.junk (pieces t (iblk m c 0 t) T)) (ix2 r j) = pooled (v m c) (at0 t r) j :=
  View.read_writes_apply_of_pieces _ _ (want m c t) _ (pieces_want m c t hT) (ix2 r j) (View.cover_of_tiledL (pieces t (iblk m c 0 t) T) S512x512.size (by sl_kernel_rfl) (ix2 r j))

/-- What the scratch is left holding: the block's last sixteen rows. -/
theorem scratch_eq : (outsAt0 m c t.val t.isLt).2 = k0_pay3 (F := Ideal) (iblk m c 0 t) := by
  by_cases h0 : t.val % 16 = 0
  · refine (congrArg (fun x => x.2) (outsAt0_A m c t h0)).trans ?_
    refine (show _ = VS0_0.read (Elt Ideal) (VS0_0.writes (Elt Ideal) VS0_0.junk [⟨Rect.unit (s := S16x2048) ![0, 0] S16x2048.size inb_S16x2048_S16x2048_0_0,
        k0_pay3 (F := Ideal) (View.readAt (Elt Ideal) (ms0_0 t).view (Rect.unit (s := S512x2048) ![0, 0] S512x2048.size inb_S512x2048_S512x2048_0_0).toLoadRect ((hs0_0 t).unread (iblk m c 0 t)))⟩,
        ⟨Rect.unit (s := S16x2048) ![0, 0] S16x2048.size inb_S16x2048_S16x2048_0_0, k0_pay1 (F := Ideal)⟩])
      from by sl_kernel_rfl).trans ?_
    rw [load_whole (hs0_0 t) _ zeros2]
    exact (View.read_writes_eq_canon _ _ _ fun y => ⟨_, List.mem_cons_self, View.mem_set_unit_zero zeros2 inb_S16x2048_S16x2048_0_0 y⟩).trans (View.canon_cons_unit_zero zeros2 _ _ _)
  · refine (congrArg (fun x => x.2) (outsAt0_B m c t h0)).trans ?_
    refine (show _ = VS0_0.read (Elt Ideal) (VS0_0.writes (Elt Ideal) VS0_0.junk [⟨Rect.unit (s := S16x2048) ![0, 0] S16x2048.size inb_S16x2048_S16x2048_0_0,
        k0_pay3 (F := Ideal) (View.readAt (Elt Ideal) (ms0_0 t).view (Rect.unit (s := S512x2048) ![0, 0] S512x2048.size inb_S512x2048_S512x2048_0_0).toLoadRect ((hs0_0 t).unread (iblk m c 0 t)))⟩])
      from by sl_kernel_rfl).trans ?_
    rw [load_whole (hs0_0 t) _ zeros2, store_whole _ _ zeros2]

theorem out_A (h0 : t.val % 16 = 0) : (outsAt0 m c t.val t.isLt).1
    = VO0_1.read (Elt Ideal) (VO0_1.writes (Elt Ideal) VO0_1.junk (pieces t (iblk m c 0 t) (k0_pay1 (F := Ideal)))) := by
  refine (congrArg (fun x => x.1) (outsAt0_A m c t h0)).trans ?_
  refine (show _ = VO0_1.read (Elt Ideal) (VO0_1.writes (Elt Ideal) VO0_1.junk (pieces t
      (View.readAt (Elt Ideal) (ms0_0 t).view (Rect.unit (s := S512x2048) ![0, 0] S512x2048.size inb_S512x2048_S512x2048_0_0).toLoadRect ((hs0_0 t).unread (iblk m c 0 t)))
      (scM0_0.view.readCov (Val := Elt Ideal) [⟨Rect.unit (s := S16x2048) ![0, 0] S16x2048.size inb_S16x2048_S16x2048_0_0, k0_pay1 (F := Ideal)⟩]
        (Rect.unit (s := S16x2048) ![0, 0] S16x2048.size inb_S16x2048_S16x2048_0_0).toLoadRect)))
    from by sl_kernel_rfl).trans ?_
  rw [load_whole (hs0_0 t) _ zeros2, View.readCov_unit_zero _ zeros2]

theorem out_B (h0 : ¬ t.val % 16 = 0) : (outsAt0 m c t.val t.isLt).1
    = VO0_1.read (Elt Ideal) (VO0_1.writes (Elt Ideal) VO0_1.junk (pieces t (iblk m c 0 t) (outsAt0 m c (t.val - 1) (Nat.lt_of_le_of_lt (Nat.sub_le _ _) t.isLt)).2)) := by
  refine (congrArg (fun x => x.1) (outsAt0_B m c t h0)).trans ?_
  refine (show _ = VO0_1.read (Elt Ideal) (VO0_1.writes (Elt Ideal) VO0_1.junk (pieces t
      (View.readAt (Elt Ideal) (ms0_0 t).view (Rect.unit (s := S512x2048) ![0, 0] S512x2048.size inb_S512x2048_S512x2048_0_0).toLoadRect ((hs0_0 t).unread (iblk m c 0 t)))
      (View.readAt (Elt Ideal) scM0_0.view (Rect.unit (s := S16x2048) ![0, 0] S16x2048.size inb_S16x2048_S16x2048_0_0).toLoadRect
        ((Memref.isWhole_whole _).unread (outsAt0 m c (t.val - 1) (Nat.lt_of_le_of_lt (Nat.sub_le _ _) t.isLt)).2))))
    from by sl_kernel_rfl).trans ?_
  rw [load_whole (hs0_0 t) _ zeros2, load_whole (M := scM0_0) (Memref.isWhole_whole _) _ zeros2]

/-- What the point writes, at an index of its block. -/
theorem out_apply (r : Fin 512) (j : Fin 2048) : (outsAt0 m c t.val t.isLt).1 (ix2 r j) = pooled (v m c) (at0 t r) j := by
  by_cases h0 : t.val % 16 = 0
  · rw [out_A m c t h0]
    exact stored_apply m c t (before_A m c t h0) r j
  · rw [out_B m c t h0, scratch_eq m c ⟨t.val - 1, Nat.lt_of_le_of_lt (Nat.sub_le _ _) t.isLt⟩]
    exact stored_apply m c t (before_B m c t h0) r j

/-- The array the launch leaves, at an index. -/
theorem array_apply (i : Fin 16384) (j : Fin 2048) : (G1 m c : FVec Ideal S16384x2048 .bf16) (ix2 i j) = pooled (v m c) i j := by
  have ht : pt1Of (ix2 i j : S16384x2048.Idx) = i.1 / 512 := by
    show 1 * (i.1 / 512 - 0) + 1 * (j.1 / 2048 - 0) = _
    omega
  have hn : pt1Of (ix2 i j : S16384x2048.Idx) < cfg0.N := by rw [ht]; exact lt_of_lt_of_eq (by omega) N_0.symm
  have el : loc1Of (ix2 i j : S16384x2048.Idx) = ix2 (⟨i.1 % 512, by omega⟩ : Fin 512) j := eq_ix2 rfl (by show j.1 % 2048 = j.1; omega)
  unfold G1
  rw [dif_pos hn, ← fold0_congr m c (pt1Of (ix2 i j : S16384x2048.Idx)) (by omega) (pt1Of (ix2 i j : S16384x2048.Idx)) (by omega) rfl,
    ← outsAt0_sweep m c (pt1Of (ix2 i j : S16384x2048.Idx)) hn, el]
  refine (out_apply m c ⟨_, hn⟩ _ _).trans ?_
  exact congrArg (fun i => pooled (v m c) i j) (Fin.ext (by show 512 * pt1Of (ix2 i j : S16384x2048.Idx) + i.1 % 512 = i.1; omega))

end Cert.Pool

end
-- ==== Proof.PoolRef.lean ====
/- The reference of the pooling branch at an index, and its equality with the kernel's array. -/
module

public import proofs.«01_k».proof.Proof.Pool
public import proofs.«01_k».proof.Proof.Gen.Reference6Ideal.Run

@[expose] public section

noncomputable section

namespace Cert.PoolRef

open Idealize.ShloMosaic Idealize.ShloMosaic.TcCoe Idealize.SL.Sem
open Cert.Reference6Ideal Cert.Reference6Ideal.Gen Cert.Tiles Cert.PoolSpec
open Cert.Gates (zero_bits)

/-- The input as two sequences, and those with fifteen zero frames before each. -/
def frames3 (v : FVec Ideal S16384x2048 .f32) : FVec Ideal S2x8192x2048 .f32 := shapeCast S2x8192x2048 v shapeCasts_S16384x2048_S2x8192x2048
def padded (v : FVec Ideal S16384x2048 .f32) : FVec Ideal S2x8207x2048 .f32 :=
  pad S2x8207x2048 ![0, 15, 0] ![0, 0, 0] ![0, 0, 0] (frames3 v) (sitofp (F := Ideal) .f32 (constantI S_ 32 0#32)) pads_S2x8192x2048_S2x8207x2048_000_1500_000 h_S_

/-- The row of the two sequences as one array. -/
def line (b : Fin 2) (n : Fin 8192) : Fin 16384 := ⟨8192 * b.1 + n.1, by omega⟩

theorem frames3_apply (v : FVec Ideal S16384x2048 .f32) (b : Fin 2) (n : Fin 8192) (j : Fin 2048) : frames3 v (ix3 b n j) = v (ix2 (line b n) j) :=
  shapeCast_apply _ _ _ _ (by
    rw [Shape.rowMajor_val_two, Shape.rowMajor_val_three]
    show (8192 * b.1 + n.1) * 2048 + j.1 = (b.1 * 8192 + n.1) * 2048 + j.1
    omega)

/-- The padded rows, `k` frames back. -/
theorem padded_apply (v : FVec Ideal S16384x2048 .f32) (b : Fin 2) (n : Fin 8192) (j : Fin 2048) (k : ℕ) (hk : k ≤ 15) :
    padded v (ix3 b (⟨n.1 + (15 - k), by omega⟩ : Fin 8207) j) = past v (line b n) j k := by
  unfold padded past
  by_cases h : k ≤ n.1
  · rw [if_pos (by show k ≤ (8192 * b.1 + n.1) % 8192; omega)]
    refine (pad_apply_of_inside _ _ _ _ _ _ _ _ (ix3 b (⟨n.1 - k, by omega⟩ : Fin 8192) j) fun a => ?_).trans
      ((frames3_apply v b _ j).trans (congrArg (fun i => v (ix2 i j)) (Fin.ext (by show 8192 * b.1 + (n.1 - k) = 8192 * b.1 + n.1 - k; omega))))
    match a with
    | ⟨0, _⟩ => show b.1 = 0 + b.1 * (0 + 1); omega
    | ⟨1, _⟩ => show n.1 + (15 - k) = 15 + (n.1 - k) * (0 + 1); omega
    | ⟨2, _⟩ => show j.1 = 0 + j.1 * (0 + 1); omega
  · rw [if_neg (by show ¬ k ≤ (8192 * b.1 + n.1) % 8192; omega)]
    refine (pad_apply_of_not_inside _ _ _ _ _ _ _ _ (1 : Fin 3) fun hc => ?_).trans ?_
    · have h3 : 15 ≤ n.1 + (15 - k) := hc.1
      omega
    · show (((0#32 : BitVec 32).toInt : ℝ) : EReal) = 0
      simp

theorem slices_back (q o : ℕ) (hq : q ≤ 15) (ho : o + 512 ≤ 2048) : S2x8207x2048.Slices ![0, q, o] S2x8192x512 :=
  ⟨rfl, fun a => by
    match a with
    | ⟨0, _⟩ => show 0 + 2 ≤ 2; omega
    | ⟨1, _⟩ => show q + 8192 ≤ 8207; omega
    | ⟨2, _⟩ => exact ho⟩

/-- The shifts of a window, added one by one. -/
def totals (P : FVec Ideal S2x8207x2048 .f32) (o : ℕ) (ho : o + 512 ≤ 2048) : ℕ → FVec Ideal S2x8192x512 .f32
  | 0 => broadcastInDim S2x8192x512 ![] bcast_S_S2x8192x512 (constant (F := Ideal) S_ .f32 0x00000000#32)
  | w + 1 => addf (totals P o ho w) (extractStridedSlice S2x8192x512 ![0, 15 - w, o] P (slices_back (15 - w) o (Nat.sub_le _ _) ho))

theorem totals_apply (v : FVec Ideal S16384x2048 .f32) (o : ℕ) (ho : o + 512 ≤ 2048) (b : Fin 2) (n : Fin 8192) (y : Fin 512) :
    ∀ w, w ≤ 16 → totals (padded v) o ho w (ix3 b n y) = ∑ k ∈ Finset.range w, past v (line b n) ⟨o + y.1, by omega⟩ k
  | 0, _ => zero_bits
  | w + 1, hw => by
    rw [Finset.sum_range_succ]
    refine congrArg₂ (fun a c : EReal => a + c) (totals_apply v o ho b n y w (by omega)) ?_
    refine (extractStridedSlice_apply _ _ _ _ (ix3 b (⟨n.1 + (15 - w), by omega⟩ : Fin 8207) (⟨o + y.1, by omega⟩ : Fin 2048)) fun a => ?_).trans
      (padded_apply v b n _ w (by omega))
    match a with
    | ⟨0, _⟩ => show b.1 = 0 + b.1; omega
    | ⟨1, _⟩ => show n.1 + (15 - w) = 15 - w + n.1; omega
    | ⟨2, _⟩ => rfl

/-- How many frames each window holds. -/
def counts (w : BitVec 32) : FVec Ideal S8192 .f32 :=
  sitofp .f32 (minsi (addi (broadcastInDim S8192 ![] bcast_S_S8192 (constantI S_ 32 1#32)) (iotaInDim S8192 32 0)) (broadcastInDim S8192 ![] bcast_S_S8192 (constantI S_ 32 w)))

theorem counts_apply (w : ℕ) (n : Fin 8192) : counts (BitVec.ofNat 32 w) (ix1 n) = frames (n.1 + 1) w := by
  have e : (1#32 : BitVec 32) + BitVec.ofNat 32 n.1 = BitVec.ofNat 32 (n.1 + 1) := by
    apply BitVec.eq_of_toNat_eq
    simp only [BitVec.toNat_add, BitVec.toNat_ofNat]
    omega
  unfold frames
  rw [← e]
  rfl

/-- One group's means, less its values. -/
def group (v : FVec Ideal S16384x2048 .f32) (o : ℕ) (ho : o + 512 ≤ 2048) (w : ℕ) (c : BitVec 32) (h : S2x8192x2048.Slices ![0, 0, o] S2x8192x512) : FVec Ideal S2x8192x512 .f32 :=
  subf (Host.divf (totals (padded v) o ho w) (broadcastInDim S2x8192x512 ![0, 1, 2] bcast_S1x8192x1_S2x8192x512_0_1_2 (broadcastInDim S1x8192x1 ![1] bcast_S8192_S1x8192x1_1 (counts c))))
    (extractStridedSlice S2x8192x512 ![0, 0, o] (frames3 v) h)

theorem group_apply (v : FVec Ideal S16384x2048 .f32) (o : ℕ) (ho : o + 512 ≤ 2048) (w : ℕ) (hw : w ≤ 16) (c : BitVec 32) (hc : c = BitVec.ofNat 32 w)
    (h : S2x8192x2048.Slices ![0, 0, o] S2x8192x512) (b : Fin 2) (n : Fin 8192) (y : Fin 512) :
    group v o ho w c h (ix3 b n y) = mean w v (line b n) ⟨o + y.1, by omega⟩ := by
  subst hc
  have e : broadcastInDim S2x8192x512 ![0, 1, 2] bcast_S1x8192x1_S2x8192x512_0_1_2 (broadcastInDim S1x8192x1 ![1] bcast_S8192_S1x8192x1_1 (counts (BitVec.ofNat 32 w))) (ix3 b n y)
      = frames ((line b n).1 % 8192 + 1) w := by
    refine (broadcastInDim_apply _ _ _ _ (ix3 (0 : Fin 1) n (0 : Fin 1)) fun a => ?_).trans ?_
    · match a with
      | ⟨0, _⟩ => rfl
      | ⟨1, _⟩ => rfl
      | ⟨2, _⟩ => rfl
    refine (broadcastInDim_apply _ _ _ _ (ix1 n) fun a => ?_).trans ?_
    · match a with
      | ⟨0, _⟩ => rfl
    refine (counts_apply w n).trans (congrArg (fun a => frames (a + 1) w) ?_)
    show n.1 = (8192 * b.1 + n.1) % 8192
    omega
  unfold group mean
  refine congrArg₂ (fun a c : EReal => a - c) (congrArg₂ Ideal.div (totals_apply v o ho b n y w hw) e) ?_
  refine (extractStridedSlice_apply _ _ _ _ (ix3 b n (⟨o + y.1, by omega⟩ : Fin 2048)) fun a => ?_).trans (frames3_apply v b n _)
  match a with
  | ⟨0, _⟩ => show b.1 = 0 + b.1; omega
  | ⟨1, _⟩ => show n.1 = 0 + n.1; omega
  | ⟨2, _⟩ => rfl

/-- A group as one piece of the four. -/
def piece (u : FVec Ideal S2x8192x512 .f32) : FVec Ideal S2x8192x1x512 .f32 := broadcastInDim S2x8192x1x512 ![0, 1, 3] bcast_S2x8192x512_S2x8192x1x512_0_1_3 u

theorem piece_apply (u : FVec Ideal S2x8192x512 .f32) (b : Fin 2) (n : Fin 8192) (y : Fin 512) : piece u (ix4 b n (0 : Fin 1) y) = u (ix3 b n y) :=
  broadcastInDim_apply _ _ _ _ (ix3 b n y) fun a => by
    match a with
    | ⟨0, _⟩ => rfl
    | ⟨1, _⟩ => rfl
    | ⟨2, _⟩ => rfl

/-- The four groups side by side. -/
def stacked (u0 u1 u2 u3 : FVec Ideal S2x8192x1x512 .f32) : FVec Ideal S2x8192x4x512 .f32 :=
  concatenate S2x8192x4x512 2 [⟨S2x8192x1x512, u0⟩, ⟨S2x8192x1x512, u1⟩, ⟨S2x8192x1x512, u2⟩, ⟨S2x8192x1x512, u3⟩]
    concatenates_S2x8192x1x512_S2x8192x1x512_S2x8192x1x512_S2x8192x1x512_S2x8192x4x512_d2

/-- The groups of the windows of two, four, eight and sixteen frames. -/
def groups (v : FVec Ideal S16384x2048 .f32) : FVec Ideal S2x8192x4x512 .f32 :=
  stacked (piece (group v 0 (by omega) 2 2#32 slices_S2x8192x2048_S2x8192x512_0_0_0)) (piece (group v 512 (by omega) 4 4#32 slices_S2x8192x2048_S2x8192x512_0_0_512))
    (piece (group v 1024 (by omega) 8 8#32 slices_S2x8192x2048_S2x8192x512_0_0_1024)) (piece (group v 1536 (by omega) 16 16#32 slices_S2x8192x2048_S2x8192x512_0_0_1536))

/-- The reference's result from its argument. -/
def result (v : FVec Ideal S16384x2048 .f32) : FVec Ideal S16384x2048 .bf16 :=
  truncf .bf16 (shapeCast S16384x2048 (groups v) shapeCasts_S2x8192x4x512_S16384x2048) bitsLt_bf16_f32

/-- The four pieces in order. -/
def four (u0 u1 u2 u3 : FVec Ideal S2x8192x1x512 .f32) : List ((s : Shape) × (s.Idx → EReal)) :=
  [⟨S2x8192x1x512, u0⟩, ⟨S2x8192x1x512, u1⟩, ⟨S2x8192x1x512, u2⟩, ⟨S2x8192x1x512, u3⟩]

/-- Of four pieces along the third axis, each at its place. -/
theorem stacked_at {u0 u1 u2 u3 u : FVec Ideal S2x8192x1x512 .f32} (b : Fin 2) (n : Fin 8192) (k : ℕ) (hk : k < 4) (y : Fin 512)
    (hu : (four u0 u1 u2 u3)[k]'(hk : k < (four u0 u1 u2 u3).length) = ⟨S2x8192x1x512, u⟩)
    (hp : ((((four u0 u1 u2 u3).take k).map (·.1)).map
      fun s => if h : s.rank = S2x8192x4x512.rank then s.size ((2 : Fin 4).cast h.symm) else 0).sum = k) :
    stacked u0 u1 u2 u3 (ix4 b n ⟨k, hk⟩ y) = u (ix4 b n (0 : Fin 1) y) := by
  refine concatenate_apply_piece (t := S2x8192x4x512) (2 : Fin 4) (four u0 u1 u2 u3) _ _ k hk S2x8192x1x512 u hu rfl k hp _ (fun a ha => ?_) rfl
  match a with
  | ⟨0, _⟩ => rfl
  | ⟨1, _⟩ => rfl
  | ⟨2, _⟩ => exact absurd rfl ha
  | ⟨3, _⟩ => rfl

/-- A group's piece is the pooled entry of its columns. -/
theorem piece_pooled (v : FVec Ideal S16384x2048 .f32) (o : ℕ) (ho : o + 512 ≤ 2048) (w : ℕ) (hw : w ≤ 16) (c : BitVec 32) (hc : c = BitVec.ofNat 32 w)
    (h : S2x8192x2048.Slices ![0, 0, o] S2x8192x512) (hp : w = 2 ^ (o / 512 + 1)) (hm : o % 512 = 0) (b : Fin 2) (n : Fin 8192) (y : Fin 512)
    {i : Fin 16384} {j : Fin 2048} (hi : line b n = i) (hj : o + y.1 = j.1) :
    piece (group v o ho w c h) (ix4 b n (0 : Fin 1) y) = pooled v i j :=
  (piece_apply _ b n y).trans ((group_apply v o ho w hw c hc h b n y).trans (Pool.mean_pooled v hp hm y _ hi hj))

theorem result_apply (v : FVec Ideal S16384x2048 .f32) (i : Fin 16384) (j : Fin 2048) : result v (ix2 i j) = pooled v i j := by
  have hb : i.1 / 8192 < 2 := by omega
  have hn : i.1 % 8192 < 8192 := by omega
  have hy : j.1 % 512 < 512 := by omega
  obtain ⟨g, hg⟩ : ∃ g : Fin 4, j.1 = 512 * g.1 + j.1 % 512 := ⟨⟨j.1 / 512, by omega⟩, by show j.1 = 512 * (j.1 / 512) + j.1 % 512; omega⟩
  have hi : line ⟨i.1 / 8192, hb⟩ ⟨i.1 % 8192, hn⟩ = i := Fin.ext (by show 8192 * (i.1 / 8192) + i.1 % 8192 = i.1; omega)
  show (shapeCast S16384x2048 (groups v) shapeCasts_S2x8192x4x512_S16384x2048 : FVec Ideal S16384x2048 .f32) (ix2 i j) = pooled v i j
  refine (shapeCast_apply (groups v) shapeCasts_S2x8192x4x512_S16384x2048 (ix2 i j) (ix4 (⟨i.1 / 8192, hb⟩ : Fin 2) (⟨i.1 % 8192, hn⟩ : Fin 8192) g (⟨j.1 % 512, hy⟩ : Fin 512)) ?_).trans ?_
  · rw [Shape.rowMajor_val_two, Shape.rowMajor_val_four]
    show ((i.1 / 8192 * 8192 + i.1 % 8192) * 4 + g.1) * 512 + j.1 % 512 = i.1 * 2048 + j.1
    omega
  · match g with
    | ⟨0, h⟩ => exact (stacked_at _ _ 0 h _ rfl rfl).trans (piece_pooled v 0 _ 2 (by omega) _ rfl _ rfl rfl _ _ _ hi hg.symm)
    | ⟨1, h⟩ => exact (stacked_at _ _ 1 h _ rfl rfl).trans (piece_pooled v 512 _ 4 (by omega) _ rfl _ rfl rfl _ _ _ hi hg.symm)
    | ⟨2, h⟩ => exact (stacked_at _ _ 2 h _ rfl rfl).trans (piece_pooled v 1024 _ 8 (by omega) _ rfl _ rfl rfl _ _ _ hi hg.symm)
    | ⟨3, h⟩ => exact (stacked_at _ _ 3 h _ rfl rfl).trans (piece_pooled v 1536 _ 16 (by omega) _ rfl _ rfl rfl _ _ _ hi hg.symm)

/-- From equal arguments the reference's array is the kernel's. -/
theorem results_eq (m : (ℓ : Loc Kernel6Ideal.nD Kernel6Ideal.τ Kernel6Ideal.sig) → Buf (Elt Ideal) ℓ) (c : Dev Kernel6Ideal.nD) :
    result (Pool.v m c) = (Kernel6Ideal.Value.G1 m c : FVec Ideal S16384x2048 .bf16) := by
  funext i
  obtain ⟨r, j, rfl⟩ : ∃ (r : Fin 16384) (j : Fin 2048), i = ix2 r j := ⟨i 0, i 1, eq_ix2 rfl rfl⟩
  exact (result_apply _ r j).trans (Pool.array_apply m c r j).symm

/-- The reference's run leaves that result. -/
theorem run_result (m : (ℓ : Loc nD τ sig) → Buf (Elt Ideal) ℓ) (c : Dev nD) (v : FVec Ideal S16384x2048 .f32) (h : m ((c.tc : Thread nD τ).loc main_arg0) = v) :
    (Reference6Ideal.Value.res_out0 (F := Ideal) m c : FVec Ideal S16384x2048 .bf16) = result v := by
  subst h
  rfl

end Cert.PoolRef

end
-- ==== Proof.NormRef.lean ====
/- The reference of the first RMSNorm at an index, and its equality with the kernel's array. -/
module

public import proofs.«01_k».proof.Proof.Norm
public import proofs.«01_k».proof.Proof.Gen.Reference7Ideal.Run

@[expose] public section

noncomputable section

namespace Cert.NormRef

open Idealize.ShloMosaic Idealize.ShloMosaic.TcCoe Idealize.SL.Sem
open Cert.Reference7Ideal Cert.Reference7Ideal.Gen Cert.Products Cert.Tiles Cert.Norm
open Cert.Gates (zero_bits)

/-- The mean square of every row and the epsilon, before the root. -/
def meanSquare (x : FVec Ideal S2x8192x4096 .f32) : FVec Ideal S2x8192x1 .f32 :=
  addf (Host.divf (broadcastInDim S2x8192x1 ![0,1] bcast_S2x8192_S2x8192x1_0_1 (Host.reduceAdd (mulf x x) (constant S_ .f32 0x00000000#32) reducesTo_S2x8192x4096_S2x8192_d2 h_S_))
    (broadcastInDim S2x8192x1 ![] bcast_S_S2x8192x1 (constant S_ .f32 0x45800000#32))) (broadcastInDim S2x8192x1 ![] bcast_S_S2x8192x1 (constant S_ .f32 0x358637BD#32))

/-- The rows normed, as the activations lie. -/
def rows (x : FVec Ideal S2x8192x4096 .f32) (g : FVec Ideal S1x4096 .f32) : FVec Ideal S2x8192x4096 .f32 :=
  mulf (mulf x (broadcastInDim S2x8192x4096 ![0,1,2] bcast_S2x8192x1_S2x8192x4096_0_1_2 (Host.rsqrt (meanSquare x))))
    (broadcastInDim S2x8192x4096 ![0,1,2] bcast_S1x1x4096_S2x8192x4096_0_1_2 (broadcastInDim S1x1x4096 ![2] bcast_S4096_S1x1x4096_2 (shapeCast S4096 g shapeCasts_S1x4096_S4096)))

/-- The reference's result from its arguments. -/
def result (x : FVec Ideal S2x8192x4096 .f32) (g : FVec Ideal S1x4096 .f32) : FVec Ideal S16384x4096 .bf16 :=
  truncf .bf16 (shapeCast S16384x4096 (rows x g) shapeCasts_S2x8192x4096_S16384x4096) bitsLt_bf16_f32

theorem scale_apply (x : FVec Ideal S2x8192x4096 .f32) (b : Fin 2) (s : Fin 8192) :
    Ideal.rsqrt (meanSquare x (ix3 b s (0 : Fin 1))) = scale (∑ k : Fin 4096, x (ix3 b s k) * x (ix3 b s k)) := by
  unfold meanSquare scale
  refine congrArg Ideal.rsqrt (congrArg (fun a : EReal => a + _) (congrArg (fun a : EReal => Ideal.div a _) ?_))
  refine (broadcastInDim_apply _ _ _ _ (ix2 b s) fun a => ?_).trans ?_
  · match a with
    | ⟨0, _⟩ => rfl
    | ⟨1, _⟩ => rfl
  refine (Host.reduceAdd_apply _ _ _ _ _).trans ((Ideal.hostReduceAdd_r3_a2 _ _ _ _).trans ?_)
  refine (congrArg (fun a : EReal => a + _) zero_bits).trans ((zero_add _).trans (Finset.sum_congr rfl fun k _ => ?_))
  refine congrArg (fun i => x i * x i) ?_
  rfl

theorem scales_apply (v : FVec Ideal S2x8192x1 .f32) (b : Fin 2) (s : Fin 8192) (j : Fin 4096) :
    broadcastInDim S2x8192x4096 ![0, 1, 2] bcast_S2x8192x1_S2x8192x4096_0_1_2 v (ix3 b s j) = v (ix3 b s (0 : Fin 1)) :=
  broadcastInDim_apply _ _ _ _ (ix3 b s (0 : Fin 1)) fun a => by
    match a with
    | ⟨0, _⟩ => rfl
    | ⟨1, _⟩ => rfl
    | ⟨2, _⟩ => rfl

theorem gains_apply (v : FVec Ideal S4096 .f32) (b : Fin 2) (s : Fin 8192) (j : Fin 4096) :
    broadcastInDim S2x8192x4096 ![0, 1, 2] bcast_S1x1x4096_S2x8192x4096_0_1_2 (broadcastInDim S1x1x4096 ![2] bcast_S4096_S1x1x4096_2 v) (ix3 b s j) = v (ix1 j) := by
  refine (broadcastInDim_apply _ _ _ _ (ix3 (0 : Fin 1) (0 : Fin 1) j) fun a => ?_).trans ?_
  · match a with
    | ⟨0, _⟩ => rfl
    | ⟨1, _⟩ => rfl
    | ⟨2, _⟩ => rfl
  · exact broadcastInDim_apply _ _ _ _ (ix1 j) fun a => by
      match a with
      | ⟨0, _⟩ => rfl

theorem gain_apply (g : FVec Ideal S1x4096 .f32) (j : Fin 4096) : shapeCast S4096 g shapeCasts_S1x4096_S4096 (ix1 j) = g (ix2 (0 : Fin 1) j) :=
  shapeCast_apply _ _ _ _ (by rw [Shape.rowMajor_val_one, Shape.rowMajor_val_two]; show 0 * 4096 + j.1 = j.1; omega)

theorem rows_at (x : FVec Ideal S2x8192x4096 .f32) (g : FVec Ideal S1x4096 .f32) (b : Fin 2) (s : Fin 8192) (j : Fin 4096) :
    rows x g (ix3 b s j) = x (ix3 b s j) * scale (∑ k : Fin 4096, x (ix3 b s k) * x (ix3 b s k)) * g (ix2 (0 : Fin 1) j) := by
  have e0 := (scales_apply (Host.rsqrt (meanSquare x)) b s j).trans (scale_apply x b s)
  have e1 := (gains_apply (shapeCast S4096 g shapeCasts_S1x4096_S4096) b s j).trans (gain_apply g j)
  unfold rows
  exact congrArg₂ (fun a c : EReal => x (ix3 b s j) * a * c) e0 e1

theorem result_apply (x : FVec Ideal S2x8192x4096 .f32) (g : FVec Ideal S1x4096 .f32) (i : Fin 16384) (j : Fin 4096) :
    result x g (ix2 i j) = normed x g i j :=
  (rows_apply (rows x g) _ i j).trans (rows_at x g _ _ j)

/-- From equal arguments the reference's array is the kernel's. -/
theorem results_eq (m : (ℓ : Loc Kernel7Ideal.nD Kernel7Ideal.τ Kernel7Ideal.sig) → Buf (Elt Ideal) ℓ) (c : Dev Kernel7Ideal.nD) :
    result (Norm.x m c) (Norm.g m c) = ((Kernel7Ideal.Gen.dats m 0 c).arrAt 2 Kernel7Ideal.cfg0.N : FVec Ideal S16384x4096 .bf16) := by
  funext i
  obtain ⟨r, j, rfl⟩ : ∃ (r : Fin 16384) (j : Fin 4096), i = ix2 r j := ⟨i 0, i 1, eq_ix2 rfl rfl⟩
  exact (result_apply _ _ r j).trans (Norm.array_apply m c r j).symm

end Cert.NormRef

end
-- ==== Proof.lean ====
/- The certificate's claim: each program's frame, the ideal pass's rewrites, and the equation of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Equation
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.RouterPre
public import proofs.«01_k».proof.Proof.RouterRef
public import proofs.«01_k».proof.Proof.MergeInRef
public import proofs.«01_k».proof.Proof.MergeOutRef
public import proofs.«01_k».proof.Proof.OutProjRef
public import proofs.«01_k».proof.Proof.PoolInRef
public import proofs.«01_k».proof.Proof.PoolRef
public import proofs.«01_k».proof.Proof.NormRef
public import Idealize.ShloMosaic.Lib.Bf16Pair
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its arguments and, having no semaphore, ends with every counter at zero. -/
theorem frame_reference : quiescent_ReferenceIdeal (hReferenceIdeal := ReferenceIdeal.Gen.facts) := fun m ρ _ =>
  (θ_run _ _ _).mono (fun r h => ⟨fun c => (h c).2, sem_eq_zero_of_no_sems (by decide) r.2⟩) (ReferenceIdeal.Value.run (F := Ideal) m ρ)

/-- The kernel's result and the reference's are equal, element by element, from equal arguments. -/
theorem algebraic : algebraic_KernelIdeal_ReferenceIdeal (hKernelIdeal := KernelIdeal.Gen.facts) (hReferenceIdeal := ReferenceIdeal.Gen.facts) :=
  fun m ρ m' ρ' _ hargs => ⟨fun c => KernelIdeal.Value.G10 m c, KernelIdeal.Value.run m ρ,
    (θ_run _ _ _).mono (fun r h c => ⟨(h c).1.trans ((RefLoop.result_eq m' c).trans (Equation.results_eq m m' c (by
        obtain ⟨h0, h1, h2, h3, h4, h5, h6, h7, h8⟩ := hargs c
        unfold RefFold.args
        rw [h0, h1, h2, h3, h4, h5, h6, h7, h8]
        rfl))), (h c).2⟩)
      (ReferenceIdeal.Value.run (F := Ideal) m' ρ')⟩

/-- The same two, of the merge gates. -/
theorem frame_reference2 : quiescent_Reference2Ideal (hReference2Ideal := Reference2Ideal.Gen.facts) := fun m ρ _ =>
  (θ_run _ _ _).mono (fun r h => ⟨fun c => (h c).2, sem_eq_zero_of_no_sems (by decide) r.2⟩) (Reference2Ideal.Value.run (F := Ideal) m ρ)

theorem algebraic2 : algebraic_Kernel2Ideal_Reference2Ideal (hKernel2Ideal := Kernel2Ideal.Gen.facts) (hReference2Ideal := Reference2Ideal.Gen.facts) :=
  fun m ρ m' ρ' _ hargs => ⟨fun c => Kernel2Ideal.Value.G3 m c, Kernel2Ideal.Value.run m ρ,
    (θ_run _ _ _).mono (fun r h c => ⟨(h c).1.trans (by
        obtain ⟨h0, h1, h2⟩ := hargs c
        rw [h0, h1, h2]
        exact MergeInRef.results_eq m c), (h c).2⟩)
      (Reference2Ideal.Value.run (F := Ideal) m' ρ')⟩

/-- The same two, of the merge. -/
theorem frame_reference3 : quiescent_Reference3Ideal (hReference3Ideal := Reference3Ideal.Gen.facts) := fun m ρ _ =>
  (θ_run _ _ _).mono (fun r h => ⟨fun c => (h c).2, sem_eq_zero_of_no_sems (by decide) r.2⟩) (Reference3Ideal.Value.run (F := Ideal) m ρ)

theorem algebraic3 : algebraic_Kernel3Ideal_Reference3Ideal (hKernel3Ideal := Kernel3Ideal.Gen.facts) (hReference3Ideal := Reference3Ideal.Gen.facts) :=
  fun m ρ m' ρ' _ hargs => ⟨fun c => Kernel3Ideal.Value.G7 m c, Kernel3Ideal.Value.run m ρ,
    (θ_run _ _ _).mono (fun r h c => ⟨(h c).1.trans (by
        obtain ⟨h0, h1, h2, h3, h4, h5⟩ := hargs c
        rw [h0, h1, h2, h3, h4, h5]
        exact MergeOutRef.results_eq m c), (h c).2⟩)
      (Reference3Ideal.Value.run (F := Ideal) m' ρ')⟩

/-- The same two, of the output projection. -/
theorem frame_reference4 : quiescent_Reference4Ideal (hReference4Ideal := Reference4Ideal.Gen.facts) := fun m ρ _ =>
  (θ_run _ _ _).mono (fun r h => ⟨fun c => (h c).2, sem_eq_zero_of_no_sems (by decide) r.2⟩) (Reference4Ideal.Value.run (F := Ideal) m ρ)

theorem algebraic4 : algebraic_Kernel4Ideal_Reference4Ideal (hKernel4Ideal := Kernel4Ideal.Gen.facts) (hReference4Ideal := Reference4Ideal.Gen.facts) :=
  fun m ρ m' ρ' _ hargs => ⟨fun c => Kernel4Ideal.Value.G3 m c, Kernel4Ideal.Value.run m ρ,
    (θ_run _ _ _).mono (fun r h c => ⟨(h c).1.trans (by
        obtain ⟨h0, h1, h2⟩ := hargs c
        rw [h0, h1, h2]
        exact OutProjRef.results_eq m c), (h c).2⟩)
      (Reference4Ideal.Value.run (F := Ideal) m' ρ')⟩

/-- The same two, of the pool's in-projection. -/
theorem frame_reference5 : quiescent_Reference5Ideal (hReference5Ideal := Reference5Ideal.Gen.facts) := fun m ρ _ =>
  (θ_run _ _ _).mono (fun r h => ⟨fun c => (h c).2, sem_eq_zero_of_no_sems (by decide) r.2⟩) (Reference5Ideal.Value.run (F := Ideal) m ρ)

theorem algebraic5 : algebraic_Kernel5Ideal_Reference5Ideal (hKernel5Ideal := Kernel5Ideal.Gen.facts) (hReference5Ideal := Reference5Ideal.Gen.facts) :=
  fun m ρ m' ρ' _ hargs => ⟨fun c => Kernel5Ideal.Value.G2 m c, Kernel5Ideal.Value.run m ρ,
    (θ_run _ _ _).mono (fun r h c => ⟨(h c).1.trans (by
        obtain ⟨h0, h1⟩ := hargs c
        rw [h0, h1]
        exact PoolInRef.results_eq m c), (h c).2⟩)
      (Reference5Ideal.Value.run (F := Ideal) m' ρ')⟩

/-- The same two, of the pool. -/
theorem frame_reference6 : quiescent_Reference6Ideal (hReference6Ideal := Reference6Ideal.Gen.facts) := fun m ρ _ =>
  (θ_run _ _ _).mono (fun r h => ⟨fun c => (h c).2, sem_eq_zero_of_no_sems (by decide) r.2⟩) (Reference6Ideal.Value.run (F := Ideal) m ρ)

theorem algebraic6 : algebraic_Kernel6Ideal_Reference6Ideal (hKernel6Ideal := Kernel6Ideal.Gen.facts) (hReference6Ideal := Reference6Ideal.Gen.facts) :=
  fun m ρ m' ρ' _ hargs => ⟨fun c => Kernel6Ideal.Value.G1 m c, Kernel6Ideal.Value.run m ρ,
    (θ_run _ _ _).mono (fun r h c => ⟨(h c).1.trans ((PoolRef.run_result m' c _ (hargs c)).trans (PoolRef.results_eq m c)), (h c).2⟩)
      (Reference6Ideal.Value.run (F := Ideal) m' ρ')⟩

/-- The same two, of the first norm. -/
theorem frame_reference7 : quiescent_Reference7Ideal (hReference7Ideal := Reference7Ideal.Gen.facts) := fun m ρ _ =>
  (θ_run _ _ _).mono (fun r h => ⟨fun c => (h c).2, sem_eq_zero_of_no_sems (by decide) r.2⟩) (Reference7Ideal.Value.run (F := Ideal) m ρ)

theorem algebraic7 : algebraic_Kernel7Ideal_Reference7Ideal (hKernel7Ideal := Kernel7Ideal.Gen.facts) (hReference7Ideal := Reference7Ideal.Gen.facts) :=
  fun m ρ m' ρ' _ hargs => ⟨fun c => (Kernel7Ideal.Gen.dats m 0 c).arrAt 2 Kernel7Ideal.cfg0.N, Kernel7Ideal.Value.run_blocks m ρ,
    (θ_run _ _ _).mono (fun r h c => ⟨(h c).1.trans (by
        obtain ⟨h0, h1⟩ := hargs c
        rw [h0, h1]
        exact NormRef.results_eq m c), (h c).2⟩)
      (Reference7Ideal.Value.run (F := Ideal) m' ρ')⟩

/-- The same two, of the experts' weights the router gives, from real arguments. -/
theorem frame_reference8 : quiescent_Reference8Ideal (hReference8Ideal := Reference8Ideal.Gen.facts) := fun m ρ _ =>
  (θ_run _ _ _).mono (fun r h => ⟨fun c => (h c).2, sem_eq_zero_of_no_sems (by decide) r.2⟩) (Reference8Ideal.Value.run (F := Ideal) m ρ)

theorem algebraic8 : algebraic_Kernel8Ideal_Reference8Ideal_pre_finite (hKernel8Ideal := Kernel8Ideal.Gen.facts) (hReference8Ideal := Reference8Ideal.Gen.facts)
    (hPre_finite := Router.pre_facts) :=
  fun m ρ m' ρ' hpre hargs => ⟨fun c => (Kernel8Ideal.Gen.dats m 0 c).arrAt 6 Kernel8Ideal.cfg0.N,
    (θ_run _ _ _).mono (fun _ h c => ⟨(h c).2.2.1, (h c).2.2.2.2⟩) (Kernel8Ideal.Value.run_blocks m ρ),
    (θ_run _ _ _).mono (fun r h c => ⟨(h c).1.trans ((RouterRef.run_result m' c).trans (by
        obtain ⟨h0, h1, h2, h3, h4, h5⟩ := hargs c
        rw [h0, h1, h2, h3, h4, h5]
        exact RouterRef.results_eq m c (Router.all_real m hpre c))), (h c).2⟩)
      (Reference8Ideal.Value.run (F := Ideal) m' ρ')⟩

theorem preserves8 : preserves_Kernel8_Kernel8Ideal :=
  ⟨IdealRules.bf16_pair.bufferStatement _ _, IdealRules.bf16_pair.bufferStatement _ _, IdealRules.bf16_pair.packStatement _, IdealRules.bf16_pair.statement _ _⟩

theorem claim : Cert.Claim := ⟨Kernel.Gen.facts, KernelIdeal.Gen.facts, ReferenceIdeal.Gen.facts, Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts, Kernel8.Gen.facts, Kernel8Ideal.Gen.facts, Reference8Ideal.Gen.facts, Router.pre_facts,
  fun m ρ _ => Kernel.Gen.frame m ρ, fun m ρ _ => KernelIdeal.Gen.frame m ρ, frame_reference,
  fun m ρ _ => Kernel2.Gen.frame m ρ, fun m ρ _ => Kernel2Ideal.Gen.frame m ρ, frame_reference2,
  fun m ρ _ => Kernel3.Gen.frame m ρ, fun m ρ _ => Kernel3Ideal.Gen.frame m ρ, frame_reference3,
  fun m ρ _ => Kernel4.Gen.frame m ρ, fun m ρ _ => Kernel4Ideal.Gen.frame m ρ, frame_reference4,
  fun m ρ _ => Kernel5.Gen.frame m ρ, fun m ρ _ => Kernel5Ideal.Gen.frame m ρ, frame_reference5,
  fun m ρ _ => Kernel6.Gen.frame m ρ, fun m ρ _ => Kernel6Ideal.Gen.frame m ρ, frame_reference6,
  fun m ρ _ => Kernel7.Gen.frame m ρ, fun m ρ _ => Kernel7Ideal.Gen.frame m ρ, frame_reference7,
  fun m ρ _ => Kernel8.Gen.frame m ρ, fun m ρ _ => Kernel8Ideal.Gen.frame m ρ, fun m ρ _ => Kernel8Ideal.Gen.frame m ρ, frame_reference8, fun m ρ _ => frame_reference8 m ρ trivial,
  trivial, algebraic, trivial, algebraic2, trivial, algebraic3, trivial, algebraic4, trivial, algebraic5, trivial, algebraic6, trivial, algebraic7, preserves8, algebraic8⟩

end Cert.Proof

end
